-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 [hPre_expert_range : Cert.Pre_expert_range.Facts] (m : (ℓ : Loc Cert.Kernel2.nD Cert.Kernel2.τ Cert.Kernel2.sig) → Buf (Elt Bits) ℓ) : Prop :=
  ∀ c : Dev Cert.Kernel2.nD,
    (Cert.Pre_expert_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_expert_range : Cert.Pre_expert_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_expert_range [hPre_expert_range : Cert.Pre_expert_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_expert_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_router [hPre_finite_router : Cert.Pre_finite_router.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.1 = (fun _ => 1#1)
    ∧ (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_router [hPre_finite_router : Cert.Pre_finite_router.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.1 = (fun _ => 1#1)
    ∧ (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_gates_not_negative [hPre_gates_not_negative : Cert.Pre_gates_not_negative.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_gates_not_negative.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_gates_not_negative [hPre_gates_not_negative : Cert.Pre_gates_not_negative.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_gates_not_negative.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_expert_range : Cert.Pre_expert_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_expert_range : Cert.Pre_expert_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_expert_range [hReference2Ideal : Cert.Reference2Ideal.Facts] [hPre_expert_range : Cert.Pre_expert_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_expert_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite_router [hKernel4Ideal : Cert.Kernel4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_router m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite_router [hReference4Ideal : Cert.Reference4Ideal.Facts] [hPre_finite_router : Cert.Pre_finite_router.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_router m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_gates_not_negative [hKernel6Ideal : Cert.Kernel6Ideal.Facts] [hPre_gates_not_negative : Cert.Pre_gates_not_negative.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_gates_not_negative m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_gates_not_negative [hReference6Ideal : Cert.Reference6Ideal.Facts] [hPre_gates_not_negative : Cert.Pre_gates_not_negative.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_gates_not_negative m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_rows_used [hKernel2Ideal : Cert.Kernel2Ideal.Facts] [hReference2Ideal : Cert.Reference2Ideal.Facts] [hPre_expert_range : Cert.Pre_expert_range.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![4, 73984, 512]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v7) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![4, 73984, 512]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v15) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "below" .f32 0xF149F2CA#32 ⊥

def algebraic_Kernel4Ideal_Reference4Ideal_pre_finite_router [hKernel4Ideal : Cert.Kernel4Ideal.Facts] [hReference4Ideal : Cert.Reference4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_router m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v95) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  IdealRules.named_const.Statement Cert.Kernel5Ideal.κ "scale" .f32 0x3DD53B95#32 (((Real.sqrt 192)⁻¹ * (Real.log 2)⁻¹ : ℝ) : EReal)
  ∧ IdealRules.named_const.Statement Cert.Kernel5Ideal.κ "inv_n" .f32 0x3BAAAAAB#32 ((1 / 192 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_v110) = v1 c
          ∧ r.2.mem ((c.tc : Thread Cert.Reference5Ideal.nD Cert.Reference5Ideal.τ).loc Cert.Reference5Ideal.main_v112) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_gates_not_negative [hKernel6Ideal : Cert.Kernel6Ideal.Facts] [hReference6Ideal : Cert.Reference6Ideal.Facts] [hPre_gates_not_negative : Cert.Pre_gates_not_negative.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_gates_not_negative m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v54) = v0 c
          ∧ r.2.mem ((c.tc : Thread Cert.Reference8Ideal.nD Cert.Reference8Ideal.τ).loc Cert.Reference8Ideal.main_v59) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_expert_range : Cert.Pre_expert_range.Facts) (hPre_finite_router : Cert.Pre_finite_router.Facts) (hPre_gates_not_negative : Cert.Pre_gates_not_negative.Facts) (hOn_rows_used : Cert.On_rows_used.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_expert_range := hPre_expert_range)
    ∧ quiescent_Kernel2Ideal (hKernel2Ideal := hKernel2Ideal) (hPre_expert_range := hPre_expert_range)
    ∧ quiescent_Reference2Ideal (hReference2Ideal := hReference2Ideal)
    ∧ quiescent_Reference2Ideal_pre_expert_range (hReference2Ideal := hReference2Ideal) (hPre_expert_range := hPre_expert_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_router (hKernel4Ideal := hKernel4Ideal) (hPre_finite_router := hPre_finite_router)
    ∧ quiescent_Reference4Ideal (hReference4Ideal := hReference4Ideal)
    ∧ quiescent_Reference4Ideal_pre_finite_router (hReference4Ideal := hReference4Ideal) (hPre_finite_router := hPre_finite_router)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_gates_not_negative (hKernel6Ideal := hKernel6Ideal) (hPre_gates_not_negative := hPre_gates_not_negative)
    ∧ quiescent_Reference6Ideal (hReference6Ideal := hReference6Ideal)
    ∧ quiescent_Reference6Ideal_pre_gates_not_negative (hReference6Ideal := hReference6Ideal) (hPre_gates_not_negative := hPre_gates_not_negative)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_on_rows_used (hKernel2Ideal := hKernel2Ideal) (hReference2Ideal := hReference2Ideal) (hPre_expert_range := hPre_expert_range) (hOn_rows_used := hOn_rows_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_router (hKernel4Ideal := hKernel4Ideal) (hReference4Ideal := hReference4Ideal) (hPre_finite_router := hPre_finite_router)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_gates_not_negative (hKernel6Ideal := hKernel6Ideal) (hReference6Ideal := hReference6Ideal) (hPre_gates_not_negative := hPre_gates_not_negative)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== On_rows_used.lean ====
abbrev S288 : Shape := ⟨1, ![288]⟩
abbrev S1 : Shape := ⟨1, ![1]⟩
abbrev S73984x2048 : Shape := ⟨2, ![73984, 2048]⟩
abbrev S32x2048x512 : Shape := ⟨3, ![32, 2048, 512]⟩
abbrev S32x512x2048 : Shape := ⟨3, ![32, 512, 2048]⟩
abbrev S_ : Shape := ⟨0, ![]⟩
abbrev S289 : Shape := ⟨1, ![289]⟩
abbrev S289x256 : Shape := ⟨2, ![289, 256]⟩
abbrev S73984 : Shape := ⟨1, ![73984]⟩
abbrev S1x73984x1 : Shape := ⟨3, ![1, 73984, 1]⟩
abbrev S4x73984x512 : Shape := ⟨3, ![4, 73984, 512]⟩

class Facts : Prop where
  shapeCasts_S1_S_ : S1.ShapeCasts S_
  bcast_S_S288 : S_.BroadcastsInDim S288 (![] : Fin 0 → Fin S288.rank)
  bcast_S_S_ : S_.BroadcastsInDim S_ (![] : Fin 0 → Fin S_.rank)
  pads_S288_S289_010 : S288.Pads (![0] : Fin 1 → Nat) ![1] ![0] S289
  h_S_ : 0 < S_.numel
  bcast_S289_S289x256_0 : S289.BroadcastsInDim S289x256 (![0] : Fin 1 → Fin S289x256.rank)
  shapeCasts_S289x256_S73984 : S289x256.ShapeCasts S73984
  bcast_S73984_S1x73984x1_1 : S73984.BroadcastsInDim S1x73984x1 (![1] : Fin 1 → Fin S1x73984x1.rank)
  bcast_S1x73984x1_S4x73984x512_0_1_2 : S1x73984x1.BroadcastsInDim S4x73984x512 (![0, 1, 2] : Fin 3 → Fin S4x73984x512.rank)

variable [Facts]

def fn_pad {F : FTy → Type} [FloatOps F] (arg0 : IVec S288 1) (arg1 : IVec S_ 32) : IVec S289 1 :=
  let c : IVec S_ 32 := constantI S_ 32 0#32
  let v0 : IVec S_ 32 := broadcastInDim S_ ![] bcast_S_S_ c
  let v1 : IVec S_ 1 := cmpi .ne arg1 v0
  let v2 : IVec S_ 1 := id v1
  let v3 : IVec S289 1 := (fun x v => pad S289 ![0] ![1] ![0] x v pads_S288_S289_010 h_S_) arg0 v2
  v3

def fn {F : FTy → Type} [FloatOps F] (main_arg0 : IVec S288 32) (main_arg1 : IVec S1 32) (main_arg2 : FVec F S73984x2048 .f32) (main_arg3 : FVec F S32x2048x512 .f32) (main_arg4 : FVec F S32x2048x512 .f32) (main_arg5 : FVec F S32x512x2048 .f32) : IVec S4x73984x512 1 :=
  let main_v0 : IVec S288 32 := iotaInDim S288 32 0
  let main_v1 : IVec S_ 32 := shapeCast S_ main_arg1 shapeCasts_S1_S_
  let main_v2 : IVec S288 32 := broadcastInDim S288 ![] bcast_S_S288 main_v1
  let main_v3 : IVec S288 1 := cmpi .slt main_v0 main_v2
  let main_c : IVec S_ 32 := constantI S_ 32 0#32
  let main_v4 : IVec S289 1 := fn_pad (F := F) main_v3 main_c
  let main_v5 : IVec S289x256 1 := broadcastInDim S289x256 ![0] bcast_S289_S289x256_0 main_v4
  let main_v6 : IVec S73984 1 := shapeCast S73984 main_v5 shapeCasts_S289x256_S73984
  let main_v7 : IVec S1x73984x1 1 := broadcastInDim S1x73984x1 ![1] bcast_S73984_S1x73984x1_1 main_v6
  let main_v8 : IVec S4x73984x512 1 := broadcastInDim S4x73984x512 ![0, 1, 2] bcast_S1x73984x1_S4x73984x512_0_1_2 main_v7
  main_v8
-- ==== Pre_expert_range.lean ====
abbrev S288 : Shape := ⟨1, ![288]⟩
abbrev S1 : Shape := ⟨1, ![1]⟩
abbrev S73984x2048 : Shape := ⟨2, ![73984, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S73984x2048 .f32) (main_arg3 : FVec F S32x2048x512 .f32) (main_arg4 : FVec F S32x2048x512 .f32) (main_arg5 : FVec F S32x512x2048 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_finite_router.lean ====
abbrev S4x8192x2048 : Shape := ⟨3, ![4, 8192, 2048]⟩
abbrev S4x8192x1024 : Shape := ⟨3, ![4, 8192, 1024]⟩
abbrev S32768x8704 : Shape := ⟨2, ![32768, 8704]⟩
abbrev S1024x2048 : Shape := ⟨2, ![1024, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S4x2048x8 : Shape := ⟨3, ![4, 2048, 8]⟩
abbrev S4x8 : Shape := ⟨2, ![4, 8]⟩
abbrev S_ : Shape := ⟨0, ![]⟩

class Facts : Prop where
  bcast_S_S2048 : S_.BroadcastsInDim S2048 (![] : Fin 0 → Fin S2048.rank)
  bcast_S_S2048x4 : S_.BroadcastsInDim S2048x4 (![] : Fin 0 → Fin S2048x4.rank)
  bcast_S_S4 : S_.BroadcastsInDim S4 (![] : Fin 0 → Fin S4.rank)
  bcast_S_S4x2048x8 : S_.BroadcastsInDim S4x2048x8 (![] : Fin 0 → Fin S4x2048x8.rank)
  bcast_S_S4x8 : S_.BroadcastsInDim S4x8 (![] : Fin 0 → Fin S4x8.rank)

variable [Facts]

def fn {F : FTy → Type} [FloatOps F] (main_arg0 : FVec F S4x8192x2048 .f32) (main_arg1 : FVec F S4x8192x1024 .bf16) (main_arg2 : FVec F S4x8192x1024 .bf16) (main_arg3 : FVec F S32768x8704 .f32) (main_arg4 : FVec F S1024x2048 .f32) (main_arg5 : FVec F S1024x2048 .f32) (main_arg6 : FVec F S2048x2048 .f32) (main_arg7 : FVec F S2048 .f32) (main_arg8 : FVec F S2048x4 .f32) (main_arg9 : FVec F S4 .f32) (main_arg10 : FVec F S4x2048x8 .f32) (main_arg11 : FVec F S4x8 .f32) : IVec S2048 1 × IVec S2048x4 1 × IVec S4 1 × IVec S4x2048x8 1 × IVec S4x8 1 :=
  let main_v0 : FVec F S2048 .f32 := Host.absf main_arg7
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2048x4 .f32 := Host.absf main_arg8
  let main_cst_0 : FVec F S_ .f32 := constant S_ .f32 0x7F800000#32
  let main_v4 : FVec F S2048x4 .f32 := broadcastInDim S2048x4 ![] bcast_S_S2048x4 main_cst_0
  let main_v5 : IVec S2048x4 1 := cmpf .olt main_v3 main_v4
  let main_v6 : FVec F S4 .f32 := Host.absf main_arg9
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S4x2048x8 .f32 := Host.absf main_arg10
  let main_cst_2 : FVec F S_ .f32 := constant S_ .f32 0x7F800000#32
  let main_v10 : FVec F S4x2048x8 .f32 := broadcastInDim S4x2048x8 ![] bcast_S_S4x2048x8 main_cst_2
  let main_v11 : IVec S4x2048x8 1 := cmpf .olt main_v9 main_v10
  let main_v12 : FVec F S4x8 .f32 := Host.absf main_arg11
  let main_cst_3 : FVec F S_ .f32 := constant S_ .f32 0x7F800000#32
  let main_v13 : FVec F S4x8 .f32 := broadcastInDim S4x8 ![] bcast_S_S4x8 main_cst_3
  let main_v14 : IVec S4x8 1 := cmpf .olt main_v12 main_v13
  (main_v2, main_v5, main_v8, main_v11, main_v14)
-- ==== Pre_finite_scores.lean ====
abbrev S4x8x8192x192 : Shape := ⟨4, ![4, 8, 8192, 192]⟩
abbrev S4x8x8192x128 : Shape := ⟨4, ![4, 8, 8192, 128]⟩
abbrev S8x16x192 : Shape := ⟨3, ![8, 16, 192]⟩
abbrev S8x16x128 : Shape := ⟨3, ![8, 16, 128]⟩
abbrev S_ : Shape := ⟨0, ![]⟩

class Facts : Prop where
  bcast_S_S4x8x8192x192 : S_.BroadcastsInDim S4x8x8192x192 (![] : Fin 0 → Fin S4x8x8192x192.rank)
  bcast_S_S8x16x192 : S_.BroadcastsInDim S8x16x192 (![] : Fin 0 → Fin S8x16x192.rank)

variable [Facts]

def fn {F : FTy → Type} [FloatOps F] (main_arg0 : FVec F S4x8x8192x192 .f32) (main_arg1 : FVec F S4x8x8192x192 .f32) (main_arg2 : FVec F S4x8x8192x128 .f32) (main_arg3 : FVec F S8x16x192 .f32) (main_arg4 : FVec F S8x16x128 .f32) : IVec S4x8x8192x192 1 × IVec S4x8x8192x192 1 × IVec S8x16x192 1 :=
  let main_v0 : FVec F S4x8x8192x192 .f32 := Host.absf main_arg0
  let main_cst : FVec F S_ .f32 := constant S_ .f32 0x7F800000#32
  let main_v1 : FVec F S4x8x8192x192 .f32 := broadcastInDim S4x8x8192x192 ![] bcast_S_S4x8x8192x192 main_cst
  let main_v2 : IVec S4x8x8192x192 1 := cmpf .olt main_v0 main_v1
  let main_v3 : FVec F S4x8x8192x192 .f32 := Host.absf main_arg1
  let main_cst_0 : FVec F S_ .f32 := constant S_ .f32 0x7F800000#32
  let main_v4 : FVec F S4x8x8192x192 .f32 := broadcastInDim S4x8x8192x192 ![] bcast_S_S4x8x8192x192 main_cst_0
  let main_v5 : IVec S4x8x8192x192 1 := cmpf .olt main_v3 main_v4
  let main_v6 : FVec F S8x16x192 .f32 := Host.absf main_arg3
  let main_cst_1 : FVec F S_ .f32 := constant S_ .f32 0x7F800000#32
  let main_v7 : FVec F S8x16x192 .f32 := broadcastInDim S8x16x192 ![] bcast_S_S8x16x192 main_cst_1
  let main_v8 : IVec S8x16x192 1 := cmpf .olt main_v6 main_v7
  (main_v2, main_v5, main_v8)
-- ==== Pre_gates_not_negative.lean ====
abbrev S32768x2048 : Shape := ⟨2, ![32768, 2048]⟩
abbrev S2x4x32768x512 : Shape := ⟨4, ![2, 4, 32768, 512]⟩
abbrev S32768x128 : Shape := ⟨2, ![32768, 128]⟩
abbrev S32768x2 : Shape := ⟨2, ![32768, 2]⟩
abbrev S_ : Shape := ⟨0, ![]⟩

class Facts : Prop where
  slices_S32768x128_S32768x2_0_0 : S32768x128.Slices ![0, 0] S32768x2
  bcast_S_S32768x2 : S_.BroadcastsInDim S32768x2 (![] : Fin 0 → Fin S32768x2.rank)

variable [Facts]

def fn {F : FTy → Type} [FloatOps F] (main_arg0 : FVec F S32768x2048 .f32) (main_arg1 : FVec F S2x4x32768x512 .bf16) (main_arg2 : FVec F S32768x128 .f32) : IVec S32768x2 1 :=
  let main_v0 : FVec F S32768x2 .f32 := (extractStridedSlice S32768x2 ![0, 0] · slices_S32768x128_S32768x2_0_0) main_arg2
  let main_cst : FVec F S_ .f32 := constant S_ .f32 0x00000000#32
  let main_v1 : FVec F S32768x2 .f32 := broadcastInDim S32768x2 ![] bcast_S_S32768x2 main_cst
  let main_v2 : IVec S32768x2 1 := cmpf .oge main_v0 main_v1
  main_v2
-- ==== Kernel.lean ====
abbrev S4x8x8192x192 : Shape := ⟨4, ![4, 8, 8192, 192]⟩
abbrev S4x8x8192x128 : Shape := ⟨4, ![4, 8, 8192, 128]⟩
abbrev S8x16x192 : Shape := ⟨3, ![8, 16, 192]⟩
abbrev S8x16x128 : Shape := ⟨3, ![8, 16, 128]⟩
abbrev S_ : Shape := ⟨0, ![]⟩
abbrev S4x8x8192x256 : Shape := ⟨4, ![4, 8, 8192, 256]⟩
abbrev S8x128x192 : Shape := ⟨3, ![8, 128, 192]⟩
abbrev S8x16x256 : Shape := ⟨3, ![8, 16, 256]⟩
abbrev S8x128x256 : Shape := ⟨3, ![8, 128, 256]⟩
abbrev S4x8192x1024 : Shape := ⟨3, ![4, 8192, 1024]⟩
abbrev S1x1x2048x192 : Shape := ⟨4, ![1, 1, 2048, 192]⟩
abbrev S1x1x8192x192 : Shape := ⟨4, ![1, 1, 8192, 192]⟩
abbrev S1x1x8192x256 : Shape := ⟨4, ![1, 1, 8192, 256]⟩
abbrev S1x128x192 : Shape := ⟨3, ![1, 128, 192]⟩
abbrev S1x128x256 : Shape := ⟨3, ![1, 128, 256]⟩
abbrev S1x2048x128 : Shape := ⟨3, ![1, 2048, 128]⟩
abbrev S2048x192 : Shape := ⟨2, ![2048, 192]⟩
abbrev S512x192 : Shape := ⟨2, ![512, 192]⟩
abbrev S128x192 : Shape := ⟨2, ![128, 192]⟩
abbrev S512x128 : Shape := ⟨2, ![512, 128]⟩
abbrev S512 : Shape := ⟨1, ![512]⟩
abbrev S512x1 : Shape := ⟨2, ![512, 1]⟩
abbrev S128x256 : Shape := ⟨2, ![128, 256]⟩
abbrev S512x256 : Shape := ⟨2, ![512, 256]⟩
abbrev S1x1x2048x256 : Shape := ⟨4, ![1, 1, 2048, 256]⟩
abbrev S2048x256 : Shape := ⟨2, ![2048, 256]⟩
abbrev S512x2048 : Shape := ⟨2, ![512, 2048]⟩
abbrev S1x512x128 : Shape := ⟨3, ![1, 512, 128]⟩

abbrev nBuf : Space → Nat
  | .hbm => 46
  | .vmem => 12
  | .smem => 0
  | _ => 0

abbrev bufTy : (tb : Table) → Fin (tcTables nBuf tb) → BufTy
  | .hbm, ⟨0, _⟩ => ⟨S4x8x8192x192, .f32⟩
  | .hbm, ⟨1, _⟩ => ⟨S4x8x8192x192, .f32⟩
  | .hbm, ⟨2, _⟩ => ⟨S4x8x8192x128, .f32⟩
  | .hbm, ⟨3, _⟩ => ⟨S8x16x192, .f32⟩
  | .hbm, ⟨4, _⟩ => ⟨S8x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8x8192x192, .f32⟩
  | .hbm, ⟨11, _⟩ => ⟨S4x8x8192x192, .f32⟩
  | .hbm, ⟨12, _⟩ => ⟨S4x8x8192x192, .bf16⟩
  | .hbm, ⟨13, _⟩ => ⟨S4x8x8192x192, .bf16⟩
  | .hbm, ⟨14, _⟩ => ⟨S4x8x8192x128, .i32⟩
  | .hbm, ⟨15, _⟩ => ⟨S_, .i32⟩
  | .hbm, ⟨16, _⟩ => ⟨S4x8x8192x128, .i32⟩
  | .hbm, ⟨17, _⟩ => ⟨S4x8x8192x128, .i1⟩
  | .hbm, ⟨18, _⟩ => ⟨S_, .f32⟩
  | .hbm, ⟨19, _⟩ => ⟨S_, .f32⟩
  | .hbm, ⟨20, _⟩ => ⟨S4x8x8192x128, .f32⟩
  | .hbm, ⟨21, _⟩ => ⟨S4x8x8192x128, .f32⟩
  | .hbm, ⟨22, _⟩ => ⟨S4x8x8192x128, .f32⟩
  | .hbm, ⟨23, _⟩ => ⟨S4x8x8192x128, .f32⟩
  | .hbm, ⟨24, _⟩ => ⟨S4x8x8192x256, .f32⟩
  | .hbm, ⟨25, _⟩ => ⟨S4x8x8192x256, .bf16⟩
  | .hbm, ⟨26, _⟩ => ⟨S8x16x192, .bf16⟩
  | .hbm, ⟨27, _⟩ => ⟨S_, .i32⟩
  | .hbm, ⟨28, _⟩ => ⟨S_, .bf16⟩
  | .hbm, ⟨29, _⟩ => ⟨S8x128x192, .bf16⟩
  | .hbm, ⟨30, _⟩ => ⟨S8x16x128, .i32⟩
  | .hbm, ⟨31, _⟩ => ⟨S_, .i32⟩
  | .hbm, ⟨32, _⟩ => ⟨S8x16x128, .i32⟩
  | .hbm, ⟨33, _⟩ => ⟨S8x16x128, .i1⟩
  | .hbm, ⟨34, _⟩ => ⟨S_, .f32⟩
  | .hbm, ⟨35, _⟩ => ⟨S_, .f32⟩
  | .hbm, ⟨36, _⟩ => ⟨S8x16x128, .f32⟩
  | .hbm, ⟨37, _⟩ => ⟨S8x16x128, .f32⟩
  | .hbm, ⟨38, _⟩ => ⟨S8x16x128, .f32⟩
  | .hbm, ⟨39, _⟩ => ⟨S8x16x128, .f32⟩
  | .hbm, ⟨40, _⟩ => ⟨S8x16x256, .f32⟩
  | .hbm, ⟨41, _⟩ => ⟨S8x16x256, .bf16⟩
  | .hbm, ⟨42, _⟩ => ⟨S_, .i32⟩
  | .hbm, ⟨43, _⟩ => ⟨S_, .bf16⟩
  | .hbm, ⟨44, _⟩ => ⟨S8x128x256, .bf16⟩
  | .hbm, ⟨45, _⟩ => ⟨S4x8192x1024, .bf16⟩
  | .local _ .vmem, ⟨0, _⟩ => ⟨S1x1x2048x192, .bf16⟩
  | .local _ .vmem, ⟨1, _⟩ => ⟨S1x1x2048x192, .bf16⟩
  | .local _ .vmem, ⟨2, _⟩ => ⟨S1x1x8192x192, .bf16⟩
  | .local _ .vmem, ⟨3, _⟩ => ⟨S1x1x8192x192, .bf16⟩
  | .local _ .vmem, ⟨4, _⟩ => ⟨S1x1x8192x256, .bf16⟩
  | .local _ .vmem, ⟨5, _⟩ => ⟨S1x1x8192x256, .bf16⟩
  | .local _ .vmem, ⟨6, _⟩ => ⟨S1x128x192, .bf16⟩
  | .local _ .vmem, ⟨7, _⟩ => ⟨S1x128x192, .bf16⟩
  | .local _ .vmem, ⟨8, _⟩ => ⟨S1x128x256, .bf16⟩
  | .local _ .vmem, ⟨9, _⟩ => ⟨S1x128x256, .bf16⟩
  | .local _ .vmem, ⟨10, _⟩ => ⟨S1x2048x128, .bf16⟩
  | .local _ .vmem, ⟨11, _⟩ => ⟨S1x2048x128, .bf16⟩
  | _, _ => ⟨S4x8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_mult1 : BitVec 32 :=
  let c0_i32 : BitVec 32 := 0#32
  let c2048_i32 : BitVec 32 := 2048#32
  let v71 : BitVec 32 := Scalar.muli c0_i32 c2048_i32
  v71
def k0_off1 (c0_i32 : BitVec 32) : Fin 4 → Nat :=
  let c0_45 : Index := 0#32
  let c0_46 : Index := 0#32
  let c2048_i32 : BitVec 32 := 2048#32
  let v71 : BitVec 32 := Scalar.muli c0_i32 c2048_i32
  let v72 : BitVec 32 := v71
  let v73 : Index := Scalar.indexCast v72
  let c0_47 : Index := 0#32
  ![0, 0, v73.toNat, 0]
def k0_off2 (c0_i32 : BitVec 32) : Fin 4 → Nat :=
  let c0_48 : Index := 0#32
  let c0_49 : Index := 0#32
  let c2048_i32 : BitVec 32 := 2048#32
  let v71 : BitVec 32 := Scalar.muli c0_i32 c2048_i32
  let v72 : BitVec 32 := v71
  let v76 : Index := Scalar.indexCast v72
  let c0_50 : Index := 0#32
  ![0, 0, v76.toNat, 0]
def k0_mult2 : BitVec 32 :=
  let c1_i32 : BitVec 32 := 1#32
  let c2048_i32_63 : BitVec 32 := 2048#32
  let v135 : BitVec 32 := Scalar.muli c1_i32 c2048_i32_63
  v135
def k0_mult3 : BitVec 32 :=
  let c2_i32 : BitVec 32 := 2#32
  let c2048_i32_82 : BitVec 32 := 2048#32
  let v199 : BitVec 32 := Scalar.muli c2_i32 c2048_i32_82
  v199
def k0_mult4 : BitVec 32 :=
  let c3_i32 : BitVec 32 := 3#32
  let c2048_i32_101 : BitVec 32 := 2048#32
  let v263 : BitVec 32 := Scalar.muli c3_i32 c2048_i32_101
  v263
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8x8192x192 : Shape := ⟨4, ![4, 8, 8192, 192]⟩
abbrev S4x8x8192x128 : Shape := ⟨4, ![4, 8, 8192, 128]⟩
abbrev S8x16x192 : Shape := ⟨3, ![8, 16, 192]⟩
abbrev S8x16x128 : Shape := ⟨3, ![8, 16, 128]⟩
abbrev S1x8x16x192 : Shape := ⟨4, ![1, 8, 16, 192]⟩
abbrev S4x8x16x192 : Shape := ⟨4, ![4, 8, 16, 192]⟩
abbrev S4x8x8208x192 : Shape := ⟨4, ![4, 8, 8208, 192]⟩
abbrev S1x8x16x128 : Shape := ⟨4, ![1, 8, 16, 128]⟩
abbrev S4x8x16x128 : Shape := ⟨4, ![4, 8, 16, 128]⟩
abbrev S4x8x8208x128 : Shape := ⟨4, ![4, 8, 8208, 128]⟩
abbrev S4x8x8192x8208 : Shape := ⟨4, ![4, 8, 8192, 8208]⟩
abbrev S_ : Shape := ⟨0, ![]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x8x128 : Shape := ⟨4, ![4, 8192, 8, 128]⟩
abbrev S4x8192x1024 : Shape := ⟨3, ![4, 8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x8x8192x192, .f32⟩
  | .hbm, ⟨1, _⟩ => ⟨S4x8x8192x192, .f32⟩
  | .hbm, ⟨2, _⟩ => ⟨S4x8x8192x128, .f32⟩
  | .hbm, ⟨3, _⟩ => ⟨S8x16x192, .f32⟩
  | .hbm, ⟨4, _⟩ => ⟨S8x16x128, .f32⟩
  | .hbm, ⟨5, _⟩ => ⟨S1x8x16x192, .f32⟩
  | .hbm, ⟨6, _⟩ => ⟨S4x8x16x192, .f32⟩
  | .hbm, ⟨7, _⟩ => ⟨S4x8x8208x192, .f32⟩
  | .hbm, ⟨8, _⟩ => ⟨S1x8x16x128, .f32⟩
  | .hbm, ⟨9, _⟩ => ⟨S4x8x16x128, .f32⟩
  | .hbm, ⟨10, _⟩ => ⟨S4x8x8208x128, .f32⟩
  | .hbm, ⟨11, _⟩ => ⟨S4x8x8192x8208, .f32⟩
  | .hbm, ⟨12, _⟩ => ⟨S_, .f32⟩
  | .hbm, ⟨13, _⟩ => ⟨S_, .f32⟩
  | .hbm, ⟨14, _⟩ => ⟨S4x8x8192x8208, .f32⟩
  | .hbm, ⟨15, _⟩ => ⟨S4x8x8192x8208, .f32⟩
  | .hbm, ⟨16, _⟩ => ⟨S_, .f32⟩
  | .hbm, ⟨17, _⟩ => ⟨S4x8x8192, .f32⟩
  | .hbm, ⟨18, _⟩ => ⟨S_, .f32⟩
  | .hbm, ⟨19, _⟩ => ⟨S4x8x8192, .f32⟩
  | .hbm, ⟨20, _⟩ => ⟨S4x8x8192, .f32⟩
  | .hbm, ⟨21, _⟩ => ⟨S4x8x8192x1, .f32⟩
  | .hbm, ⟨22, _⟩ => ⟨S4x8x8192x8208, .f32⟩
  | .hbm, ⟨23, _⟩ => ⟨S4x8x8192x8208, .f32⟩
  | .hbm, ⟨24, _⟩ => ⟨S4x8x8192x8208, .f32⟩
  | .hbm, ⟨25, _⟩ => ⟨S_, .f32⟩
  | .hbm, ⟨26, _⟩ => ⟨S4x8x8192, .f32⟩
  | .hbm, ⟨27, _⟩ => ⟨S4x8x8192x1, .f32⟩
  | .hbm, ⟨28, _⟩ => ⟨S4x8x8192x8208, .f32⟩
  | .hbm, ⟨29, _⟩ => ⟨S4x8x8192x8208, .f32⟩
  | .hbm, ⟨30, _⟩ => ⟨S4x8x128x8192, .f32⟩
  | .hbm, ⟨31, _⟩ => ⟨S4x8192x8x128, .f32⟩
  | .hbm, ⟨32, _⟩ => ⟨S4x8192x1024, .f32⟩
  | .hbm, ⟨33, _⟩ => ⟨S4x8192x1024, .bf16⟩
  | _, _ => ⟨S4x8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S73984x2048 : Shape := ⟨2, ![73984, 2048]⟩
abbrev S32x2048x512 : Shape := ⟨3, ![32, 2048, 512]⟩
abbrev S32x512x2048 : Shape := ⟨3, ![32, 512, 2048]⟩
abbrev S73984x2x4x256 : Shape := ⟨4, ![73984, 2, 4, 256]⟩
abbrev S4x73984x2x256 : Shape := ⟨4, ![4, 73984, 2, 256]⟩
abbrev S4x73984x512 : Shape := ⟨3, ![4, 73984, 512]⟩
abbrev S4x256x512 : Shape := ⟨3, ![4, 256, 512]⟩
abbrev S1x2048x512 : Shape := ⟨3, ![1, 2048, 512]⟩
abbrev S1x512x2048 : Shape := ⟨3, ![1, 512, 2048]⟩
abbrev S1x256x512 : Shape := ⟨3, ![1, 256, 512]⟩
abbrev S256x512 : Shape := ⟨2, ![256, 512]⟩
abbrev S256x256 : Shape := ⟨2, ![256, 256]⟩
abbrev S256x1024 : Shape := ⟨2, ![256, 1024]⟩
abbrev S256x2048 : Shape := ⟨2, ![256, 2048]⟩
abbrev S2048x512 : Shape := ⟨2, ![2048, 512]⟩
abbrev S512x2048 : Shape := ⟨2, ![512, 2048]⟩

abbrev nBuf : Space → Nat
  | .hbm => 12
  | .vmem => 10
  | .smem => 2
  | _ => 0

abbrev bufTy : (tb : Table) → Fin (tcTables nBuf tb) → BufTy
  | .hbm, ⟨0, _⟩ => ⟨S73984x2048, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S73984x2x4x256, .f32⟩
  | .hbm, ⟨5, _⟩ => ⟨S4x73984x2x256, .f32⟩
  | .hbm, ⟨6, _⟩ => ⟨S4x73984x512, .f32⟩
  | .hbm, ⟨7, _⟩ => ⟨S4x73984x512, .bf16⟩
  | .hbm, ⟨8, _⟩ => ⟨S32x2048x512, .bf16⟩
  | .hbm, ⟨9, _⟩ => ⟨S32x2048x512, .bf16⟩
  | .hbm, ⟨10, _⟩ => ⟨S32x512x2048, .bf16⟩
  | .hbm, ⟨11, _⟩ => ⟨S4x73984x512, .bf16⟩
  | .local _ .vmem, ⟨0, _⟩ => ⟨S4x256x512, .bf16⟩
  | .local _ .vmem, ⟨1, _⟩ => ⟨S4x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S4x256x512, .bf16⟩
  | .local _ .vmem, ⟨9, _⟩ => ⟨S4x256x512, .bf16⟩
  | .local _ .smem, ⟨0, _⟩ => ⟨S288, .i32⟩
  | .local _ .smem, ⟨1, _⟩ => ⟨S1, .i32⟩
  | _, _ => ⟨S73984x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S288 : Shape := ⟨1, ![288]⟩
abbrev S1 : Shape := ⟨1, ![1]⟩
abbrev S73984x2048 : Shape := ⟨2, ![73984, 2048]⟩
abbrev S32x2048x512 : Shape := ⟨3, ![32, 2048, 512]⟩
abbrev S32x512x2048 : Shape := ⟨3, ![32, 512, 2048]⟩
abbrev S288x1 : Shape := ⟨2, ![288, 1]⟩
abbrev S1x32 : Shape := ⟨2, ![1, 32]⟩
abbrev S288x32 : Shape := ⟨2, ![288, 32]⟩
abbrev S_ : Shape := ⟨0, ![]⟩
abbrev S289x32 : Shape := ⟨2, ![289, 32]⟩
abbrev S289x256x32 : Shape := ⟨3, ![289, 256, 32]⟩
abbrev S73984x32 : Shape := ⟨2, ![73984, 32]⟩
abbrev S73984x32x512 : Shape := ⟨3, ![73984, 32, 512]⟩
abbrev S73984x32x1 : Shape := ⟨3, ![73984, 32, 1]⟩
abbrev S73984x2x4x256 : Shape := ⟨4, ![73984, 2, 4, 256]⟩
abbrev S4x73984x2x256 : Shape := ⟨4, ![4, 73984, 2, 256]⟩
abbrev S4x73984x512 : Shape := ⟨3, ![4, 73984, 512]⟩

abbrev nBuf : Space → Nat
  | .hbm => 37
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73984x2048, .f32⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S288x1, .i32⟩
  | .hbm, ⟨7, _⟩ => ⟨S1x32, .i32⟩
  | .hbm, ⟨8, _⟩ => ⟨S288x32, .i32⟩
  | .hbm, ⟨9, _⟩ => ⟨S288x32, .i32⟩
  | .hbm, ⟨10, _⟩ => ⟨S288x32, .i1⟩
  | .hbm, ⟨11, _⟩ => ⟨S288x32, .f32⟩
  | .hbm, ⟨12, _⟩ => ⟨S_, .i32⟩
  | .hbm, ⟨13, _⟩ => ⟨S_, .f32⟩
  | .hbm, ⟨14, _⟩ => ⟨S289x32, .f32⟩
  | .hbm, ⟨15, _⟩ => ⟨S289x256x32, .f32⟩
  | .hbm, ⟨16, _⟩ => ⟨S73984x32, .f32⟩
  | .hbm, ⟨17, _⟩ => ⟨S73984x32x512, .f32⟩
  | .hbm, ⟨18, _⟩ => ⟨S73984x32x512, .f32⟩
  | .hbm, ⟨19, _⟩ => ⟨S73984x32x512, .f32⟩
  | .hbm, ⟨20, _⟩ => ⟨S73984x32x512, .f32⟩
  | .hbm, ⟨21, _⟩ => ⟨S_, .f32⟩
  | .hbm, ⟨22, _⟩ => ⟨S73984x32x512, .f32⟩
  | .hbm, ⟨23, _⟩ => ⟨S73984x32x512, .f32⟩
  | .hbm, ⟨24, _⟩ => ⟨S_, .f32⟩
  | .hbm, ⟨25, _⟩ => ⟨S73984x32x512, .f32⟩
  | .hbm, ⟨26, _⟩ => ⟨S73984x32x512, .f32⟩
  | .hbm, ⟨27, _⟩ => ⟨S73984x32x512, .f32⟩
  | .hbm, ⟨28, _⟩ => ⟨S73984x32x512, .f32⟩
  | .hbm, ⟨29, _⟩ => ⟨S73984x32x1, .f32⟩
  | .hbm, ⟨30, _⟩ => ⟨S73984x32x512, .f32⟩
  | .hbm, ⟨31, _⟩ => ⟨S73984x32x512, .f32⟩
  | .hbm, ⟨32, _⟩ => ⟨S73984x2048, .f32⟩
  | .hbm, ⟨33, _⟩ => ⟨S73984x2x4x256, .f32⟩
  | .hbm, ⟨34, _⟩ => ⟨S4x73984x2x256, .f32⟩
  | .hbm, ⟨35, _⟩ => ⟨S4x73984x512, .f32⟩
  | .hbm, ⟨36, _⟩ => ⟨S4x73984x512, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_v0 : Ref sig .tc := ⟨.hbm, 19, rfl⟩
abbrev main_call2_v1 : Ref sig .tc := ⟨.hbm, 20, rfl⟩
abbrev main_call2_cst : Ref sig .tc := ⟨.hbm, 21, rfl⟩
abbrev main_call2_v2 : Ref sig .tc := ⟨.hbm, 22, rfl⟩
abbrev main_call2_v3 : Ref sig .tc := ⟨.hbm, 23, rfl⟩
abbrev main_call2_cst_0 : Ref sig .tc := ⟨.hbm, 24, rfl⟩
abbrev main_call2_v4 : Ref sig .tc := ⟨.hbm, 25, rfl⟩
abbrev main_call2_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S4x8192x2048 : Shape := ⟨3, ![4, 8192, 2048]⟩
abbrev S2048 : Shape := ⟨1, ![2048]⟩
abbrev S2048x8640 : Shape := ⟨2, ![2048, 8640]⟩
abbrev S2048x3456 : Shape := ⟨2, ![2048, 3456]⟩
abbrev S2048x1088 : Shape := ⟨2, ![2048, 1088]⟩
abbrev S_ : Shape := ⟨0, ![]⟩
abbrev S2048x64 : Shape := ⟨2, ![2048, 64]⟩
abbrev S2048x4096 : Shape := ⟨2, ![2048, 4096]⟩
abbrev S2048x8704 : Shape := ⟨2, ![2048, 8704]⟩
abbrev S32768x2048 : Shape := ⟨2, ![32768, 2048]⟩
abbrev S1x2048 : Shape := ⟨2, ![1, 2048]⟩
abbrev S32768x8704 : Shape := ⟨2, ![32768, 8704]⟩
abbrev S512x2048 : Shape := ⟨2, ![512, 2048]⟩
abbrev S2048x4352 : Shape := ⟨2, ![2048, 4352]⟩
abbrev S512x4352 : Shape := ⟨2, ![512, 4352]⟩
abbrev S512 : Shape := ⟨1, ![512]⟩
abbrev S512x1 : Shape := ⟨2, ![512, 1]⟩

abbrev nBuf : Space → Nat
  | .hbm => 13
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x8640, .f32⟩
  | .hbm, ⟨3, _⟩ => ⟨S2048x8640, .bf16⟩
  | .hbm, ⟨4, _⟩ => ⟨S2048x3456, .bf16⟩
  | .hbm, ⟨5, _⟩ => ⟨S2048x1088, .bf16⟩
  | .hbm, ⟨6, _⟩ => ⟨S_, .bf16⟩
  | .hbm, ⟨7, _⟩ => ⟨S2048x64, .bf16⟩
  | .hbm, ⟨8, _⟩ => ⟨S2048x4096, .bf16⟩
  | .hbm, ⟨9, _⟩ => ⟨S2048x8704, .bf16⟩
  | .hbm, ⟨10, _⟩ => ⟨S32768x2048, .f32⟩
  | .hbm, ⟨11, _⟩ => ⟨S1x2048, .f32⟩
  | .hbm, ⟨12, _⟩ => ⟨S32768x8704, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4352, .bf16⟩
  | .local _ .vmem, ⟨4, _⟩ => ⟨S512x4352, .f32⟩
  | .local _ .vmem, ⟨5, _⟩ => ⟨S512x4352, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x4352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x8192x2048 : Shape := ⟨3, ![4, 8192, 2048]⟩
abbrev S2048 : Shape := ⟨1, ![2048]⟩
abbrev S2048x8640 : Shape := ⟨2, ![2048, 8640]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x8640 : Shape := ⟨3, ![4, 8192, 8640]⟩
abbrev S4x8192x512 : Shape := ⟨3, ![4, 8192, 512]⟩
abbrev S4x8192x64 : Shape := ⟨3, ![4, 8192, 64]⟩
abbrev S4x8192x3456 : Shape := ⟨3, ![4, 8192, 3456]⟩
abbrev S4x8192x8704 : Shape := ⟨3, ![4, 8192, 8704]⟩
abbrev S32768x8704 : Shape := ⟨2, ![32768, 8704]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x8640, .f32⟩
  | .hbm, ⟨3, _⟩ => ⟨S4x8192x2048, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x2048, .f32⟩
  | .hbm, ⟨15, _⟩ => ⟨S4x8192x2048, .f32⟩
  | .hbm, ⟨16, _⟩ => ⟨S1x1x2048, .f32⟩
  | .hbm, ⟨17, _⟩ => ⟨S4x8192x2048, .f32⟩
  | .hbm, ⟨18, _⟩ => ⟨S4x8192x2048, .f32⟩
  | .hbm, ⟨19, _⟩ => ⟨S4x8192x8640, .f32⟩
  | .hbm, ⟨20, _⟩ => ⟨S4x8192x512, .f32⟩
  | .hbm, ⟨21, _⟩ => ⟨S4x8192x512, .f32⟩
  | .hbm, ⟨22, _⟩ => ⟨S4x8192x64, .f32⟩
  | .hbm, ⟨23, _⟩ => ⟨S4x8192x3456, .f32⟩
  | .hbm, ⟨24, _⟩ => ⟨S4x8192x2048, .f32⟩
  | .hbm, ⟨25, _⟩ => ⟨S4x8192x2048, .f32⟩
  | .hbm, ⟨26, _⟩ => ⟨S_, .f32⟩
  | .hbm, ⟨27, _⟩ => ⟨S4x8192x64, .f32⟩
  | .hbm, ⟨28, _⟩ => ⟨S4x8192x8704, .f32⟩
  | .hbm, ⟨29, _⟩ => ⟨S32768x8704, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S4x8192x2048 : Shape := ⟨3, ![4, 8192, 2048]⟩
abbrev S4x8192x1024 : Shape := ⟨3, ![4, 8192, 1024]⟩
abbrev S32768x8704 : Shape := ⟨2, ![32768, 8704]⟩
abbrev S1024x2048 : Shape := ⟨2, ![1024, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S4x2048x8 : Shape := ⟨3, ![4, 2048, 8]⟩
abbrev S4x8 : Shape := ⟨2, ![4, 8]⟩
abbrev S2048x4x8 : Shape := ⟨3, ![2048, 4, 8]⟩
abbrev S2048x32 : Shape := ⟨2, ![2048, 32]⟩
abbrev S_ : Shape := ⟨0, ![]⟩
abbrev S2048x92 : Shape := ⟨2, ![2048, 92]⟩
abbrev S2048x128 : Shape := ⟨2, ![2048, 128]⟩
abbrev S32 : Shape := ⟨1, ![32]⟩
abbrev S92 : Shape := ⟨1, ![92]⟩
abbrev S128 : Shape := ⟨1, ![128]⟩
abbrev S1x128 : Shape := ⟨2, ![1, 128]⟩
abbrev S32768x2048 : Shape := ⟨2, ![32768, 2048]⟩
abbrev S32768x1024 : Shape := ⟨2, ![32768, 1024]⟩
abbrev S1x2048 : Shape := ⟨2, ![1, 2048]⟩
abbrev S4x32768x512 : Shape := ⟨3, ![4, 32768, 512]⟩
abbrev S32768x128 : Shape := ⟨2, ![32768, 128]⟩
abbrev S256x1024 : Shape := ⟨2, ![256, 1024]⟩
abbrev S256x512 : Shape := ⟨2, ![256, 512]⟩
abbrev S256x2048 : Shape := ⟨2, ![256, 2048]⟩
abbrev S4x256x512 : Shape := ⟨3, ![4, 256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x256x512 : Shape := ⟨3, ![1, 256, 512]⟩

abbrev nBuf : Space → Nat
  | .hbm => 32
  | .vmem => 34
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .bf16⟩
  | .hbm, ⟨2, _⟩ => ⟨S4x8192x1024, .bf16⟩
  | .hbm, ⟨3, _⟩ => ⟨S32768x8704, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S4x2048x8, .f32⟩
  | .hbm, ⟨11, _⟩ => ⟨S4x8, .f32⟩
  | .hbm, ⟨12, _⟩ => ⟨S2048x4x8, .f32⟩
  | .hbm, ⟨13, _⟩ => ⟨S2048x32, .f32⟩
  | .hbm, ⟨14, _⟩ => ⟨S_, .f32⟩
  | .hbm, ⟨15, _⟩ => ⟨S2048x92, .f32⟩
  | .hbm, ⟨16, _⟩ => ⟨S2048x128, .f32⟩
  | .hbm, ⟨17, _⟩ => ⟨S32, .f32⟩
  | .hbm, ⟨18, _⟩ => ⟨S_, .f32⟩
  | .hbm, ⟨19, _⟩ => ⟨S92, .f32⟩
  | .hbm, ⟨20, _⟩ => ⟨S128, .f32⟩
  | .hbm, ⟨21, _⟩ => ⟨S1x128, .f32⟩
  | .hbm, ⟨22, _⟩ => ⟨S32768x2048, .f32⟩
  | .hbm, ⟨23, _⟩ => ⟨S32768x1024, .bf16⟩
  | .hbm, ⟨24, _⟩ => ⟨S32768x1024, .bf16⟩
  | .hbm, ⟨25, _⟩ => ⟨S1024x2048, .bf16⟩
  | .hbm, ⟨26, _⟩ => ⟨S1024x2048, .bf16⟩
  | .hbm, ⟨27, _⟩ => ⟨S2048x2048, .bf16⟩
  | .hbm, ⟨28, _⟩ => ⟨S1x2048, .f32⟩
  | .hbm, ⟨29, _⟩ => ⟨S32768x2048, .f32⟩
  | .hbm, ⟨30, _⟩ => ⟨S4x32768x512, .bf16⟩
  | .hbm, ⟨31, _⟩ => ⟨S32768x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x2048, .f32⟩
  | .local _ .vmem, ⟨21, _⟩ => ⟨S256x2048, .f32⟩
  | .local _ .vmem, ⟨22, _⟩ => ⟨S1024x2048, .bf16⟩
  | .local _ .vmem, ⟨23, _⟩ => ⟨S1024x2048, .bf16⟩
  | .local _ .vmem, ⟨24, _⟩ => ⟨S2048x2048, .bf16⟩
  | .local _ .vmem, ⟨25, _⟩ => ⟨S1x2048, .f32⟩
  | .local _ .vmem, ⟨26, _⟩ => ⟨S2048x128, .f32⟩
  | .local _ .vmem, ⟨27, _⟩ => ⟨S1x128, .f32⟩
  | .local _ .vmem, ⟨28, _⟩ => ⟨S256x2048, .f32⟩
  | .local _ .vmem, ⟨29, _⟩ => ⟨S256x2048, .f32⟩
  | .local _ .vmem, ⟨30, _⟩ => ⟨S4x256x512, .bf16⟩
  | .local _ .vmem, ⟨31, _⟩ => ⟨S4x256x512, .bf16⟩
  | .local _ .vmem, ⟨32, _⟩ => ⟨S256x128, .f32⟩
  | .local _ .vmem, ⟨33, _⟩ => ⟨S256x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_8 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_9 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel4Ideal.lean ====
variable {F : FTy → Type} [FloatOps F] [Named F]
def κ : String → Option EReal := fun
  | "below" => some ⊥
  | _ => none
-- ==== Reference4Ideal.lean ====
abbrev S4x8192x2048 : Shape := ⟨3, ![4, 8192, 2048]⟩
abbrev S4x8192x1024 : Shape := ⟨3, ![4, 8192, 1024]⟩
abbrev S32768x8704 : Shape := ⟨2, ![32768, 8704]⟩
abbrev S1024x2048 : Shape := ⟨2, ![1024, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S4x2048x8 : Shape := ⟨3, ![4, 2048, 8]⟩
abbrev S4x8 : Shape := ⟨2, ![4, 8]⟩
abbrev S4x8192x8704 : Shape := ⟨3, ![4, 8192, 8704]⟩
abbrev S4x8192x4608 : Shape := ⟨3, ![4, 8192, 4608]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩
abbrev S32768x4 : Shape := ⟨2, ![32768, 4]⟩
abbrev S1x4 : Shape := ⟨2, ![1, 4]⟩
abbrev S32768 : Shape := ⟨1, ![32768]⟩
abbrev S32768x1 : Shape := ⟨2, ![32768, 1]⟩
abbrev S32768x4x8 : Shape := ⟨3, ![32768, 4, 8]⟩
abbrev S1x4x8 : Shape := ⟨3, ![1, 4, 8]⟩
abbrev S32768x4x1 : Shape := ⟨3, ![32768, 4, 1]⟩
abbrev S32768x8 : Shape := ⟨2, ![32768, 8]⟩
abbrev S32768x2 : Shape := ⟨2, ![32768, 2]⟩
abbrev S32768x2x1 : Shape := ⟨3, ![32768, 2, 1]⟩
abbrev S1x1x32 : Shape := ⟨3, ![1, 1, 32]⟩
abbrev S32768x2x32 : Shape := ⟨3, ![32768, 2, 32]⟩
abbrev S32768x32 : Shape := ⟨2, ![32768, 32]⟩
abbrev S32768x2x4x256 : Shape := ⟨4, ![32768, 2, 4, 256]⟩
abbrev S4x32768x2x256 : Shape := ⟨4, ![4, 32768, 2, 256]⟩
abbrev S4x32768x512 : Shape := ⟨3, ![4, 32768, 512]⟩
abbrev S32768x128 : Shape := ⟨2, ![32768, 128]⟩

abbrev nBuf : Space → Nat
  | .hbm => 141
  | .vmem => 0
  | .smem => 0
  | _ => 0

abbrev hbmTy0_0 (i : Nat) : BufTy := match i % 128 with
  | 0 => ⟨S4x8192x2048, .f32⟩
  | 1 => ⟨S4x8192x1024, .bf16⟩
  | 2 => ⟨S4x8192x1024, .bf16⟩
  | 3 => ⟨S32768x8704, .f32⟩
  | 4 => ⟨S1024x2048, .f32⟩
  | 5 => ⟨S1024x2048, .f32⟩
  | 6 => ⟨S2048x2048, .f32⟩
  | 7 => ⟨S2048, .f32⟩
  | 8 => ⟨S2048x4, .f32⟩
  | 9 => ⟨S4, .f32⟩
  | 10 => ⟨S4x2048x8, .f32⟩
  | 11 => ⟨S4x8, .f32⟩
  | 12 => ⟨S4x8192x8704, .f32⟩
  | 13 => ⟨S4x8192x4608, .f32⟩
  | 14 => ⟨S4x8192x2048, .f32⟩
  | 15 => ⟨S4x8192x2048, .f32⟩
  | 16 => ⟨S4x8192x2048, .f32⟩
  | 17 => ⟨S4x8192x2048, .f32⟩
  | 18 => ⟨S_, .f32⟩
  | 19 => ⟨S4x8192x2048, .f32⟩
  | 20 => ⟨S4x8192x2048, .f32⟩
  | 21 => ⟨S_, .f32⟩
  | 22 => ⟨S4x8192x2048, .f32⟩
  | 23 => ⟨S4x8192x2048, .f32⟩
  | 24 => ⟨S4x8192x1024, .f32⟩
  | 25 => ⟨S4x8192x2048, .f32⟩
  | 26 => ⟨S4x8192x2048, .f32⟩
  | 27 => ⟨S4x8192x2048, .f32⟩
  | 28 => ⟨S4x8192x2048, .f32⟩
  | 29 => ⟨S_, .f32⟩
  | 30 => ⟨S4x8192x2048, .f32⟩
  | 31 => ⟨S4x8192x2048, .f32⟩
  | 32 => ⟨S_, .f32⟩
  | 33 => ⟨S4x8192x2048, .f32⟩
  | 34 => ⟨S4x8192x2048, .f32⟩
  | 35 => ⟨S4x8192x1024, .f32⟩
  | 36 => ⟨S4x8192x2048, .f32⟩
  | 37 => ⟨S4x8192x2048, .f32⟩
  | 38 => ⟨S4x8192x2048, .f32⟩
  | 39 => ⟨S4x8192x2048, .f32⟩
  | 40 => ⟨S4x8192x2048, .f32⟩
  | 41 => ⟨S4x8192x2048, .f32⟩
  | 42 => ⟨S_, .f32⟩
  | 43 => ⟨S4x8192, .f32⟩
  | 44 => ⟨S4x8192x1, .f32⟩
  | 45 => ⟨S_, .f32⟩
  | 46 => ⟨S4x8192x1, .f32⟩
  | 47 => ⟨S4x8192x1, .f32⟩
  | 48 => ⟨S_, .f32⟩
  | 49 => ⟨S4x8192x1, .f32⟩
  | 50 => ⟨S4x8192x1, .f32⟩
  | 51 => ⟨S4x8192x1, .f32⟩
  | 52 => ⟨S4x8192x2048, .f32⟩
  | 53 => ⟨S4x8192x2048, .f32⟩
  | 54 => ⟨S1x1x2048, .f32⟩
  | 55 => ⟨S4x8192x2048, .f32⟩
  | 56 => ⟨S4x8192x2048, .f32⟩
  | 57 => ⟨S32768x2048, .f32⟩
  | 58 => ⟨S32768x4, .f32⟩
  | 59 => ⟨S1x4, .f32⟩
  | 60 => ⟨S32768x4, .f32⟩
  | 61 => ⟨S32768x4, .f32⟩
  | 62 => ⟨S_, .f32⟩
  | 63 => ⟨S32768, .f32⟩
  | 64 => ⟨S_, .f32⟩
  | 65 => ⟨S32768, .f32⟩
  | 66 => ⟨S32768, .f32⟩
  | 67 => ⟨S32768x1, .f32⟩
  | 68 => ⟨S32768x4, .f32⟩
  | 69 => ⟨S32768x4, .f32⟩
  | 70 => ⟨S32768x4, .f32⟩
  | 71 => ⟨S_, .f32⟩
  | 72 => ⟨S32768, .f32⟩
  | 73 => ⟨S32768x1, .f32⟩
  | 74 => ⟨S32768x4, .f32⟩
  | 75 => ⟨S32768x4, .f32⟩
  | 76 => ⟨S32768x1, .f32⟩
  | 77 => ⟨S32768x1, .i32⟩
  | 78 => ⟨S32768x4x8, .f32⟩
  | 79 => ⟨S1x4x8, .f32⟩
  | 80 => ⟨S32768x4x8, .f32⟩
  | 81 => ⟨S32768x4x8, .f32⟩
  | 82 => ⟨S32768, .i32⟩
  | 83 => ⟨S32768x1, .i32⟩
  | 84 => ⟨S1x4, .i32⟩
  | 85 => ⟨S32768x4, .i32⟩
  | 86 => ⟨S32768x4, .i32⟩
  | 87 => ⟨S32768x4, .i1⟩
  | 88 => ⟨S32768x4, .f32⟩
  | 89 => ⟨S32768x4x1, .f32⟩
  | 90 => ⟨S32768x4x8, .f32⟩
  | 91 => ⟨S32768x4x8, .f32⟩
  | 92 => ⟨S_, .f32⟩
  | 93 => ⟨S32768x8, .f32⟩
  | 94 => ⟨S_, .f32⟩
  | 95 => ⟨S32768, .f32⟩
  | 96 => ⟨S_, .f32⟩
  | 97 => ⟨S32768, .f32⟩
  | 98 => ⟨S32768, .f32⟩
  | 99 => ⟨S32768x1, .f32⟩
  | 100 => ⟨S32768x8, .f32⟩
  | 101 => ⟨S32768x8, .f32⟩
  | 102 => ⟨S32768x8, .f32⟩
  | 103 => ⟨S_, .f32⟩
  | 104 => ⟨S32768, .f32⟩
  | 105 => ⟨S32768x1, .f32⟩
  | 106 => ⟨S32768x8, .f32⟩
  | 107 => ⟨S32768x8, .f32⟩
  | 108 => ⟨S32768x2, .f32⟩
  | 109 => ⟨S32768x2, .i32⟩
  | 110 => ⟨S_, .f32⟩
  | 111 => ⟨S32768, .f32⟩
  | 112 => ⟨S32768x1, .f32⟩
  | 113 => ⟨S32768x2, .f32⟩
  | 114 => ⟨S32768x2, .f32⟩
  | 115 => ⟨S_, .i32⟩
  | 116 => ⟨S32768x1, .i32⟩
  | 117 => ⟨S32768x1, .i32⟩
  | 118 => ⟨S32768x2, .i32⟩
  | 119 => ⟨S32768x2, .i32⟩
  | 120 => ⟨S32768x2, .f32⟩
  | 121 => ⟨S32768x2, .f32⟩
  | 122 => ⟨S32768x2x1, .i32⟩
  | 123 => ⟨S1x1x32, .i32⟩
  | 124 => ⟨S32768x2x32, .i32⟩
  | 125 => ⟨S32768x2x32, .i32⟩
  | 126 => ⟨S32768x2x32, .i1⟩
  | 127 => ⟨S32768x2x32, .f32⟩
  | _ => ⟨S4x8192x2048, .f32⟩

abbrev hbmTy0_1 (i : Nat) : BufTy := match i % 128 with
  | 0 => ⟨S32768x2x1, .f32⟩
  | 1 => ⟨S32768x2x32, .f32⟩
  | 2 => ⟨S32768x2x32, .f32⟩
  | 3 => ⟨S_, .f32⟩
  | 4 => ⟨S32768x32, .f32⟩
  | 5 => ⟨S32768x2x4x256, .f32⟩
  | 6 => ⟨S4x32768x2x256, .f32⟩
  | 7 => ⟨S4x32768x512, .f32⟩
  | 8 => ⟨S32768x2048, .f32⟩
  | 9 => ⟨S4x32768x512, .bf16⟩
  | 10 => ⟨S_, .i32⟩
  | 11 => ⟨S_, .f32⟩
  | 12 => ⟨S32768x128, .f32⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_values : Ref sig .tc := ⟨.hbm, 76, rfl⟩
abbrev main_indices : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_values_13 : Ref sig .tc := ⟨.hbm, 108, rfl⟩
abbrev main_indices_14 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_16 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_17 : Ref sig .tc := ⟨.hbm, 138, rfl⟩
abbrev main_call2_v0 : Ref sig .tc := ⟨.hbm, 139, rfl⟩
abbrev main_v95 : Ref sig .tc := ⟨.hbm, 140, rfl⟩

abbrev nD : Nat := 1
abbrev τ : Topo := Topo.v7x

variable {F : FTy → Type} [FloatOps F]
-- ==== Kernel5.lean ====
abbrev S32768x8704 : Shape := ⟨2, ![32768, 8704]⟩
abbrev S8192x32 : Shape := ⟨2, ![8192, 32]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S8192x64 : Shape := ⟨2, ![8192, 64]⟩
abbrev S1x512 : Shape := ⟨2, ![1, 512]⟩
abbrev S1x192 : Shape := ⟨2, ![1, 192]⟩
abbrev S4x8x8192x192 : Shape := ⟨4, ![4, 8, 8192, 192]⟩
abbrev S4x8x8192x256 : Shape := ⟨4, ![4, 8, 8192, 256]⟩
abbrev S512x1152 : Shape := ⟨2, ![512, 1152]⟩
abbrev S512x64 : Shape := ⟨2, ![512, 64]⟩
abbrev S1x8x512x192 : Shape := ⟨4, ![1, 8, 512, 192]⟩
abbrev S1x8x512x256 : Shape := ⟨4, ![1, 8, 512, 256]⟩
abbrev S512x512 : Shape := ⟨2, ![512, 512]⟩
abbrev S512x1 : Shape := ⟨2, ![512, 1]⟩
abbrev S512x128 : Shape := ⟨2, ![512, 128]⟩
abbrev S1x64 : Shape := ⟨2, ![1, 64]⟩
abbrev S512x32 : Shape := ⟨2, ![512, 32]⟩
abbrev S512x192 : Shape := ⟨2, ![512, 192]⟩
abbrev S1x1x512x128 : Shape := ⟨4, ![1, 1, 512, 128]⟩
abbrev S1x1x512x64 : Shape := ⟨4, ![1, 1, 512, 64]⟩
abbrev S1x128 : Shape := ⟨2, ![1, 128]⟩

abbrev nBuf : Space → Nat
  | .hbm => 21
  | .vmem => 18
  | .smem => 0
  | _ => 0

abbrev bufTy : (tb : Table) → Fin (tcTables nBuf tb) → BufTy
  | .hbm, ⟨0, _⟩ => ⟨S32768x8704, .f32⟩
  | .hbm, ⟨1, _⟩ => ⟨S8192x32, .f32⟩
  | .hbm, ⟨2, _⟩ => ⟨S8192x32, .f32⟩
  | .hbm, ⟨3, _⟩ => ⟨S512, .f32⟩
  | .hbm, ⟨4, _⟩ => ⟨S512x1536, .f32⟩
  | .hbm, ⟨5, _⟩ => ⟨S512, .f32⟩
  | .hbm, ⟨6, _⟩ => ⟨S512x2048, .f32⟩
  | .hbm, ⟨7, _⟩ => ⟨S192, .f32⟩
  | .hbm, ⟨8, _⟩ => ⟨S192, .f32⟩
  | .hbm, ⟨9, _⟩ => ⟨S8192x64, .f32⟩
  | .hbm, ⟨10, _⟩ => ⟨S8192x32, .f32⟩
  | .hbm, ⟨11, _⟩ => ⟨S8192x64, .f32⟩
  | .hbm, ⟨12, _⟩ => ⟨S1x512, .f32⟩
  | .hbm, ⟨13, _⟩ => ⟨S1x512, .f32⟩
  | .hbm, ⟨14, _⟩ => ⟨S512x1536, .bf16⟩
  | .hbm, ⟨15, _⟩ => ⟨S512x2048, .bf16⟩
  | .hbm, ⟨16, _⟩ => ⟨S1x192, .f32⟩
  | .hbm, ⟨17, _⟩ => ⟨S1x192, .f32⟩
  | .hbm, ⟨18, _⟩ => ⟨S4x8x8192x192, .bf16⟩
  | .hbm, ⟨19, _⟩ => ⟨S4x8x8192x192, .bf16⟩
  | .hbm, ⟨20, _⟩ => ⟨S4x8x8192x256, .bf16⟩
  | .local _ .vmem, ⟨0, _⟩ => ⟨S512x1152, .f32⟩
  | .local _ .vmem, ⟨1, _⟩ => ⟨S512x1152, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S1x512, .f32⟩
  | .local _ .vmem, ⟨7, _⟩ => ⟨S1x512, .f32⟩
  | .local _ .vmem, ⟨8, _⟩ => ⟨S512x1536, .bf16⟩
  | .local _ .vmem, ⟨9, _⟩ => ⟨S512x2048, .bf16⟩
  | .local _ .vmem, ⟨10, _⟩ => ⟨S1x192, .f32⟩
  | .local _ .vmem, ⟨11, _⟩ => ⟨S1x192, .f32⟩
  | .local _ .vmem, ⟨12, _⟩ => ⟨S1x8x512x192, .bf16⟩
  | .local _ .vmem, ⟨13, _⟩ => ⟨S1x8x512x192, .bf16⟩
  | .local _ .vmem, ⟨14, _⟩ => ⟨S1x8x512x192, .bf16⟩
  | .local _ .vmem, ⟨15, _⟩ => ⟨S1x8x512x192, .bf16⟩
  | .local _ .vmem, ⟨16, _⟩ => ⟨S1x8x512x256, .bf16⟩
  | .local _ .vmem, ⟨17, _⟩ => ⟨S1x8x512x256, .bf16⟩
  | _, _ => ⟨S32768x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x512x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel5Ideal.lean ====
variable {F : FTy → Type} [FloatOps F] [Named F]
def κ : String → Option EReal := fun
  | "inv_n" => some ((1 / 192 : ℝ) : EReal)
  | "scale" => some (((Real.sqrt 192)⁻¹ * (Real.log 2)⁻¹ : ℝ) : EReal)
  | _ => none
-- ==== Reference5Ideal.lean ====
abbrev S32768x8704 : Shape := ⟨2, ![32768, 8704]⟩
abbrev S8192x32 : Shape := ⟨2, ![8192, 32]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S4x8192x8704 : Shape := ⟨3, ![4, 8192, 8704]⟩
abbrev S4x8192x3456 : Shape := ⟨3, ![4, 8192, 3456]⟩
abbrev S4x8192x512 : Shape := ⟨3, ![4, 8192, 512]⟩
abbrev S4x8192x64 : Shape := ⟨3, ![4, 8192, 64]⟩
abbrev S4x8192x4160 : Shape := ⟨3, ![4, 8192, 4160]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S4x8192x1536 : Shape := ⟨3, ![4, 8192, 1536]⟩
abbrev S4x8192x8x192 : Shape := ⟨4, ![4, 8192, 8, 192]⟩
abbrev S4x8192x2048 : Shape := ⟨3, ![4, 8192, 2048]⟩
abbrev S4x8192x8x256 : Shape := ⟨4, ![4, 8192, 8, 256]⟩
abbrev S4x8192x8x128 : Shape := ⟨4, ![4, 8192, 8, 128]⟩
abbrev S4x8192x1x64 : Shape := ⟨4, ![4, 8192, 1, 64]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x192 : Shape := ⟨4, ![1, 1, 1, 192]⟩
abbrev S4x8192x8x32 : Shape := ⟨4, ![4, 8192, 8, 32]⟩
abbrev S1x8192x1x32 : Shape := ⟨4, ![1, 8192, 1, 32]⟩
abbrev S4x8192x8x127 : Shape := ⟨4, ![4, 8192, 8, 127]⟩
abbrev S4x8x8192x192 : Shape := ⟨4, ![4, 8, 8192, 192]⟩
abbrev S4x8x8192x256 : Shape := ⟨4, ![4, 8, 8192, 256]⟩

abbrev nBuf : Space → Nat
  | .hbm => 138
  | .vmem => 0
  | .smem => 0
  | _ => 0

abbrev hbmTy0_0 (i : Nat) : BufTy := match i % 128 with
  | 0 => ⟨S32768x8704, .f32⟩
  | 1 => ⟨S8192x32, .f32⟩
  | 2 => ⟨S8192x32, .f32⟩
  | 3 => ⟨S512, .f32⟩
  | 4 => ⟨S512x1536, .f32⟩
  | 5 => ⟨S512, .f32⟩
  | 6 => ⟨S512x2048, .f32⟩
  | 7 => ⟨S192, .f32⟩
  | 8 => ⟨S192, .f32⟩
  | 9 => ⟨S4x8192x8704, .f32⟩
  | 10 => ⟨S4x8192x3456, .f32⟩
  | 11 => ⟨S4x8192x512, .f32⟩
  | 12 => ⟨S4x8192x512, .f32⟩
  | 13 => ⟨S4x8192x64, .f32⟩
  | 14 => ⟨S4x8192x4160, .f32⟩
  | 15 => ⟨S4x8192x512, .f32⟩
  | 16 => ⟨S_, .f32⟩
  | 17 => ⟨S4x8192, .f32⟩
  | 18 => ⟨S4x8192x1, .f32⟩
  | 19 => ⟨S_, .f32⟩
  | 20 => ⟨S4x8192x1, .f32⟩
  | 21 => ⟨S4x8192x1, .f32⟩
  | 22 => ⟨S_, .f32⟩
  | 23 => ⟨S4x8192x1, .f32⟩
  | 24 => ⟨S4x8192x1, .f32⟩
  | 25 => ⟨S4x8192x1, .f32⟩
  | 26 => ⟨S4x8192x512, .f32⟩
  | 27 => ⟨S4x8192x512, .f32⟩
  | 28 => ⟨S1x1x512, .f32⟩
  | 29 => ⟨S4x8192x512, .f32⟩
  | 30 => ⟨S4x8192x512, .f32⟩
  | 31 => ⟨S4x8192x1536, .f32⟩
  | 32 => ⟨S4x8192x8x192, .f32⟩
  | 33 => ⟨S4x8192x512, .f32⟩
  | 34 => ⟨S_, .f32⟩
  | 35 => ⟨S4x8192, .f32⟩
  | 36 => ⟨S4x8192x1, .f32⟩
  | 37 => ⟨S_, .f32⟩
  | 38 => ⟨S4x8192x1, .f32⟩
  | 39 => ⟨S4x8192x1, .f32⟩
  | 40 => ⟨S_, .f32⟩
  | 41 => ⟨S4x8192x1, .f32⟩
  | 42 => ⟨S4x8192x1, .f32⟩
  | 43 => ⟨S4x8192x1, .f32⟩
  | 44 => ⟨S4x8192x512, .f32⟩
  | 45 => ⟨S4x8192x512, .f32⟩
  | 46 => ⟨S1x1x512, .f32⟩
  | 47 => ⟨S4x8192x512, .f32⟩
  | 48 => ⟨S4x8192x512, .f32⟩
  | 49 => ⟨S4x8192x2048, .f32⟩
  | 50 => ⟨S4x8192x8x256, .f32⟩
  | 51 => ⟨S4x8192x8x128, .f32⟩
  | 52 => ⟨S4x8192x8x128, .f32⟩
  | 53 => ⟨S4x8192x1x64, .f32⟩
  | 54 => ⟨S4x8192x8x64, .f32⟩
  | 55 => ⟨S4x8192x8x192, .f32⟩
  | 56 => ⟨S4x8192x8x192, .f32⟩
  | 57 => ⟨S_, .f32⟩
  | 58 => ⟨S4x8192x8, .f32⟩
  | 59 => ⟨S4x8192x8x1, .f32⟩
  | 60 => ⟨S_, .f32⟩
  | 61 => ⟨S4x8192x8x1, .f32⟩
  | 62 => ⟨S4x8192x8x1, .f32⟩
  | 63 => ⟨S_, .f32⟩
  | 64 => ⟨S4x8192x8x1, .f32⟩
  | 65 => ⟨S4x8192x8x1, .f32⟩
  | 66 => ⟨S4x8192x8x1, .f32⟩
  | 67 => ⟨S4x8192x8x192, .f32⟩
  | 68 => ⟨S4x8192x8x192, .f32⟩
  | 69 => ⟨S1x1x1x192, .f32⟩
  | 70 => ⟨S4x8192x8x192, .f32⟩
  | 71 => ⟨S4x8192x8x192, .f32⟩
  | 72 => ⟨S4x8192x8x128, .f32⟩
  | 73 => ⟨S4x8192x8x32, .f32⟩
  | 74 => ⟨S4x8192x8x32, .f32⟩
  | 75 => ⟨S1x8192x1x32, .f32⟩
  | 76 => ⟨S1x8192x1x32, .f32⟩
  | 77 => ⟨S4x8192x8x32, .f32⟩
  | 78 => ⟨S4x8192x8x32, .f32⟩
  | 79 => ⟨S4x8192x8x32, .f32⟩
  | 80 => ⟨S4x8192x8x32, .f32⟩
  | 81 => ⟨S4x8192x8x32, .f32⟩
  | 82 => ⟨S4x8192x8x32, .f32⟩
  | 83 => ⟨S4x8192x8x32, .f32⟩
  | 84 => ⟨S4x8192x8x32, .f32⟩
  | 85 => ⟨S4x8192x8x32, .f32⟩
  | 86 => ⟨S4x8192x8x32, .f32⟩
  | 87 => ⟨S4x8192x8x192, .f32⟩
  | 88 => ⟨S4x8192x8x192, .f32⟩
  | 89 => ⟨S_, .f32⟩
  | 90 => ⟨S4x8192x8, .f32⟩
  | 91 => ⟨S4x8192x8x1, .f32⟩
  | 92 => ⟨S_, .f32⟩
  | 93 => ⟨S4x8192x8x1, .f32⟩
  | 94 => ⟨S4x8192x8x1, .f32⟩
  | 95 => ⟨S_, .f32⟩
  | 96 => ⟨S4x8192x8x1, .f32⟩
  | 97 => ⟨S4x8192x8x1, .f32⟩
  | 98 => ⟨S4x8192x8x1, .f32⟩
  | 99 => ⟨S4x8192x8x192, .f32⟩
  | 100 => ⟨S4x8192x8x192, .f32⟩
  | 101 => ⟨S1x1x1x192, .f32⟩
  | 102 => ⟨S4x8192x8x192, .f32⟩
  | 103 => ⟨S4x8192x8x192, .f32⟩
  | 104 => ⟨S4x8192x8x128, .f32⟩
  | 105 => ⟨S4x8192x8x32, .f32⟩
  | 106 => ⟨S4x8192x8x32, .f32⟩
  | 107 => ⟨S1x8192x1x32, .f32⟩
  | 108 => ⟨S1x8192x1x32, .f32⟩
  | 109 => ⟨S4x8192x8x32, .f32⟩
  | 110 => ⟨S4x8192x8x32, .f32⟩
  | 111 => ⟨S4x8192x8x32, .f32⟩
  | 112 => ⟨S4x8192x8x32, .f32⟩
  | 113 => ⟨S4x8192x8x32, .f32⟩
  | 114 => ⟨S4x8192x8x32, .f32⟩
  | 115 => ⟨S4x8192x8x32, .f32⟩
  | 116 => ⟨S4x8192x8x32, .f32⟩
  | 117 => ⟨S4x8192x8x32, .f32⟩
  | 118 => ⟨S4x8192x8x32, .f32⟩
  | 119 => ⟨S4x8192x8x192, .f32⟩
  | 120 => ⟨S_, .f32⟩
  | 121 => ⟨S_, .f32⟩
  | 122 => ⟨S_, .f32⟩
  | 123 => ⟨S_, .f32⟩
  | 124 => ⟨S_, .f32⟩
  | 125 => ⟨S4x8192x8x192, .f32⟩
  | 126 => ⟨S4x8192x8x192, .f32⟩
  | 127 => ⟨S_, .f32⟩
  | _ => ⟨S32768x8704, .f32⟩

abbrev hbmTy0_1 (i : Nat) : BufTy := match i % 128 with
  | 0 => ⟨S4x8192x8x1, .f32⟩
  | 1 => ⟨S_, .f32⟩
  | 2 => ⟨S4x8192x8x127, .f32⟩
  | 3 => ⟨S4x8192x8x256, .f32⟩
  | 4 => ⟨S4x8x8192x192, .f32⟩
  | 5 => ⟨S4x8x8192x192, .bf16⟩
  | 6 => ⟨S4x8x8192x192, .f32⟩
  | 7 => ⟨S4x8x8192x192, .bf16⟩
  | 8 => ⟨S4x8x8192x256, .f32⟩
  | 9 => ⟨S4x8x8192x256, .bf16⟩
  | _ => ⟨S32768x8704, .f32⟩

abbrev hbmTy (i : Nat) : BufTy := match i / 128 with
  | 0 => hbmTy0_0 i
  | 1 => hbmTy0_1 i
  | _ => ⟨S32768x8704, .f32⟩

abbrev bufTy : (tb : Table) → Fin (tcTables nBuf tb) → BufTy
  | .hbm, ⟨i, _⟩ => hbmTy i
  | _, _ => ⟨S32768x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_11 : Ref sig .tc := ⟨.hbm, 120, rfl⟩
abbrev main_v99 : Ref sig .tc := ⟨.hbm, 121, rfl⟩
abbrev main_cst_12 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_13 : Ref sig .tc := ⟨.hbm, 127, rfl⟩
abbrev main_v104 : Ref sig .tc := ⟨.hbm, 128, rfl⟩
abbrev main_cst_14 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩

abbrev nD : Nat := 1
abbrev τ : Topo := Topo.v7x

variable {F : FTy → Type} [FloatOps F]
-- ==== Kernel6.lean ====
abbrev S32768x2048 : Shape := ⟨2, ![32768, 2048]⟩
abbrev S2x4x32768x512 : Shape := ⟨4, ![2, 4, 32768, 512]⟩
abbrev S32768x128 : Shape := ⟨2, ![32768, 128]⟩
abbrev S512x2048 : Shape := ⟨2, ![512, 2048]⟩
abbrev S1x4x512x512 : Shape := ⟨4, ![1, 4, 512, 512]⟩
abbrev S512x128 : Shape := ⟨2, ![512, 128]⟩
abbrev S512x1 : Shape := ⟨2, ![512, 1]⟩
abbrev S1x1x512x512 : Shape := ⟨4, ![1, 1, 512, 512]⟩
abbrev S512x512 : Shape := ⟨2, ![512, 512]⟩
abbrev S512x256 : Shape := ⟨2, ![512, 256]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2x4x32768x512, .bf16⟩
  | .hbm, ⟨2, _⟩ => ⟨S32768x128, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x4x512x512, .bf16⟩
  | .local _ .vmem, ⟨3, _⟩ => ⟨S1x4x512x512, .bf16⟩
  | .local _ .vmem, ⟨4, _⟩ => ⟨S1x4x512x512, .bf16⟩
  | .local _ .vmem, ⟨5, _⟩ => ⟨S1x4x512x512, .bf16⟩
  | .local _ .vmem, ⟨6, _⟩ => ⟨S512x128, .f32⟩
  | .local _ .vmem, ⟨7, _⟩ => ⟨S512x128, .f32⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S32768x2048 : Shape := ⟨2, ![32768, 2048]⟩
abbrev S2x4x32768x512 : Shape := ⟨4, ![2, 4, 32768, 512]⟩
abbrev S32768x128 : Shape := ⟨2, ![32768, 128]⟩
abbrev S2x4x32768x2x256 : Shape := ⟨5, ![2, 4, 32768, 2, 256]⟩
abbrev S2x32768x2x4x256 : Shape := ⟨5, ![2, 32768, 2, 4, 256]⟩
abbrev S2x32768x2048 : Shape := ⟨3, ![2, 32768, 2048]⟩
abbrev S32768x2 : Shape := ⟨2, ![32768, 2]⟩
abbrev S2x32768 : Shape := ⟨2, ![2, 32768]⟩
abbrev S2x32768x1 : Shape := ⟨3, ![2, 32768, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x4x32768x512, .bf16⟩
  | .hbm, ⟨2, _⟩ => ⟨S32768x128, .f32⟩
  | .hbm, ⟨3, _⟩ => ⟨S2x4x32768x2x256, .bf16⟩
  | .hbm, ⟨4, _⟩ => ⟨S2x32768x2x4x256, .bf16⟩
  | .hbm, ⟨5, _⟩ => ⟨S2x32768x2048, .bf16⟩
  | .hbm, ⟨6, _⟩ => ⟨S2x32768x2048, .f32⟩
  | .hbm, ⟨7, _⟩ => ⟨S32768x2, .f32⟩
  | .hbm, ⟨8, _⟩ => ⟨S2x32768, .f32⟩
  | .hbm, ⟨9, _⟩ => ⟨S2x32768x1, .f32⟩
  | .hbm, ⟨10, _⟩ => ⟨S2x32768x2048, .f32⟩
  | .hbm, ⟨11, _⟩ => ⟨S2x32768x2048, .f32⟩
  | .hbm, ⟨12, _⟩ => ⟨S_, .f32⟩
  | .hbm, ⟨13, _⟩ => ⟨S32768x2048, .f32⟩
  | .hbm, ⟨14, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S32768x128 : Shape := ⟨2, ![32768, 128]⟩
abbrev S8x128 : Shape := ⟨2, ![8, 128]⟩
abbrev S2048x128 : Shape := ⟨2, ![2048, 128]⟩
abbrev S256x8x128 : Shape := ⟨3, ![256, 8, 128]⟩

abbrev nBuf : Space → Nat
  | .hbm => 2
  | .vmem => 3
  | .smem => 0
  | _ => 0

abbrev bufTy : (tb : Table) → Fin (tcTables nBuf tb) → BufTy
  | .hbm, ⟨0, _⟩ => ⟨S32768x128, .f32⟩
  | .hbm, ⟨1, _⟩ => ⟨S8x128, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference7Ideal.lean ====
abbrev S32768x128 : Shape := ⟨2, ![32768, 128]⟩
abbrev S_ : Shape := ⟨0, ![]⟩
abbrev S4096x8x128 : Shape := ⟨3, ![4096, 8, 128]⟩
abbrev S8x128 : Shape := ⟨2, ![8, 128]⟩

abbrev nBuf : Space → Nat
  | .hbm => 8
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S_, .f32⟩
  | .hbm, ⟨2, _⟩ => ⟨S32768x128, .f32⟩
  | .hbm, ⟨3, _⟩ => ⟨S32768x128, .i1⟩
  | .hbm, ⟨4, _⟩ => ⟨S32768x128, .f32⟩
  | .hbm, ⟨5, _⟩ => ⟨S4096x8x128, .f32⟩
  | .hbm, ⟨6, _⟩ => ⟨S_, .f32⟩
  | .hbm, ⟨7, _⟩ => ⟨S8x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S32768x128 : Shape := ⟨2, ![32768, 128]⟩
abbrev S128x1 : Shape := ⟨2, ![128, 1]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S128 : Shape := ⟨1, ![128]⟩
abbrev S1x128 : Shape := ⟨2, ![1, 128]⟩
abbrev S128x128 : Shape := ⟨2, ![128, 128]⟩
abbrev S2x32768 : Shape := ⟨2, ![2, 32768]⟩
abbrev S2048x128 : Shape := ⟨2, ![2048, 128]⟩
abbrev S2x2048 : Shape := ⟨2, ![2, 2048]⟩
abbrev S128x1024 : Shape := ⟨2, ![128, 1024]⟩
abbrev S1024x128 : Shape := ⟨2, ![1024, 128]⟩

abbrev nBuf : Space → Nat
  | .hbm => 18
  | .vmem => 10
  | .smem => 0
  | _ => 0

abbrev bufTy : (tb : Table) → Fin (tcTables nBuf tb) → BufTy
  | .hbm, ⟨0, _⟩ => ⟨S32768x128, .f32⟩
  | .hbm, ⟨1, _⟩ => ⟨S128x1, .f32⟩
  | .hbm, ⟨2, _⟩ => ⟨S1024, .i32⟩
  | .hbm, ⟨3, _⟩ => ⟨S1024x1, .i32⟩
  | .hbm, ⟨4, _⟩ => ⟨S1x1024, .i32⟩
  | .hbm, ⟨5, _⟩ => ⟨S1024x1024, .i32⟩
  | .hbm, ⟨6, _⟩ => ⟨S1024x1024, .i32⟩
  | .hbm, ⟨7, _⟩ => ⟨S1024x1024, .i1⟩
  | .hbm, ⟨8, _⟩ => ⟨S1024x1024, .bf16⟩
  | .hbm, ⟨9, _⟩ => ⟨S128, .i32⟩
  | .hbm, ⟨10, _⟩ => ⟨S128x1, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S128x128, .bf16⟩
  | .hbm, ⟨16, _⟩ => ⟨S2x32768, .i32⟩
  | .hbm, ⟨17, _⟩ => ⟨S32768x128, .f32⟩
  | .local _ .vmem, ⟨0, _⟩ => ⟨S2048x128, .f32⟩
  | .local _ .vmem, ⟨1, _⟩ => ⟨S2048x128, .f32⟩
  | .local _ .vmem, ⟨2, _⟩ => ⟨S1024x1024, .bf16⟩
  | .local _ .vmem, ⟨3, _⟩ => ⟨S128x128, .bf16⟩
  | .local _ .vmem, ⟨4, _⟩ => ⟨S128x1, .f32⟩
  | .local _ .vmem, ⟨5, _⟩ => ⟨S2x2048, .i32⟩
  | .local _ .vmem, ⟨6, _⟩ => ⟨S2x2048, .i32⟩
  | .local _ .vmem, ⟨7, _⟩ => ⟨S2048x128, .f32⟩
  | .local _ .vmem, ⟨8, _⟩ => ⟨S2048x128, .f32⟩
  | .local _ .vmem, ⟨9, _⟩ => ⟨S128x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14_0 : Ref sig .tc := ⟨.hbm, 16, rfl⟩
abbrev main_v14_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S32768x128 : Shape := ⟨2, ![32768, 128]⟩
abbrev S128x1 : Shape := ⟨2, ![128, 1]⟩
abbrev S_ : Shape := ⟨0, ![]⟩
abbrev S32768 : Shape := ⟨1, ![32768]⟩
abbrev S128 : Shape := ⟨1, ![128]⟩
abbrev S32768x1 : Shape := ⟨2, ![32768, 1]⟩
abbrev S1x32768 : Shape := ⟨2, ![1, 32768]⟩
abbrev S32768x32768 : Shape := ⟨2, ![32768, 32768]⟩
abbrev S1x128 : Shape := ⟨2, ![1, 128]⟩
abbrev S128x128 : Shape := ⟨2, ![128, 128]⟩
abbrev S2x32768 : Shape := ⟨2, ![2, 32768]⟩
abbrev S32768x2 : Shape := ⟨2, ![32768, 2]⟩
abbrev S32768x126 : Shape := ⟨2, ![32768, 126]⟩

abbrev nBuf : Space → Nat
  | .hbm => 93
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S128x1, .f32⟩
  | .hbm, ⟨2, _⟩ => ⟨S_, .f32⟩
  | .hbm, ⟨3, _⟩ => ⟨S32768x128, .f32⟩
  | .hbm, ⟨4, _⟩ => ⟨S32768x128, .i1⟩
  | .hbm, ⟨5, _⟩ => ⟨S32768, .i32⟩
  | .hbm, ⟨6, _⟩ => ⟨S128, .i32⟩
  | .hbm, ⟨7, _⟩ => ⟨S32768x1, .i32⟩
  | .hbm, ⟨8, _⟩ => ⟨S1x32768, .i32⟩
  | .hbm, ⟨9, _⟩ => ⟨S32768x32768, .i32⟩
  | .hbm, ⟨10, _⟩ => ⟨S32768x32768, .i32⟩
  | .hbm, ⟨11, _⟩ => ⟨S32768x32768, .i1⟩
  | .hbm, ⟨12, _⟩ => ⟨S32768x32768, .f32⟩
  | .hbm, ⟨13, _⟩ => ⟨S32768x128, .f32⟩
  | .hbm, ⟨14, _⟩ => ⟨S32768x128, .f32⟩
  | .hbm, ⟨15, _⟩ => ⟨S32768x128, .f32⟩
  | .hbm, ⟨16, _⟩ => ⟨S128x1, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S128x128, .f32⟩
  | .hbm, ⟨22, _⟩ => ⟨S32768x128, .f32⟩
  | .hbm, ⟨23, _⟩ => ⟨S128, .f32⟩
  | .hbm, ⟨24, _⟩ => ⟨S1x128, .f32⟩
  | .hbm, ⟨25, _⟩ => ⟨S32768x128, .f32⟩
  | .hbm, ⟨26, _⟩ => ⟨S32768x128, .f32⟩
  | .hbm, ⟨27, _⟩ => ⟨S_, .f32⟩
  | .hbm, ⟨28, _⟩ => ⟨S32768x128, .f32⟩
  | .hbm, ⟨29, _⟩ => ⟨S32768x128, .f32⟩
  | .hbm, ⟨30, _⟩ => ⟨S_, .f32⟩
  | .hbm, ⟨31, _⟩ => ⟨S32768x128, .f32⟩
  | .hbm, ⟨32, _⟩ => ⟨S32768x128, .i1⟩
  | .hbm, ⟨33, _⟩ => ⟨S32768x128, .i1⟩
  | .hbm, ⟨34, _⟩ => ⟨S32768x128, .f32⟩
  | .hbm, ⟨35, _⟩ => ⟨S_, .f32⟩
  | .hbm, ⟨36, _⟩ => ⟨S32768, .f32⟩
  | .hbm, ⟨37, _⟩ => ⟨S_, .f32⟩
  | .hbm, ⟨38, _⟩ => ⟨S32768, .f32⟩
  | .hbm, ⟨39, _⟩ => ⟨S32768, .i1⟩
  | .hbm, ⟨40, _⟩ => ⟨S_, .f32⟩
  | .hbm, ⟨41, _⟩ => ⟨S_, .f32⟩
  | .hbm, ⟨42, _⟩ => ⟨S32768x128, .f32⟩
  | .hbm, ⟨43, _⟩ => ⟨S32768x128, .f32⟩
  | .hbm, ⟨44, _⟩ => ⟨S_, .f32⟩
  | .hbm, ⟨45, _⟩ => ⟨S32768, .f32⟩
  | .hbm, ⟨46, _⟩ => ⟨S_, .f32⟩
  | .hbm, ⟨47, _⟩ => ⟨S_, .f32⟩
  | .hbm, ⟨48, _⟩ => ⟨S32768, .f32⟩
  | .hbm, ⟨49, _⟩ => ⟨S32768, .f32⟩
  | .hbm, ⟨50, _⟩ => ⟨S32768, .i32⟩
  | .hbm, ⟨51, _⟩ => ⟨S_, .f32⟩
  | .hbm, ⟨52, _⟩ => ⟨S_, .f32⟩
  | .hbm, ⟨53, _⟩ => ⟨S32768x128, .f32⟩
  | .hbm, ⟨54, _⟩ => ⟨S32768x128, .f32⟩
  | .hbm, ⟨55, _⟩ => ⟨S_, .f32⟩
  | .hbm, ⟨56, _⟩ => ⟨S32768, .f32⟩
  | .hbm, ⟨57, _⟩ => ⟨S_, .f32⟩
  | .hbm, ⟨58, _⟩ => ⟨S32768x128, .f32⟩
  | .hbm, ⟨59, _⟩ => ⟨S32768x128, .i1⟩
  | .hbm, ⟨60, _⟩ => ⟨S32768x128, .i1⟩
  | .hbm, ⟨61, _⟩ => ⟨S32768x128, .f32⟩
  | .hbm, ⟨62, _⟩ => ⟨S_, .f32⟩
  | .hbm, ⟨63, _⟩ => ⟨S32768, .f32⟩
  | .hbm, ⟨64, _⟩ => ⟨S_, .f32⟩
  | .hbm, ⟨65, _⟩ => ⟨S32768, .f32⟩
  | .hbm, ⟨66, _⟩ => ⟨S32768, .i1⟩
  | .hbm, ⟨67, _⟩ => ⟨S_, .f32⟩
  | .hbm, ⟨68, _⟩ => ⟨S_, .f32⟩
  | .hbm, ⟨69, _⟩ => ⟨S32768x128, .f32⟩
  | .hbm, ⟨70, _⟩ => ⟨S32768x128, .f32⟩
  | .hbm, ⟨71, _⟩ => ⟨S_, .f32⟩
  | .hbm, ⟨72, _⟩ => ⟨S32768, .f32⟩
  | .hbm, ⟨73, _⟩ => ⟨S_, .f32⟩
  | .hbm, ⟨74, _⟩ => ⟨S_, .f32⟩
  | .hbm, ⟨75, _⟩ => ⟨S32768, .f32⟩
  | .hbm, ⟨76, _⟩ => ⟨S32768, .f32⟩
  | .hbm, ⟨77, _⟩ => ⟨S32768, .i32⟩
  | .hbm, ⟨78, _⟩ => ⟨S_, .f32⟩
  | .hbm, ⟨79, _⟩ => ⟨S_, .f32⟩
  | .hbm, ⟨80, _⟩ => ⟨S32768x128, .f32⟩
  | .hbm, ⟨81, _⟩ => ⟨S32768x128, .f32⟩
  | .hbm, ⟨82, _⟩ => ⟨S_, .f32⟩
  | .hbm, ⟨83, _⟩ => ⟨S32768, .f32⟩
  | .hbm, ⟨84, _⟩ => ⟨S1x32768, .i32⟩
  | .hbm, ⟨85, _⟩ => ⟨S1x32768, .i32⟩
  | .hbm, ⟨86, _⟩ => ⟨S2x32768, .i32⟩
  | .hbm, ⟨87, _⟩ => ⟨S32768x1, .f32⟩
  | .hbm, ⟨88, _⟩ => ⟨S32768x1, .f32⟩
  | .hbm, ⟨89, _⟩ => ⟨S32768x2, .f32⟩
  | .hbm, ⟨90, _⟩ => ⟨S_, .f32⟩
  | .hbm, ⟨91, _⟩ => ⟨S32768x126, .f32⟩
  | .hbm, ⟨92, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_call2_v0 : Ref sig .tc := ⟨.hbm, 52, rfl⟩
abbrev main_call2_v1 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_call3_v0 : Ref sig .tc := ⟨.hbm, 68, rfl⟩
abbrev main_call3_v1 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_cst_14 : Ref sig .tc := ⟨.hbm, 73, rfl⟩
abbrev main_call4_v0 : Ref sig .tc := ⟨.hbm, 74, rfl⟩
abbrev main_call4_v1 : Ref sig .tc := ⟨.hbm, 75, rfl⟩
abbrev main_v48 : Ref sig .tc := ⟨.hbm, 76, rfl⟩
abbrev main_v49 : Ref sig .tc := ⟨.hbm, 77, rfl⟩
abbrev main_cst_15 : Ref sig .tc := ⟨.hbm, 78, rfl⟩
abbrev main_call5_v0 : Ref sig .tc := ⟨.hbm, 79, rfl⟩
abbrev main_call5_v1 : Ref sig .tc := ⟨.hbm, 80, rfl⟩
abbrev main_v50 : Ref sig .tc := ⟨.hbm, 81, rfl⟩
abbrev main_cst_16 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_17 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== Proof.Host.lean ====
/- Hand-written: WHAT THE KERNEL'S HOST CODE PUTS IN THE WINDOWS' ARRAYS, element by element over the extended reals. The
   queries are scaled by `192 ^ (-1/2) / log 2` (`scale`); the keys are the argument; beside the 128 lanes of a value stands
   a one and 127 zeros; the 16 meta keys and values are followed by 112 rows of zeros. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Proof.Host

open Cert.KernelIdeal Cert.KernelIdeal.Gen Idealize.ShloMosaic Idealize.ShloMosaic.TcCoe Idealize.SL.Sem

section Terms
variable {F : FTy → Type} [FloatOps F]

/-- The scaled queries. -/
def queries (q : FVec F S4x8x8192x192 .f32) : FVec F S4x8x8192x192 .bf16 :=
  truncf .bf16 (mulf q (broadcastInDim S4x8x8192x192 ![] bcast_S_S4x8x8192x192
    (Host.divf (Host.rsqrt (constant S_ .f32 0x43400000#32)) (Host.log (constant S_ .f32 0x40000000#32))))) bitsLt_bf16_f32

/-- The keys. -/
def keys (k : FVec F S4x8x8192x192 .f32) : FVec F S4x8x8192x192 .bf16 := truncf .bf16 k bitsLt_bf16_f32

/-- The values, widened by a column of ones and 127 of zeros. -/
def values (v : FVec F S4x8x8192x128 .f32) : FVec F S4x8x8192x256 .bf16 :=
  truncf .bf16 (concatenate S4x8x8192x256 3 [⟨S4x8x8192x128, v⟩, ⟨S4x8x8192x128,
    select (cmpi .eq (iotaInDim S4x8x8192x128 32 3) (broadcastInDim S4x8x8192x128 ![] bcast_S_S4x8x8192x128 (constantI S_ 32 0#32)))
      (broadcastInDim S4x8x8192x128 ![] bcast_S_S4x8x8192x128 (constant (F := F) S_ .f32 0x3F800000#32))
      (broadcastInDim S4x8x8192x128 ![] bcast_S_S4x8x8192x128 (constant (F := F) S_ .f32 0x00000000#32))⟩]
    concatenates_S4x8x8192x128_S4x8x8192x128_S4x8x8192x256_d3) bitsLt_bf16_f32

/-- The meta keys over 112 rows of zeros. -/
def metaKeys (k : FVec F S8x16x192 .f32) : FVec F S8x128x192 .bf16 :=
  pad S8x128x192 ![0, 0, 0] ![0, 112, 0] ![0, 0, 0] (truncf .bf16 k bitsLt_bf16_f32)
    (sitofp .bf16 (constantI S_ 32 0#32)) pads_S8x16x192_S8x128x192_000_01120_000 h_S_

/-- The widened meta values over 112 rows of zeros. -/
def metaValues (v : FVec F S8x16x128 .f32) : FVec F S8x128x256 .bf16 :=
  pad S8x128x256 ![0, 0, 0] ![0, 112, 0] ![0, 0, 0]
    (truncf .bf16 (concatenate S8x16x256 2 [⟨S8x16x128, v⟩, ⟨S8x16x128,
      select (cmpi .eq (iotaInDim S8x16x128 32 2) (broadcastInDim S8x16x128 ![] bcast_S_S8x16x128 (constantI S_ 32 0#32)))
        (broadcastInDim S8x16x128 ![] bcast_S_S8x16x128 (constant (F := F) S_ .f32 0x3F800000#32))
        (broadcastInDim S8x16x128 ![] bcast_S_S8x16x128 (constant (F := F) S_ .f32 0x00000000#32))⟩]
      concatenates_S8x16x128_S8x16x128_S8x16x256_d2) bitsLt_bf16_f32)
    (sitofp .bf16 (constantI S_ 32 0#32)) pads_S8x16x256_S8x128x256_000_01120_000 h_S_

variable (m : (ℓ : Loc nD τ sig) → Buf (Elt F) ℓ)

/-- The arrays of the five input windows when the call is entered. -/
theorem V_queries (c : Dev nD) : V m c main_v5 = queries (m ((c : Thread nD τ).loc main_arg0)) := by
  unfold V
  simp only [hostOps0, hostOps0_1, hostOps0_2, hostOps0_3, hostOps0_4, hostOps0_5, hostOps0_6, hostOps0_7, List.flatten_cons,
    List.flatten_nil, List.append_nil, List.cons_append, List.nil_append]
  after_results
  rfl

theorem V_keys (c : Dev nD) : V m c main_v6 = keys (m ((c : Thread nD τ).loc main_arg1)) := by
  unfold V
  simp only [hostOps0, hostOps0_1, hostOps0_2, hostOps0_3, hostOps0_4, hostOps0_5, hostOps0_6, hostOps0_7, List.flatten_cons,
    List.flatten_nil, List.append_nil, List.cons_append, List.nil_append]
  after_results
  rfl

theorem V_values (c : Dev nD) : V m c main_v13 = values (m ((c : Thread nD τ).loc main_arg2)) := by
  unfold V
  simp only [hostOps0, hostOps0_1, hostOps0_2, hostOps0_3, hostOps0_4, hostOps0_5, hostOps0_6, hostOps0_7, List.flatten_cons,
    List.flatten_nil, List.append_nil, List.cons_append, List.nil_append]
  after_results
  rfl

theorem V_metaKeys (c : Dev nD) : V m c main_v15 = metaKeys (m ((c : Thread nD τ).loc main_arg3)) := by
  unfold V
  simp only [hostOps0, hostOps0_1, hostOps0_2, hostOps0_3, hostOps0_4, hostOps0_5, hostOps0_6, hostOps0_7, List.flatten_cons,
    List.flatten_nil, List.append_nil, List.cons_append, List.nil_append]
  after_results
  rfl

theorem V_metaValues (c : Dev nD) : V m c main_v23 = metaValues (m ((c : Thread nD τ).loc main_arg4)) := by
  unfold V
  simp only [hostOps0, hostOps0_1, hostOps0_2, hostOps0_3, hostOps0_4, hostOps0_5, hostOps0_6, hostOps0_7, List.flatten_cons,
    List.flatten_nil, List.append_nil, List.cons_append, List.nil_append]
  after_results
  rfl

end Terms

/-- The factor on the queries as a real number. -/
def scale : ℝ := (Real.sqrt 192)⁻¹ / Real.log 2

/-- The real number a positive normal pattern denotes, from its exponent and significand fields. -/
theorem f32_lit (w : BitVec 32) (x : ℝ) (e f : Nat)
    (hw : w.extractLsb' 31 1 = 0#1 ∧ (w.extractLsb' 23 8).toNat = e ∧ (w.extractLsb' 0 23).toNat = f)
    (he : e ≠ 255 ∧ e ≠ 0) (hx : x = (2 ^ 23 + f : Nat) * (2 : ℝ) ^ ((e : Int) - 127 - 23)) :
    Ideal.ofBits .f32 w = (x : EReal) := by
  obtain ⟨hs, hwe, hwf⟩ := hw
  show Ideal.ieee 8 23 w = _
  unfold Ideal.ieee
  simp only [Nat.reduceAdd]
  rw [hwe, hwf, hs, if_neg (by simpa using he.1), if_neg he.2, hx]
  norm_num

theorem queries_apply (q : FVec Ideal S4x8x8192x192 .f32) (b : Fin 4) (h : Fin 8) (i : Fin 8192) (x : Fin 192) :
    queries q (ix4 b h i x) = q (ix4 b h i x) * (scale : EReal) := by
  have h192 : Ideal.ofBits .f32 0x43400000#32 = ((192 : ℝ) : EReal) := f32_lit _ _ 134 0x400000 (by decide) (by decide) (by norm_num)
  have h2 : Ideal.ofBits .f32 0x40000000#32 = ((2 : ℝ) : EReal) := f32_lit _ _ 128 0 (by decide) (by decide) (by norm_num)
  pointwise [queries]
  rw [h192, h2, Ideal.rsqrt_coe, Ideal.log_coe, if_neg (by norm_num), if_neg (by norm_num), if_neg (by norm_num),
    Ideal.div_coe (Real.log_pos (by norm_num)).ne', ← EReal.coe_mul, scale, mul_one_div]

theorem keys_apply (k : FVec Ideal S4x8x8192x192 .f32) (b : Fin 4) (h : Fin 8) (i : Fin 8192) (x : Fin 192) :
    keys k (ix4 b h i x) = k (ix4 b h i x) := by
  pointwise [keys]

theorem values_lo (v : FVec Ideal S4x8x8192x128 .f32) (b : Fin 4) (h : Fin 8) (i : Fin 8192) (x : Fin 128) :
    values v (ix4 b h i ⟨x.val, by omega⟩) = v (ix4 b h i x) := by
  pointwise [values]

theorem values_one (v : FVec Ideal S4x8x8192x128 .f32) (b : Fin 4) (h : Fin 8) (i : Fin 8192) :
    values v (ix4 b h i 128) = 1 := by
  pointwise [values]

theorem metaKeys_lo (k : FVec Ideal S8x16x192 .f32) (h : Fin 8) (l : Fin 16) (x : Fin 192) :
    metaKeys k (ix3 h ⟨l.val, by omega⟩ x) = k (ix3 h l x) := by
  pointwise [metaKeys]

theorem metaValues_lo (v : FVec Ideal S8x16x128 .f32) (h : Fin 8) (l : Fin 16) (x : Fin 128) :
    metaValues v (ix3 h ⟨l.val, by omega⟩ ⟨x.val, by omega⟩) = v (ix3 h l x) := by
  pointwise [metaValues]
  exact dif_pos (by omega)

theorem metaValues_one (v : FVec Ideal S8x16x128 .f32) (h : Fin 8) (l : Fin 16) :
    metaValues v (ix3 h ⟨l.val, by omega⟩ 128) = 1 := by
  pointwise [metaValues]

theorem metaValues_hi (v : FVec Ideal S8x16x128 .f32) (h : Fin 8) (l : Fin 128) (x : Fin 256) (hl : 16 ≤ l.val) :
    metaValues v (ix3 h l x) = 0 := by
  pointwise [metaValues]
  rw [dif_neg (by omega)]
  simp [FloatOps.sitofp]

end Cert.Proof.Host

end
-- ==== Proof.Weights.lean ====
/- Hand-written: THE MATHEMATICS OF A RUNNING SOFTMAX over the extended reals, with real scores and arbitrary values.

   A running softmax keeps a maximum `m` and an accumulator which is, lane by lane, `2 ^ (-m)` times the sum over the keys
   read so far of `2 ^ score` times the value. `begin_acc` says so of the first block, `step_acc` of a further block, and
   `finish_acc` that the quotient of two lanes forgets `m`. `softmax_row` is the same quotient reached by the textbook
   softmax, and `exp_eq_pow` turns the powers of two into exponentials. Nothing depends on `m` being the maximum, only on
   its being a real number (`fold_max_real`). -/
module

public import Idealize.ShloMosaic.Lib.Pointwise

@[expose] public section

noncomputable section

namespace Cert.Proof.Weights

open Idealize.ShloMosaic

/-- `2 ^ x` as an extended real. -/
def pow2 (x : ℝ) : EReal := (((2 : ℝ) ^ x : ℝ) : EReal)

/-- An extended real that is a real number. -/
def IsReal (x : EReal) : Prop := ∃ r : ℝ, x = (r : EReal)

theorem pow2_add (x y : ℝ) : pow2 (x + y) = pow2 x * pow2 y := by
  unfold pow2
  rw [← EReal.coe_mul, Real.rpow_add (by norm_num)]

theorem pow2_nonneg (x : ℝ) : 0 ≤ pow2 x := by
  unfold pow2
  exact_mod_cast (Real.rpow_pos_of_pos (by norm_num : (0 : ℝ) < 2) x).le

/-- The instance's power of two of a difference of two reals. -/
theorem exp2_sub (x y : ℝ) : FloatOps.exp2 (F := Ideal) (φ := .f32) ((x : EReal) - (y : EReal)) = pow2 (x - y) := by
  show Ideal.exp2 _ = _
  rw [← EReal.coe_sub]
  rfl

/-- A nonnegative real factor goes into a finite sum of extended reals. -/
theorem mul_sum_real {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem pow2_mul_sum {ι : Type} (s : Finset ι) (x : ℝ) (f : ι → EReal) :
    pow2 x * ∑ i ∈ s, f i = ∑ i ∈ s, pow2 x * f i :=
  mul_sum_real s _ (Real.rpow_pos_of_pos (by norm_num : (0 : ℝ) < 2) x).le f

theorem pow2_mul_add (x : ℝ) (a b : EReal) : pow2 x * (a + b) = pow2 x * a + pow2 x * b :=
  EReal.left_distrib_of_nonneg_of_ne_top (pow2_nonneg x) (EReal.coe_ne_top _) a b

/-- A finite sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, ← EReal.coe_add]

/-- The maximum of finitely many reals, at least one of them, folded from minus infinity is a real. -/
theorem fold_max_real {ι : Type} [DecidableEq ι] (s : Finset ι) (hs : s.Nonempty) (f : ι → ℝ) :
    IsReal (s.fold max (Ideal.ofBits .f32 0xFF800000#32) fun i => ((f i : ℝ) : EReal)) := by
  have hbot : Ideal.ofBits .f32 0xFF800000#32 = ⊥ := by
    simp [Ideal.ofBits, Ideal.ieee]
  rw [hbot]
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

/-- The larger of two reals is a real. -/
theorem max_real {x y : EReal} (hx : IsReal x) (hy : IsReal y) : IsReal (max x y) := by
  rcases max_choice x y with h | h <;> rw [h] <;> assumption

/-- The accumulator after the first block: `2 ^ (-m)` times the weighted sum of the block's values. -/
theorem begin_acc {ι : Type} [Fintype ι] (m : ℝ) (s : ι → ℝ) (v : ι → EReal) :
    ∑ i, FloatOps.exp2 (F := Ideal) (φ := .f32) ((s i : EReal) - (m : EReal)) * v i
      = pow2 (-m) * ∑ i, pow2 (s i) * v i := by
  rw [pow2_mul_sum]
  refine Finset.sum_congr rfl fun i _ => ?_
  rw [exp2_sub, sub_eq_neg_add, pow2_add, mul_assoc]

/-- The accumulator after a further block: rescaled from the old maximum to the new one, plus the block's weighted values. -/
theorem step_acc {ι : Type} [Fintype ι] (m m' : ℝ) (a n : EReal) (ha : a = pow2 (-m) * n) (s : ι → ℝ) (v : ι → EReal) :
    FloatOps.exp2 (F := Ideal) (φ := .f32) ((m : EReal) - (m' : EReal)) * a
        + ∑ i, FloatOps.exp2 (F := Ideal) (φ := .f32) ((s i : EReal) - (m' : EReal)) * v i
      = pow2 (-m') * (n + ∑ i, pow2 (s i) * v i) := by
  rw [begin_acc, pow2_mul_add, ha, exp2_sub, ← mul_assoc, ← pow2_add]
  congr 3
  ring

/-- The quotient of two lanes forgets the maximum. -/
theorem finish_acc (m : ℝ) (n : EReal) (l : ℝ) (hl : 0 < l) :
    Ideal.div (pow2 (-m) * n) (pow2 (-m) * (l : EReal)) = n * ((l⁻¹ : ℝ) : EReal) := by
  have hp : (0 : ℝ) < (2 : ℝ) ^ (-m) := Real.rpow_pos_of_pos (by norm_num) _
  unfold pow2
  rw [← EReal.coe_mul, Ideal.div_coe (mul_pos hp hl).ne', mul_comm _ n, mul_assoc, ← EReal.coe_mul]
  congr 2
  field_simp

/-- The textbook softmax's row: the sum over the keys of the value times its share, whatever real `m` is subtracted from
    the scores. -/
theorem softmax_row {ι : Type} [Fintype ι] [Nonempty ι] (m : ℝ) (t : ι → ℝ) (v : ι → EReal) :
    ∑ i, v i * Ideal.div (Ideal.exp ((t i : EReal) - (m : EReal))) (∑ k, Ideal.exp ((t k : EReal) - (m : EReal)))
      = (∑ i, ((Real.exp (t i) : ℝ) : EReal) * v i) * (((∑ k, Real.exp (t k))⁻¹ : ℝ) : EReal) := by
  have hexp : ∀ k, Ideal.exp ((t k : EReal) - (m : EReal)) = ((Real.exp (t k - m) : ℝ) : EReal) := fun k => by
    rw [← EReal.coe_sub]; rfl
  have hz : (0 : ℝ) < ∑ k, Real.exp (t k) := Finset.sum_pos (fun k _ => Real.exp_pos _) Finset.univ_nonempty
  have hz' : (0 : ℝ) < ∑ k, Real.exp (t k - m) := Finset.sum_pos (fun k _ => Real.exp_pos _) Finset.univ_nonempty
  have hsum : ∑ k, Real.exp (t k - m) = Real.exp (-m) * ∑ k, Real.exp (t k) := by
    rw [Finset.mul_sum]
    exact Finset.sum_congr rfl fun k _ => by rw [← Real.exp_add]; congr 1; ring
  simp only [hexp, coe_sum, Ideal.div_coe hz'.ne']
  rw [mul_comm, mul_sum_real _ _ (inv_nonneg.2 hz.le)]
  refine Finset.sum_congr rfl fun i _ => ?_
  rw [← EReal.coe_mul, mul_comm (v i), ← mul_assoc, ← EReal.coe_mul, hsum]
  congr 2
  rw [show t i - m = -m + t i by ring, Real.exp_add]
  have := (Real.exp_pos (-m)).ne'
  field_simp

/-- A power of two is an exponential: the change of base that the version folds into its queries. -/
theorem exp_eq_pow (s : ℝ) : ((Real.exp (s * Real.log 2) : ℝ) : EReal) = pow2 s := by
  unfold pow2
  rw [Real.rpow_def_of_pos (by norm_num), mul_comm]

end Cert.Proof.Weights

end
-- ==== Proof.Target.lean ====
/- Hand-written: THE ATTENTION IN CLOSED FORM, what both programs are shown to compute. A query's real scores against the meta
   keys and the keys, in units in which the weight is a power of two; the weighted sum of the meta values and the values
   over the sum of the weights. -/
module

public import proofs.«01_k».proof.Proof.Host
public import proofs.«01_k».proof.Proof.Weights

@[expose] public section

noncomputable section

namespace Cert.Proof.Target

open Cert.KernelIdeal Idealize.ShloMosaic Cert.Proof.Weights

variable (q k : FVec Ideal S4x8x8192x192 .f32) (v : FVec Ideal S4x8x8192x128 .f32) (km : FVec Ideal S8x16x192 .f32)
  (vm : FVec Ideal S8x16x128 .f32)

/-- The score of query `i` against key `j`, of batch `b` and head `h`. -/
def score (b : Fin 4) (h : Fin 8) (i j : Fin 8192) : ℝ :=
  ∑ x : Fin 192, (q (ix4 b h i x)).toReal * Host.scale * (k (ix4 b h j x)).toReal

/-- The score of query `i` against meta key `l`, of batch `b` and head `h`. -/
def metaScore (b : Fin 4) (h : Fin 8) (i : Fin 8192) (l : Fin 16) : ℝ :=
  ∑ x : Fin 192, (q (ix4 b h i x)).toReal * Host.scale * (km (ix3 h l x)).toReal

/-- Lane `d` of the attention of query `i`, of batch `b` and head `h`. -/
def attention (b : Fin 4) (h : Fin 8) (i : Fin 8192) (d : Fin 128) : EReal :=
  (∑ l : Fin 16, pow2 (metaScore q km b h i l) * vm (ix3 h l d)
      + ∑ j : Fin 8192, pow2 (score q k b h i j) * v (ix4 b h j d))
    * (((∑ l : Fin 16, (2 : ℝ) ^ metaScore q km b h i l + ∑ j : Fin 8192, (2 : ℝ) ^ score q k b h i j)⁻¹ : ℝ) : EReal)

/-- The result array: a query's row holds its eight heads' 128 lanes side by side. -/
def result : FVec Ideal S4x8192x1024 .bf16 := fun j =>
  attention q k v km vm (j 0) ⟨(j 2).val / 128, by have := (j 2).isLt; change _ < 1024 at this; omega⟩ (j 1)
    ⟨(j 2).val % 128, by omega⟩

/-- Every element of the array is a real number. -/
def Finite {S : Shape} {t : FTy} (a : FVec Ideal S t) : Prop := ∀ i, ((a i).toReal : EReal) = a i

end Cert.Proof.Target

end
-- ==== Proof.Finite.lean ====
/- Hand-written: THE PRECONDITION READ: the queries, the keys and the meta keys are real numbers. -/
module

public import proofs.«01_k».proof.Defs
public import proofs.«01_k».proof.Proof.Gen.Pre_finite_scores
public import proofs.«01_k».proof.Proof.Target

@[expose] public section

noncomputable section

namespace Cert.Proof.Finite

open Idealize.ShloMosaic Idealize.ShloMosaic.TcCoe Idealize.SL.Sem Cert.KernelIdeal Cert.Proof.Target

/-- An extended real below infinity in absolute value is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : (x.toReal : EReal) = x := by
  have htop : FloatOps.ofBits (F := Ideal) .f32 0x7F800000#32 = (⊤ : EReal) := by
    show Ideal.ofBits .f32 0x7F800000#32 = ⊤
    simp [Ideal.ofBits, Ideal.ieee]
  rw [htop] at h
  have h' : max x (-x) < ⊤ := by
    by_contra hc
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hc]; rfl
    rw [this] at h
    exact absurd h (by decide)
  refine EReal.coe_toReal (fun hx => ?_) (fun hx => ?_)
  · subst hx; simp at h'
  · subst hx; simp at h'

variable (m : (ℓ : Loc nD τ sig) → Buf (Elt Ideal) ℓ)

/-- The precondition gives real queries, keys and meta keys. -/
theorem args_real (h : Pre_KernelIdeal_finite_scores m) (c : Dev nD) :
    Target.Finite (t := .f32) (m ((c : Thread nD τ).loc main_arg0)) ∧ Target.Finite (t := .f32) (m ((c : Thread nD τ).loc main_arg1))
      ∧ Target.Finite (t := .f32) (m ((c : Thread nD τ).loc main_arg3)) :=
  ⟨fun i => real_of_lt _ (congrFun (h c).1 i), fun i => real_of_lt _ (congrFun (h c).2.1 i),
    fun i => real_of_lt _ (congrFun (h c).2.2 i)⟩

end Cert.Proof.Finite

end
-- ==== Proof.Tile.lean ====
/- Hand-written: WHAT ONE GRID POINT OF THE ATTENTION COMPUTES. A grid point holds 2048 queries of one head, the 8192 keys
   and values of that head, and the 16 meta keys and values in a block of 128 rows. Its body works on four tiles of 512
   queries, each written out over the meta keys and then four blocks of 2048 keys. Here the tile is one function `tile` of
   its queries and the blocks, made of a first pass over the meta keys (`metaScores`, `metaMax`, `metaAcc`) and a step over
   a block of keys (`scores`, `nextMax`, `nextAcc`), and the four stores of the body are that function of the four tiles
   of queries (`out_eq`). -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Proof.Tile

open Cert.KernelIdeal Cert.KernelIdeal.Gen Cert.KernelIdeal.Value Idealize.ShloMosaic Idealize.ShloMosaic.TcCoe Idealize.SL.Sem

variable {F : FTy → Type} [FloatOps F]

/-- A tile's scores against the 128 rows of meta keys, the lanes from 16 on overwritten by a large negative number. -/
def metaScores (q : FVec F S512x192 .bf16) (km : Vec F S1x128x192 .bf16) : FVec F S512x128 .f32 :=
  select (cmpi .slt (iota .tc S512x128 32 [1] iota_S512x128_d1_w32) (broadcast S512x128 16#32))
    (matmul dot_S512x192_S128x192_S512x128_1_1_0_0_n_n none q (shapeCast S128x192 km shapeCasts_S1x128x192_S128x192)
      (constant S512x128 .f32 0x00000000#32))
    (broadcast S512x128 (Scalar.ofBits .f32 0xF149F2CA#32))

/-- Each query's largest score over the 128 lanes. -/
def metaMax (s : FVec F S512x128 .f32) : FVec F S512x1 .f32 :=
  shapeCast S512x1 (multiReduction .maximumf [1] S512 s 0xFF800000#32 reduces_S512x128_S512 (.inl rfl) rfl)
    shapeCasts_S512_S512x1

/-- The meta values weighted by `2 ^ (score - maximum)`. -/
def metaAcc (s : FVec F S512x128 .f32) (vm : Vec F S1x128x256 .bf16) : FVec F S512x256 .f32 :=
  matmul dot_S512x128_S128x256_S512x256_1_0_0_1_n_n none
    (truncf .bf16 (exp2 (subf s (broadcastTo S512x128 (metaMax s) broadcasts_S512x1_S512x128))) bitsLt_bf16_f32)
    (shapeCast S128x256 vm shapeCasts_S1x128x256_S128x256) (constant S512x256 .f32 0x00000000#32)

/-- A tile's scores against a block of 2048 keys. -/
def scores (q : FVec F S512x192 .bf16) (k : Vec F S1x1x2048x192 .bf16) : FVec F S512x2048 .f32 :=
  matmul dot_S512x192_S2048x192_S512x2048_1_1_0_0_n_n none q (shapeCast S2048x192 k shapeCasts_S1x1x2048x192_S2048x192)
    (constant S512x2048 .f32 0x00000000#32)

/-- The running maximum after a block of keys. -/
def nextMax (m : FVec F S512x1 .f32) (s : FVec F S512x2048 .f32) : FVec F S512x1 .f32 :=
  maximumf m (shapeCast S512x1 (multiReduction .maximumf [1] S512 s 0xFF800000#32 reduces_S512x2048_S512 (.inl rfl) rfl)
    shapeCasts_S512_S512x1)

/-- The accumulator after a block of keys: the old one scaled from the old maximum `m` to the new one `m'`, plus the
    block's values weighted by `2 ^ (score - m')`. -/
def nextAcc (m m' : FVec F S512x1 .f32) (a : FVec F S512x256 .f32) (s : FVec F S512x2048 .f32)
    (v : Vec F S1x1x2048x256 .bf16) : FVec F S512x256 .f32 :=
  addf (mulf (broadcastTo S512x256 (exp2 (subf m m')) broadcasts_S512x1_S512x256) a)
    (matmul dot_S512x2048_S2048x256_S512x256_1_0_0_1_n_n none
      (truncf .bf16 (exp2 (subf s (broadcastTo S512x2048 m' broadcasts_S512x1_S512x2048))) bitsLt_bf16_f32)
      (shapeCast S2048x256 v shapeCasts_S1x1x2048x256_S2048x256) (constant S512x256 .f32 0x00000000#32))

/-- The tile's result: the first 128 lanes of the accumulator divided by lane 128. -/
def finish (a : FVec F S512x256 .f32) : FVec F S1x512x128 .bf16 :=
  shapeCast S1x512x128
    (truncf .bf16 (divf (extractStridedSlice S512x128 ![0, 0] a slices_S512x256_o0_0_S512x128)
      (broadcastTo S512x128 (extractStridedSlice S512x1 ![0, 128] a slices_S512x256_o0_128_S512x1)
        broadcasts_S512x1_S512x128)) bitsLt_bf16_f32)
    shapeCasts_S512x128_S1x512x128

/-- The 2048 rows from row `o` on lie among the 8192 rows of a head's keys or values. -/
theorem inb_rows (n o : Nat) (h : o + 2048 ≤ 8192) (a : Fin 4) :
    (![0, 0, o, 0] : Fin 4 → Nat) a + (![1, 1, 2048, n] : Fin 4 → Nat) a ≤ (![1, 1, 8192, n] : Fin 4 → Nat) a := by
  fin_cases a <;> simp
  omega

/-- The block of 2048 keys from row `o` on. -/
def keys (x : Vec F S1x1x8192x192 .bf16) (o : Nat) (h : o + 2048 ≤ 8192) : Vec F S1x1x2048x192 .bf16 :=
  View.ld x (Rect.unit (s := S1x1x8192x192) ![0, 0, o, 0] ![1, 1, 2048, 192] (inb_rows 192 o h))

/-- The block of 2048 values from row `o` on. -/
def vals (x : Vec F S1x1x8192x256 .bf16) (o : Nat) (h : o + 2048 ≤ 8192) : Vec F S1x1x2048x256 .bf16 :=
  View.ld x (Rect.unit (s := S1x1x8192x256) ![0, 0, o, 0] ![1, 1, 2048, 256] (inb_rows 256 o h))

/-- The maximum and accumulator of a tile after a further block of keys `k` and values `v`. -/
def step (q : FVec F S512x192 .bf16) (st : FVec F S512x1 .f32 × FVec F S512x256 .f32) (k : Vec F S1x1x2048x192 .bf16)
    (v : Vec F S1x1x2048x256 .bf16) : FVec F S512x1 .f32 × FVec F S512x256 .f32 :=
  (nextMax st.1 (scores q k), nextAcc st.1 (nextMax st.1 (scores q k)) st.2 (scores q k) v)

/-- The maximum and accumulator after the meta keys. -/
def start (q : FVec F S512x192 .bf16) (x3 : Vec F S1x128x192 .bf16) (x4 : Vec F S1x128x256 .bf16) :
    FVec F S512x1 .f32 × FVec F S512x256 .f32 :=
  (metaMax (metaScores q x3), metaAcc (metaScores q x3) x4)

/-- A tile's result: the meta keys, the four blocks of keys, and the division. -/
def tile (q : FVec F S512x192 .bf16) (x1 : Vec F S1x1x8192x192 .bf16) (x2 : Vec F S1x1x8192x256 .bf16)
    (x3 : Vec F S1x128x192 .bf16) (x4 : Vec F S1x128x256 .bf16) : FVec F S1x512x128 .bf16 :=
  finish (step q (step q (step q (step q (start q x3 x4)
    (keys x1 0 (by decide)) (vals x2 0 (by decide))) (keys x1 2048 (by decide)) (vals x2 2048 (by decide)))
    (keys x1 4096 (by decide)) (vals x2 4096 (by decide))) (keys x1 6144 (by decide)) (vals x2 6144 (by decide))).2

section
variable (x0 : Vec F S1x1x2048x192 .bf16) (x1 : Vec F S1x1x8192x192 .bf16) (x2 : Vec F S1x1x8192x256 .bf16)
  (x3 : Vec F S1x128x192 .bf16) (x4 : Vec F S1x128x256 .bf16)

/-- What the grid point leaves in its output block: four tiles of 512 queries, at their rows. -/
def pieces : List (View.Piece (Elt F) S1x2048x128 .bf16) :=
  [⟨Rect.unit ![0, 1536, 0] ![1, 512, 128] inb_S1x2048x128_S1x512x128_0_1536_0, tile (k0_pay8 x0) x1 x2 x3 x4⟩,
   ⟨Rect.unit ![0, 1024, 0] ![1, 512, 128] inb_S1x2048x128_S1x512x128_0_1024_0, tile (k0_pay7 x0) x1 x2 x3 x4⟩,
   ⟨Rect.unit ![0, 512, 0] ![1, 512, 128] inb_S1x2048x128_S1x512x128_0_512_0, tile (k0_pay6 x0) x1 x2 x3 x4⟩,
   ⟨Rect.unit ![0, 0, 0] ![1, 512, 128] inb_S1x2048x128_S1x512x128_0_0_0, tile (k0_pay5 x0) x1 x2 x3 x4⟩]

theorem out_eq (c : Dev nD) (i : grid0.Coords) (arg3 : Memref sig .tc .vmem S1x1x2048x192 .bf16) (harg3 : arg3.IsWhole)
    (arg4 : Memref sig .tc .vmem S1x1x8192x192 .bf16) (harg4 : arg4.IsWhole)
    (arg5 : Memref sig .tc .vmem S1x1x8192x256 .bf16) (harg5 : arg5.IsWhole)
    (arg6 : Memref sig .tc .vmem S1x128x192 .bf16) (harg6 : arg6.IsWhole)
    (arg7 : Memref sig .tc .vmem S1x128x256 .bf16) (harg7 : arg7.IsWhole)
    (arg8 : Memref sig .tc .vmem S1x2048x128 .bf16) (harg8 : arg8.IsWhole) (j : S1x2048x128.Idx) :
    out0_A_5 c i arg3 harg3 arg4 harg4 arg5 harg5 arg6 harg6 arg7 harg7 arg8 harg8 x0 x1 x2 x3 x4 j
      = View.canon (pieces x0 x1 x2 x3 x4) j := by
  frame_open
  frame_out
  refine congrFun (congrArg View.canon ?_) j
  unfold pieces
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  all_goals
    dsimp only [tile, step, start, finish, nextAcc, nextMax, scores, metaScores, metaMax, metaAcc, keys, vals]
    unfold_payloads
    rfl

end

end Cert.Proof.Tile

end
-- ==== Proof.Row.lean ====
/- Hand-written: ONE QUERY ROW OF A TILE. With real scores, the row's maximum and accumulator stay in the shape of
   `Weights`: some real `m` and, lane by lane, `2 ^ (-m)` times the weighted sum of the values read so far (`Held`). The
   first pass establishes it (`held_start`), every block of keys keeps it (`held_step`), and the four blocks' sums are one
   sum over the 8192 keys (`sum_blocks`). Hence the row of the tile's result (`tile_row`). -/
module

public import proofs.«01_k».proof.Proof.Tile
public import proofs.«01_k».proof.Proof.Weights

@[expose] public section

set_option maxRecDepth 16384

noncomputable section

namespace Cert.Proof.Row

open Cert.KernelIdeal Cert.KernelIdeal.Gen Idealize.ShloMosaic Idealize.ShloMosaic.TcCoe
open Cert.Proof.Tile Cert.Proof.Weights

/-- Row `i` of a state holds the weighted sums `n`, scaled by some real maximum. -/
def Held (st : FVec Ideal S512x1 .f32 × FVec Ideal S512x256 .f32) (i : Fin 512) (n : Fin 256 → EReal) : Prop :=
  ∃ m : ℝ, st.1 (ix2 i 0) = (m : EReal) ∧ ∀ d, st.2 (ix2 i d) = pow2 (-m) * n d

theorem scores_apply (q : FVec Ideal S512x192 .bf16) (k : Vec Ideal S1x1x2048x192 .bf16) (i : Fin 512) (l : Fin 2048) :
    scores q k (ix2 i l) = ∑ x : Fin 192, q (ix2 i x) * k (ix4 0 0 l x) := by
  pointwise [scores]

theorem metaMax_apply (s : FVec Ideal S512x128 .f32) (i : Fin 512) :
    metaMax s (ix2 i 0) = Finset.univ.fold max (Ideal.ofBits .f32 0xFF800000#32) fun l : Fin 128 => s (ix2 i l) := by
  pointwise [metaMax]

theorem metaAcc_apply (s : FVec Ideal S512x128 .f32) (v : Vec Ideal S1x128x256 .bf16) (i : Fin 512) (d : Fin 256) :
    metaAcc s v (ix2 i d) = ∑ l : Fin 128,
      FloatOps.exp2 (F := Ideal) (φ := .f32) (s (ix2 i l) - metaMax s (ix2 i 0)) * v (ix3 0 l d) := by
  pointwise [metaAcc]

theorem nextMax_apply (m : FVec Ideal S512x1 .f32) (s : FVec Ideal S512x2048 .f32) (i : Fin 512) :
    nextMax m s (ix2 i 0)
      = max (m (ix2 i 0)) (Finset.univ.fold max (Ideal.ofBits .f32 0xFF800000#32) fun l : Fin 2048 => s (ix2 i l)) := by
  pointwise [nextMax]

theorem nextAcc_apply (m m' : FVec Ideal S512x1 .f32) (a : FVec Ideal S512x256 .f32) (s : FVec Ideal S512x2048 .f32)
    (v : Vec Ideal S1x1x2048x256 .bf16) (i : Fin 512) (d : Fin 256) :
    nextAcc m m' a s v (ix2 i d)
      = FloatOps.exp2 (F := Ideal) (φ := .f32) (m (ix2 i 0) - m' (ix2 i 0)) * a (ix2 i d)
        + ∑ l : Fin 2048, FloatOps.exp2 (F := Ideal) (φ := .f32) (s (ix2 i l) - m' (ix2 i 0)) * v (ix4 0 0 l d) := by
  pointwise [nextAcc]

theorem finish_apply (a : FVec Ideal S512x256 .f32) (i : Fin 512) (d : Fin 128) :
    finish a (ix3 0 i d) = Ideal.div (a (ix2 i ⟨d.val, by omega⟩)) (a (ix2 i 128)) := by
  pointwise [finish]

theorem keys_apply (x : Vec Ideal S1x1x8192x192 .bf16) (o : Nat) (h : o + 2048 ≤ 8192) (l : Fin 2048) (d : Fin 192) :
    keys x o h (ix4 0 0 l d) = x (ix4 0 0 ⟨o + l.val, by omega⟩ d) := by
  pointwise [keys]

theorem vals_apply (x : Vec Ideal S1x1x8192x256 .bf16) (o : Nat) (h : o + 2048 ≤ 8192) (l : Fin 2048) (d : Fin 256) :
    vals x o h (ix4 0 0 l d) = x (ix4 0 0 ⟨o + l.val, by omega⟩ d) := by
  pointwise [vals]

/-- Below lane 16 a meta score is the product with the meta key. -/
theorem metaScores_lo (q : FVec Ideal S512x192 .bf16) (k : Vec Ideal S1x128x192 .bf16) (i : Fin 512) (l : Fin 128)
    (h : l.val < 16) : metaScores q k (ix2 i l) = ∑ x : Fin 192, q (ix2 i x) * k (ix3 0 l x) := by
  have hc : IntOp.cmpi .slt (BitVec.ofNat 32 l.val) 16#32 = 1#1 :=
    (by decide +kernel : ∀ l : Fin 128, l.val < 16 → IntOp.cmpi .slt (BitVec.ofNat 32 l.val) 16#32 = 1#1) l h
  pointwise [metaScores]
  rw [hc]
  rfl

/-- From lane 16 on a meta score is a real number that no key has a part in. -/
theorem metaScores_hi (q : FVec Ideal S512x192 .bf16) (k : Vec Ideal S1x128x192 .bf16) (i : Fin 512) (l : Fin 128)
    (h : 16 ≤ l.val) : IsReal (metaScores q k (ix2 i l)) := by
  have hc : IntOp.cmpi .slt (BitVec.ofNat 32 l.val) 16#32 = 0#1 :=
    (by decide +kernel : ∀ l : Fin 128, 16 ≤ l.val → IntOp.cmpi .slt (BitVec.ofNat 32 l.val) 16#32 = 0#1) l h
  have hr : IsReal (Ideal.ofBits .f32 0xF149F2CA#32) := by
    show IsReal (Ideal.ieee 8 23 (0xF149F2CA#32 : BitVec 32))
    unfold Ideal.ieee
    dsimp only
    rw [if_neg (by decide), if_neg (by decide)]
    exact ⟨_, rfl⟩
  obtain ⟨r, hr⟩ := hr
  refine ⟨r, ?_⟩
  pointwise [metaScores]
  rw [hc]
  exact hr

/-- The first pass: the weighted sum over the 128 lanes. -/
theorem held_start (q : FVec Ideal S512x192 .bf16) (x3 : Vec Ideal S1x128x192 .bf16) (x4 : Vec Ideal S1x128x256 .bf16)
    (i : Fin 512) (s : Fin 128 → ℝ) (hs : ∀ l, metaScores q x3 (ix2 i l) = (s l : EReal)) :
    Held (start q x3 x4) i fun d => ∑ l : Fin 128, pow2 (s l) * x4 (ix3 0 l d) := by
  obtain ⟨m, hm⟩ := fold_max_real Finset.univ (Finset.univ_nonempty (α := Fin 128)) s
  have hM : metaMax (metaScores q x3) (ix2 i 0) = (m : EReal) := by
    rw [metaMax_apply, ← hm]
    simp only [hs]
  unfold Held start
  refine ⟨m, by dsimp only; exact hM, fun d => ?_⟩
  dsimp only
  refine (metaAcc_apply (metaScores q x3) x4 i d).trans ?_
  rw [hM, ← begin_acc]
  exact Finset.sum_congr rfl fun l _ => by rw [hs]

/-- A block of keys: its weighted sum is added. -/
theorem held_step (q : FVec Ideal S512x192 .bf16) (st : FVec Ideal S512x1 .f32 × FVec Ideal S512x256 .f32)
    (k : Vec Ideal S1x1x2048x192 .bf16) (v : Vec Ideal S1x1x2048x256 .bf16) (i : Fin 512) (n : Fin 256 → EReal)
    (h : Held st i n) (s : Fin 2048 → ℝ) (hs : ∀ l, scores q k (ix2 i l) = (s l : EReal)) :
    Held (step q st k v) i fun d => n d + ∑ l : Fin 2048, pow2 (s l) * v (ix4 0 0 l d) := by
  obtain ⟨m, hm, ha⟩ := h
  have hr : IsReal (nextMax st.1 (scores q k) (ix2 i 0)) := by
    rw [nextMax_apply]
    simp only [hs]
    exact max_real ⟨m, hm⟩ (fold_max_real _ Finset.univ_nonempty s)
  obtain ⟨m', hm'⟩ := hr
  unfold Held step
  refine ⟨m', by dsimp only; exact hm', fun d => ?_⟩
  dsimp only
  refine (nextAcc_apply st.1 (nextMax st.1 (scores q k)) st.2 (scores q k) v i d).trans ?_
  rw [hm', hm, ← step_acc m m' _ (n d) (ha d) s]
  exact congrArg _ (Finset.sum_congr rfl fun l _ => by rw [hs])

/-- Four blocks of 2048 make up the 8192 keys. -/
theorem sum_blocks (f : Fin 8192 → EReal) :
    ∑ l : Fin 2048, f ⟨0 + l.val, by omega⟩ + ∑ l : Fin 2048, f ⟨2048 + l.val, by omega⟩
      + ∑ l : Fin 2048, f ⟨4096 + l.val, by omega⟩ + ∑ l : Fin 2048, f ⟨6144 + l.val, by omega⟩ = ∑ j, f j := by
  have e : ∑ j, f j = ∑ j : Fin (2048 + 2048 + 2048 + 2048), f j := rfl
  rw [e, Fin.sum_univ_add, Fin.sum_univ_add, Fin.sum_univ_add]
  simp only [Nat.zero_add]
  rfl

/-- Of the 128 lanes only the 16 meta keys count when the other values are zero. -/
theorem sum_meta (f : Fin 128 → EReal) (h : ∀ l : Fin 128, 16 ≤ l.val → f l = 0) :
    ∑ l, f l = ∑ l : Fin 16, f ⟨l.val, by omega⟩ := by
  have e : ∑ l, f l = ∑ l : Fin (16 + 112), f l := rfl
  rw [e, Fin.sum_univ_add, Finset.sum_eq_zero (s := (Finset.univ : Finset (Fin 112))), add_zero]
  · rfl
  · intro l _
    exact h _ (Nat.le_add_right 16 l.val)

/-- ROW `i` OF THE TILE'S RESULT: with real scores `sm` against the 16 meta keys and `s` against the 8192 keys, a column of
    ones beside the values and zeros below the meta values, lane `d` is the weighted sum of the values over the sum of
    the weights. -/
theorem tile_row (q : FVec Ideal S512x192 .bf16) (x1 : Vec Ideal S1x1x8192x192 .bf16) (x2 : Vec Ideal S1x1x8192x256 .bf16)
    (x3 : Vec Ideal S1x128x192 .bf16) (x4 : Vec Ideal S1x128x256 .bf16) (i : Fin 512) (sm : Fin 16 → ℝ) (s : Fin 8192 → ℝ)
    (hsm : ∀ l : Fin 16, ∑ x : Fin 192, q (ix2 i x) * x3 (ix3 0 ⟨l.val, by omega⟩ x) = (sm l : EReal))
    (hs : ∀ j : Fin 8192, ∑ x : Fin 192, q (ix2 i x) * x1 (ix4 0 0 j x) = (s j : EReal))
    (hv : ∀ j : Fin 8192, x2 (ix4 0 0 j 128) = 1)
    (hvm : ∀ l : Fin 16, x4 (ix3 0 ⟨l.val, by omega⟩ 128) = 1)
    (hz : ∀ (l : Fin 128) (d : Fin 256), 16 ≤ l.val → x4 (ix3 0 l d) = 0) (d : Fin 128) :
    tile q x1 x2 x3 x4 (ix3 0 i d)
      = (∑ l : Fin 16, pow2 (sm l) * x4 (ix3 0 ⟨l.val, by omega⟩ ⟨d.val, by omega⟩)
          + ∑ j : Fin 8192, pow2 (s j) * x2 (ix4 0 0 j ⟨d.val, by omega⟩))
        * (((∑ l : Fin 16, (2 : ℝ) ^ sm l + ∑ j : Fin 8192, (2 : ℝ) ^ s j)⁻¹ : ℝ) : EReal) := by
  have hall : ∀ l : Fin 128, ∃ r : ℝ, metaScores q x3 (ix2 i l) = (r : EReal) ∧ ∀ h : l.val < 16, r = sm ⟨l.val, h⟩ := by
    intro l
    by_cases h : l.val < 16
    · exact ⟨sm ⟨l.val, h⟩, (metaScores_lo q x3 i l h).trans (hsm ⟨l.val, h⟩), fun _ => rfl⟩
    · obtain ⟨r, hr⟩ := metaScores_hi q x3 i l (by omega)
      exact ⟨r, hr, fun h' => absurd h' h⟩
  choose r hr hr' using hall
  have hk : ∀ (o : Nat) (h : o + 2048 ≤ 8192) (l : Fin 2048),
      scores q (keys x1 o h) (ix2 i l) = (s ⟨o + l.val, by omega⟩ : EReal) := fun o h l => by
    rw [scores_apply, ← hs]
    simp only [keys_apply]
  have hH := held_step q _ (keys x1 6144 (by decide)) (vals x2 6144 (by decide)) i _
    (held_step q _ (keys x1 4096 (by decide)) (vals x2 4096 (by decide)) i _
      (held_step q _ (keys x1 2048 (by decide)) (vals x2 2048 (by decide)) i _
        (held_step q _ (keys x1 0 (by decide)) (vals x2 0 (by decide)) i _ (held_start q x3 x4 i r hr) _ (hk 0 _)) _ (hk 2048 _)) _
      (hk 4096 _)) _ (hk 6144 _)
  obtain ⟨m, -, hacc⟩ := hH
  simp only [vals_apply] at hacc
  have hsum : ∀ d : Fin 256, ∀ st, (st = pow2 (-m) * (∑ l : Fin 128, pow2 (r l) * x4 (ix3 0 l d)
      + ∑ l : Fin 2048, pow2 (s ⟨0 + l.val, by omega⟩) * x2 (ix4 0 0 ⟨0 + l.val, by omega⟩ d)
      + ∑ l : Fin 2048, pow2 (s ⟨2048 + l.val, by omega⟩) * x2 (ix4 0 0 ⟨2048 + l.val, by omega⟩ d)
      + ∑ l : Fin 2048, pow2 (s ⟨4096 + l.val, by omega⟩) * x2 (ix4 0 0 ⟨4096 + l.val, by omega⟩ d)
      + ∑ l : Fin 2048, pow2 (s ⟨6144 + l.val, by omega⟩) * x2 (ix4 0 0 ⟨6144 + l.val, by omega⟩ d))) →
      st = pow2 (-m) * (∑ l : Fin 16, pow2 (sm l) * x4 (ix3 0 ⟨l.val, by omega⟩ d)
        + ∑ j : Fin 8192, pow2 (s j) * x2 (ix4 0 0 j d)) := by
    intro d st h
    rw [h, ← sum_blocks fun j => pow2 (s j) * x2 (ix4 0 0 j d),
      sum_meta (fun l => pow2 (r l) * x4 (ix3 0 l d)) fun l hl => by rw [hz l d hl, mul_zero]]
    simp only [← add_assoc]
    congr 5
    exact Finset.sum_congr rfl fun l _ => by rw [hr' ⟨l.val, by omega⟩ l.isLt]
  show finish _ _ = _
  rw [finish_apply, hsum ⟨d.val, by omega⟩ _ (hacc _), hsum 128 _ (hacc _)]
  have hpos : (0 : ℝ) < ∑ l : Fin 16, (2 : ℝ) ^ sm l + ∑ j : Fin 8192, (2 : ℝ) ^ s j :=
    add_pos (Finset.sum_pos (fun _ _ => Real.rpow_pos_of_pos (by norm_num) _) Finset.univ_nonempty)
      (Finset.sum_pos (fun _ _ => Real.rpow_pos_of_pos (by norm_num) _) Finset.univ_nonempty)
  have hden : ∑ l : Fin 16, pow2 (sm l) * x4 (ix3 0 ⟨l.val, by omega⟩ 128) + ∑ j : Fin 8192, pow2 (s j) * x2 (ix4 0 0 j 128)
      = ((∑ l : Fin 16, (2 : ℝ) ^ sm l + ∑ j : Fin 8192, (2 : ℝ) ^ s j : ℝ) : EReal) := by
    simp only [hv, hvm, mul_one, pow2, coe_sum, ← EReal.coe_add]
  rw [hden, finish_acc m _ _ hpos]

end Cert.Proof.Row

end
-- ==== Proof.Output.lean ====
/- Hand-written: WHAT THE KERNEL LEAVES IN ITS RESULT: the attention's closed form. A grid point's block first (four tiles of 512
   queries), at any of its rows and lanes; then the array, each element under the block of the grid point that writes it. -/
module

public import proofs.«01_k».proof.Proof.Row
public import proofs.«01_k».proof.Proof.Target

@[expose] public section

set_option maxRecDepth 16384

noncomputable section

namespace Cert.Proof.Output

open Cert.KernelIdeal Cert.KernelIdeal.Gen Idealize.ShloMosaic Idealize.ShloMosaic.TcCoe Idealize.SL.Sem
open Cert.Proof.Weights Cert.Proof.Tile Cert.Proof.Target

/-- The queries of the four tiles are the rows of the grid point's block, 512 by 512. -/
theorem queries_tile0 (x0 : Vec Ideal S1x1x2048x192 .bf16) (i : Fin 512) (d : Fin 192) :
    k0_pay5 x0 (ix2 i d) = x0 (ix4 0 0 ⟨i.val, by omega⟩ d) := by
  unfold_payloads; pointwise

theorem queries_tile1 (x0 : Vec Ideal S1x1x2048x192 .bf16) (i : Fin 512) (d : Fin 192) :
    k0_pay6 x0 (ix2 i d) = x0 (ix4 0 0 ⟨512 + i.val, by omega⟩ d) := by
  unfold_payloads; pointwise

theorem queries_tile2 (x0 : Vec Ideal S1x1x2048x192 .bf16) (i : Fin 512) (d : Fin 192) :
    k0_pay7 x0 (ix2 i d) = x0 (ix4 0 0 ⟨1024 + i.val, by omega⟩ d) := by
  unfold_payloads; pointwise

theorem queries_tile3 (x0 : Vec Ideal S1x1x2048x192 .bf16) (i : Fin 512) (d : Fin 192) :
    k0_pay8 x0 (ix2 i d) = x0 (ix4 0 0 ⟨1536 + i.val, by omega⟩ d) := by
  unfold_payloads; pointwise

/-- A tile whose rows hold row `y` of the block at its row `i` (`y = o + i`) holds there what the row's scores say. -/
theorem tile_at (x0 : Vec Ideal S1x1x2048x192 .bf16) (x1 : Vec Ideal S1x1x8192x192 .bf16) (x2 : Vec Ideal S1x1x8192x256 .bf16)
    (x3 : Vec Ideal S1x128x192 .bf16) (x4 : Vec Ideal S1x128x256 .bf16) (r : Fin 2048) (d : Fin 128) (e : EReal)
    (q : FVec Ideal S512x192 .bf16) (o : Nat) (inb) (ho : o + 512 ≤ 2048)
    (hq : ∀ (i : Fin 512) (x : Fin 192), q (ix2 i x) = x0 (ix4 0 0 ⟨o + i.val, by omega⟩ x))
    (he : ∀ i : Fin 512, r.val = o + i.val → tile q x1 x2 x3 x4 (ix3 0 i d) = e)
    (x : (Rect.unit (s := S1x2048x128) ![0, o, 0] ![1, 512, 128] inb).shape.Idx)
    (hx : (Rect.unit (s := S1x2048x128) ![0, o, 0] ![1, 512, 128] inb).emb x = ix3 0 r d) :
    tile q x1 x2 x3 x4 x = e := by
  have h1 := congrArg (fun f : S1x2048x128.Idx => (f 1).val) hx
  have h2 := congrArg (fun f : S1x2048x128.Idx => (f 2).val) hx
  simp only [Rect.emb_apply] at h1 h2
  change o + 1 * (x 1).val = r.val at h1
  change 0 + 1 * (x 2).val = d.val at h2
  have : x = ix3 0 (x 1) d := by
    funext a
    fin_cases a
    · exact Subsingleton.elim (α := Fin 1) _ _
    · rfl
    · exact Fin.ext (show (x 2).val = d.val by omega)
  rw [this]
  exact he _ (by omega)

/-- THE BLOCK, at a row and a lane. -/
theorem block_apply (x0 : Vec Ideal S1x1x2048x192 .bf16) (x1 : Vec Ideal S1x1x8192x192 .bf16)
    (x2 : Vec Ideal S1x1x8192x256 .bf16) (x3 : Vec Ideal S1x128x192 .bf16) (x4 : Vec Ideal S1x128x256 .bf16)
    (r : Fin 2048) (sm : Fin 16 → ℝ) (s : Fin 8192 → ℝ)
    (hsm : ∀ l : Fin 16, ∑ x : Fin 192, x0 (ix4 0 0 r x) * x3 (ix3 0 ⟨l.val, by omega⟩ x) = (sm l : EReal))
    (hs : ∀ j : Fin 8192, ∑ x : Fin 192, x0 (ix4 0 0 r x) * x1 (ix4 0 0 j x) = (s j : EReal))
    (hv : ∀ j : Fin 8192, x2 (ix4 0 0 j 128) = 1)
    (hvm : ∀ l : Fin 16, x4 (ix3 0 ⟨l.val, by omega⟩ 128) = 1)
    (hz : ∀ (l : Fin 128) (d : Fin 256), 16 ≤ l.val → x4 (ix3 0 l d) = 0) (d : Fin 128) :
    View.canon (pieces x0 x1 x2 x3 x4) (ix3 0 r d)
      = (∑ l : Fin 16, pow2 (sm l) * x4 (ix3 0 ⟨l.val, by omega⟩ ⟨d.val, by omega⟩)
          + ∑ j : Fin 8192, pow2 (s j) * x2 (ix4 0 0 j ⟨d.val, by omega⟩))
        * (((∑ l : Fin 16, (2 : ℝ) ^ sm l + ∑ j : Fin 8192, (2 : ℝ) ^ s j)⁻¹ : ℝ) : EReal) := by
  have key : ∀ (q : FVec Ideal S512x192 .bf16) (o : Nat) (ho : o + 512 ≤ 2048),
      (∀ (i : Fin 512) (x : Fin 192), q (ix2 i x) = x0 (ix4 0 0 ⟨o + i.val, by omega⟩ x)) →
      ∀ i : Fin 512, r.val = o + i.val → tile q x1 x2 x3 x4 (ix3 0 i d)
        = (∑ l : Fin 16, pow2 (sm l) * x4 (ix3 0 ⟨l.val, by omega⟩ ⟨d.val, by omega⟩)
            + ∑ j : Fin 8192, pow2 (s j) * x2 (ix4 0 0 j ⟨d.val, by omega⟩))
          * (((∑ l : Fin 16, (2 : ℝ) ^ sm l + ∑ j : Fin 8192, (2 : ℝ) ^ s j)⁻¹ : ℝ) : EReal) := fun q o ho hq i hi => by
    have hr : (⟨o + i.val, by omega⟩ : Fin 2048) = r := Fin.ext hi.symm
    exact Row.tile_row q x1 x2 x3 x4 i sm s (fun l => by simpa only [hq, hr] using hsm l)
      (fun j => by simpa only [hq, hr] using hs j) hv hvm hz d
  refine View.canon_eq_of_allAt _ _ _ (View.cover_of_tiled_head _ _ _ (by rfl) _) ?_
  refine View.allAt_cons _ _ _ (fun x hx => tile_at x0 x1 x2 x3 x4 r d _ _ 1536 _ (by omega) (queries_tile3 x0)
    (key _ 1536 (by omega) (queries_tile3 x0)) x hx) ?_
  refine View.allAt_cons _ _ _ (fun x hx => tile_at x0 x1 x2 x3 x4 r d _ _ 1024 _ (by omega) (queries_tile2 x0)
    (key _ 1024 (by omega) (queries_tile2 x0)) x hx) ?_
  refine View.allAt_cons _ _ _ (fun x hx => tile_at x0 x1 x2 x3 x4 r d _ _ 512 _ (by omega) (queries_tile1 x0)
    (key _ 512 (by omega) (queries_tile1 x0)) x hx) ?_
  have h0 : ∀ (i : Fin 512) (x : Fin 192), k0_pay5 x0 (ix2 i x) = x0 (ix4 0 0 ⟨0 + i.val, by omega⟩ x) := fun i x => by
    rw [queries_tile0]; simp only [Nat.zero_add]
  exact View.allAt_cons _ _ _ (fun x hx => tile_at x0 x1 x2 x3 x4 r d _ _ 0 _ (by omega) h0
    (key _ 0 (by omega) h0) x hx) (View.allAt_nil _ _)

/-- Where a grid point's blocks lie. -/
theorem index0 : ∀ t : Fin cfg0.N, win0_0.index t = ![t.val / 32, t.val / 4 % 8, t.val % 4, 0] :=
  (by decide +kernel : ∀ t : Fin grid0.N, win0_0.index t = ![t.val / 32, t.val / 4 % 8, t.val % 4, 0])
theorem index1 : ∀ t : Fin cfg0.N, win0_1.index t = ![t.val / 32, t.val / 4 % 8, 0, 0] :=
  (by decide +kernel : ∀ t : Fin grid0.N, win0_1.index t = ![t.val / 32, t.val / 4 % 8, 0, 0])
theorem index2 : ∀ t : Fin cfg0.N, win0_2.index t = ![t.val / 32, t.val / 4 % 8, 0, 0] :=
  (by decide +kernel : ∀ t : Fin grid0.N, win0_2.index t = ![t.val / 32, t.val / 4 % 8, 0, 0])
theorem index3 : ∀ t : Fin cfg0.N, win0_3.index t = ![t.val / 4 % 8, 0, 0] :=
  (by decide +kernel : ∀ t : Fin grid0.N, win0_3.index t = ![t.val / 4 % 8, 0, 0])
theorem index4 : ∀ t : Fin cfg0.N, win0_4.index t = ![t.val / 4 % 8, 0, 0] :=
  (by decide +kernel : ∀ t : Fin grid0.N, win0_4.index t = ![t.val / 4 % 8, 0, 0])
theorem index5 : ∀ t : Fin cfg0.N, win0_5.index t = ![t.val / 32, t.val % 4, t.val / 4 % 8] :=
  (by decide +kernel : ∀ t : Fin grid0.N, win0_5.index t = ![t.val / 32, t.val % 4, t.val / 4 % 8])

section
variable (m : (ℓ : Loc nD τ sig) → Buf (Elt Ideal) ℓ) (c : Dev nD)

/-- The batch, the head and the first query of a grid point. -/
def batch (t : Fin cfg0.N) : Fin 4 := ⟨t.val / 32, by have : t.val < 128 := t.isLt; omega⟩
def head (t : Fin cfg0.N) : Fin 8 := ⟨t.val / 4 % 8, by omega⟩
def row (t : Fin cfg0.N) (r : Fin 2048) : Fin 8192 := ⟨t.val % 4 * 2048 + r.val, by omega⟩

/-- The blocks of a grid point, element by element. -/
theorem block0 (t : Fin cfg0.N) (r : Fin 2048) (x : Fin 192) :
    iblk m c 0 t (ix4 0 0 r x) = V m c main_v5 (ix4 (batch t) (head t) (row t r) x) := by
  unfold iblk
  refine congrArg (V m c main_v5) (funext fun a => Fin.ext ?_)
  fin_cases a <;> blk_simp [index0] <;> rfl

theorem block1 (t : Fin cfg0.N) (j : Fin 8192) (x : Fin 192) :
    iblk m c 1 t (ix4 0 0 j x) = V m c main_v6 (ix4 (batch t) (head t) j x) := by
  unfold iblk
  refine congrArg (V m c main_v6) (funext fun a => Fin.ext ?_)
  fin_cases a <;> blk_simp [index1] <;> rfl

theorem block2 (t : Fin cfg0.N) (j : Fin 8192) (x : Fin 256) :
    iblk m c 2 t (ix4 0 0 j x) = V m c main_v13 (ix4 (batch t) (head t) j x) := by
  unfold iblk
  refine congrArg (V m c main_v13) (funext fun a => Fin.ext ?_)
  fin_cases a <;> blk_simp [index2] <;> rfl

theorem block3 (t : Fin cfg0.N) (l : Fin 128) (x : Fin 192) :
    iblk m c 3 t (ix3 0 l x) = V m c main_v15 (ix3 (head t) l x) := by
  unfold iblk
  refine congrArg (V m c main_v15) (funext fun a => Fin.ext ?_)
  fin_cases a <;> blk_simp [index3] <;> rfl

theorem block4 (t : Fin cfg0.N) (l : Fin 128) (x : Fin 256) :
    iblk m c 4 t (ix3 0 l x) = V m c main_v23 (ix3 (head t) l x) := by
  unfold iblk
  refine congrArg (V m c main_v23) (funext fun a => Fin.ext ?_)
  fin_cases a <;> blk_simp [index4] <;> rfl

/-- A sum of products of reals, one factor scaled, over the extended reals. -/
theorem sum_scaled {n : Nat} (a b : Fin n → EReal) (ha : ∀ i, ((a i).toReal : EReal) = a i)
    (hb : ∀ i, ((b i).toReal : EReal) = b i) (z : ℝ) :
    ∑ i, a i * (z : EReal) * b i = ((∑ i, (a i).toReal * z * (b i).toReal : ℝ) : EReal) := by
  rw [← coe_sum]
  refine Finset.sum_congr rfl fun i _ => ?_
  rw [EReal.coe_mul, EReal.coe_mul, ha, hb]

/-- A grid point's block holds the attention of its queries. -/
theorem block_value (hq : Finite (t := .f32) (m ((c : Thread nD τ).loc main_arg0)))
    (hk : Finite (t := .f32) (m ((c : Thread nD τ).loc main_arg1))) (hkm : Finite (t := .f32) (m ((c : Thread nD τ).loc main_arg3)))
    (t : Fin cfg0.N) (r : Fin 2048) (d : Fin 128) :
    View.canon (pieces (F := Ideal) (iblk m c 0 t) (iblk m c 1 t) (iblk m c 2 t) (iblk m c 3 t) (iblk m c 4 t)) (ix3 0 r d)
      = attention (m ((c : Thread nD τ).loc main_arg0)) (m ((c : Thread nD τ).loc main_arg1))
          (m ((c : Thread nD τ).loc main_arg2)) (m ((c : Thread nD τ).loc main_arg3)) (m ((c : Thread nD τ).loc main_arg4))
          (batch t) (head t) (row t r) d := by
  rw [block_apply _ _ _ _ _ r
    (metaScore (m ((c : Thread nD τ).loc main_arg0)) (m ((c : Thread nD τ).loc main_arg3)) (batch t) (head t) (row t r))
    (score (m ((c : Thread nD τ).loc main_arg0)) (m ((c : Thread nD τ).loc main_arg1)) (batch t) (head t) (row t r))]
  · unfold attention
    refine congrArg₂ (fun x y : EReal => x * y) (congrArg₂ (fun x y : EReal => x + y) ?_ ?_) rfl
    · refine Finset.sum_congr rfl fun l _ => ?_
      rw [block4, Host.V_metaValues, Host.metaValues_lo]
    · refine Finset.sum_congr rfl fun j _ => ?_
      rw [block2, Host.V_values, Host.values_lo]
  · intro l
    unfold metaScore
    rw [← sum_scaled _ _ (fun x => hq _) (fun x => hkm _)]
    refine Finset.sum_congr rfl fun x _ => ?_
    rw [block0, block3, Host.V_queries, Host.V_metaKeys, Host.queries_apply, Host.metaKeys_lo]
  · intro j
    unfold score
    rw [← sum_scaled _ _ (fun x => hq _) (fun x => hk _)]
    refine Finset.sum_congr rfl fun x _ => ?_
    rw [block0, block1, Host.V_queries, Host.V_keys, Host.queries_apply, Host.keys_apply]
  · intro j
    rw [block2, Host.V_values, Host.values_one]
  · intro l
    rw [block4, Host.V_metaValues, Host.metaValues_one]
  · intro l x hl
    rw [block4, Host.V_metaValues, Host.metaValues_hi _ _ _ _ hl]

/-- THE RESULT ARRAY after the call, its queries, keys and meta keys real. -/
theorem array_eq (hq : Finite (t := .f32) (m ((c : Thread nD τ).loc main_arg0))) (hk : Finite (t := .f32) (m ((c : Thread nD τ).loc main_arg1)))
    (hkm : Finite (t := .f32) (m ((c : Thread nD τ).loc main_arg3))) :
    (dats m 0 c).arrAt 5 cfg0.N
      = result (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  rw [out_eq]
  have hy : y = ix3 (0 : Fin 1) (y 1 : Fin 2048) (y 2 : Fin 128) := by
    funext a
    fin_cases a
    · exact Subsingleton.elim (α := Fin 1) _ _
    · rfl
    · rfl
  have h2 : (y 2).val < 128 := (y 2).isLt
  have h1 : (y 1).val < 2048 := (y 1).isLt
  have he : ((cfg0.win 5).blk t).view.emb y = ix3 (batch t) (row t (y 1)) (⟨(head t).val * 128 + (y 2).val, by
      have := (head t).isLt; omega⟩ : Fin 1024) := by
    funext a
    refine Fin.ext ?_
    fin_cases a <;> blk_simp [index5] <;> first | rfl | (have h0 : (y 0).val < 1 := (y 0).isLt; change _ = t.val / 32; omega)
  rw [he]
  refine Eq.trans ?_ ((block_value m c hq hk hkm t (y 1) (y 2)).trans ?_)
  · exact congrArg _ hy
  · show _ = attention _ _ _ _ _ (batch t) ⟨((head t).val * 128 + (y 2).val) / 128, _⟩ (row t (y 1))
      ⟨((head t).val * 128 + (y 2).val) % 128, _⟩
    congr 1
    · exact Fin.ext (show (head t).val = ((head t).val * 128 + (y 2).val) / 128 by omega)
    · exact Fin.ext (show (y 2).val = ((head t).val * 128 + (y 2).val) % 128 by omega)

end

end Cert.Proof.Output

end
-- ==== Proof.Ref.lean ====
/- Hand-written: WHAT THE REFERENCE LEAVES IN ITS RESULT: the attention's closed form. Its scores, their row maximum and its
   weights element by element; then the softmax over the 16 meta keys and the 8192 keys as one row of 8208. -/
module

public import proofs.«01_k».proof.Proof.Gen.ReferenceIdeal.Run
public import Idealize.ShloMosaic.Lib.Pointwise
public import proofs.«01_k».proof.Proof.Target

@[expose] public section

set_option maxRecDepth 16384

noncomputable section

namespace Cert.Proof.Ref

open Cert.ReferenceIdeal Cert.ReferenceIdeal.Gen Cert.ReferenceIdeal.Value Idealize.ShloMosaic Idealize.ShloMosaic.TcCoe Idealize.SL.Sem
open Cert.Proof.Weights Cert.Proof.Target

section Terms
variable {F : FTy → Type} [FloatOps F]

/-- The meta keys before every batch's keys. -/
def keys (k : FVec F S4x8x8192x192 .f32) (km : FVec F S8x16x192 .f32) : FVec F S4x8x8208x192 .f32 :=
  concatenate S4x8x8208x192 2 [⟨S4x8x16x192, broadcastInDim S4x8x16x192 ![0, 1, 2, 3] bcast_S1x8x16x192_S4x8x16x192_0_1_2_3
    (broadcastInDim S1x8x16x192 ![1, 2, 3] bcast_S8x16x192_S1x8x16x192_1_2_3 km)⟩, ⟨S4x8x8192x192, k⟩]
    concatenates_S4x8x16x192_S4x8x8192x192_S4x8x8208x192_d2

/-- The meta values before every batch's values. -/
def vals (v : FVec F S4x8x8192x128 .f32) (vm : FVec F S8x16x128 .f32) : FVec F S4x8x8208x128 .f32 :=
  concatenate S4x8x8208x128 2 [⟨S4x8x16x128, broadcastInDim S4x8x16x128 ![0, 1, 2, 3] bcast_S1x8x16x128_S4x8x16x128_0_1_2_3
    (broadcastInDim S1x8x16x128 ![1, 2, 3] bcast_S8x16x128_S1x8x16x128_1_2_3 vm)⟩, ⟨S4x8x8192x128, v⟩]
    concatenates_S4x8x16x128_S4x8x8192x128_S4x8x8208x128_d2

/-- The scaled scores. -/
def scores (q k : FVec F S4x8x8192x192 .f32) (km : FVec F S8x16x192 .f32) : FVec F S4x8x8192x8208 .f32 :=
  mulf (Host.dotGeneral dot_S4x8x8192x192_S4x8x8208x192_S4x8x8192x8208_3_3_2_2_01_01 none q (keys k km))
    (broadcastInDim S4x8x8192x8208 ![] bcast_S_S4x8x8192x8208 (Host.rsqrt (constant S_ .f32 0x43400000#32)))

/-- A value of each row beside each of its scores. -/
def spread (a : FVec F S4x8x8192 .f32) : FVec F S4x8x8192x8208 .f32 :=
  broadcastInDim S4x8x8192x8208 ![0, 1, 2, 3] bcast_S4x8x8192x1_S4x8x8192x8208_0_1_2_3
    (broadcastInDim S4x8x8192x1 ![0, 1, 2] bcast_S4x8x8192_S4x8x8192x1_0_1_2 a)

/-- The largest score of each row. -/
def top (t : FVec F S4x8x8192x8208 .f32) : FVec F S4x8x8192 .f32 :=
  maximumf (broadcastInDim S4x8x8192 ![] bcast_S_S4x8x8192 (constant S_ .f32 0xFF800000#32))
    (Host.reduce FloatOps.maximumf t (constant S_ .f32 0xFF800000#32) reducesTo_S4x8x8192x8208_S4x8x8192_d3 h_S_)

/-- The weights before normalisation. -/
def weights (t : FVec F S4x8x8192x8208 .f32) : FVec F S4x8x8192x8208 .f32 := Host.exp (subf t (spread (top t)))

/-- The weights of each row over their sum. -/
def softmax (t : FVec F S4x8x8192x8208 .f32) : FVec F S4x8x8192x8208 .f32 :=
  Host.divf (weights t) (spread (Host.reduceAdd (weights t) (constant S_ .f32 0x00000000#32)
    reducesTo_S4x8x8192x8208_S4x8x8192_d3 h_S_))

/-- The weighted sums of the values, eight heads side by side. -/
def out (v : FVec F S4x8x8208x128 .f32) (p : FVec F S4x8x8192x8208 .f32) : FVec F S4x8192x1024 .bf16 :=
  truncf .bf16 (shapeCast S4x8192x1024 (transpose S4x8192x8x128 [0, 3, 1, 2]
    (Host.dotGeneral dot_S4x8x8208x128_S4x8x8192x8208_S4x8x128x8192_2_3_3_2_01_01 none v p)
    transposes_S4x8x128x8192_S4x8192x8x128_0_3_1_2) shapeCasts_S4x8192x8x128_S4x8192x1024) bitsLt_bf16_f32

/-- The reference's result in these terms. -/
theorem res_eq (m : (ℓ : Loc nD τ sig) → Buf (Elt F) ℓ) (c : Dev nD) :
    res_main_v24 m c = out (vals (m ((c : Thread nD τ).loc main_arg2)) (m ((c : Thread nD τ).loc main_arg4)))
      (softmax (scores (m ((c : Thread nD τ).loc main_arg0)) (m ((c : Thread nD τ).loc main_arg1))
        (m ((c : Thread nD τ).loc main_arg3)))) := rfl

end Terms

theorem keys_meta (k : FVec Ideal S4x8x8192x192 .f32) (km : FVec Ideal S8x16x192 .f32) (b : Fin 4) (h : Fin 8) (l : Fin 16)
    (x : Fin 192) : keys k km (ix4 b h ⟨l.val, by omega⟩ x) = km (ix3 h l x) := by
  pointwise [keys]

theorem keys_own (k : FVec Ideal S4x8x8192x192 .f32) (km : FVec Ideal S8x16x192 .f32) (b : Fin 4) (h : Fin 8) (j : Fin 8192)
    (x : Fin 192) : keys k km (ix4 b h ⟨16 + j.val, by omega⟩ x) = k (ix4 b h j x) := by
  pointwise [keys]

theorem vals_meta (v : FVec Ideal S4x8x8192x128 .f32) (vm : FVec Ideal S8x16x128 .f32) (b : Fin 4) (h : Fin 8) (l : Fin 16)
    (x : Fin 128) : vals v vm (ix4 b h ⟨l.val, by omega⟩ x) = vm (ix3 h l x) := by
  pointwise [vals]

theorem vals_own (v : FVec Ideal S4x8x8192x128 .f32) (vm : FVec Ideal S8x16x128 .f32) (b : Fin 4) (h : Fin 8) (j : Fin 8192)
    (x : Fin 128) : vals v vm (ix4 b h ⟨16 + j.val, by omega⟩ x) = v (ix4 b h j x) := by
  pointwise [vals]

theorem scores_apply (q k : FVec Ideal S4x8x8192x192 .f32) (km : FVec Ideal S8x16x192 .f32) (b : Fin 4) (h : Fin 8)
    (i : Fin 8192) (j : Fin 8208) : scores q k km (ix4 b h i j)
      = (∑ x : Fin 192, q (ix4 b h i x) * keys k km (ix4 b h j x)) * (((Real.sqrt 192)⁻¹ : ℝ) : EReal) := by
  have h192 : Ideal.ofBits .f32 0x43400000#32 = ((192 : ℝ) : EReal) := Host.f32_lit _ _ 134 0x400000 (by decide) (by decide) (by norm_num)
  pointwise [scores]
  rw [h192, Ideal.rsqrt_coe, if_neg (by norm_num), if_neg (by norm_num)]

theorem spread_apply (a : FVec Ideal S4x8x8192 .f32) (b : Fin 4) (h : Fin 8) (i : Fin 8192) (j : Fin 8208) :
    spread a (ix4 b h i j) = a (ix3 b h i) := by
  pointwise [spread]

/-- A maximum over the last of four axes, whatever the extents. -/
theorem reduce_max {n0 n1 n2 n3 : Nat} (t : FVec Ideal ⟨4, ![n0, n1, n2, n3]⟩ .f32)
    (h : (⟨4, ![n0, n1, n2, n3]⟩ : Shape).ReducesTo [3] ⟨3, ![n0, n1, n2]⟩) (hu : 0 < S_.numel) (i : Fin n0) (j : Fin n1)
    (k : Fin n2) : Host.reduce FloatOps.maximumf t (constant S_ .f32 0xFF800000#32) h hu (ix3 i j k)
      = Finset.univ.fold max (Ideal.ofBits .f32 0xFF800000#32) fun l : Fin n3 => t (ix4 i j k l) := by
  pointwise

/-- The maximum with a constant, at an index. -/
theorem max_const {S : Shape} (a : FVec Ideal S .f32) (w : BitVec 32) (h : S_.BroadcastsInDim S (![] : Fin 0 → Fin S.rank)) (j : S.Idx) :
    maximumf (broadcastInDim S ![] h (constant S_ .f32 w)) a j = max (Ideal.ofBits .f32 w) (a j) := rfl

theorem top_apply (t : FVec Ideal S4x8x8192x8208 .f32) (b : Fin 4) (h : Fin 8) (i : Fin 8192) :
    top t (ix3 b h i) = max (Ideal.ofBits .f32 0xFF800000#32)
      (Finset.univ.fold max (Ideal.ofBits .f32 0xFF800000#32) fun j : Fin 8208 => t (ix4 b h i j)) :=
  (max_const _ _ _ _).trans (congrArg (max (Ideal.ofBits .f32 0xFF800000#32))
    (reduce_max t reducesTo_S4x8x8192x8208_S4x8x8192_d3 h_S_ b h i))

theorem weights_apply (t : FVec Ideal S4x8x8192x8208 .f32) (b : Fin 4) (h : Fin 8) (i : Fin 8192) (j : Fin 8208) :
    weights t (ix4 b h i j) = Ideal.exp (t (ix4 b h i j) - top t (ix3 b h i)) := by
  pointwise [weights, spread]

theorem softmax_apply (t : FVec Ideal S4x8x8192x8208 .f32) (b : Fin 4) (h : Fin 8) (i : Fin 8192) (j : Fin 8208) :
    softmax t (ix4 b h i j) = Ideal.div (weights t (ix4 b h i j)) (∑ k : Fin 8208, weights t (ix4 b h i k)) := by
  pointwise [softmax, spread]

theorem out_apply (v : FVec Ideal S4x8x8208x128 .f32) (p : FVec Ideal S4x8x8192x8208 .f32) (b : Fin 4) (h : Fin 8) (i : Fin 8192)
    (d : Fin 128) : out v p (ix3 b i ⟨h.val * 128 + d.val, by omega⟩)
      = ∑ j : Fin 8208, v (ix4 b h j d) * p (ix4 b h i j) := by
  pointwise [out]

section
variable (q k : FVec Ideal S4x8x8192x192 .f32) (v : FVec Ideal S4x8x8192x128 .f32) (km : FVec Ideal S8x16x192 .f32)
  (vm : FVec Ideal S8x16x128 .f32)

/-- A sum of products of reals, scaled by `192 ^ (-1/2)`: the closed form's score times `log 2`. -/
theorem sum_scaled (a b : Fin 192 → EReal) (ha : ∀ i, ((a i).toReal : EReal) = a i) (hb : ∀ i, ((b i).toReal : EReal) = b i) :
    (∑ i, a i * b i) * (((Real.sqrt 192)⁻¹ : ℝ) : EReal)
      = (((∑ i, (a i).toReal * Host.scale * (b i).toReal) * Real.log 2 : ℝ) : EReal) := by
  have h : ∀ i, a i * b i = (((a i).toReal * (b i).toReal : ℝ) : EReal) := fun i => by rw [EReal.coe_mul, ha, hb]
  have hl : Real.log 2 ≠ 0 := (Real.log_pos (by norm_num)).ne'
  simp only [h]
  rw [coe_sum, ← EReal.coe_mul, Finset.sum_mul, Finset.sum_mul]
  refine congrArg _ (Finset.sum_congr rfl fun i _ => ?_)
  unfold Host.scale
  field_simp

/-- A query's scores against the meta keys and the keys, in a row of 8208. -/
def row (b : Fin 4) (h : Fin 8) (i : Fin 8192) (j : Fin 8208) : ℝ :=
  if hj : j.val < 16 then metaScore q km b h i ⟨j.val, hj⟩ else score q k b h i ⟨j.val - 16, by omega⟩

theorem row_meta (b : Fin 4) (h : Fin 8) (i : Fin 8192) (l : Fin 16) :
    row q k km b h i ⟨l.val, by omega⟩ = metaScore q km b h i l := dif_pos l.isLt

theorem row_own (b : Fin 4) (h : Fin 8) (i : Fin 8192) (j : Fin 8192) :
    row q k km b h i ⟨16 + j.val, by omega⟩ = score q k b h i j := by
  unfold row
  rw [dif_neg (by simp)]
  exact congrArg _ (Fin.ext (show 16 + j.val - 16 = j.val by omega))

/-- A position in the row of 8208 is a meta key's or a key's. -/
theorem cases_row (j : Fin 8208) : (∃ l : Fin 16, j = ⟨l.val, by omega⟩) ∨ ∃ i : Fin 8192, j = ⟨16 + i.val, by omega⟩ := by
  by_cases h : j.val < 16
  · exact Or.inl ⟨⟨j.val, h⟩, rfl⟩
  · exact Or.inr ⟨⟨j.val - 16, by omega⟩, Fin.ext (show j.val = 16 + (j.val - 16) by omega)⟩

/-- A sum over the row of 8208 is the sum over the meta keys and over the keys. -/
theorem sum_row {M : Type} [AddCommMonoid M] (f : Fin 8208 → M) :
    ∑ j, f j = ∑ l : Fin 16, f ⟨l.val, by omega⟩ + ∑ j : Fin 8192, f ⟨16 + j.val, by omega⟩ :=
  Fin.sum_univ_add (a := 16) (b := 8192) f

theorem scores_real (hq : Finite q) (hk : Finite k) (hkm : Finite km) (b : Fin 4) (h : Fin 8) (i : Fin 8192) (j : Fin 8208) :
    scores q k km (ix4 b h i j) = ((row q k km b h i j * Real.log 2 : ℝ) : EReal) := by
  rw [scores_apply]
  rcases cases_row j with ⟨l, rfl⟩ | ⟨l, rfl⟩
  · simp only [keys_meta, row_meta]
    exact sum_scaled _ _ (fun x => hq _) (fun x => hkm _)
  · simp only [keys_own, row_own]
    exact sum_scaled _ _ (fun x => hq _) (fun x => hk _)

/-- THE REFERENCE'S RESULT, its queries, keys and meta keys real. -/
theorem out_eq (hq : Finite q) (hk : Finite k) (hkm : Finite km) :
    out (vals v vm) (softmax (scores q k km)) = result q k v km vm := by
  funext j
  have hj1 : (j 2).val < 1024 := (j 2).isLt
  have hj : j = ix3 (j 0 : Fin 4) (j 1 : Fin 8192) (⟨(⟨(j 2).val / 128, by omega⟩ : Fin 8).val * 128
      + (⟨(j 2).val % 128, by omega⟩ : Fin 128).val, by dsimp only; omega⟩ : Fin 1024) := by
    funext a
    fin_cases a
    · rfl
    · rfl
    · exact Fin.ext (show (j 2).val = (j 2).val / 128 * 128 + (j 2).val % 128 by omega)
  refine (congrArg _ hj).trans ((out_apply _ _ _ _ _ _).trans ?_)
  show _ = attention q k v km vm (j 0) ⟨(j 2).val / 128, _⟩ (j 1) ⟨(j 2).val % 128, _⟩
  generalize (⟨(j 2).val / 128, _⟩ : Fin 8) = h
  generalize (⟨(j 2).val % 128, _⟩ : Fin 128) = d
  obtain ⟨b, hb⟩ : ∃ b : Fin 4, b = j 0 := ⟨_, rfl⟩
  obtain ⟨i, hi⟩ : ∃ i : Fin 8192, i = j 1 := ⟨_, rfl⟩
  rw [← hb, ← hi]
  have hs := scores_real q k km hq hk hkm b h i
  obtain ⟨r, hr⟩ : IsReal (top (scores q k km) (ix3 b h i)) := by
    rw [top_apply]
    simp only [hs]
    obtain ⟨r, hr⟩ := fold_max_real Finset.univ (Finset.univ_nonempty (α := Fin 8208)) fun j => row q k km b h i j * Real.log 2
    exact ⟨r, by rw [hr]; simp [Ideal.ofBits, Ideal.ieee]⟩
  simp only [softmax_apply, weights_apply, hs, hr]
  rw [softmax_row]
  unfold attention
  simp only [exp_eq_pow, sum_row, row_meta, row_own, vals_meta, vals_own]
  refine congrArg₂ (fun x y : EReal => x * y) rfl ?_
  have he : ∀ x : ℝ, Real.exp (x * Real.log 2) = (2 : ℝ) ^ x := fun x => by
    rw [Real.rpow_def_of_pos (by norm_num), mul_comm]
  simp only [he]

end

end Cert.Proof.Ref

end
-- ==== Proof.Experts.IdealRun.lean ====
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! One grid point of the expert kernel: what its body leaves in its staging buffers. A block whose number is below the count of used
    blocks is computed and stored; of any other block the body stores nothing. -/

@[expose] public section

set_option maxRecDepth 16384

noncomputable section

namespace Cert.Kernel2Ideal.Used

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts, as the body is handed it. -/
abbrev expM : Memref sig .tc .smem S288 .i32 := Memref.whole main_arg0
/-- The one-word table holding the count of used blocks. -/
abbrev cntM : Memref sig .tc .smem S1 .i32 := Memref.whole main_arg1

/-- What a table's buffer holds on core `c`. -/
abbrev TabBuf (c : Dev nD) {S : Shape} {e : EltTy} (M : Memref sig .tc .smem S e) : Type := Buf (Elt F) (M.view.loc (c : Thread nD τ))
/-- A table's buffer held for reading, at contents `f`. -/
abbrev tabAt (c : Dev nD) {S : Shape} {e : EltTy} (M : Memref sig .tc .smem S e) (f : TabBuf (F := F) c M) : sProp 𝕄 :=
  M.view.loc (c : Thread nD τ) ↦{fullShare.right} f

/-- The count of used blocks, read off its table. -/
abbrev countOf (c : Dev nD) (f : TabBuf (F := F) c cntM) : BitVec 32 := (show S1.Idx → BitVec 32 from f) (fun a => ⟨0, by fin_cases a; decide⟩)

/-- The body's branch: block `i` is below the count `n`. -/
abbrev isUsed (i : grid0.Coords) (n : BitVec 32) : Prop := k0_cond1 i n = 1#1

/-- The expert's rows that the body computes, from its four slabs of input rows and the expert's three matrices. -/
def rowsOf (x : Vec F S4x256x512 .bf16) (wg wu : Vec F S1x2048x512 .bf16) (wd : Vec F S1x512x2048 .bf16) : FVec F S256x2048 .bf16 :=
  k0_pay5 (View.ld x (Rect.unit (s := S4x256x512) ![0, 0, 0] S1x256x512.size inb_S4x256x512_S1x256x512_0_0_0))
    (View.ld x (Rect.unit (s := S4x256x512) ![1, 0, 0] S1x256x512.size inb_S4x256x512_S1x256x512_1_0_0))
    (View.ld x (Rect.unit (s := S4x256x512) ![2, 0, 0] S1x256x512.size inb_S4x256x512_S1x256x512_2_0_0))
    (View.ld x (Rect.unit (s := S4x256x512) ![3, 0, 0] S1x256x512.size inb_S4x256x512_S1x256x512_3_0_0))
    (View.ld wg (Rect.unit (s := S1x2048x512) ![0, 0, 0] S1x2048x512.size inb_S1x2048x512_S1x2048x512_0_0_0))
    (View.ld wu (Rect.unit (s := S1x2048x512) ![0, 0, 0] S1x2048x512.size inb_S1x2048x512_S1x2048x512_0_0_0))
    (View.ld wd (Rect.unit (s := S1x512x2048) ![0, 0, 0] S1x512x2048.size inb_S1x512x2048_S1x512x2048_0_0_0))

/-- The four slabs of the output block, as the body writes them (the last first). -/
abbrev slabsOf (v : FVec F S256x2048 .bf16) : List (View.Piece (Elt F) S4x256x512 .bf16) :=
  [⟨Rect.unit (s := S4x256x512) ![3, 0, 0] S1x256x512.size inb_S4x256x512_S1x256x512_3_0_0, k0_pay4 v⟩,
   ⟨Rect.unit (s := S4x256x512) ![2, 0, 0] S1x256x512.size inb_S4x256x512_S1x256x512_2_0_0, k0_pay3 v⟩,
   ⟨Rect.unit (s := S4x256x512) ![1, 0, 0] S1x256x512.size inb_S4x256x512_S1x256x512_1_0_0, k0_pay2 v⟩,
   ⟨Rect.unit (s := S4x256x512) ![0, 0, 0] S1x256x512.size inb_S4x256x512_S1x256x512_0_0_0, k0_pay1 v⟩]

/-- The output block of a block in use: the four slabs laid side by side. -/
def blockOf (x : Vec F S4x256x512 .bf16) (wg wu : Vec F S1x2048x512 .bf16) (wd : Vec F S1x512x2048 .bf16) : Vec F S4x256x512 .bf16 :=
  View.canon (slabsOf (rowsOf x wg wu wd))

/-- The four slabs fill the block. -/
theorem slabs_cover (v : FVec F S256x2048 .bf16) (y : S4x256x512.Idx) : ∃ p ∈ slabsOf v, y ∈ p.1.set :=
  View.cover_of_tiledL (slabsOf v) S1x256x512.size (by sl_kernel_rfl) y

/-- What the output's staging buffer may hold after the body ran on a block: the block's slabs if the block is in use. -/
abbrev Leaves (i : grid0.Coords) (n : BitVec 32) (x : Vec F S4x256x512 .bf16) (wg wu : Vec F S1x2048x512 .bf16) (wd : Vec F S1x512x2048 .bf16)
    (X : Vec F S4x256x512 .bf16) : Prop := isUsed i n → X = blockOf x wg wu wd

set_option maxHeartbeats 1000000 in
/-- The body on one block: every buffer it reads is left as it was, and its output's staging buffer as `Leaves` says. -/
theorem body_run (c : Dev nD) (i : grid0.Coords) (arg3 : Memref sig .tc .vmem S4x256x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S4x256x512 .bf16) (harg7 : arg7.IsWhole)
    (x : Vec F S4x256x512 .bf16) (wg : Vec F S1x2048x512 .bf16) (wu : Vec F S1x2048x512 .bf16) (wd : Vec F S1x512x2048 .bf16) (te : TabBuf (F := F) c expM) (tn : TabBuf (F := F) c cntM)
    (E : Set ℕ) (K : PUnit → sProp 𝕄) :
    iprop(owns (c : Thread nD τ) arg3 fullShare x ∗ owns (c : Thread nD τ) arg4 fullShare wg ∗ owns (c : Thread nD τ) arg5 fullShare wu ∗ owns (c : Thread nD τ) arg6 fullShare wd ∗ (∃ d, owns (c : Thread nD τ) arg7 fullShare d) ∗ tabAt c expM te ∗ tabAt c cntM tn
        ∗ (iprop(owns (c : Thread nD τ) arg3 fullShare x ∗ owns (c : Thread nD τ) arg4 fullShare wg ∗ owns (c : Thread nD τ) arg5 fullShare wu ∗ owns (c : Thread nD τ) arg6 fullShare wd ∗ (∃ X, ⌜Leaves i (countOf c tn) x wg wu wd X⌝ ∗ owns (c : Thread nD τ) arg7 fullShare X) ∗ tabAt c expM te ∗ tabAt c cntM tn) -∗ K ⟨⟩))
      ⊢ wp frame (wpE (defs₀ (F := F)) Variants.none c none) E (cc0_moe_expert_blocks i expM (Memref.isWhole_whole _) cntM (Memref.isWhole_whole _) arg3 harg3 arg4 harg4 arg5 harg5 arg6 harg6 arg7 harg7) K := by
  simp only [cc0_moe_expert_blocks_eq_skeleton]; unfold cc0_moe_expert_blocks_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _
    isplitr
    swap
    · iexists _
      isplitr
      swap; · iexact H4
      ipureintro; rfl
    ipureintro
    intro hu
    have hr : body_run.sl.r c tn = countOf c tn := by
      unfold body_run.sl.r
      exact congrArg tn (funext fun a => by fin_cases a; exact Subsingleton.elim (α := Fin 1) _ _)
    rw [← hr] at hu
    rw [dif_pos hu]
    unfold body_run.sl.r_1
    rw [View.read_writes_eq_canon _ _ _ (slabs_cover _)]
    unfold blockOf rowsOf
    simp only [View.readAt_eq_ld, Memref.IsWhole.read_unread]
  isplitl [HT0]; · iexact HT0
  iexact HT1

end Cert.Kernel2Ideal.Used

end
-- ==== Proof.Experts.IdealLaunch.lean ====
module

public import proofs.«01_k».proof.Proof.Experts.IdealRun
public import Idealize.ShloMosaic.Lib.Pipeline.DatRel

/-! The expert kernel over its whole grid: every block's staging buffers at every point, the launch, and the frame. -/

@[expose] public section

set_option maxRecDepth 16384

noncomputable section

namespace Cert.Kernel2Ideal.Used

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the grid is entered: after the host operations before it. -/
abbrev V (c : Dev nD) (b : Ref sig .tc) : Buf (Elt F) ((c : Thread nD τ).loc b) := StableHlo.after hostOps0 (fun b => m (c, b)) b

/-- No host operation before the grid makes a buffer. -/
theorem host_fresh : (hostOps0 : List (HloOp τ sig (Elt F))).Forall fun op => op.fresh = ∅ := by
  simp only [List.Forall]; repeat' constructor

set_option maxHeartbeats 800000 in
/-- The program is its host operations, then the grid. -/
theorem main_upto (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- A buffer that no host operation before the grid writes is found as launched. -/
theorem V_kept (c : Dev nD) (b : Ref sig .tc) (h : ∀ d ∈ [main_v0, main_v1, main_v2, main_v3, main_v4, main_v5, main_v6], b ≠ d) :
    V m c b = m ((c : Thread nD τ).loc b) := by
  simp only [List.mem_cons, List.not_mem_nil, or_false, forall_eq_or_imp, forall_eq] at h
  obtain ⟨h0, h1, h2, h3, h4, h5, h6⟩ := h
  refine StableHlo.after_of_forall_not_mem (b := Proc.devRef .tc b) _ _ (List.forall_iff_forall_mem.mp ?_)
  simp only [hostOps0, List.Forall, StableHlo.unary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6⟩

/-- The two tables' contents when the grid is entered. -/
def tabs : pre0.Contents (Elt F) := fun j => V m (0 : Dev nD) (pre0.ref j)

/-- Every core holds those contents: there is one. -/
theorem V_tabs (c : Dev nD) (j : Fin 2) : V m c (pre0.ref j) = tabs m j := by
  obtain rfl : c = 0 := Subsingleton.elim _ _; rfl

/-- Every block's expert is one of the experts, as the grid's index maps ask. -/
abbrev Ok : Prop := ok0 (F := F) (tabs m)
/-- The tables, of which `Ok` is known. -/
abbrev adm (hO : Ok m) : (pcfg0 (F := F)).Adm := ⟨tabs m, hO⟩
/-- The grid's pipeline at those tables. -/
abbrev cfgU (hO : Ok m) : Cfg sig Λ₀ := cfg0 (adm m hO)

/-- The tables' buffers, one by one. -/
theorem tabs_held (c : Dev nD) : (Pipeline.ΦT pre0 (tabs m) c : sProp 𝕄) = iprop(tabAt c expM (tabs m 0) ∗ tabAt c cntM (tabs m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the grid finds it. -/
def blk (hO : Ok m) (c : Dev nD) (w : Fin (cfgU m hO).W) (t : Fin (cfgU m hO).N) : (((cfgU m hO).win w).xblock ((cfgU m hO).grid.coords t)).Idx → Elt F ((cfgU m hO).win w).elt :=
  (((cfgU m hO).win w).blk t).view.read (Elt F) (V m c (Pipeline.arrRef spec0 w))

/-- Each window's staging buffer at point `t`. -/
abbrev stg0 (hO : Ok m) (t : Fin (cfgU m hO).N) : Memref sig .tc .vmem S4x256x512 .bf16 := spec0_0.stage ((cfgU m hO).slots t 0)
@[inherit_doc stg0] abbrev stg1 (hO : Ok m) (t : Fin (cfgU m hO).N) : Memref sig .tc .vmem S1x2048x512 .bf16 := spec0_1.stage ((cfgU m hO).slots t 1)
@[inherit_doc stg0] abbrev stg2 (hO : Ok m) (t : Fin (cfgU m hO).N) : Memref sig .tc .vmem S1x2048x512 .bf16 := spec0_2.stage ((cfgU m hO).slots t 2)
@[inherit_doc stg0] abbrev stg3 (hO : Ok m) (t : Fin (cfgU m hO).N) : Memref sig .tc .vmem S1x512x2048 .bf16 := spec0_3.stage ((cfgU m hO).slots t 3)
@[inherit_doc stg0] abbrev stg4 (hO : Ok m) (t : Fin (cfgU m hO).N) : Memref sig .tc .vmem S4x256x512 .bf16 := spec0_4.stage ((cfgU m hO).slots t 4)

/-- The output's block at point `t`, of the blocks that the inputs' windows hold there. -/
def outAt (hO : Ok m) (c : Dev nD) (t : Fin (cfgU m hO).N) : Vec F S4x256x512 .bf16 :=
  blockOf (blk m hO c 0 t) (blk m hO c 1 t) (blk m hO c 2 t) (blk m hO c 3 t)

/-- The count of used blocks. -/
abbrev count : BitVec 32 := countOf (0 : Dev nD) (tabs m 1)

/-- The exact data: each input's buffer keeps its block. (Of the output's buffer, `rel` says what holds.) -/
def dats (hO : Ok m) (_ : Fin 1) (c : Dev nD) : Dat τ (Elt F) Unit ℕ (UR sig nD τ) ℕ (cfgU m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => outAt m hO c t
  Φ _ := iprop(Pipeline.ΦA spec0 c ∗ Pipeline.ΦT pre0 (tabs m) c)
  q _ := fullShare
  owed _ := 0

/-- The output is the one window of which a relation is known, not its contents. -/
def isOut4 (hO : Ok m) : Fin (cfgU m hO).W → Bool := fun | ⟨4, _⟩ => true | _ => false

/-- What holds of the output's buffer after point `t`: a block in use is its block's slabs. -/
def rel (hO : Ok m) (c : Dev nD) : (w : Fin (cfgU m hO).W) → Fin (cfgU m hO).N → (((cfgU m hO).win w).block.Idx → Elt F ((cfgU m hO).win w).elt) → Prop :=
  fun | ⟨4, _⟩ => fun t X => isUsed (grid0.coords t) (count m) → X = outAt m hO c t
      | _ => fun _ _ => True

theorem dats_A (hO : Ok m) (c : Dev nD) (w : Fin (cfgU m hO).W) : (dats m hO 0 c).A w = V m c (Pipeline.arrRef spec0 w) := by
  dsimp only [dats]
theorem after_0 (hO : Ok m) (c : Dev nD) (t : Fin (cfgU m hO).N) : (dats m hO 0 c).after 0 t = blk m hO c 0 t := by dsimp only [dats]; rfl
theorem after_1 (hO : Ok m) (c : Dev nD) (t : Fin (cfgU m hO).N) : (dats m hO 0 c).after 1 t = blk m hO c 1 t := by dsimp only [dats]; rfl
theorem after_2 (hO : Ok m) (c : Dev nD) (t : Fin (cfgU m hO).N) : (dats m hO 0 c).after 2 t = blk m hO c 2 t := by dsimp only [dats]; rfl
theorem after_3 (hO : Ok m) (c : Dev nD) (t : Fin (cfgU m hO).N) : (dats m hO 0 c).after 3 t = blk m hO c 3 t := by dsimp only [dats]; rfl

/-- An input's buffer holds its block at every point. -/
theorem before_0 (hO : Ok m) (c : Dev nD) (t : Fin (cfgU m hO).N) (d) : (dats m hO 0 c).before 0 t d = blk m hO c 0 t :=
  ((dats m hO 0 c).before_in_eq_fetched 0 rfl (fun _ => rfl) (fun _ _ _ => rfl) (fun t => by rw [after_0]; unfold Dat.blockOf blk; rw [dats_A]; try rfl) t d).trans
    (by unfold Dat.fetched Dat.blockOf blk; rw [dats_A]; rfl)
@[inherit_doc before_0] theorem before_1 (hO : Ok m) (c : Dev nD) (t : Fin (cfgU m hO).N) (d) : (dats m hO 0 c).before 1 t d = blk m hO c 1 t :=
  ((dats m hO 0 c).before_in_eq_fetched 1 rfl (fun _ => rfl) (fun _ _ _ => rfl) (fun t => by rw [after_1]; unfold Dat.blockOf blk; rw [dats_A]; try rfl) t d).trans
    (by unfold Dat.fetched Dat.blockOf blk; rw [dats_A]; rfl)
@[inherit_doc before_0] theorem before_2 (hO : Ok m) (c : Dev nD) (t : Fin (cfgU m hO).N) (d) : (dats m hO 0 c).before 2 t d = blk m hO c 2 t :=
  ((dats m hO 0 c).before_in_eq_fetched 2 rfl (fun _ => rfl) (fun _ _ _ => rfl) (fun t => by rw [after_2]; unfold Dat.blockOf blk; rw [dats_A]; try rfl) t d).trans
    (by unfold Dat.fetched Dat.blockOf blk; rw [dats_A]; rfl)
@[inherit_doc before_0] theorem before_3 (hO : Ok m) (c : Dev nD) (t : Fin (cfgU m hO).N) (d) : (dats m hO 0 c).before 3 t d = blk m hO c 3 t :=
  ((dats m hO 0 c).before_in_eq_fetched 3 rfl (fun _ => rfl) (fun _ _ _ => rfl) (fun t => by rw [after_3]; unfold Dat.blockOf blk; rw [dats_A]; try rfl) t d).trans
    (by unfold Dat.fetched Dat.blockOf blk; rw [dats_A]; rfl)

/-- The body at point `t`, on the buffers the pipeline hands it. -/
abbrev bodyAt (hO : Ok m) (t : Fin (cfgU m hO).N) : Prog (TpuEff nD τ sig (Elt F) Λ₀ .tc) PUnit :=
  cc0_moe_expert_blocks (grid0.coords t) expM (Memref.isWhole_whole _) cntM (Memref.isWhole_whole _)
    (stg0 m hO t) (hstage0_0 (((cfgU m hO).slots t 0).cast nbuf0_0)) (stg1 m hO t) (hstage0_1 (((cfgU m hO).slots t 1).cast nbuf0_1))
    (stg2 m hO t) (hstage0_2 (((cfgU m hO).slots t 2).cast nbuf0_2)) (stg3 m hO t) (hstage0_3 (((cfgU m hO).slots t 3).cast nbuf0_3))
    (stg4 m hO t) (hstage0_4 (((cfgU m hO).slots t 4).cast nbuf0_4))

/-- The body's row of the table of bodies. -/
theorem row (hO : Ok m) (t : Fin (cfgU m hO).N) :
    defs₀ (F := F) .tc (cfgU m hO).body ((cfgU m hO).bodyArgs t ((cfgU m hO).slots t)) = bodyAt m hO t := by
  unfold defs₀; rw [Defs.onTc_tc]

/-- What the body is handed at point `t`, window by window. -/
def Pre (hO : Ok m) (c : Dev nD) (t : Fin (cfgU m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ Y, ⌜((dats m hO 0 c).toRRel (isOut4 m hO) (rel m hO c)).Finds 4 t Y⌝ ∗ owns (c : Thread nD τ) (stg4 m hO t) fullShare Y))

/-- What it gives back there. -/
def Post (hO : Ok m) (c : Dev nD) (t : Fin (cfgU m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ (∃ X, ⌜rel m hO c 4 t X⌝ ∗ owns (c : Thread nD τ) (stg4 m hO t) fullShare X))

/-- The body at any point. -/
theorem body_at (hO : Ok m) (c : Dev nD) (t : Fin (cfgU m hO).N) :
    Pre m hO c t ⊢ wp frame (wpE (defs₀ (F := F)) Variants.none c none) Set.univ (bodyAt m hO t) (fun _ => Post m hO c t) := by
  obtain rfl : c = 0 := Subsingleton.elim _ _
  unfold Pre Post bodyAt
  simp only [before_0, before_1, before_2, before_3, after_0, after_1, after_2, after_3]
  rw [show (dats m hO 0 0).Φ t.succ = (dats m hO 0 0).Φ t.castSucc from rfl,
    show (dats m hO 0 0).owesAt () t.succ = (dats m hO 0 0).owesAt () t.castSucc from rfl,
    show (dats m hO 0 0).Φ t.castSucc = iprop(Pipeline.ΦA spec0 0 ∗ Pipeline.ΦT pre0 (tabs m) 0) from rfl, tabs_held]
  iintro ⟨⟨HΦ, ⟨HT0, HT1⟩⟩, Ho, ⟨%d0, H0⟩, ⟨%d1, H1⟩, ⟨%d2, H2⟩, ⟨%d3, H3⟩, ⟨%Y, -, H4⟩⟩
  iapply (body_run 0 (grid0.coords t) _ _ _ _ _ _ _ _ _ _ (blk m hO 0 0 t) (blk m hO 0 1 t) (blk m hO 0 2 t) (blk m hO 0 3 t) (tabs m 0) (tabs m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, ⟨%X, %hX, H4⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexists X; isplitr
  · ipureintro; exact hX
  · iexact H4

/-- The body at every point, in the form the launch takes. -/
theorem body_every (hO : Ok m) (c : Dev nD) : BodyObligationRel (dats (F := F) m hO 0 c) (defs₀ (F := F)) Variants.none () Set.univ (isOut4 m hO) (rel m hO c) := fun t => by
  rw [bigSep_W0, bigSep_W0, row m hO]
  exact triple_restated (body_at m hO c t) rfl .rfl fun _ => .rfl

/-- The data of the launch: each input keeps its block, the output meets `rel`. -/
abbrev rdat (hO : Ok m) (c : Dev nD) : RDat τ (Elt F) Unit ℕ (UR sig nD τ) ℕ (cfgU m hO) c := (dats m hO 0 c).toRRel (isOut4 m hO) (rel m hO c)

set_option backward.isDefEq.respectTransparency.types false in
/-- The launch: every run of the program ends with the arrays as `rdat` lets them be, and with every semaphore at zero. -/
theorem launched (hO : Ok m) : θ_run defs (onTc (τ := τ) (main (F := F))) (s₀ m ρ)
    (fun r => RDat.FramePost (cfgU m hO) (rdat m hO) (V m) r ∧ r.2.sem = fun _ => 0) :=
  RDat.θ_run_frameP (Q' := _) pcfgs (fun _ => adm m hO) (0 : Fin 1) launch0 defs₀ Variants.none (rdat m hO) m ρ main
    (hbody := fun c => (body_every m hO c).toRRel) (hshare := fun c => (dats m hO 0 c).share_full fun _ => rfl)
    (howed := fun _ _ => rfl) (V := V m) (hmain := main_upto m Variants.none) (hA := dats_A m hO) (hpf := V_tabs m)
    (hΦ := fun _ _ => rfl)

/-- The frame: every run ends with the arguments as they were, and with every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (by decide : main_arg0 ∈ Pipeline.restRefs sig spec0)).trans (V_kept m c _ (by decide)),
      ((h.1 c).2 main_arg1 (by decide : main_arg1 ∈ Pipeline.restRefs sig spec0)).trans (V_kept m c _ (by decide)),
      ((h.1 c).2 main_arg2 (by decide : main_arg2 ∈ Pipeline.restRefs sig spec0)).trans (V_kept m c _ (by decide)),
      ((h.1 c).2 main_arg3 (by decide : main_arg3 ∈ Pipeline.restRefs sig spec0)).trans (V_kept m c _ (by decide)),
      ((h.1 c).2 main_arg4 (by decide : main_arg4 ∈ Pipeline.restRefs sig spec0)).trans (V_kept m c _ (by decide)),
      ((h.1 c).2 main_arg5 (by decide : main_arg5 ∈ Pipeline.restRefs sig spec0)).trans (V_kept m c _ (by decide))⟩, h.2⟩)
    (launched m ρ hO)

end Cert.Kernel2Ideal.Used

end
-- ==== Proof.Experts.IdealRange.lean ====
module

public import proofs.«01_k».proof.Proof.Experts.IdealLaunch

/-! The tables' contents in the arguments: where every block's expert is one of the 32, the grid's index maps stay inside the
    weights. -/

@[expose] public section

set_option maxRecDepth 16384

noncomputable section

namespace Cert.Kernel2Ideal.Used

open Cert.Kernel2Ideal Cert.Kernel2Ideal.Gen
open Idealize.ShloMosaic Idealize.ShloMosaic.TcCoe
open Idealize.SL Idealize.SL.Sem

variable {F : FTy → Type} [FloatOps F]
variable (m : (ℓ : Loc nD τ sig) → Buf (Elt F) ℓ)

/-- The experts of the blocks, as the argument array holds them. -/
abbrev experts : S288.Idx → BitVec 32 := m (((0 : Dev nD) : Thread nD τ).loc main_arg0)
/-- The one-word array holding the count of used blocks. -/
abbrev counts : S1.Idx → BitVec 32 := m (((0 : Dev nD) : Thread nD τ).loc main_arg1)

/-- The first table is the argument itself. -/
theorem tabs_0 : (tabs m 0 : S288.Idx → BitVec 32) = experts m := V_kept m 0 main_arg0 (by decide)
/-- The second table is the argument itself. -/
theorem tabs_1 : (tabs m 1 : S1.Idx → BitVec 32) = counts m := V_kept m 0 main_arg1 (by decide)

/-- Every block's expert is one of the 32. -/
abbrev InRange : Prop := ∀ j : S288.Idx, (experts m j).toNat < 32

/-- A word read off the first table is some block's expert. -/
theorem word_eq (r : Rect S288) (h : r.shape.numel = 1) :
    (Pipeline.Prefetch.Contents.at (tabs m) 0 r h : BitVec 32) = experts m (r.emb (Shape.Idx.first (h.symm ▸ Nat.one_pos))) :=
  congrFun (tabs_0 m) _

/-- Block `i`'s place in the table. -/
abbrev place (i : grid0.Coords) : S288.Idx := fun a => ⟨(i 0).val, by fin_cases a; exact (i 0).isLt⟩

/-- The word that the index maps read at block `i` is block `i`'s expert. -/
theorem word_at (i : grid0.Coords) :
    (Pipeline.Prefetch.Contents.at (tabs m) 0 (Rect.unit (s := S288) (k0_off1 i) S1.size (k0_off1_inb i)) numel1_S1 : BitVec 32)
      = experts m (place i) := by
  refine (word_eq m _ _).trans (congrArg (experts m) (funext fun a => Fin.ext ?_))
  fin_cases a
  have hi : (i 0).val < 288 := (i 0).isLt
  show (Scalar.indexCast (BitVec.ofNat 32 (i 0).val)).toNat + 1 * 0 = (i 0).val
  rw [Nat.mul_zero, Nat.add_zero]
  show (BitVec.ofNat 32 (i 0).val).toNat = (i 0).val
  exact (BitVec.toNat_ofNat _ _).trans (Nat.mod_eq_of_lt (by omega))

/-- Where the experts are in range, the index maps stay inside the weights. -/
theorem ok (h : InRange m) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have hw := (congrArg BitVec.toNat (word_at m i)).trans_lt (h (place i))
    fin_cases a
    · exact (Nat.mul_one _).trans_le hw
    · exact le_refl _
    · exact le_refl _

end Cert.Kernel2Ideal.Used

end
-- ==== Proof.Experts.Target.lean ====
module

public import Idealize.ShloMosaic.Lib.Pointwise

/-! What the expert call computes, as a closed form of its arguments: the expert's gated feed-forward layer, one row at a time, laid
    out in four slabs. -/

@[expose] public section

noncomputable section

namespace Cert.Proof.Experts

open Idealize.ShloMosaic

/-- The rows' array. -/
abbrev Rows := (⟨2, ![73984, 2048]⟩ : Shape).Idx → EReal
/-- The experts' gate or up matrices. -/
abbrev WIn := (⟨3, ![32, 2048, 512]⟩ : Shape).Idx → EReal
/-- The experts' down matrices. -/
abbrev WOut := (⟨3, ![32, 512, 2048]⟩ : Shape).Idx → EReal
/-- The experts of the blocks. -/
abbrev BlockExperts := (⟨1, ![288]⟩ : Shape).Idx → BitVec 32

/-- `x / (1 + exp (-x))`. -/
def silu (x : EReal) : EReal := x * Ideal.div 1 (1 + Ideal.exp (-x))

/-- Column `c` of slab `s` is this column of the row: the first 256 are of the row's first half, the others of its second half. -/
def col (s : Fin 4) (c : Fin 512) : Fin 2048 := ⟨c.val / 256 * 1024 + s.val * 256 + c.val % 256, by omega⟩

/-- Expert `e`'s hidden layer of a row, at lane `f`. -/
def hidden (row : Fin 2048 → EReal) (w : WIn) (e : Fin 32) (f : Fin 512) : EReal := ∑ k : Fin 2048, row k * w (ix3 e k f)

/-- Expert `e`'s gated hidden layer of a row, at lane `f`. -/
def gated (row : Fin 2048 → EReal) (wg wu : WIn) (e : Fin 32) (f : Fin 512) : EReal := silu (hidden row wg e f) * hidden row wu e f

/-- Expert `e`'s output of a row, at column `d`. -/
def expert (row : Fin 2048 → EReal) (wg wu : WIn) (wd : WOut) (e : Fin 32) (d : Fin 2048) : EReal :=
  ∑ f : Fin 512, gated row wg wu e f * wd (ix3 e f d)

/-- The expert of block `b`. -/
def expertOf (be : BlockExperts) (b : Fin 288) : Fin 32 := ⟨(be (fun a => ⟨b.val, by fin_cases a; exact b.isLt⟩)).toNat % 32, by omega⟩

/-- The result, slab by slab: each row under the expert of its block of 256 rows (zero in the last, unused block). -/
def result (be : BlockExperts) (x : Rows) (wg wu : WIn) (wd : WOut) : (⟨3, ![4, 73984, 512]⟩ : Shape).Idx → EReal := fun i =>
  if h : (i 1).val / 256 < 288 then
    expert (fun k => x (ix2 (i 1) k)) wg wu wd (expertOf be ⟨(i 1).val / 256, h⟩) (col (i 0) (i 2))
  else 0

end Cert.Proof.Experts

end
-- ==== Proof.Experts.Block.lean ====
module

public import proofs.«01_k».proof.Proof.Experts.IdealRun
public import proofs.«01_k».proof.Proof.Experts.Target
public import Idealize.ShloMosaic.Lib.Pipeline.ValueKit
public import Idealize.ShloMosaic.Lib.Pointwise

/-! One block of 256 rows over the extended reals: what the body stores is the expert's feed-forward layer of the block's rows. -/

@[expose] public section

set_option maxRecDepth 16384

noncomputable section

namespace Cert.Proof.Experts

open Cert.Kernel2Ideal Cert.Kernel2Ideal.Gen Cert.Kernel2Ideal.Used Idealize.ShloMosaic Idealize.ShloMosaic.TcCoe Idealize.SL.Sem

section Terms
variable {F : FTy → Type} [FloatOps F]

/-- The block's rows put together from the halves of its four slabs. -/
def joined (v4 v6 v8 v10 : Vec F S1x256x512 .bf16) : FVec F S256x2048 .bf16 :=
  have h0 : FVec F S256x512 .bf16 := shapeCast S256x512 v4 shapeCasts_S1x256x512_S256x512
  have h1 : FVec F S256x512 .bf16 := shapeCast S256x512 v6 shapeCasts_S1x256x512_S256x512
  have h2 : FVec F S256x512 .bf16 := shapeCast S256x512 v8 shapeCasts_S1x256x512_S256x512
  have h3 : FVec F S256x512 .bf16 := shapeCast S256x512 v10 shapeCasts_S1x256x512_S256x512
  truncf .bf16 (concatenate S256x2048 1
    [⟨S256x1024, extf .f32 (concatenate S256x1024 1
      [⟨S256x256, extractStridedSlice S256x256 ![0, 0] h0 slices_S256x512_o0_0_S256x256⟩,
       ⟨S256x256, extractStridedSlice S256x256 ![0, 0] h1 slices_S256x512_o0_0_S256x256⟩,
       ⟨S256x256, extractStridedSlice S256x256 ![0, 0] h2 slices_S256x512_o0_0_S256x256⟩,
       ⟨S256x256, extractStridedSlice S256x256 ![0, 0] h3 slices_S256x512_o0_0_S256x256⟩]
      concatenates_S256x256_S256x256_S256x256_S256x256_S256x1024_d1) bitsLt_bf16_f32⟩,
     ⟨S256x1024, extf .f32 (concatenate S256x1024 1
      [⟨S256x256, extractStridedSlice S256x256 ![0, 256] h0 slices_S256x512_o0_256_S256x256⟩,
       ⟨S256x256, extractStridedSlice S256x256 ![0, 256] h1 slices_S256x512_o0_256_S256x256⟩,
       ⟨S256x256, extractStridedSlice S256x256 ![0, 256] h2 slices_S256x512_o0_256_S256x256⟩,
       ⟨S256x256, extractStridedSlice S256x256 ![0, 256] h3 slices_S256x512_o0_256_S256x256⟩]
      concatenates_S256x256_S256x256_S256x256_S256x256_S256x1024_d1) bitsLt_bf16_f32⟩]
    concatenates_S256x1024_S256x1024_S256x2048_d1) bitsLt_bf16_f32

/-- The hidden layer of the block's rows under one matrix. -/
def into (a : FVec F S256x2048 .bf16) (w : Vec F S1x2048x512 .bf16) : FVec F S256x512 .f32 :=
  matmul dot_S256x2048_S2048x512_S256x512_1_0_0_1_n_n none a (shapeCast S2048x512 w shapeCasts_S1x2048x512_S2048x512)
    (constant S256x512 .f32 0x00000000#32)

/-- The gated hidden layer. -/
def gate (g u : FVec F S256x512 .f32) : FVec F S256x512 .bf16 := truncf .bf16 (mulf (mulf g (logistic g)) u) bitsLt_bf16_f32

/-- The output layer. -/
def outof (h : FVec F S256x512 .bf16) (w : Vec F S1x512x2048 .bf16) : FVec F S256x2048 .bf16 :=
  truncf .bf16 (matmul dot_S256x512_S512x2048_S256x2048_1_0_0_1_n_n none h (shapeCast S512x2048 w shapeCasts_S1x512x2048_S512x2048)
    (constant S256x2048 .f32 0x00000000#32)) bitsLt_bf16_f32

/-- The body's rows in these terms. -/
theorem pay5_eq (v4 v6 v8 v10 : Vec F S1x256x512 .bf16) (wg wu : Vec F S1x2048x512 .bf16) (wd : Vec F S1x512x2048 .bf16) :
    k0_pay5 v4 v6 v8 v10 wg wu wd
      = outof (gate (into (joined v4 v6 v8 v10) wg) (into (joined v4 v6 v8 v10) wu)) wd := rfl

end Terms

theorem into_apply (a : FVec Ideal S256x2048 .bf16) (w : Vec Ideal S1x2048x512 .bf16) (r : Fin 256) (f : Fin 512) :
    into a w (ix2 r f) = ∑ k : Fin 2048, a (ix2 r k) * w (ix3 0 k f) := by
  pointwise [into]

theorem gate_apply (g u : FVec Ideal S256x512 .f32) (r : Fin 256) (f : Fin 512) :
    gate g u (ix2 r f) = silu (g (ix2 r f)) * u (ix2 r f) := by
  unfold silu
  pointwise [gate]
  rfl

theorem outof_apply (h : FVec Ideal S256x512 .bf16) (w : Vec Ideal S1x512x2048 .bf16) (r : Fin 256) (d : Fin 2048) :
    outof h w (ix2 r d) = ∑ f : Fin 512, h (ix2 r f) * w (ix3 0 f d) := by
  pointwise [outof]

/-- A slab of a block of four, at a row and a column. -/
theorem slab_read (x : Vec Ideal S4x256x512 .bf16) (s : Fin 4) (inb) (r : Fin 256) (c : Fin 512) :
    View.ld x (Rect.unit (s := S4x256x512) ![s.val, 0, 0] S1x256x512.size inb) (ix3 0 r c) = x (ix3 s r c) := by
  refine congrArg x (funext fun a => Fin.ext ?_)
  fin_cases a
  · show s.val + 1 * 0 = s.val; omega
  · show 0 + 1 * r.val = r.val; omega
  · show 0 + 1 * c.val = c.val; omega

/-- A row of a block of four slabs. -/
def rowOf (x : Vec Ideal S4x256x512 .bf16) (r : Fin 256) (k : Fin 2048) : EReal :=
  x (ix3 (⟨k.val % 1024 / 256, by omega⟩ : Fin 4) r (⟨k.val / 1024 * 256 + k.val % 256, by omega⟩ : Fin 512))

theorem rowOf_eq (x : Vec Ideal S4x256x512 .bf16) (r : Fin 256) (k : Fin 2048) (s : Fin 4) (c : Fin 512)
    (hs : s.val = k.val % 1024 / 256) (hc : c.val = k.val / 1024 * 256 + k.val % 256) : x (ix3 s r c) = rowOf x r k :=
  congrArg₂ (fun s c => x (ix3 s r c)) (Fin.ext hs) (Fin.ext hc)

/-- The joined rows of four slabs are the rows of their block. -/
theorem joined_apply (x : Vec Ideal S4x256x512 .bf16) (r : Fin 256) (k : Fin 2048) (v0 v1 v2 v3 : Vec Ideal S1x256x512 .bf16)
    (e0 : ∀ c, v0 (ix3 0 r c) = x (ix3 0 r c)) (e1 : ∀ c, v1 (ix3 0 r c) = x (ix3 1 r c))
    (e2 : ∀ c, v2 (ix3 0 r c) = x (ix3 2 r c)) (e3 : ∀ c, v3 (ix3 0 r c) = x (ix3 3 r c)) :
    joined v0 v1 v2 v3 (ix2 r k) = rowOf x r k := by
  have hk := k.isLt
  pointwise [joined]
  split_ifs <;> first
    | (refine (e0 _).trans (rowOf_eq x r k 0 _ ?_ ?_) <;> first | (show 0 = k.val % 1024 / 256; omega) | (try dsimp only; omega))
    | (refine (e1 _).trans (rowOf_eq x r k 1 _ ?_ ?_) <;> first | (show 1 = k.val % 1024 / 256; omega) | (try dsimp only; omega))
    | (refine (e2 _).trans (rowOf_eq x r k 2 _ ?_ ?_) <;> first | (show 2 = k.val % 1024 / 256; omega) | (try dsimp only; omega))
    | (refine (e3 _).trans (rowOf_eq x r k 3 _ ?_ ?_) <;> first | (show 3 = k.val % 1024 / 256; omega) | (try dsimp only; omega))

/-- Equal columns of a row. -/
theorem at_col (v : FVec Ideal S256x2048 .bf16) (r : Fin 256) (a : Fin 2048) (s : Fin 4) (c : Fin 512)
    (h : a.val = c.val / 256 * 1024 + s.val * 256 + c.val % 256) : v (ix2 r a) = v (ix2 r (col s c)) :=
  congrArg (fun a => v (ix2 r a)) (Fin.ext h)

section
variable (v : FVec Ideal S256x2048 .bf16) (r : Fin 256) (c : Fin 512)

/-- The four stored slabs, at a row and a column. -/
theorem stored_0 : k0_pay1 v (ix3 0 r c) = v (ix2 r (col 0 c)) := by
  have hc := c.isLt
  unfold_payloads; pointwise
  split_ifs <;> refine at_col v r _ 0 c ?_ <;> simp only [Fin.val_zero] <;> omega
@[inherit_doc stored_0] theorem stored_1 : k0_pay2 v (ix3 0 r c) = v (ix2 r (col 1 c)) := by
  have hc := c.isLt
  unfold_payloads; pointwise
  split_ifs <;> refine at_col v r _ 1 c ?_ <;> show _ = c.val / 256 * 1024 + 1 * 256 + c.val % 256 <;> dsimp only <;> omega
@[inherit_doc stored_0] theorem stored_2 : k0_pay3 v (ix3 0 r c) = v (ix2 r (col 2 c)) := by
  have hc := c.isLt
  unfold_payloads; pointwise
  split_ifs <;> refine at_col v r _ 2 c ?_ <;> show _ = c.val / 256 * 1024 + 2 * 256 + c.val % 256 <;> dsimp only <;> omega
@[inherit_doc stored_0] theorem stored_3 : k0_pay4 v (ix3 0 r c) = v (ix2 r (col 3 c)) := by
  have hc := c.isLt
  unfold_payloads; pointwise
  split_ifs <;> refine at_col v r _ 3 c ?_ <;> show _ = c.val / 256 * 1024 + 3 * 256 + c.val % 256 <;> dsimp only <;> omega
end

/-- A stored slab `o`, at the place of the block's element `(s, r, c)` that it holds. -/
theorem slab_at (v : FVec Ideal S256x2048 .bf16) (p : FVec Ideal S1x256x512 .bf16) (o : Fin 4) (inb)
    (hp : ∀ (r : Fin 256) (c : Fin 512), p (ix3 0 r c) = v (ix2 r (col o c))) (s : Fin 4) (r : Fin 256) (c : Fin 512)
    (x : (Rect.unit (s := S4x256x512) ![o.val, 0, 0] S1x256x512.size inb).shape.Idx)
    (hx : (Rect.unit (s := S4x256x512) ![o.val, 0, 0] S1x256x512.size inb).emb x = ix3 s r c) : p x = v (ix2 r (col s c)) := by
  have h0 := congrArg (fun f : S4x256x512.Idx => (f 0).val) hx
  have h1 := congrArg (fun f : S4x256x512.Idx => (f 1).val) hx
  have h2 := congrArg (fun f : S4x256x512.Idx => (f 2).val) hx
  simp only [Rect.emb_apply] at h0 h1 h2
  change o.val + 1 * (x 0).val = s.val at h0
  change 0 + 1 * (x 1).val = r.val at h1
  change 0 + 1 * (x 2).val = c.val at h2
  have hx0 : (x 0).val < 1 := (x 0).isLt
  obtain rfl : o = s := Fin.ext (by omega)
  have : x = ix3 0 r c := by
    funext a
    fin_cases a
    · exact Subsingleton.elim (α := Fin 1) _ _
    · exact Fin.ext (show (x 1).val = r.val by omega)
    · exact Fin.ext (show (x 2).val = c.val by omega)
  rw [this]
  exact hp r c

/-- The four slabs side by side, at any element. -/
theorem slabs_apply (v : FVec Ideal S256x2048 .bf16) (s : Fin 4) (r : Fin 256) (c : Fin 512) :
    View.canon (slabsOf v) (ix3 s r c) = v (ix2 r (col s c)) := by
  refine View.canon_eq_of_allAt _ _ _ (slabs_cover v _) ?_
  refine View.allAt_cons _ _ _ (fun x hx => slab_at v _ 3 _ (stored_3 v) s r c x hx) ?_
  refine View.allAt_cons _ _ _ (fun x hx => slab_at v _ 2 _ (stored_2 v) s r c x hx) ?_
  refine View.allAt_cons _ _ _ (fun x hx => slab_at v _ 1 _ (stored_1 v) s r c x hx) ?_
  exact View.allAt_cons _ _ _ (fun x hx => slab_at v _ 0 _ (stored_0 v) s r c x hx) (View.allAt_nil _ _)

/-- A whole matrix read off its block. -/
theorem whole_in (w : Vec Ideal S1x2048x512 .bf16) (inb) :
    View.ld w (Rect.unit (s := S1x2048x512) ![0, 0, 0] S1x2048x512.size inb) = w := by
  funext i
  refine congrArg w (funext fun a => Fin.ext ?_)
  fin_cases a <;> exact (Nat.zero_add _).trans (Nat.one_mul _)
@[inherit_doc whole_in] theorem whole_out (w : Vec Ideal S1x512x2048 .bf16) (inb) :
    View.ld w (Rect.unit (s := S1x512x2048) ![0, 0, 0] S1x512x2048.size inb) = w := by
  funext i
  refine congrArg w (funext fun a => Fin.ext ?_)
  fin_cases a <;> exact (Nat.zero_add _).trans (Nat.one_mul _)

/-- The block that the body stores, at any element: the expert's output of the block's row, its matrices the ones in the blocks. -/
theorem block_apply (x : Vec Ideal S4x256x512 .bf16) (wg wu : Vec Ideal S1x2048x512 .bf16) (wd : Vec Ideal S1x512x2048 .bf16)
    (row : Fin 2048 → EReal) (Wg Wu : WIn) (Wd : WOut) (e : Fin 32) (s : Fin 4) (r : Fin 256) (c : Fin 512)
    (hx : ∀ k, rowOf x r k = row k) (hg : ∀ k f, wg (ix3 0 k f) = Wg (ix3 e k f)) (hu : ∀ k f, wu (ix3 0 k f) = Wu (ix3 e k f))
    (hd : ∀ f d, wd (ix3 0 f d) = Wd (ix3 e f d)) :
    blockOf x wg wu wd (ix3 s r c) = expert row Wg Wu Wd e (col s c) := by
  unfold blockOf
  rw [slabs_apply]
  unfold rowsOf
  rw [pay5_eq, outof_apply]
  unfold expert
  refine Finset.sum_congr rfl fun f _ => ?_
  rw [gate_apply, into_apply, into_apply]
  refine congrArg₂ (· * ·) (congrArg₂ (· * ·) (congrArg silu ?_) ?_) ?_
  · exact Finset.sum_congr rfl fun k _ => congrArg₂ (· * ·) ((joined_apply x r k _ _ _ _ (slab_read x 0 _ r) (slab_read x 1 _ r) (slab_read x 2 _ r) (slab_read x 3 _ r)).trans (hx k)) ((congrFun (whole_in wg _) _).trans (hg k f))
  · exact Finset.sum_congr rfl fun k _ => congrArg₂ (· * ·) ((joined_apply x r k _ _ _ _ (slab_read x 0 _ r) (slab_read x 1 _ r) (slab_read x 2 _ r) (slab_read x 3 _ r)).trans (hx k)) ((congrFun (whole_in wu _) _).trans (hu k f))
  · exact (congrFun (whole_out wd _) _).trans (hd f (col s c))

end Cert.Proof.Experts

end
-- ==== Proof.Experts.Host.lean ====
module

public import proofs.«01_k».proof.Proof.Experts.IdealRange
public import proofs.«01_k».proof.Proof.Experts.Block
public import Idealize.ShloMosaic.Lib.Pipeline.ValueKit
public import Idealize.ShloMosaic.Lib.Pointwise

/-! What the expert kernel's host code puts in the windows' arrays: the rows in four slabs, the weights as they are. -/

@[expose] public section

set_option maxRecDepth 16384

noncomputable section

namespace Cert.Proof.Experts

open Cert.Kernel2Ideal Cert.Kernel2Ideal.Gen Cert.Kernel2Ideal.Used
open Idealize.ShloMosaic Idealize.ShloMosaic.TcCoe Idealize.SL.Sem

section Terms
variable {F : FTy → Type} [FloatOps F]

/-- The rows in four slabs. -/
def slabbed (x : FVec F S73984x2048 .f32) : FVec F S4x73984x512 .bf16 :=
  truncf .bf16 (shapeCast S4x73984x512 (transpose S4x73984x2x256 [2, 0, 1, 3]
    (shapeCast S73984x2x4x256 x shapeCasts_S73984x2048_S73984x2x4x256) transposes_S73984x2x4x256_S4x73984x2x256_2_0_1_3)
    shapeCasts_S4x73984x2x256_S4x73984x512) bitsLt_bf16_f32

variable (m : (ℓ : Loc nD τ sig) → Buf (Elt F) ℓ)

theorem V_rows (c : Dev nD) : V m c main_v3 = slabbed (m ((c : Thread nD τ).loc main_arg2)) := by
  unfold V
  simp only [hostOps0]
  after_results
  rfl

theorem V_gate (c : Dev nD) : V m c main_v4 = truncf .bf16 (m ((c : Thread nD τ).loc main_arg3) : FVec F S32x2048x512 .f32) bitsLt_bf16_f32 := by
  unfold V
  simp only [hostOps0]
  after_results

theorem V_up (c : Dev nD) : V m c main_v5 = truncf .bf16 (m ((c : Thread nD τ).loc main_arg4) : FVec F S32x2048x512 .f32) bitsLt_bf16_f32 := by
  unfold V
  simp only [hostOps0]
  after_results

theorem V_down (c : Dev nD) : V m c main_v6 = truncf .bf16 (m ((c : Thread nD τ).loc main_arg5) : FVec F S32x512x2048 .f32) bitsLt_bf16_f32 := by
  unfold V
  simp only [hostOps0]
  after_results

end Terms

/-- The slabs at an element: the row's element of that slab and column. -/
theorem slabbed_apply (x : FVec Ideal S73984x2048 .f32) (s : Fin 4) (r : Fin 73984) (h : Fin 2) (c : Fin 256) :
    slabbed x (ix3 s r ⟨h.val * 256 + c.val, by omega⟩) = x (ix2 r ⟨h.val * 1024 + s.val * 256 + c.val, by omega⟩) := by
  pointwise [slabbed]

end Cert.Proof.Experts

end
-- ==== Proof.Experts.Array.lean ====
module

public import proofs.«01_k».proof.Proof.Experts.Host
public import Idealize.ShloMosaic.Lib.Pipeline.ArrRel

/-! What the expert kernel leaves in its result: in the rows of the blocks in use, the closed form. -/

@[expose] public section

set_option maxRecDepth 16384

noncomputable section

namespace Cert.Proof.Experts

open Cert.Kernel2Ideal Cert.Kernel2Ideal.Gen Cert.Kernel2Ideal.Used
open Idealize.ShloMosaic Idealize.ShloMosaic.TcCoe Idealize.SL.Sem
open Idealize.ShloMosaic.Pipeline (Dat RDat Cfg)

variable (m : (ℓ : Loc nD τ sig) → Buf (Elt Ideal) ℓ) (hO : Ok m) (c : Dev nD)

/-- A grid point is its one coordinate. -/
theorem coords_val : ∀ t : Fin grid0.N, (grid0.coords t 0).val = t.val := by decide +kernel

/-- Where the rows' and the result's blocks lie. -/
theorem map0 : ∀ t : Fin grid0.N, cc0_transform_0 (grid0.coords t) = ![0, t.val, 0] := by decide +kernel
@[inherit_doc map0] theorem map4 : ∀ t : Fin grid0.N, cc0_transform_4 (grid0.coords t) = ![0, t.val, 0] := by decide +kernel

/-- The expert of a grid point. -/
def pointExpert (h : InRange m) (t : Fin grid0.N) : Fin 32 := ⟨(experts m (place (grid0.coords t))).toNat, h _⟩

theorem index0 (t : Fin (cfgU m hO).N) (a : Fin 3) : ((cfgU m hO).win 0).index t a = (![0, t.val, 0] : Fin 3 → Nat) a := congrFun (map0 t) a
theorem index4 (t : Fin (cfgU m hO).N) (a : Fin 3) : ((cfgU m hO).win 4).index t a = (![0, t.val, 0] : Fin 3 → Nat) a := congrFun (map4 t) a

/-- Where the matrices' blocks lie: at the point's expert. -/
theorem word_index (h : InRange m) (t : Fin grid0.N) :
    (![(Pipeline.Prefetch.Contents.at (tabs m) 0 (Rect.unit (s := S288) (k0_off1 (grid0.coords t)) S1.size (k0_off1_inb (grid0.coords t))) numel1_S1 : BitVec 32).toNat, 0, 0] : Fin 3 → Nat)
      = ![(pointExpert m h t).val, 0, 0] := by
  have e := congrArg BitVec.toNat (word_at m (grid0.coords t))
  exact congrArg (fun n : Nat => (![n, 0, 0] : Fin 3 → Nat)) e
theorem index1 (h : InRange m) (t : Fin (cfgU m hO).N) (a : Fin 3) :
    ((cfgU m hO).win 1).index t a = (![(pointExpert m h t).val, 0, 0] : Fin 3 → Nat) a := congrFun (word_index m h t) a
theorem index2 (h : InRange m) (t : Fin (cfgU m hO).N) (a : Fin 3) :
    ((cfgU m hO).win 2).index t a = (![(pointExpert m h t).val, 0, 0] : Fin 3 → Nat) a := congrFun (word_index m h t) a
theorem index3 (h : InRange m) (t : Fin (cfgU m hO).N) (a : Fin 3) :
    ((cfgU m hO).win 3).index t a = (![(pointExpert m h t).val, 0, 0] : Fin 3 → Nat) a := congrFun (word_index m h t) a

/-- A row of a grid point's block, in the array. -/
def blockRow (t : Fin grid0.N) (r : Fin 256) : Fin 73984 := ⟨t.val * 256 + r.val, by have : t.val < 288 := t.isLt; omega⟩

/-- The blocks of a grid point, element by element. -/
theorem blk0_apply (t : Fin (cfgU m hO).N) (s : Fin 4) (r : Fin 256) (k : Fin 512) :
    blk m hO c 0 t (ix3 s r k) = V m c main_v3 (ix3 s (blockRow t r) k) := by
  unfold blk
  refine congrArg (V m c main_v3) (funext fun a => Fin.ext ?_)
  fin_cases a
  · blk_simp; exact (congrArg (· * 4 + s.val) (index0 m hO t 0)).trans (by show 0 * 4 + s.val = s.val; omega)
  · blk_simp; exact congrArg (· * 256 + r.val) (index0 m hO t 1)
  · blk_simp; exact (congrArg (· * 512 + k.val) (index0 m hO t 2)).trans (by show 0 * 512 + k.val = k.val; omega)

theorem blk1_apply (h : InRange m) (t : Fin (cfgU m hO).N) (k : Fin 2048) (f : Fin 512) :
    blk m hO c 1 t (ix3 0 k f) = V m c main_v4 (ix3 (pointExpert m h t) k f) := by
  unfold blk
  refine congrArg (V m c main_v4) (funext fun a => Fin.ext ?_)
  fin_cases a
  · blk_simp; exact index1 m hO h t 0
  · blk_simp; exact (congrArg (· * 2048 + k.val) (index1 m hO h t 1)).trans (by show 0 * 2048 + k.val = k.val; omega)
  · blk_simp; exact (congrArg (· * 512 + f.val) (index1 m hO h t 2)).trans (by show 0 * 512 + f.val = f.val; omega)

theorem blk2_apply (h : InRange m) (t : Fin (cfgU m hO).N) (k : Fin 2048) (f : Fin 512) :
    blk m hO c 2 t (ix3 0 k f) = V m c main_v5 (ix3 (pointExpert m h t) k f) := by
  unfold blk
  refine congrArg (V m c main_v5) (funext fun a => Fin.ext ?_)
  fin_cases a
  · blk_simp; exact index2 m hO h t 0
  · blk_simp; exact (congrArg (· * 2048 + k.val) (index2 m hO h t 1)).trans (by show 0 * 2048 + k.val = k.val; omega)
  · blk_simp; exact (congrArg (· * 512 + f.val) (index2 m hO h t 2)).trans (by show 0 * 512 + f.val = f.val; omega)

theorem blk3_apply (h : InRange m) (t : Fin (cfgU m hO).N) (f : Fin 512) (d : Fin 2048) :
    blk m hO c 3 t (ix3 0 f d) = V m c main_v6 (ix3 (pointExpert m h t) f d) := by
  unfold blk
  refine congrArg (V m c main_v6) (funext fun a => Fin.ext ?_)
  fin_cases a
  · blk_simp; exact index3 m hO h t 0
  · blk_simp; exact (congrArg (· * 512 + f.val) (index3 m hO h t 1)).trans (by show 0 * 512 + f.val = f.val; omega)
  · blk_simp; exact (congrArg (· * 2048 + d.val) (index3 m hO h t 2)).trans (by show 0 * 2048 + d.val = d.val; omega)

end Cert.Proof.Experts

end
-- ==== Proof.Experts.Result.lean ====
module

public import proofs.«01_k».proof.Proof.Experts.Array

/-! The expert kernel's result in the rows of the blocks in use: the closed form. -/

@[expose] public section

set_option maxRecDepth 16384

noncomputable section

namespace Cert.Proof.Experts

open Cert.Kernel2Ideal Cert.Kernel2Ideal.Gen Cert.Kernel2Ideal.Used
open Idealize.ShloMosaic Idealize.ShloMosaic.TcCoe Idealize.SL.Sem
open Idealize.ShloMosaic.Pipeline (Dat RDat Cfg)

variable (m : (ℓ : Loc nD τ sig) → Buf (Elt Ideal) ℓ) (hO : Ok m) (c : Dev nD)

/-- A row of the rows' block at a grid point is a row of the argument. -/
theorem rowOf_block (t : Fin (cfgU m hO).N) (r : Fin 256) (k : Fin 2048) :
    rowOf (blk m hO c 0 t) r k = (m ((c : Thread nD τ).loc main_arg2) : Rows) (ix2 (blockRow t r) k) := by
  unfold rowOf
  rw [blk0_apply, V_rows]
  refine (congrArg (fun j => slabbed (F := Ideal) (m ((c : Thread nD τ).loc main_arg2)) (ix3 _ _ j)) (Fin.ext ?_)).trans
    ((slabbed_apply (m ((c : Thread nD τ).loc main_arg2)) ⟨k.val % 1024 / 256, by omega⟩ (blockRow t r) ⟨k.val / 1024, by omega⟩
      ⟨k.val % 256, by omega⟩).trans (congrArg (fun j => (m ((c : Thread nD τ).loc main_arg2) : Rows) (ix2 (blockRow t r) j)) (Fin.ext ?_)))
  · rfl
  · show k.val / 1024 * 1024 + k.val % 1024 / 256 * 256 + k.val % 256 = k.val
    omega

/-- A grid point's block holds its expert's output of its rows. -/
theorem outAt_apply (h : InRange m) (t : Fin (cfgU m hO).N) (s : Fin 4) (r : Fin 256) (k : Fin 512) :
    outAt m hO c t (ix3 s r k) = expert (fun x => (m ((c : Thread nD τ).loc main_arg2) : Rows) (ix2 (blockRow t r) x))
      (m ((c : Thread nD τ).loc main_arg3)) (m ((c : Thread nD τ).loc main_arg4)) (m ((c : Thread nD τ).loc main_arg5))
      (pointExpert m h t) (col s k) := by
  unfold outAt
  refine block_apply _ _ _ _ _ _ _ _ _ s r k (rowOf_block m hO c t r) (fun a f => ?_) (fun a f => ?_) (fun f d => ?_)
  · rw [blk1_apply m hO c h, V_gate]; rfl
  · rw [blk2_apply m hO c h, V_up]; rfl
  · rw [blk3_apply m hO c h, V_down]; rfl

/-- The result's window is written back at every point. -/
theorem flushes (t : Fin (cfgU m hO).N) : ((cfgU m hO).win 4).flush t = true :=
  (Pipeline.Window.flushOf_reads cc0_transform_4 reads0_4 hreads0_4 0 (by decide) (by decide)
    (Pipeline.Window.sep_of_coord cc0_transform_4 0 1 (fun _ => rfl) (by decide)) (P := 1) (m := 0) (by decide) rfl t).mpr (Nat.mod_one _)

/-- Where an element of the result's block lies in the array. -/
theorem place4 (t : Fin (cfgU m hO).N) (y : S4x256x512.Idx) :
    (((cfgU m hO).win 4).blk t).view.emb y = (ix3 (y 0 : Fin 4) (blockRow t (y 1)) (y 2 : Fin 512) : S4x73984x512.Idx) := by
  funext a
  refine Fin.ext ?_
  fin_cases a
  · blk_simp; exact (congrArg (· * 4 + (y 0).val) (index4 m hO t 0)).trans (by show 0 * 4 + (y 0).val = (y 0).val; omega)
  · blk_simp; exact congrArg (· * 256 + (y 1).val) (index4 m hO t 1)
  · blk_simp; exact (congrArg (· * 512 + (y 2).val) (index4 m hO t 2)).trans (by show 0 * 512 + (y 2).val = (y 2).val; omega)

/-- The closed form at an element of a grid point's block. -/
theorem result_at (h : InRange m) (x : Rows) (wg wu : WIn) (wd : WOut) (t : Fin grid0.N) (s : Fin 4) (r : Fin 256) (k : Fin 512) :
    result (experts m) x wg wu wd (ix3 s (blockRow t r) k) = expert (fun d => x (ix2 (blockRow t r) d)) wg wu wd (pointExpert m h t) (col s k) := by
  have ht : t.val < 288 := t.isLt
  have hq : (t.val * 256 + r.val) / 256 = t.val := by omega
  have hb : (t.val * 256 + r.val) / 256 < 288 := by omega
  unfold result
  refine (dif_pos hb).trans ?_
  refine congrArg (fun e => expert (fun d => x (ix2 (blockRow t r) d)) wg wu wd e (col s k)) (Fin.ext ?_)
  have hp : (fun a => ⟨(t.val * 256 + r.val) / 256, by fin_cases a; exact hb⟩ : S288.Idx) = place (grid0.coords t) := by
    funext a
    fin_cases a
    exact Fin.ext (hq.trans (coords_val t).symm)
  show (experts m (fun a => ⟨(t.val * 256 + r.val) / 256, _⟩)).toNat % 32 = (experts m (place (grid0.coords t))).toNat
  rw [hp, Nat.mod_eq_of_lt (h _)]

/-- What a block in use holds, at the array's element under its element `y`. -/
theorem used_at (h : InRange m) (u : Fin grid0.N) (y : S4x256x512.Idx) (i : S4x73984x512.Idx)
    (hi : i = (ix3 (y 0 : Fin 4) (blockRow u (y 1)) (y 2 : Fin 512) : S4x73984x512.Idx)) (X : S4x256x512.Idx → EReal)
    (hX : isUsed (grid0.coords u) (count m) → X = outAt m hO c u)
    (hu : ∀ v : Fin grid0.N, v.val = (i 1).val / 256 → isUsed (grid0.coords v) (count m)) :
    X y = result (experts m) (m ((c : Thread nD τ).loc main_arg2)) (m ((c : Thread nD τ).loc main_arg3))
          (m ((c : Thread nD τ).loc main_arg4)) (m ((c : Thread nD τ).loc main_arg5)) i := by
  have hy1 : (y 1).val < 256 := (y 1).isLt
  have hx := hX (hu u (by
    rw [hi]
    show u.val = (u.val * 256 + (y 1).val) / 256
    omega))
  have hy : y = ix3 (y 0 : Fin 4) (y 1 : Fin 256) (y 2 : Fin 512) := by
    funext a; fin_cases a <;> rfl
  refine (congrFun hx y).trans ((congrArg _ hy).trans ((outAt_apply m hO c h u (y 0) (y 1) (y 2)).trans ?_))
  rw [hi]
  exact (result_at m h _ _ _ _ u (y 0) (y 1) (y 2)).symm

/-- THE RESULT after a run, at an element of a block in use. -/
theorem result_used (h : InRange m) (r : PUnit × MemSt nD τ sig (Elt Ideal)) (hr : RDat.FramePost (cfgU m hO) (rdat m hO) (V m) r)
    (i : S4x73984x512.Idx) (t : Fin grid0.N) (ht : t.val = (i 1).val / 256) (hu : isUsed (grid0.coords t) (count m)) :
    (r.2.mem ((c : Thread nD τ).loc main_v7) : S4x73984x512.Idx → EReal) i
      = result (experts m) (m ((c : Thread nD τ).loc main_arg2)) (m ((c : Thread nD τ).loc main_arg3))
          (m ((c : Thread nD τ).loc main_arg4)) (m ((c : Thread nD τ).loc main_arg5)) i := by
  obtain ⟨after, hL, hA⟩ := RDat.FramePost.exists_exact hr c
  have hi1 : (i 1).val < 73984 := (i 1).isLt
  have hi : i = (((cfgU m hO).win 4).blk t).view.emb (ix3 (i 0 : Fin 4) (⟨(i 1).val % 256, by omega⟩ : Fin 256) (i 2 : Fin 512) : S4x256x512.Idx) := by
    rw [place4]
    funext a
    fin_cases a
    · rfl
    · exact Fin.ext (show (i 1).val = t.val * 256 + (i 1).val % 256 by omega)
    · rfl
  have key := Dat.arrAt_forall_of_flushed ((rdat m hO c).withAfter after) 4
    (fun (i : S4x73984x512.Idx) (v : EReal) => (∀ u : Fin grid0.N, u.val = (i 1).val / 256 → isUsed (grid0.coords u) (count m)) →
      v = result (experts m) (m ((c : Thread nD τ).loc main_arg2)) (m ((c : Thread nD τ).loc main_arg3))
          (m ((c : Thread nD τ).loc main_arg4)) (m ((c : Thread nD τ).loc main_arg5)) i)
    (fun u hf y => used_at m hO c h u y _ (place4 m hO u y) (after 4 u)
      ((dats m hO 0 c).toRRel_leaves (fgt := isOut4 m hO) (Rl := rel m hO c) (w := 4) rfl (hL 4 u hf)))
    (cfgU m hO).N t i t.isLt (flushes m hO t) (hi ▸ View.emb_mem_set _ _)
  refine (congrFun (hA 4) i).trans (key fun u e => ?_)
  obtain rfl : u = t := Fin.ext (e.trans ht.symm)
  exact hu

/-- The arguments after a run: as they were. -/
theorem args_kept (r : PUnit × MemSt nD τ sig (Elt Ideal)) (hr : RDat.FramePost (cfgU m hO) (rdat m hO) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 main_arg0 (by decide : main_arg0 ∈ Pipeline.restRefs sig spec0)).trans (V_kept m c _ (by decide)),
    ((hr c).2 main_arg1 (by decide : main_arg1 ∈ Pipeline.restRefs sig spec0)).trans (V_kept m c _ (by decide)),
    ((hr c).2 main_arg2 (by decide : main_arg2 ∈ Pipeline.restRefs sig spec0)).trans (V_kept m c _ (by decide)),
    ((hr c).2 main_arg3 (by decide : main_arg3 ∈ Pipeline.restRefs sig spec0)).trans (V_kept m c _ (by decide)),
    ((hr c).2 main_arg4 (by decide : main_arg4 ∈ Pipeline.restRefs sig spec0)).trans (V_kept m c _ (by decide)),
    ((hr c).2 main_arg5 (by decide : main_arg5 ∈ Pipeline.restRefs sig spec0)).trans (V_kept m c _ (by decide))⟩

/-- A block whose number is below the count is in use. -/
theorem used_of_below (t : Fin grid0.N) (n : BitVec 32) (h : IntOp.cmpi .slt (BitVec.ofNat 32 t.val) n = 1#1) : isUsed (grid0.coords t) n := by
  show Scalar.cmpi .ne (Scalar.extui (Scalar.cmpi .slt (BitVec.ofNat 32 (grid0.coords t 0).val) n) : BitVec 32) 0#32 = 1#1
  rw [coords_val, show Scalar.cmpi .slt (BitVec.ofNat 32 t.val) n = 1#1 from h]
  decide

/-- The count of used blocks is the second argument's one word. -/
theorem count_eq : count m = (counts m) (ix1 0) := by
  show (show S1.Idx → BitVec 32 from tabs m 1) _ = _
  rw [tabs_1]
  exact congrArg (counts m) (funext fun a => by fin_cases a; rfl)

end Cert.Proof.Experts

end
-- ==== Proof.Experts.Ref.lean ====
module

public import proofs.«01_k».proof.Proof.Gen.Reference2Ideal.Run
public import Idealize.ShloMosaic.Lib.Pointwise
public import proofs.«01_k».proof.Proof.Experts.Target

/-! What the reference of the expert call leaves in its result: the closed form. Each row's sum over all experts, weighted by zeros
    and a single one, is its own expert's. -/

@[expose] public section

set_option maxRecDepth 16384

noncomputable section

namespace Cert.Proof.Experts.Ref

open Cert.Reference2Ideal Cert.Reference2Ideal.Gen Cert.Reference2Ideal.Value Idealize.ShloMosaic Idealize.ShloMosaic.TcCoe Idealize.SL.Sem

section Terms
variable {F : FTy → Type} [FloatOps F]

/-- Every row against every expert's gate or up matrix. -/
def all (x : FVec F S73984x2048 .f32) (w : FVec F S32x2048x512 .f32) : FVec F S73984x32x512 .f32 :=
  Host.dotGeneral dot_S73984x2048_S32x2048x512_S73984x32x512_1_1_0_02_n_n none x w

/-- `1 / (1 + exp (-h))`, element by element. -/
def sigmoid (h : FVec F S73984x32x512 .f32) : FVec F S73984x32x512 .f32 :=
  Host.divf (broadcastInDim S73984x32x512 ![] bcast_S_S73984x32x512 (constant S_ .f32 0x3F800000#32))
    (addf (broadcastInDim S73984x32x512 ![] bcast_S_S73984x32x512 (constant S_ .f32 0x3F800000#32)) (Host.exp (Host.negf h)))

/-- One where the column is the block's expert, zero elsewhere; a last block of zeros. -/
def chosen (be : IVec S288 32) : FVec F S289x32 .f32 :=
  pad S289x32 ![0, 0] ![1, 0] ![0, 0] (uitofp .f32 (cmpi .eq (broadcastInDim S288x32 ![0, 1] bcast_S288x1_S288x32_0_1
    (broadcastInDim S288x1 ![0] bcast_S288_S288x1_0 be)) (broadcastInDim S288x32 ![0, 1] bcast_S1x32_S288x32_0_1 (iotaInDim S1x32 32 1))))
    (sitofp .f32 (constantI S_ 32 0#32)) pads_S288x32_S289x32_010_000 h_S_

/-- The rows' weights: each block's, for each of its 256 rows. -/
def rowWeights (w : FVec F S289x32 .f32) : FVec F S73984x32 .f32 :=
  shapeCast S73984x32 (broadcastInDim S289x256x32 ![0, 2] bcast_S289x32_S289x256x32_0_2 w) shapeCasts_S289x256x32_S73984x32

/-- The weights beside the lanes. -/
def spread (w : FVec F S73984x32 .f32) : FVec F S73984x32x512 .f32 :=
  broadcastInDim S73984x32x512 ![0, 1, 2] bcast_S73984x32x1_S73984x32x512_0_1_2 (broadcastInDim S73984x32x1 ![0, 1] bcast_S73984x32_S73984x32x1_0_1 w)

/-- The rows out of the experts, in four slabs. -/
def out (a : FVec F S73984x32x512 .f32) (wd : FVec F S32x512x2048 .f32) : FVec F S4x73984x512 .bf16 :=
  truncf .bf16 (shapeCast S4x73984x512 (transpose S4x73984x2x256 [2, 0, 1, 3] (shapeCast S73984x2x4x256
    (Host.dotGeneral dot_S73984x32x512_S32x512x2048_S73984x2048_12_01_0_2_n_n none a wd)
    shapeCasts_S73984x2048_S73984x2x4x256) transposes_S73984x2x4x256_S4x73984x2x256_2_0_1_3) shapeCasts_S4x73984x2x256_S4x73984x512)
    bitsLt_bf16_f32

/-- The reference's result, of its arguments. -/
def whole (be : IVec S288 32) (x : FVec F S73984x2048 .f32) (wg wu : FVec F S32x2048x512 .f32) (wd : FVec F S32x512x2048 .f32) :
    FVec F S4x73984x512 .bf16 :=
  out (mulf (mulf (mulf (all x wg) (sigmoid (all x wg))) (all x wu)) (spread (rowWeights (chosen be)))) wd

end Terms

theorem all_apply (x : FVec Ideal S73984x2048 .f32) (w : FVec Ideal S32x2048x512 .f32) (r : Fin 73984) (e : Fin 32) (f : Fin 512) :
    all x w (ix3 r e f) = hidden (fun k => x (ix2 r k)) w e f := by
  unfold hidden
  pointwise [all]

theorem sigmoid_apply (h : FVec Ideal S73984x32x512 .f32) (r : Fin 73984) (e : Fin 32) (f : Fin 512) :
    sigmoid h (ix3 r e f) = Ideal.div 1 (1 + Ideal.exp (-(h (ix3 r e f)))) := by
  pointwise [sigmoid]

theorem out_apply (a : FVec Ideal S73984x32x512 .f32) (wd : FVec Ideal S32x512x2048 .f32) (s : Fin 4) (r : Fin 73984) (h : Fin 2) (c : Fin 256) :
    out a wd (ix3 s r ⟨h.val * 256 + c.val, by omega⟩)
      = ∑ e : Fin 32, ∑ f : Fin 512, a (ix3 r e f) * wd (ix3 e f ⟨h.val * 1024 + s.val * 256 + c.val, by omega⟩) := by
  pointwise [out]

theorem spread_apply (w : FVec Ideal S289x32 .f32) (b : Fin 289) (p : Fin 256) (e : Fin 32) (f : Fin 512) :
    spread (rowWeights w) (ix3 ⟨b.val * 256 + p.val, by omega⟩ e f) = w (ix2 b e) := by
  pointwise [spread, rowWeights]

/-- The truth of an equation, as a number. -/
theorem truth (a b : BitVec 32) : FloatOps.uitofp (F := Ideal) .f32 (IntOp.cmpi .eq a b) = if a = b then 1 else 0 := by
  by_cases h : a = b
  · rw [if_pos h]; subst h
    show (((IntOp.cmpi .eq a a).toNat : ℝ) : EReal) = 1
    simp [IntOp.cmpi]
  · rw [if_neg h]
    show (((IntOp.cmpi .eq a b).toNat : ℝ) : EReal) = 0
    simp [IntOp.cmpi, h]

theorem chosen_lo (be : IVec S288 32) (b : Fin 288) (e : Fin 32) :
    chosen (F := Ideal) be (ix2 ⟨b.val, by omega⟩ e) = if be (ix1 b) = BitVec.ofNat 32 e.val then 1 else 0 := by
  pointwise [chosen]
  exact truth _ _

theorem chosen_hi (be : IVec S288 32) (e : Fin 32) : chosen (F := Ideal) be (ix2 288 e) = 0 := by
  pointwise [chosen]
  simp [FloatOps.sitofp]

/-- THE REFERENCE'S RESULT at an element, in a block with an expert in range. -/
theorem whole_apply (be : IVec S288 32) (x : FVec Ideal S73984x2048 .f32) (wg wu : FVec Ideal S32x2048x512 .f32)
    (wd : FVec Ideal S32x512x2048 .f32) (b : Fin 288) (p : Fin 256) (s : Fin 4) (h : Fin 2) (c : Fin 256) (e0 : Fin 32)
    (he : be (ix1 b) = BitVec.ofNat 32 e0.val) :
    whole be x wg wu wd (ix3 s ⟨b.val * 256 + p.val, by omega⟩ ⟨h.val * 256 + c.val, by omega⟩)
      = expert (fun k => x (ix2 ⟨b.val * 256 + p.val, by omega⟩ k)) wg wu wd e0 ⟨h.val * 1024 + s.val * 256 + c.val, by omega⟩ := by
  have hw : ∀ (e : Fin 32) (f : Fin 512), spread (rowWeights (chosen (F := Ideal) be)) (ix3 ⟨b.val * 256 + p.val, by omega⟩ e f)
      = if e = e0 then 1 else 0 := fun e f => by
    refine (spread_apply (chosen (F := Ideal) be) ⟨b.val, by omega⟩ p e f).trans ((chosen_lo be b e).trans ?_)
    rw [he]
    refine if_congr ?_ rfl rfl
    constructor
    · intro h
      have := congrArg BitVec.toNat h
      rw [BitVec.toNat_ofNat, BitVec.toNat_ofNat, Nat.mod_eq_of_lt (by omega), Nat.mod_eq_of_lt (by omega)] at this
      exact Fin.ext this.symm
    · rintro rfl; rfl
  unfold whole
  rw [out_apply, Finset.sum_eq_single e0]
  · unfold expert gated silu
    refine Finset.sum_congr rfl fun f _ => congrArg (· * _) ?_
    refine Eq.trans (congrArg₂ (· * ·) (congrArg₂ (· * ·) (congrArg₂ (· * ·) (all_apply x wg _ e0 f)
      ((sigmoid_apply (all x wg) _ e0 f).trans (by rw [all_apply]))) (all_apply x wu _ e0 f)) ((hw e0 f).trans (if_pos rfl))) ?_
    exact mul_one _
  · intro e _ hne
    refine Finset.sum_eq_zero fun f _ => ?_
    refine Eq.trans (congrArg (· * _) (congrArg (_ * ·) ((hw e f).trans (if_neg hne)))) ?_
    show _ * (0 : EReal) * _ = 0
    rw [mul_zero, zero_mul]
  · exact fun h => absurd (Finset.mem_univ _) h

/-- THE REFERENCE'S RESULT, the closed form, in every block but the last, each block's expert one of the 32. -/
theorem whole_eq (be : IVec S288 32) (x : FVec Ideal S73984x2048 .f32) (wg wu : FVec Ideal S32x2048x512 .f32)
    (wd : FVec Ideal S32x512x2048 .f32) (hr : ∀ j, (be j).toNat < 32) (i : S4x73984x512.Idx) (hb : (i 1).val / 256 < 288) :
    whole be x wg wu wd i = result be x wg wu wd i := by
  have hi1 : (i 1).val < 73984 := (i 1).isLt
  have hi2 : (i 2).val < 512 := (i 2).isLt
  have hj : (fun a => ⟨(i 1).val / 256, by fin_cases a; exact hb⟩ : S288.Idx) = ix1 (⟨(i 1).val / 256, hb⟩ : Fin 288) := by
    funext a; fin_cases a; rfl
  have hi : i = ix3 (i 0 : Fin 4) (⟨(⟨(i 1).val / 256, hb⟩ : Fin 288).val * 256 + (⟨(i 1).val % 256, by omega⟩ : Fin 256).val,
      by dsimp only; omega⟩ : Fin 73984) (⟨(⟨(i 2).val / 256, by omega⟩ : Fin 2).val * 256 + (⟨(i 2).val % 256, by omega⟩ : Fin 256).val,
      by dsimp only; omega⟩ : Fin 512) := by
    funext a
    fin_cases a
    · rfl
    · exact Fin.ext (show (i 1).val = (i 1).val / 256 * 256 + (i 1).val % 256 by omega)
    · exact Fin.ext (show (i 2).val = (i 2).val / 256 * 256 + (i 2).val % 256 by omega)
  have hrow : (⟨(i 1).val / 256 * 256 + (i 1).val % 256, by omega⟩ : Fin 73984) = i 1 := Fin.ext (show (i 1).val / 256 * 256 + (i 1).val % 256 = (i 1).val by omega)
  refine (congrArg _ hi).trans ((whole_apply be x wg wu wd ⟨(i 1).val / 256, hb⟩ ⟨(i 1).val % 256, by omega⟩ (i 0) ⟨(i 2).val / 256, by omega⟩
    ⟨(i 2).val % 256, by omega⟩ (expertOf be ⟨(i 1).val / 256, hb⟩) ?_).trans ?_)
  · refine (congrArg be hj).symm.trans (BitVec.eq_of_toNat_eq ?_)
    have key : ∀ n : ℕ, n < 32 → n = n % 32 % 2 ^ 32 := fun n hn => by omega
    rw [BitVec.toNat_ofNat]
    exact key _ (hr _)
  · unfold result
    refine Eq.trans ?_ (dif_pos hb).symm
    refine congrArg₂ (fun r d => expert (fun k => x (ix2 r k)) wg wu wd _ d) hrow rfl

end Cert.Proof.Experts.Ref

end
-- ==== Proof.Experts.Used.lean ====
module

public import proofs.«01_k».proof.Defs
public import proofs.«01_k».proof.Proof.Gen.Pre_expert_range
public import proofs.«01_k».proof.Proof.Gen.On_rows_used
public import Idealize.ShloMosaic.Lib.Pointwise
public import Idealize.ShloMosaic.Lib.WordCmp
public import proofs.«01_k».proof.Proof.Experts.Target

/-! The precondition and the mask of the expert call read: every block's expert is one of the 32, and a masked row is in a block
    below the count of used blocks. -/

@[expose] public section

set_option maxRecDepth 16384

noncomputable section

namespace Cert.Proof.Experts

open Idealize.ShloMosaic

section
open Cert.Pre_expert_range
variable {F : FTy → Type} [FloatOps F]

/-- A word that is at least zero and below 32 is below 32 as a natural number. -/
theorem range_word (x : BitVec 32) (h : IntOp.andi (IntOp.cmpi .sge x 0#32) (IntOp.cmpi .slt x 32#32) = 1#1) : x.toNat < 32 := by
  have e := WordCmp.andi_sge_zero_slt_ofNat (w := 32) (k := 32) (by decide) x
  exact (WordCmp.ofBool_decide_eq_one_iff _).mp (e.symm.trans h)

/-- The precondition, block by block. -/
theorem range_of_pre (a0 : IVec S288 32) (a1 : IVec S1 32) (a2 : FVec F S73984x2048 .f32) (a3 a4 : FVec F S32x2048x512 .f32)
    (a5 : FVec F S32x512x2048 .f32) (h : fn (F := F) a0 a1 a2 a3 a4 a5 = fun _ => 1#1) (j : S288.Idx) : (a0 j).toNat < 32 :=
  range_word _ (congrFun h j)
end

section
open Cert.On_rows_used
variable {F : FTy → Type} [FloatOps F]

/-- The blocks in use, padded by one block that is not. -/
def blocks (n : IVec S1 32) : IVec S289 1 :=
  fn_pad (F := F) (cmpi .slt (iotaInDim S288 32 0) (broadcastInDim S288 ![] Gen.facts.bcast_S_S288 (shapeCast S_ n Gen.facts.shapeCasts_S1_S_)))
    (constantI S_ 32 0#32)

theorem blocks_lo (n : IVec S1 32) (b : Fin 288) : blocks (F := F) n (ix1 (⟨b.val, by omega⟩ : Fin 289))
    = IntOp.cmpi .slt (BitVec.ofNat 32 b.val) (n (ix1 0)) := by
  pointwise [blocks, fn_pad]

theorem blocks_hi (n : IVec S1 32) : blocks (F := F) n (ix1 288) = 0#1 := by
  pointwise [blocks, fn_pad]
  show IntOp.cmpi .ne 0#32 0#32 = 0#1
  decide

/-- The mask at a row: its block's. -/
theorem mask_apply (a0 : IVec S288 32) (a1 : IVec S1 32) (a2 : FVec F S73984x2048 .f32) (a3 a4 : FVec F S32x2048x512 .f32)
    (a5 : FVec F S32x512x2048 .f32) (s : Fin 4) (b : Fin 289) (r : Fin 256) (k : Fin 512) :
    fn (F := F) a0 a1 a2 a3 a4 a5 (ix3 s ⟨b.val * 256 + r.val, by omega⟩ k) = blocks (F := F) a1 (ix1 b) := by
  pointwise [fn, blocks]

/-- A masked element's block is below the count of used blocks. -/
theorem block_of_mask (a0 : IVec S288 32) (a1 : IVec S1 32) (a2 : FVec F S73984x2048 .f32) (a3 a4 : FVec F S32x2048x512 .f32)
    (a5 : FVec F S32x512x2048 .f32) (i : S4x73984x512.Idx) (h : fn (F := F) a0 a1 a2 a3 a4 a5 i = 1#1) :
    ∃ b : Fin 288, b.val = (i 1).val / 256 ∧ IntOp.cmpi .slt (BitVec.ofNat 32 b.val) (a1 (ix1 0)) = 1#1 := by
  have hi1 : (i 1).val < 73984 := (i 1).isLt
  have hi : i = ix3 (i 0 : Fin 4) (⟨(⟨(i 1).val / 256, by omega⟩ : Fin 289).val * 256 + (⟨(i 1).val % 256, by omega⟩ : Fin 256).val,
      by dsimp only; omega⟩ : Fin 73984) (i 2 : Fin 512) := by
    funext a
    fin_cases a
    · rfl
    · exact Fin.ext (show (i 1).val = (i 1).val / 256 * 256 + (i 1).val % 256 by omega)
    · rfl
  have hm := (mask_apply a0 a1 a2 a3 a4 a5 (i 0) ⟨(i 1).val / 256, by omega⟩ ⟨(i 1).val % 256, by omega⟩ (i 2)).symm.trans
    ((congrArg _ hi.symm).trans h)
  by_cases hb : (i 1).val / 256 < 288
  · exact ⟨⟨(i 1).val / 256, hb⟩, rfl, (blocks_lo (F := F) a1 ⟨(i 1).val / 256, hb⟩).symm.trans hm⟩
  · have e : (⟨(i 1).val / 256, by omega⟩ : Fin 289) = 288 := Fin.ext (show (i 1).val / 256 = 288 by omega)
    rw [e, blocks_hi] at hm
    exact absurd hm (by decide)
end

end Cert.Proof.Experts

end
-- ==== Proof.Input.Target.lean ====
module

public import Idealize.ShloMosaic.Lib.Pipeline.ValueKit
public import Idealize.ShloMosaic.Lib.Pointwise

/-! The input projection's closed form over the extended reals: a row normalised by the root of its mean square, times the gain, times
the matrix whose columns stand in the order of the kernel's result. -/

@[expose] public section

noncomputable section

namespace Cert.Proof.Input

open Idealize.ShloMosaic

/-- The rows, the gain, the matrix and the result. -/
abbrev Rows : Type := (⟨3, ![4, 8192, 2048]⟩ : Shape).Idx → EReal
abbrev Gain : Type := (⟨1, ![2048]⟩ : Shape).Idx → EReal
abbrev Matrix : Type := (⟨2, ![2048, 8640]⟩ : Shape).Idx → EReal
abbrev Projected : Type := (⟨2, ![32768, 8704]⟩ : Shape).Idx → EReal

/-- A row normalised by the root of its mean square, times the gain. -/
def normed (x g : Fin 2048 → EReal) (k : Fin 2048) : EReal :=
  x k * Ideal.rsqrt (Ideal.div (∑ l, x l * x l) (Ideal.ofBits .f32 0x45000000#32) + Ideal.ofBits .f32 0x358637BD#32) * g k

/-- A row of columns in the order of the result: the time mixing's, the attention's, 64 of zeros, the gates'. -/
def order (z : Fin 8640 → EReal) (j : Fin 8704) : EReal :=
  if h1 : j.val < 3456 then z ⟨1088 + j.val, by omega⟩
  else if h2 : j.val < 4544 then z ⟨j.val - 3456, by omega⟩
  else if h3 : j.val < 4608 then 0
  else z ⟨j.val - 64, by omega⟩

/-- The four kinds of columns. -/
theorem order_mixing (z : Fin 8640 → EReal) (j : Fin 8704) (a : Fin 8640) (h1 : j.val < 3456) (ha : a.val = 1088 + j.val) :
    z a = order z j := by
  unfold order
  rw [dif_pos h1]
  exact congrArg z (Fin.ext ha)
@[inherit_doc order_mixing] theorem order_attention (z : Fin 8640 → EReal) (j : Fin 8704) (a : Fin 8640) (h1 : 3456 ≤ j.val)
    (h2 : j.val < 4544) (ha : a.val = j.val - 3456) : z a = order z j := by
  unfold order
  rw [dif_neg (by omega), dif_pos h2]
  exact congrArg z (Fin.ext ha)
@[inherit_doc order_mixing] theorem order_zero (z : Fin 8640 → EReal) (j : Fin 8704) (h2 : 4544 ≤ j.val) (h3 : j.val < 4608) :
    0 = order z j := by
  unfold order
  rw [dif_neg (by omega), dif_neg (by omega), dif_pos h3]
@[inherit_doc order_mixing] theorem order_gate (z : Fin 8640 → EReal) (j : Fin 8704) (a : Fin 8640) (h3 : 4608 ≤ j.val)
    (ha : a.val = j.val - 64) : z a = order z j := by
  unfold order
  rw [dif_neg (by omega), dif_neg (by omega), dif_neg (by omega)]
  exact congrArg z (Fin.ext ha)

/-- A row of the 32768, by its batch and its place. -/
def rowOf (x : Rows) (r : Fin 32768) (k : Fin 2048) : EReal :=
  x (ix3 (⟨r.val / 8192, by omega⟩ : Fin 4) (⟨r.val % 8192, by omega⟩ : Fin 8192) k)

/-- THE PROJECTION, element by element. -/
def result (x : Rows) (g : Gain) (w : Matrix) : Projected := fun i =>
  ∑ k : Fin 2048, normed (rowOf x (i 0)) (fun k => g (ix1 k)) k * order (fun j => w (ix2 k j)) (i 1)

end Cert.Proof.Input

end
-- ==== Proof.Input.Output.lean ====
module

public import proofs.«01_k».proof.Proof.Gen.Kernel3Ideal.Value
public import proofs.«01_k».proof.Proof.Input.Target

/-! What the input projection's kernel leaves in its result: the closed form. -/

@[expose] public section

set_option maxRecDepth 16384

noncomputable section

namespace Cert.Proof.Input

open Cert.Kernel3Ideal Cert.Kernel3Ideal.Gen Idealize.ShloMosaic Idealize.ShloMosaic.TcCoe Idealize.SL.Sem

section Terms
variable {F : FTy → Type} [FloatOps F]

/-- The matrix as the kernel reads it. -/
def arranged (w : FVec F S2048x8640 .f32) : FVec F S2048x8704 .bf16 :=
  have b : FVec F S2048x8640 .bf16 := truncf .bf16 w bitsLt_bf16_f32
  concatenate S2048x8704 1 [⟨S2048x3456, extractStridedSlice S2048x3456 ![0, 1088] b slices_S2048x8640_S2048x3456_0_1088⟩,
    ⟨S2048x1088, extractStridedSlice S2048x1088 ![0, 0] b slices_S2048x8640_S2048x1088_0_0⟩,
    ⟨S2048x64, broadcastInDim S2048x64 ![] bcast_S_S2048x64 (constant (F := F) S_ .bf16 0x0000#16)⟩,
    ⟨S2048x4096, extractStridedSlice S2048x4096 ![0, 4544] b slices_S2048x8640_S2048x4096_0_4544⟩]
    concatenates_S2048x3456_S2048x1088_S2048x64_S2048x4096_S2048x8704_d1

variable (m : (ℓ : Loc nD τ sig) → Buf (Elt F) ℓ) (c : Dev nD)

/-- The arrays of the input windows when the call is entered. -/
theorem V_matrix : V m c main_v5 = arranged (m ((c : Thread nD τ).loc main_arg2)) := by
  unfold V
  simp only [hostOps0]
  after_results
  rfl
theorem V_rows : V m c main_v6 = shapeCast S32768x2048 (m ((c : Thread nD τ).loc main_arg0)) shapeCasts_S4x8192x2048_S32768x2048 := by
  unfold V
  simp only [hostOps0]
  after_results
  rfl
theorem V_gain : V m c main_v7 = shapeCast S1x2048 (m ((c : Thread nD τ).loc main_arg1)) shapeCasts_S2048_S1x2048 := by
  unfold V
  simp only [hostOps0]
  after_results
  rfl

end Terms

theorem arranged_apply (w : FVec Ideal S2048x8640 .f32) (k : Fin 2048) (j : Fin 8704) :
    arranged w (ix2 k j) = order (fun j => w (ix2 k j)) j := by
  have hj := j.isLt
  pointwise [arranged]
  split_ifs <;> first
    | exact order_mixing (fun j : Fin 8640 => w (ix2 k j)) _ _ (by omega) (by first | omega | (dsimp only; omega) | (dsimp only; done))
    | exact order_attention (fun j : Fin 8640 => w (ix2 k j)) _ _ (by omega) (by omega) (by first | omega | (dsimp only; omega) | (dsimp only; done))
    | exact order_zero (fun j : Fin 8640 => w (ix2 k j)) _ (by omega) (by omega)
    | exact order_gate (fun j : Fin 8640 => w (ix2 k j)) _ _ (by omega) (by first | omega | (dsimp only; omega) | (dsimp only; done))
    | (exfalso; omega)

theorem rows_apply (x : FVec Ideal S4x8192x2048 .f32) (r : Fin 32768) (k : Fin 2048) :
    shapeCast S32768x2048 x shapeCasts_S4x8192x2048_S32768x2048 (ix2 r k) = rowOf x r k := by
  unfold rowOf
  pointwise

theorem gain_apply (g : FVec Ideal S2048 .f32) (k : Fin 2048) :
    shapeCast S1x2048 g shapeCasts_S2048_S1x2048 (ix2 0 k) = g (ix1 k) := by
  pointwise

/-- One block of 512 rows and 4352 columns. -/
theorem block_apply (x : Vec Ideal S512x2048 .f32) (g : Vec Ideal S1x2048 .f32) (w : Vec Ideal S2048x4352 .bf16) (r : Fin 512) (j : Fin 4352) :
    k0_pay1 x g w (ix2 r j) = ∑ k : Fin 2048, normed (fun k => x (ix2 r k)) (fun k => g (ix2 0 k)) k * w (ix2 k j) := by
  unfold normed
  unfold_payloads; pointwise

theorem index0 : ∀ t : Fin cfg0.N, win0_0.index t = ![t.val % 64, 0] :=
  (by decide +kernel : ∀ t : Fin grid0.N, win0_0.index t = ![t.val % 64, 0])
theorem index1 : ∀ t : Fin cfg0.N, win0_1.index t = ![0, 0] :=
  (by decide +kernel : ∀ t : Fin grid0.N, win0_1.index t = ![0, 0])
theorem index2 : ∀ t : Fin cfg0.N, win0_2.index t = ![0, t.val / 64] :=
  (by decide +kernel : ∀ t : Fin grid0.N, win0_2.index t = ![0, t.val / 64])
theorem index3 : ∀ t : Fin cfg0.N, win0_3.index t = ![t.val % 64, t.val / 64] :=
  (by decide +kernel : ∀ t : Fin grid0.N, win0_3.index t = ![t.val % 64, t.val / 64])

section
variable (m : (ℓ : Loc nD τ sig) → Buf (Elt Ideal) ℓ) (c : Dev nD)

/-- A grid point's rows and columns in the arrays. -/
def row (t : Fin cfg0.N) (r : Fin 512) : Fin 32768 := ⟨t.val % 64 * 512 + r.val, by omega⟩
def column (t : Fin cfg0.N) (j : Fin 4352) : Fin 8704 := ⟨t.val / 64 * 4352 + j.val, by have : t.val < 128 := t.isLt; omega⟩

/-- The blocks of a grid point, element by element. -/
theorem block0 (t : Fin cfg0.N) (r : Fin 512) (k : Fin 2048) :
    iblk m c 0 t (ix2 r k) = V m c main_v6 (ix2 (row t r) k) := by
  unfold iblk
  refine congrArg (V m c main_v6) (funext fun a => Fin.ext ?_)
  fin_cases a <;> blk_simp [index0] <;> rfl
@[inherit_doc block0] theorem block1 (t : Fin cfg0.N) (k : Fin 2048) :
    iblk m c 1 t (ix2 0 k) = V m c main_v7 (ix2 0 k) := by
  unfold iblk
  refine congrArg (V m c main_v7) (funext fun a => Fin.ext ?_)
  fin_cases a <;> blk_simp [index1] <;> rfl
@[inherit_doc block0] theorem block2 (t : Fin cfg0.N) (k : Fin 2048) (j : Fin 4352) :
    iblk m c 2 t (ix2 k j) = V m c main_v5 (ix2 k (column t j)) := by
  unfold iblk
  refine congrArg (V m c main_v5) (funext fun a => Fin.ext ?_)
  fin_cases a <;> blk_simp [index2] <;> rfl

/-- What a grid point leaves in its block. -/
theorem block_value (t : Fin cfg0.N) (r : Fin 512) (j : Fin 4352) :
    out0_3 (iblk m c 0 t) (iblk m c 1 t) (iblk m c 2 t) (ix2 r j)
      = result (m ((c : Thread nD τ).loc main_arg0)) (m ((c : Thread nD τ).loc main_arg1)) (m ((c : Thread nD τ).loc main_arg2))
          (ix2 (row t r) (column t j)) := by
  unfold out0_3
  rw [View.canon_cons_unit_lit _ _ _ (by decide), View.ld_unit_lit _ _ (by decide), View.ld_unit_lit _ _ (by decide),
    View.ld_unit_lit _ _ (by decide), block_apply]
  unfold result
  refine Finset.sum_congr rfl fun k _ => congrArg₂ (fun a b : EReal => a * b) ?_ ?_
  · refine congrArg₂ (fun x g => normed x g k) (funext fun l => ?_) (funext fun l => ?_)
    · rw [block0, V_rows]; exact rows_apply _ _ _
    · rw [block1, V_gain]; exact gain_apply _ _
  · rw [block2, V_matrix]; exact arranged_apply _ _ _

/-- THE RESULT ARRAY after the call. -/
theorem array_eq : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hy : y = ix2 (y 0 : Fin 512) (y 1 : Fin 4352) := by
    funext a; fin_cases a <;> rfl
  have he : ((cfg0.win 3).blk t).view.emb y = ix2 (row t (y 0)) (column t (y 1)) := by
    funext a
    refine Fin.ext ?_
    fin_cases a <;> blk_simp [index3] <;> rfl
  rw [he]
  exact (congrArg _ hy).trans (block_value m c t (y 0) (y 1))

end

end Cert.Proof.Input

end
-- ==== Proof.Input.Ref.lean ====
module

public import proofs.«01_k».proof.Proof.Gen.Reference3Ideal.Run
public import proofs.«01_k».proof.Proof.Input.Target

/-! The input projection's reference computes the closed form. -/

@[expose] public section

set_option maxRecDepth 16384

noncomputable section

namespace Cert.Proof.Input.Ref

open Cert.Reference3Ideal Cert.Reference3Ideal.Gen Idealize.ShloMosaic Idealize.ShloMosaic.TcCoe Idealize.SL.Sem

section Terms
variable {F : FTy → Type} [FloatOps F]

/-- The normalised rows. -/
def rows (x : FVec F S4x8192x2048 .f32) (g : FVec F S2048 .f32) : FVec F S4x8192x2048 .f32 :=
  mulf (mulf x (broadcastInDim S4x8192x2048 ![0, 1, 2] bcast_S4x8192x1_S4x8192x2048_0_1_2 (Host.rsqrt (addf
    (Host.divf (broadcastInDim S4x8192x1 ![0, 1] bcast_S4x8192_S4x8192x1_0_1
        (Host.reduceAdd (mulf x x) (constant S_ .f32 0x00000000#32) reducesTo_S4x8192x2048_S4x8192_d2 h_S_))
      (broadcastInDim S4x8192x1 ![] bcast_S_S4x8192x1 (constant S_ .f32 0x45000000#32)))
    (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 g))

/-- Their products with the matrix. -/
def product (n : FVec F S4x8192x2048 .f32) (w : FVec F S2048x8640 .f32) : FVec F S4x8192x8640 .f32 :=
  Host.dotGeneral dot_S4x8192x2048_S2048x8640_S4x8192x8640_2_0_01_1_n_n none n w

/-- The columns in the order of the result. -/
def ordered (z : FVec F S4x8192x8640 .f32) : FVec F S32768x8704 .f32 :=
  shapeCast S32768x8704 (concatenate S4x8192x8704 2
    [⟨S4x8192x3456, extractStridedSlice S4x8192x3456 ![0, 0, 1088] z slices_S4x8192x8640_S4x8192x3456_0_0_1088⟩,
     ⟨S4x8192x512, extractStridedSlice S4x8192x512 ![0, 0, 0] z slices_S4x8192x8640_S4x8192x512_0_0_0⟩,
     ⟨S4x8192x512, extractStridedSlice S4x8192x512 ![0, 0, 512] z slices_S4x8192x8640_S4x8192x512_0_0_512⟩,
     ⟨S4x8192x64, extractStridedSlice S4x8192x64 ![0, 0, 1024] z slices_S4x8192x8640_S4x8192x64_0_0_1024⟩,
     ⟨S4x8192x64, broadcastInDim S4x8192x64 ![] bcast_S_S4x8192x64 (constant S_ .f32 0x00000000#32)⟩,
     ⟨S4x8192x2048, extractStridedSlice S4x8192x2048 ![0, 0, 4544] z slices_S4x8192x8640_S4x8192x2048_0_0_4544⟩,
     ⟨S4x8192x2048, extractStridedSlice S4x8192x2048 ![0, 0, 6592] z slices_S4x8192x8640_S4x8192x2048_0_0_6592⟩]
    concatenates_S4x8192x3456_S4x8192x512_S4x8192x512_S4x8192x64_S4x8192x64_S4x8192x2048_S4x8192x2048_S4x8192x8704_d2)
    shapeCasts_S4x8192x8704_S32768x8704

/-- The reference's result in these terms. -/
theorem res_eq (m : (ℓ : Loc nD τ sig) → Buf (Elt F) ℓ) (c : Dev nD) :
    Value.res_out0 m c = ordered (product (rows (m ((c : Thread nD τ).loc main_arg0)) (m ((c : Thread nD τ).loc main_arg1)))
      (m ((c : Thread nD τ).loc main_arg2))) := by
  show Value.res_main_v22 m c = _
  unfold Value.res_main_v22
  rfl

end Terms

theorem rows_apply (x : FVec Ideal S4x8192x2048 .f32) (g : FVec Ideal S2048 .f32) (b : Fin 4) (l : Fin 8192) (k : Fin 2048) :
    rows x g (ix3 b l k) = normed (fun k => x (ix3 b l k)) (fun k => g (ix1 k)) k := by
  unfold normed
  pointwise [rows]

theorem product_apply (n : FVec Ideal S4x8192x2048 .f32) (w : FVec Ideal S2048x8640 .f32) (b : Fin 4) (l : Fin 8192) (j : Fin 8640) :
    product n w (ix3 b l j) = ∑ k : Fin 2048, n (ix3 b l k) * w (ix2 k j) := by
  pointwise [product]

theorem ordered_apply (z : FVec Ideal S4x8192x8640 .f32) (r : Fin 32768) (j : Fin 8704) :
    ordered z (ix2 r j) = order (fun j => z (ix3 (⟨r.val / 8192, by omega⟩ : Fin 4) (⟨r.val % 8192, by omega⟩ : Fin 8192) j)) j := by
  have hj := j.isLt
  pointwise [ordered]
  split_ifs <;> first
    | exact order_mixing (fun j : Fin 8640 => z (ix3 (⟨r.val / 8192, by omega⟩ : Fin 4) (⟨r.val % 8192, by omega⟩ : Fin 8192) j)) _ _ (by omega) (by first | omega | (dsimp only; omega) | (dsimp only; done))
    | exact order_attention (fun j : Fin 8640 => z (ix3 (⟨r.val / 8192, by omega⟩ : Fin 4) (⟨r.val % 8192, by omega⟩ : Fin 8192) j)) _ _ (by omega) (by omega) (by first | omega | (dsimp only; omega) | (dsimp only; done))
    | exact order_zero (fun j : Fin 8640 => z (ix3 (⟨r.val / 8192, by omega⟩ : Fin 4) (⟨r.val % 8192, by omega⟩ : Fin 8192) j)) _ (by omega) (by omega)
    | exact order_gate (fun j : Fin 8640 => z (ix3 (⟨r.val / 8192, by omega⟩ : Fin 4) (⟨r.val % 8192, by omega⟩ : Fin 8192) j)) _ _ (by omega) (by first | omega | (dsimp only; omega) | (dsimp only; done))
    | (exfalso; omega)

/-- A sum of products with the columns in the order of the result. -/
theorem order_sum (n : Fin 2048 → EReal) (w : Matrix) (j : Fin 8704) :
    order (fun j => ∑ k : Fin 2048, n k * w (ix2 k j)) j = ∑ k : Fin 2048, n k * order (fun j => w (ix2 k j)) j := by
  unfold order
  split_ifs
  · rfl
  · rfl
  · simp
  · rfl

/-- THE REFERENCE'S RESULT is the closed form. -/
theorem out_eq (x : FVec Ideal S4x8192x2048 .f32) (g : FVec Ideal S2048 .f32) (w : FVec Ideal S2048x8640 .f32) :
    ordered (product (rows x g) w) = result x g w := by
  funext i
  have hi : i = ix2 (i 0 : Fin 32768) (i 1 : Fin 8704) := by funext a; fin_cases a <;> rfl
  refine (congrArg _ hi).trans ((ordered_apply _ (i 0) (i 1)).trans (Eq.trans (congrArg (fun z => order z (i 1)) (funext fun j => ?_))
    (order_sum (normed (rowOf x (i 0)) fun k => g (ix1 k)) w (i 1))))
  rw [product_apply]
  exact Finset.sum_congr rfl fun k _ => congrArg (fun y : EReal => y * w (ix2 k j)) (rows_apply x g _ _ k)

end Cert.Proof.Input.Ref

end
-- ==== Proof.Router.Order.lean ====
module

public import Idealize.ShloMosaic.Lib.Pointwise
public import Idealize.ShloMosaic.Lib.SortFacts

/-! The greatest elements of a row: its stable order from the greatest down, and the same elements found by a maximum and the least
    position that attains it. -/

@[expose] public section

noncomputable section

namespace Cert.Proof.Router

open Idealize.ShloMosaic

/-- The position at each place of a row's order from the greatest down, equal elements in the order of their positions. -/
def order {n : ℕ} (f : Fin n → EReal) : Fin n → Fin n := sortedFrom fun a b => decide (f b < f a)

/-- Position `i` comes before position `j` in that order. -/
def Before {n : ℕ} (f : Fin n → EReal) (i j : Fin n) : Prop := f j < f i ∨ (f j = f i ∧ i < j)

theorem Before.trans {n : ℕ} {f : Fin n → EReal} {i j k : Fin n} (h : Before f i j) (h' : Before f j k) : Before f i k := by
  rcases h with h | ⟨h, hl⟩ <;> rcases h' with h' | ⟨h', hl'⟩
  · exact .inl (h'.trans h)
  · exact .inl (h' ▸ h)
  · exact .inl (h ▸ h')
  · exact .inr ⟨h'.trans h, hl.trans hl'⟩

theorem insert_sorted {n : ℕ} (f : Fin n → EReal) (a : Fin n) (l : List (Fin n)) (ha : ∀ b ∈ l, a < b) (hl : l.Pairwise (Before f)) :
    (insertBefore (fun a b => decide (f b < f a)) a l).Pairwise (Before f) := by
  induction l with
  | nil => exact List.pairwise_singleton _ _
  | cons b l ih =>
    rw [List.pairwise_cons] at hl
    unfold insertBefore
    split
    · rename_i h
      refine List.pairwise_cons.mpr ⟨fun c hc => ?_, ih (fun b hb => ha b (List.mem_cons_of_mem _ hb)) hl.2⟩
      rcases List.mem_cons.mp ((perm_insertBefore _ a l).mem_iff.mp hc) with rfl | hc'
      · exact .inl (of_decide_eq_true h)
      · exact hl.1 c hc'
    · rename_i h
      have hab : Before f a b := by
        have hle : f b ≤ f a := le_of_not_gt fun hlt => h (decide_eq_true hlt)
        rcases hle.lt_or_eq with hlt | heq
        · exact .inl hlt
        · exact .inr ⟨heq, ha b List.mem_cons_self⟩
      refine List.pairwise_cons.mpr ⟨fun c hc => ?_, List.pairwise_cons.mpr hl⟩
      rcases List.mem_cons.mp hc with rfl | hc'
      · exact hab
      · exact hab.trans (hl.1 c hc')

theorem stable_sorted {n : ℕ} (f : Fin n → EReal) (l : List (Fin n)) (hl : l.Pairwise (· < ·)) :
    (stableSort (fun a b => decide (f b < f a)) l).Pairwise (Before f) := by
  induction l with
  | nil => exact List.Pairwise.nil
  | cons a l ih =>
    rw [List.pairwise_cons] at hl
    exact insert_sorted f a _ (fun b hb => hl.1 b ((perm_stableSort _ l).mem_iff.mp hb)) (ih hl.2)

/-- Earlier places of the order hold positions that come before. -/
theorem order_before {n : ℕ} (f : Fin n → EReal) (i j : Fin n) (hij : i < j) : Before f (order f i) (order f j) :=
  List.pairwise_iff_get.mp (stable_sorted f _ (List.pairwise_lt_finRange n)) _ _ hij

theorem order_injective {n : ℕ} (f : Fin n → EReal) : Function.Injective (order f) := sortedFrom_injective _

/-- Every other position comes after the first. -/
theorem order_first {n : ℕ} (f : Fin (n + 1) → EReal) (j : Fin (n + 1)) (hj : j ≠ order f 0) : Before f (order f 0) j := by
  obtain ⟨k, rfl⟩ := sortedFrom_surjective (fun a b => decide (f b < f a)) j
  refine order_before f 0 k (Fin.pos_of_ne_zero ?_)
  rintro rfl
  exact hj rfl

/-- Every position but the first two comes after the second. -/
theorem order_second {n : ℕ} (f : Fin (n + 2) → EReal) (j : Fin (n + 2)) (h0 : j ≠ order f 0) (h1 : j ≠ order f 1) :
    Before f (order f 1) j := by
  obtain ⟨k, rfl⟩ := sortedFrom_surjective (fun a b => decide (f b < f a)) j
  refine order_before f 1 k ?_
  have hk0 : k ≠ 0 := fun h => h0 (congrArg _ h)
  have hk1 : k ≠ 1 := fun h => h1 (congrArg _ h)
  rcases k with ⟨k, hk⟩
  have a0 : k ≠ 0 := fun h => hk0 (Fin.ext h)
  have a1 : k ≠ 1 := fun h => hk1 (Fin.ext (h.trans (by simp)))
  show (1 : Fin (n + 2)).val < k
  have : (1 : Fin (n + 2)).val = 1 := by simp
  omega

/-- The order depends on comparisons alone. -/
theorem order_congr {n : ℕ} (f g : Fin n → EReal) (h : ∀ a b, f b < f a ↔ g b < g a) : order f = order g := by
  unfold order
  exact congrArg sortedFrom (funext fun a => funext fun b => decide_eq_decide.mpr (h a b))

/-- Position `k` holds a row's greatest element, and is the first that does. -/
def IsFirst {n : ℕ} (f : Fin n → EReal) (k : Fin n) : Prop := ∀ j, f j ≤ f k ∧ (j < k → f j ≠ f k)

theorem IsFirst.of_before {n : ℕ} (f : Fin n → EReal) (k : Fin n) (h : ∀ j, j ≠ k → Before f k j) : IsFirst f k := by
  intro j
  by_cases hj : j = k
  · subst hj; exact ⟨le_rfl, fun h => absurd h (lt_irrefl _)⟩
  · rcases h j hj with h | ⟨h, hl⟩
    · exact ⟨h.le, fun _ => h.ne⟩
    · exact ⟨h.le, fun h' => absurd (h'.trans hl) (lt_irrefl _)⟩

/-- The maximum of a row. -/
theorem IsFirst.fold_max {n : ℕ} {f : Fin n → EReal} {k : Fin n} (h : IsFirst f k) :
    Finset.univ.fold max (Ideal.ofBits .f32 0xFF800000#32) f = f k := by
  have hbot : Ideal.ofBits .f32 0xFF800000#32 = ⊥ := by simp [Ideal.ofBits, Ideal.ieee]
  rw [hbot]
  refine le_antisymm ?_ ?_
  · exact Finset.fold_max_le (c := f k) |>.mpr ⟨bot_le, fun j _ => (h j).1⟩
  · exact Finset.le_fold_max (c := f k) |>.mpr (.inr ⟨k, Finset.mem_univ k, le_rfl⟩)

/-- The least of a set of words, read as signed numbers. -/
theorem fold_minsi {ι : Type} [DecidableEq ι] (s : Finset ι) (b : BitVec 32) (g : ι → BitVec 32) (k : ι) (hk : k ∈ s)
    (hb : (g k).toInt ≤ b.toInt) (h : ∀ i ∈ s, (g k).toInt ≤ (g i).toInt) : s.fold IntOp.minsi b g = g k := by
  have low : ∀ x : BitVec 32, x.toInt = (g k).toInt → x = g k := fun x h => BitVec.eq_of_toInt_eq h
  have key : ∀ t : Finset ι, t ⊆ s → (g k).toInt ≤ (t.fold IntOp.minsi b g).toInt ∧ (k ∈ t → t.fold IntOp.minsi b g = g k) := by
    intro t
    induction t using Finset.induction_on with
    | empty => exact fun _ => ⟨by simpa using hb, fun h => absurd h (Finset.notMem_empty _)⟩
    | insert a t ha ih =>
      intro hs
      have iht := ih fun x hx => hs (Finset.mem_insert_of_mem hx)
      have hga := h a (hs (Finset.mem_insert_self a t))
      rw [Finset.fold_insert ha]
      have hop : ∀ x y : BitVec 32, IntOp.minsi x y = if x.slt y then x else y := fun _ _ => rfl
      rw [hop]
      refine ⟨?_, fun hmem => ?_⟩
      · split
        · exact hga
        · exact iht.1
      · split
        · rename_i hlt
          rw [BitVec.slt_iff_toInt_lt] at hlt
          rcases Finset.mem_insert.mp hmem with rfl | hm
          · rfl
          · rw [iht.2 hm] at hlt; omega
        · rename_i hlt
          rw [BitVec.slt_iff_toInt_lt] at hlt
          rcases Finset.mem_insert.mp hmem with rfl | hm
          · exact low _ (by have := iht.1; omega)
          · exact iht.2 hm
  exact (key s (Finset.Subset.refl s)).2 hk

/-- THE FIRST LANE OF THE MAXIMUM, as the least of the lanes that attain it and a number past them all. -/
theorem IsFirst.fold_minsi {f : Fin 128 → EReal} {k : Fin 128} (h : IsFirst f k) :
    (Finset.univ : Finset (Fin 128)).fold IntOp.minsi 2147483647#32
        (fun l => if f l = f k then BitVec.ofNat 32 l.val else 1048576#32) = BitVec.ofNat 32 k.val := by
  have hl : ∀ l : Fin 128, (BitVec.ofNat 32 l.val).toInt = l.val := by decide
  refine (Router.fold_minsi _ _ _ k (Finset.mem_univ k) ?_ fun l _ => ?_).trans (if_pos rfl)
  · rw [if_pos rfl, hl]
    have : (2147483647#32).toInt = 2147483647 := by decide
    omega
  · rw [if_pos rfl]
    split
    · rename_i he
      rw [hl, hl]
      have : ¬ l < k := fun hlt => (h l).2 hlt he
      have : k.val ≤ l.val := by simpa using this
      omega
    · rw [hl]
      have : (1048576#32).toInt = 1048576 := by decide
      omega

/-- A row that is a list `v` at the lanes `p`, but for elements after `v`'s element `k` and lanes of −∞: its first greatest lane. -/
theorem IsFirst.of_lanes {m n : ℕ} (f : Fin m → EReal) (p : Fin n → Fin m) (hp : StrictMono p) (v : Fin n → EReal) (k : Fin n)
    (hk : f (p k) = v k) (hv : v k ≠ ⊥) (h : ∀ l, l ≠ p k → f l = ⊥ ∨ ∃ j, l = p j ∧ f l = v j ∧ Before v k j) : IsFirst f (p k) := by
  intro l
  by_cases hl : l = p k
  · subst hl; exact ⟨le_rfl, fun h => absurd h (lt_irrefl _)⟩
  · rw [hk]
    rcases h l hl with h | ⟨j, rfl, h, hb⟩
    · rw [h]; exact ⟨bot_le, fun _ => hv.symm⟩
    · rw [h]
      rcases hb with hb | ⟨hb, hlt⟩
      · exact ⟨hb.le, fun _ => hb.ne⟩
      · exact ⟨hb.le, fun h' => absurd ((hp.lt_iff_lt.mp h').trans hlt) (lt_irrefl _)⟩

end Cert.Proof.Router

end
-- ==== Proof.Router.Target.lean ====
module

public import Idealize.ShloMosaic.Lib.Pointwise
public import proofs.«01_k».proof.Proof.Input.Target
public import proofs.«01_k».proof.Proof.Experts.Target
public import proofs.«01_k».proof.Proof.Router.Order
public import proofs.«01_k».proof.Proof.Weights

/-! The closed form of the output projection and the router over the extended reals: the two branches through their gates, the residual
    row, its normalisation, and the weights of the two experts the row goes to. -/

@[expose] public section

noncomputable section

namespace Cert.Proof.Router

open Idealize.ShloMosaic

/-- The arguments: the rows, the two branches' outputs, the projected input (which holds the gates), the branches' and the output
    matrices, the norm's gain, the groups' and the experts' router matrices and biases. -/
structure Args where
  x : (⟨3, ![4, 8192, 2048]⟩ : Shape).Idx → EReal
  oa : (⟨3, ![4, 8192, 1024]⟩ : Shape).Idx → EReal
  ob : (⟨3, ![4, 8192, 1024]⟩ : Shape).Idx → EReal
  z : (⟨2, ![32768, 8704]⟩ : Shape).Idx → EReal
  wa : (⟨2, ![1024, 2048]⟩ : Shape).Idx → EReal
  wb : (⟨2, ![1024, 2048]⟩ : Shape).Idx → EReal
  wo : (⟨2, ![2048, 2048]⟩ : Shape).Idx → EReal
  gain : (⟨1, ![2048]⟩ : Shape).Idx → EReal
  wg : (⟨2, ![2048, 4]⟩ : Shape).Idx → EReal
  bg : (⟨1, ![4]⟩ : Shape).Idx → EReal
  we : (⟨3, ![4, 2048, 8]⟩ : Shape).Idx → EReal
  be : (⟨2, ![4, 8]⟩ : Shape).Idx → EReal

/-- `1 / (1 + exp (-y))`. -/
def sigmoid (y : EReal) : EReal := Ideal.div 1 (1 + Ideal.exp (-y))

/-- A row of a branch's output, by its batch and its place. -/
def branchRow (o : (⟨3, ![4, 8192, 1024]⟩ : Shape).Idx → EReal) (r : Fin 32768) (j : Fin 1024) : EReal :=
  o (ix3 (⟨r.val / 8192, by omega⟩ : Fin 4) (⟨r.val % 8192, by omega⟩ : Fin 8192) j)

/-- The two branches' projections through their gates. -/
def merged (oa ob : Fin 1024 → EReal) (za zb : Fin 2048 → EReal) (wa wb : (⟨2, ![1024, 2048]⟩ : Shape).Idx → EReal) (k : Fin 2048) : EReal :=
  sigmoid (za k) * (∑ j : Fin 1024, oa j * wa (ix2 j k)) + sigmoid (zb k) * ∑ j : Fin 1024, ob j * wb (ix2 j k)

/-- A row plus the merged branches through the output matrix. -/
def hidden (x m : Fin 2048 → EReal) (wo : (⟨2, ![2048, 2048]⟩ : Shape).Idx → EReal) (d : Fin 2048) : EReal :=
  x d + ∑ k : Fin 2048, m k * wo (ix2 k d)

/-- A normalised row against a group's column, plus the group's bias. -/
def groupLogit (n : Fin 2048 → EReal) (wg : (⟨2, ![2048, 4]⟩ : Shape).Idx → EReal) (bg : (⟨1, ![4]⟩ : Shape).Idx → EReal) (g : Fin 4) : EReal :=
  (∑ k : Fin 2048, n k * wg (ix2 k g)) + bg (ix1 g)

/-- A normalised row against an expert's column of its group, plus the expert's bias. -/
def expertLogit (n : Fin 2048 → EReal) (we : (⟨3, ![4, 2048, 8]⟩ : Shape).Idx → EReal) (be : (⟨2, ![4, 8]⟩ : Shape).Idx → EReal)
    (g : Fin 4) (e : Fin 8) : EReal :=
  (∑ k : Fin 2048, n k * we (ix3 g k e)) + be (ix2 g e)

/-- The softmax of the greatest of the group logits. -/
def groupWeight (gl : Fin 4 → EReal) : EReal := Ideal.div 1 (∑ g : Fin 4, Ideal.exp (gl g - gl (order gl 0)))

/-- The second greatest expert logit's exponential over the greatest's. -/
def ratio (el : Fin 8 → EReal) : EReal := Ideal.exp (el (order el 1) - el (order el 0))

/-- The weights of the 32 experts (in 128 lanes): of the first group in order its first two experts in order, in the proportion of their
    exponentials, together the group's weight. -/
def combine (gl : Fin 4 → EReal) (el : Fin 4 → Fin 8 → EReal) (l : Fin 128) : EReal :=
  (if l.val = 8 * (order gl 0).val + (order (el (order gl 0)) 0).val then
    Ideal.div (groupWeight gl) (1 + ratio (el (order gl 0))) else 0)
  + (if l.val = 8 * (order gl 0).val + (order (el (order gl 0)) 1).val then
    Ideal.div (groupWeight gl * ratio (el (order gl 0))) (1 + ratio (el (order gl 0))) else 0)

namespace Args
variable (a : Args)

/-- The residual row. -/
def row (r : Fin 32768) : Fin 2048 → EReal :=
  hidden (Input.rowOf a.x r) (merged (branchRow a.oa r) (branchRow a.ob r) (fun k => a.z (ix2 r ⟨4608 + k.val, by omega⟩))
    (fun k => a.z (ix2 r ⟨6656 + k.val, by omega⟩)) a.wa a.wb) a.wo

/-- The normalised row. -/
def normed (r : Fin 32768) : Fin 2048 → EReal := Input.normed (a.row r) fun k => a.gain (ix1 k)

/-- THE THREE RESULTS, element by element: the residual rows, the normalised rows in four slabs, the experts' weights. -/
def rows : (⟨2, ![32768, 2048]⟩ : Shape).Idx → EReal := fun i => a.row (i 0) (i 1)
@[inherit_doc rows] def slabs : (⟨3, ![4, 32768, 512]⟩ : Shape).Idx → EReal := fun i => a.normed (i 1) (Experts.col (i 0) (i 2))
@[inherit_doc rows] def weights : (⟨2, ![32768, 128]⟩ : Shape).Idx → EReal := fun i =>
  combine (groupLogit (a.normed (i 0)) a.wg a.bg) (expertLogit (a.normed (i 0)) a.we a.be) (i 1)

end Args

/-- The real numbers the third result needs. -/
structure Args.Finite (a : Args) : Prop where
  gain : ∀ k : Fin 2048, Weights.IsReal (a.gain (ix1 k))
  wg : ∀ (k : Fin 2048) (g : Fin 4), Weights.IsReal (a.wg (ix2 k g))
  bg : ∀ g : Fin 4, Weights.IsReal (a.bg (ix1 g))
  we : ∀ (g : Fin 4) (k : Fin 2048) (e : Fin 8), Weights.IsReal (a.we (ix3 g k e))
  be : ∀ (g : Fin 4) (e : Fin 8), Weights.IsReal (a.be (ix2 g e))

end Cert.Proof.Router

end
-- ==== Proof.Router.Lanes.lean ====
module

public import proofs.«01_k».proof.Proof.Gen.Kernel4Ideal.Value
public import proofs.«01_k».proof.Proof.Router.Target

/-! The router of one block of rows, lane by lane: the logits stand in 128 lanes, expert `e` of group `g` in lane `8 g + e` and group
    `g` in lane `32 + g`; the first greatest lane among some lanes is found with the others at −∞. -/

@[expose] public section

set_option maxRecDepth 16384

noncomputable section

namespace Cert.Proof.Router

open Cert.Kernel4Ideal Cert.Kernel4Ideal.Gen Idealize.ShloMosaic Idealize.ShloMosaic.TcCoe Idealize.SL.Sem

/-- The lanes of the groups and of a group's experts. -/
def groupLane (g : Fin 4) : Fin 128 := ⟨32 + g.val, by omega⟩
@[inherit_doc groupLane] def expertLane (g : Fin 4) (e : Fin 8) : Fin 128 := ⟨8 * g.val + e.val, by omega⟩

theorem groupLane_mono : StrictMono groupLane := fun a b h => by
  have : a.val < b.val := h
  show 32 + a.val < 32 + b.val
  omega
theorem expertLane_mono (g : Fin 4) : StrictMono (expertLane g) := fun a b h => by
  have : a.val < b.val := h
  show 8 * g.val + a.val < 8 * g.val + b.val
  omega

section
variable (L : Fin 128 → EReal)

/-- The logits of the groups and of the experts out of the lanes. -/
def groupsOf : Fin 4 → EReal := fun g => L (groupLane g)
@[inherit_doc groupsOf] def expertsOf : Fin 4 → Fin 8 → EReal := fun g e => L (expertLane g e)

/-- The lanes but those of the groups, at −∞. -/
def groupLanes (l : Fin 128) : EReal := if 32 ≤ l.val ∧ l.val < 36 then L l else ⊥
/-- The lanes but those of a group's experts, at −∞. -/
def expertLanes (G : Fin 4) (l : Fin 128) : EReal := if l.val / 8 = G.val then L l else ⊥
/-- The same, one of those lanes at −∞ too. -/
def otherLanes (G : Fin 4) (A : Fin 8) (l : Fin 128) : EReal := if l = expertLane G A then ⊥ else expertLanes L G l

theorem groupLanes_lane (g : Fin 4) : groupLanes L (groupLane g) = groupsOf L g := if_pos ⟨by show 32 ≤ 32 + g.val; omega, by show 32 + g.val < 36; omega⟩
theorem expertLanes_lane (G : Fin 4) (e : Fin 8) : expertLanes L G (expertLane G e) = expertsOf L G e :=
  if_pos (by show (8 * G.val + e.val) / 8 = G.val; omega)

/-- The group: the first greatest of the groups' lanes. -/
theorem first_group (h : ∀ l, L l ≠ ⊥) : IsFirst (groupLanes L) (groupLane (order (groupsOf L) 0)) := by
  refine IsFirst.of_lanes _ groupLane groupLane_mono (groupsOf L) _ (groupLanes_lane L _) (h _) fun l hl => ?_
  by_cases hm : 32 ≤ l.val ∧ l.val < 36
  · have he : l = groupLane ⟨l.val - 32, by omega⟩ := Fin.ext (show l.val = 32 + (l.val - 32) by omega)
    refine .inr ⟨_, he, ?_, order_first (groupsOf L) _ fun h => hl (he.trans (congrArg groupLane h))⟩
    exact (congrArg (groupLanes L) he).trans (groupLanes_lane L _)
  · exact .inl (if_neg hm)

/-- The first expert: the first greatest of the group's lanes. -/
theorem first_expert (h : ∀ l, L l ≠ ⊥) (G : Fin 4) : IsFirst (expertLanes L G) (expertLane G (order (expertsOf L G) 0)) := by
  refine IsFirst.of_lanes _ (expertLane G) (expertLane_mono G) (expertsOf L G) _ (expertLanes_lane L G _) (h _) fun l hl => ?_
  by_cases hm : l.val / 8 = G.val
  · have he : l = expertLane G ⟨l.val % 8, by omega⟩ := Fin.ext (show l.val = 8 * G.val + l.val % 8 by omega)
    refine .inr ⟨_, he, ?_, order_first (expertsOf L G) _ fun h => hl (he.trans (congrArg (expertLane G) h))⟩
    exact (congrArg (expertLanes L G) he).trans (expertLanes_lane L G _)
  · exact .inl (if_neg hm)

theorem order_ne {n : ℕ} (f : Fin (n + 2) → EReal) : order f 1 ≠ order f 0 := fun h =>
  absurd (congrArg Fin.val (order_injective f h)) (by simp)

theorem otherLanes_lane (G : Fin 4) (A e : Fin 8) (h : e ≠ A) : otherLanes L G A (expertLane G e) = expertsOf L G e :=
  (if_neg fun h' => h ((expertLane_mono G).injective h')).trans (expertLanes_lane L G e)

/-- The second expert: the first greatest of the group's lanes but the first expert's. -/
theorem second_expert (h : ∀ l, L l ≠ ⊥) (G : Fin 4) :
    IsFirst (otherLanes L G (order (expertsOf L G) 0)) (expertLane G (order (expertsOf L G) 1)) := by
  refine IsFirst.of_lanes _ (expertLane G) (expertLane_mono G) (expertsOf L G) _ (otherLanes_lane L G _ _ (order_ne _)) (h _) fun l hl => ?_
  by_cases hA : l = expertLane G (order (expertsOf L G) 0)
  · exact .inl (if_pos hA)
  by_cases hm : l.val / 8 = G.val
  · have he : l = expertLane G ⟨l.val % 8, by omega⟩ := Fin.ext (show l.val = 8 * G.val + l.val % 8 by omega)
    refine .inr ⟨_, he, ?_, order_second (expertsOf L G) _ (fun h => hA (he.trans (congrArg (expertLane G) h)))
      fun h => hl (he.trans (congrArg (expertLane G) h))⟩
    exact (congrArg (otherLanes L G _) he).trans (otherLanes_lane L G _ _ fun h => hA (he.trans (congrArg (expertLane G) h)))
  · exact .inl ((if_neg hA).trans (if_neg hm))

/-- A sum over the groups' lanes. -/
theorem sum_groups (f : Fin 128 → EReal) :
    (∑ l : Fin 128, if 32 ≤ l.val ∧ l.val < 36 then f l else 0) = ∑ g : Fin 4, f (groupLane g) := by
  rw [← Finset.sum_filter]
  refine (Finset.sum_bij (fun (g : Fin 4) _ => groupLane g) ?_ ?_ ?_ fun _ _ => rfl).symm
  · intro g _
    simp only [Finset.mem_filter, Finset.mem_univ, true_and, groupLane]
    omega
  · intro a _ b _ h; exact groupLane_mono.injective h
  · intro l hl
    simp only [Finset.mem_filter, Finset.mem_univ, true_and] at hl
    exact ⟨⟨l.val - 32, by omega⟩, Finset.mem_univ _, Fin.ext (show 32 + (l.val - 32) = l.val by omega)⟩

end

/-- The name of the logits' mask is −∞. -/
theorem below : (Named.named (F := Ideal) (φ := .f32) κ "below" 0xF149F2CA#32 : EReal) = ⊥ := IdealRules.named_const.ideal_named_scalar _ _ _ _ rfl

/-- The lanes' numbers. -/
abbrev lanes : IVec S256x128 32 := iota .tc S256x128 32 [1] iota_S256x128_d1_w32

theorem group_mask : ∀ l : Fin 128, IntOp.andi (IntOp.cmpi .sge (BitVec.ofNat 32 l.val) 32#32) (IntOp.cmpi .slt (BitVec.ofNat 32 l.val) 36#32)
    = BitVec.ofBool (decide (32 ≤ l.val ∧ l.val < 36)) := by decide +kernel

theorem expert_mask : ∀ (G : Fin 4) (l : Fin 128),
    IntOp.andi (IntOp.cmpi .sge (BitVec.ofNat 32 l.val) (IntOp.muli (IntOp.subi (BitVec.ofNat 32 (groupLane G).val) 32#32) 8#32))
      (IntOp.cmpi .slt (BitVec.ofNat 32 l.val) (IntOp.muli (IntOp.addi (IntOp.subi (BitVec.ofNat 32 (groupLane G).val) 32#32) 1#32) 8#32))
    = BitVec.ofBool (decide (l.val / 8 = G.val)) := by decide +kernel

theorem lane_eq : ∀ k l : Fin 128, IntOp.cmpi .eq (BitVec.ofNat 32 l.val) (BitVec.ofNat 32 k.val) = BitVec.ofBool (decide (l = k)) := by
  intro k l
  by_cases h : l = k
  · subst h; simp [IntOp.cmpi]
  · have : BitVec.ofNat 32 l.val ≠ BitVec.ofNat 32 k.val := fun he => h (Fin.ext (by
      have := congrArg BitVec.toNat he
      rw [BitVec.toNat_ofNat, BitVec.toNat_ofNat, Nat.mod_eq_of_lt (by omega), Nat.mod_eq_of_lt (by omega)] at this
      exact this))
    have hb : (BitVec.ofNat 32 l.val == BitVec.ofNat 32 k.val) = false := by simpa using this
    simp [IntOp.cmpi, h, hb]

theorem select_if {α : Type} (p : Prop) [Decidable p] (x y : α) : Scalar.select (BitVec.ofBool (decide p)) x y = if p then x else y := by
  by_cases h : p <;> simp [Scalar.select, h]

section
variable (n : FVec Ideal S256x2048 .f32) (w : FVec Ideal S2048x128 .f32) (b : FVec Ideal S1x128 .f32) (r : Fin 256)

/-- A row's logits in their lanes. -/
abbrev laneLogits (l : Fin 128) : EReal := k0_pay12 n w b (ix2 r l)

theorem pay14_apply (l : Fin 128) : k0_pay14 n w b (ix2 r l) = groupLanes (laneLogits n w b r) l := by
  have h13 : k0_pay13 (ix2 r l) = BitVec.ofBool (decide (32 ≤ l.val ∧ l.val < 36)) := by
    refine Eq.trans ?_ (group_mask l)
    unfold_payloads; pointwise
  unfold k0_pay14; pointwise
  rw [h13, below, select_if]
  rfl

variable (h : ∀ l, laneLogits n w b r l ≠ ⊥)
include h

theorem pay15_apply : k0_pay15 n w b (ix2 r 0) = groupsOf (laneLogits n w b r) (order (groupsOf (laneLogits n w b r)) 0) := by
  have h15 : k0_pay15 n w b (ix2 r 0) = Finset.univ.fold max (Ideal.ofBits .f32 0xFF800000#32) fun l => k0_pay14 n w b (ix2 r l) := by
    unfold k0_pay15; pointwise
  rw [h15, show (fun l => k0_pay14 n w b (ix2 r l)) = groupLanes (laneLogits n w b r) from funext fun l => pay14_apply n w b r l,
    (first_group _ h).fold_max, groupLanes_lane]

theorem pay17_apply : k0_pay17 (k0_pay16 n w b) (ix2 r 0) = groupWeight (groupsOf (laneLogits n w b r)) := by
  have h13 : ∀ l : Fin 128, k0_pay13 (ix2 r l) = BitVec.ofBool (decide (32 ≤ l.val ∧ l.val < 36)) := fun l => by
    refine Eq.trans ?_ (group_mask l)
    unfold_payloads; pointwise
  have h16 : ∀ l : Fin 128, k0_pay16 n w b (ix2 r l) = if 32 ≤ l.val ∧ l.val < 36 then
      Ideal.exp (k0_pay14 n w b (ix2 r l) - k0_pay15 n w b (ix2 r 0)) else 0 := fun l => by
    refine Eq.trans ?_ (select_if _ _ _)
    rw [← h13]
    unfold k0_pay16; pointwise
  have h17 : ∀ v : FVec Ideal S256x128 .f32, k0_pay17 v (ix2 r 0) = Ideal.div 1 (∑ l : Fin 128, v (ix2 r l)) := fun v => by
    unfold_payloads; pointwise
  rw [h17, Finset.sum_congr rfl fun l _ => h16 l, sum_groups, pay15_apply n w b r h]
  unfold groupWeight
  refine congrArg (Ideal.div 1) (Finset.sum_congr rfl fun g _ => congrArg (fun y : EReal => Ideal.exp (y - _)) ?_)
  rw [pay14_apply, groupLanes_lane]

theorem pay18_apply (l : Fin 128) : k0_pay18 (k0_pay12 n w b) lanes (k0_pay14 n w b) (k0_pay15 n w b) (ix2 r l)
    = expertLanes (laneLogits n w b r) (order (groupsOf (laneLogits n w b r)) 0) l := by
  have hf := first_group _ h
  have hm := hf.fold_minsi
  have h15 := pay15_apply n w b r h
  rw [← groupLanes_lane] at h15
  have h18 : ∀ (v96 v104 : FVec Ideal S256x128 .f32) (v106 : FVec Ideal S256x1 .f32) (X : BitVec 32),
      Finset.univ.fold IntOp.minsi (2147483647#32)
        (fun x : Fin 128 => if v104 (ix2 r x) = v106 (ix2 r 0) then BitVec.ofNat 32 x.val else 1048576#32) = X →
      k0_pay18 v96 lanes v104 v106 (ix2 r l) = Scalar.select
        (IntOp.andi (IntOp.cmpi .sge (BitVec.ofNat 32 l.val) (IntOp.muli (IntOp.subi X 32#32) 8#32))
          (IntOp.cmpi .slt (BitVec.ofNat 32 l.val) (IntOp.muli (IntOp.addi (IntOp.subi X 32#32) 1#32) 8#32)))
        (v96 (ix2 r l)) ⊥ := by
    intro v96 v104 v106 X hX
    rw [← hX, ← below]
    unfold_payloads; pointwise
  refine (h18 _ _ _ _ (Eq.trans ?_ hm)).trans ?_
  · rw [h15]
    exact congrArg (fun f : Fin 128 → BitVec 32 => Finset.univ.fold IntOp.minsi (2147483647#32) f) (funext fun x => by rw [pay14_apply])
  · rw [expert_mask, select_if]; rfl

/-- The first group's expert logits' order, from the row's logits. -/
abbrev group : Fin 4 := order (groupsOf (laneLogits n w b r)) 0
@[inherit_doc group] abbrev expertOrder : Fin 8 → Fin 8 := order (expertsOf (laneLogits n w b r) (group n w b r))

theorem masked_eq : (fun l => k0_pay18 (k0_pay12 n w b) lanes (k0_pay14 n w b) (k0_pay15 n w b) (ix2 r l))
    = expertLanes (laneLogits n w b r) (group n w b r) := funext fun l => pay18_apply n w b r h l

theorem pay19_apply : k0_pay19 (k0_pay12 n w b) lanes (k0_pay14 n w b) (k0_pay15 n w b) (ix2 r 0)
    = expertsOf (laneLogits n w b r) (group n w b r) (expertOrder n w b r 0) := by
  have h19 : k0_pay19 (k0_pay12 n w b) lanes (k0_pay14 n w b) (k0_pay15 n w b) (ix2 r 0)
      = Finset.univ.fold max (Ideal.ofBits .f32 0xFF800000#32) fun l => k0_pay18 (k0_pay12 n w b) lanes (k0_pay14 n w b) (k0_pay15 n w b) (ix2 r l) := by
    unfold k0_pay19; pointwise
  rw [h19, masked_eq n w b r h, (first_expert _ h _).fold_max, expertLanes_lane]

theorem pay20_apply : k0_pay20 (k0_pay12 n w b) lanes (k0_pay14 n w b) (k0_pay15 n w b) (ix2 r 0)
    = BitVec.ofNat 32 (expertLane (group n w b r) (expertOrder n w b r 0)).val := by
  have hf := first_expert _ h (group n w b r)
  have h20 : ∀ (v96 v104 : FVec Ideal S256x128 .f32) (v106 : FVec Ideal S256x1 .f32), k0_pay20 v96 lanes v104 v106 (ix2 r 0)
      = Finset.univ.fold IntOp.minsi (2147483647#32) fun x : Fin 128 =>
          if k0_pay18 v96 lanes v104 v106 (ix2 r x) = k0_pay19 v96 lanes v104 v106 (ix2 r 0) then BitVec.ofNat 32 x.val else 1048576#32 := by
    intro v96 v104 v106
    unfold k0_pay20; pointwise
  rw [h20, pay19_apply n w b r h, ← expertLanes_lane]
  refine Eq.trans ?_ hf.fold_minsi
  exact congrArg (fun f : Fin 128 → BitVec 32 => Finset.univ.fold IntOp.minsi (2147483647#32) f) (funext fun x => by rw [pay18_apply n w b r h])

theorem pay21_apply (l : Fin 128) : k0_pay21 (k0_pay12 n w b) lanes (k0_pay14 n w b) (k0_pay15 n w b) (ix2 r l)
    = otherLanes (laneLogits n w b r) (group n w b r) (expertOrder n w b r 0) l := by
  have h21 : ∀ (v96 v104 : FVec Ideal S256x128 .f32) (v106 : FVec Ideal S256x1 .f32), k0_pay21 v96 lanes v104 v106 (ix2 r l)
      = Scalar.select (IntOp.cmpi .eq (BitVec.ofNat 32 l.val) (k0_pay20 v96 lanes v104 v106 (ix2 r 0))) ⊥ (k0_pay18 v96 lanes v104 v106 (ix2 r l)) := by
    intro v96 v104 v106
    rw [← below]
    unfold k0_pay21; pointwise
  rw [h21, pay20_apply n w b r h, lane_eq, select_if, pay18_apply n w b r h]
  rfl

theorem pay22_apply : k0_pay22 (k0_pay12 n w b) lanes (k0_pay14 n w b) (k0_pay15 n w b) (ix2 r 0)
    = expertsOf (laneLogits n w b r) (group n w b r) (expertOrder n w b r 1) := by
  have h22 : k0_pay22 (k0_pay12 n w b) lanes (k0_pay14 n w b) (k0_pay15 n w b) (ix2 r 0)
      = Finset.univ.fold max (Ideal.ofBits .f32 0xFF800000#32) fun l => k0_pay21 (k0_pay12 n w b) lanes (k0_pay14 n w b) (k0_pay15 n w b) (ix2 r l) := by
    unfold k0_pay22; pointwise
  rw [h22, show (fun l => k0_pay21 (k0_pay12 n w b) lanes (k0_pay14 n w b) (k0_pay15 n w b) (ix2 r l)) = _ from funext fun l => pay21_apply n w b r h l,
    (second_expert _ h _).fold_max, otherLanes_lane _ _ _ _ (order_ne _)]

theorem pay23_apply : k0_pay23 (k0_pay12 n w b) lanes (k0_pay14 n w b) (k0_pay15 n w b) (ix1 r)
    = BitVec.ofNat 32 (expertLane (group n w b r) (expertOrder n w b r 1)).val := by
  have hf := second_expert _ h (group n w b r)
  have h23 : ∀ (v96 v104 : FVec Ideal S256x128 .f32) (v106 : FVec Ideal S256x1 .f32), k0_pay23 v96 lanes v104 v106 (ix1 r)
      = Finset.univ.fold IntOp.minsi (2147483647#32) fun x : Fin 128 =>
          if k0_pay21 v96 lanes v104 v106 (ix2 r x) = k0_pay22 v96 lanes v104 v106 (ix2 r 0) then BitVec.ofNat 32 x.val else 1048576#32 := by
    intro v96 v104 v106
    unfold k0_pay23; pointwise
  rw [h23, pay22_apply n w b r h, ← otherLanes_lane _ _ _ _ (order_ne _)]
  refine Eq.trans ?_ hf.fold_minsi
  exact congrArg (fun f : Fin 128 → BitVec 32 => Finset.univ.fold IntOp.minsi (2147483647#32) f) (funext fun x => by rw [pay21_apply n w b r h])

/-- THE ROUTER OF A ROW: the experts' weights, from the row's logits. -/
theorem routed (l : Fin 128) :
    k0_pay1 lanes (k0_pay17 (k0_pay16 n w b))
        (k0_pay19 (k0_pay12 n w b) lanes (k0_pay14 n w b) (k0_pay15 n w b)) (k0_pay20 (k0_pay12 n w b) lanes (k0_pay14 n w b) (k0_pay15 n w b))
        (k0_pay22 (k0_pay12 n w b) lanes (k0_pay14 n w b) (k0_pay15 n w b)) (k0_pay23 (k0_pay12 n w b) lanes (k0_pay14 n w b) (k0_pay15 n w b)) (ix2 r l)
      = combine (groupsOf (laneLogits n w b r)) (expertsOf (laneLogits n w b r)) l := by
  have h1 : ∀ (v115 v138 v150 : FVec Ideal S256x1 .f32) (v144 : IVec S256x1 32) (v155 : IVec S256 32),
      k0_pay1 lanes v115 v138 v144 v150 v155 (ix2 r l)
        = Scalar.select (IntOp.cmpi .eq (BitVec.ofNat 32 l.val) (v144 (ix2 r 0)))
            (Ideal.div (v115 (ix2 r 0)) (1 + Ideal.exp (v150 (ix2 r 0) - v138 (ix2 r 0)))) 0
          + Scalar.select (IntOp.cmpi .eq (BitVec.ofNat 32 l.val) (v155 (ix1 r)))
            (Ideal.div (v115 (ix2 r 0) * Ideal.exp (v150 (ix2 r 0) - v138 (ix2 r 0))) (1 + Ideal.exp (v150 (ix2 r 0) - v138 (ix2 r 0)))) 0 := by
    intro v115 v138 v150 v144 v155
    unfold_payloads; pointwise
  rw [h1, pay17_apply n w b r h, pay19_apply n w b r h, pay20_apply n w b r h, pay22_apply n w b r h, pay23_apply n w b r h, lane_eq, lane_eq,
    select_if, select_if]
  unfold combine ratio
  refine congrArg₂ (fun a b : EReal => a + b) (if_congr ?_ rfl rfl) (if_congr ?_ rfl rfl)
  · exact Fin.ext_iff
  · exact Fin.ext_iff

end

end Cert.Proof.Router

end
-- ==== Proof.Router.Block.lean ====
module

public import proofs.«01_k».proof.Proof.Router.Lanes
public import proofs.«01_k».proof.Proof.Weights

/-! One block of 256 rows of the output projection and the router, over the extended reals: what the body stores in its three outputs. -/

@[expose] public section

set_option maxRecDepth 16384

noncomputable section

namespace Cert.Proof.Router

open Cert.Kernel4Ideal Cert.Kernel4Ideal.Gen Idealize.ShloMosaic Idealize.ShloMosaic.TcCoe Idealize.SL.Sem
open Cert.Proof.Weights

/-- Four blocks of 512 columns hold a row of gates. -/
structure Gates (z : Fin 2048 → EReal) (v0 v1 v2 v3 : Vec Ideal S256x512 .f32) (r : Fin 256) : Prop where
  h0 : ∀ j : Fin 512, v0 (ix2 r j) = z ⟨j.val, by omega⟩
  h1 : ∀ j : Fin 512, v1 (ix2 r j) = z ⟨512 + j.val, by omega⟩
  h2 : ∀ j : Fin 512, v2 (ix2 r j) = z ⟨1024 + j.val, by omega⟩
  h3 : ∀ j : Fin 512, v3 (ix2 r j) = z ⟨1536 + j.val, by omega⟩

section Terms
variable {F : FTy → Type} [FloatOps F]

/-- The gates of a block, side by side. -/
def gated (v0 v1 v2 v3 : Vec F S256x512 .f32) : FVec F S256x2048 .f32 :=
  concatenate S256x2048 1 [⟨S256x512, logistic (F := F) v0⟩, ⟨S256x512, logistic (F := F) v1⟩, ⟨S256x512, logistic (F := F) v2⟩,
    ⟨S256x512, logistic (F := F) v3⟩] concatenates_S256x512_S256x512_S256x512_S256x512_S256x2048_d1

/-- A branch's projection through its gates. -/
def branch (g : FVec F S256x2048 .f32) (o : Vec F S256x1024 .bf16) (w : Vec F S1024x2048 .bf16) : FVec F S256x2048 .f32 :=
  mulf g (matmul dot_S256x1024_S1024x2048_S256x2048_1_0_0_1_n_n none (shapeCast S256x1024 o shapeCasts_S256x1024_S256x1024)
    (shapeCast S1024x2048 w shapeCasts_S1024x2048_S1024x2048) (constant S256x2048 .f32 0x00000000#32))

end Terms

theorem gated_apply (z : Fin 2048 → EReal) (v0 v1 v2 v3 : Vec Ideal S256x512 .f32) (r : Fin 256) (h : Gates z v0 v1 v2 v3 r) (k : Fin 2048) :
    gated v0 v1 v2 v3 (ix2 r k) = sigmoid (z k) := by
  have hk := k.isLt
  pointwise [gated]
  have key : ∀ (y : EReal) (j : Fin 2048), y = z j → j.val = k.val → Ideal.logistic y = sigmoid (z k) := by
    rintro _ j rfl hj
    rw [show j = k from Fin.ext hj]
    rfl
  split_ifs <;> first
    | (refine key _ _ (h.h0 _) ?_; first | omega | (dsimp only; omega) | (dsimp only; done))
    | (refine key _ _ (h.h1 _) ?_; first | omega | (dsimp only; omega) | (dsimp only; done))
    | (refine key _ _ (h.h2 _) ?_; first | omega | (dsimp only; omega) | (dsimp only; done))
    | (refine key _ _ (h.h3 _) ?_; first | omega | (dsimp only; omega) | (dsimp only; done))
    | (exfalso; omega)

theorem branch_apply (g : FVec Ideal S256x2048 .f32) (o : Vec Ideal S256x1024 .bf16) (w : Vec Ideal S1024x2048 .bf16) (r : Fin 256) (k : Fin 2048) :
    branch g o w (ix2 r k) = g (ix2 r k) * ∑ j : Fin 1024, o (ix2 r j) * w (ix2 j k) := by
  pointwise [branch]

/-- The merged branches of a block. -/
theorem pay2_apply (za zb : Fin 2048 → EReal) (v0 v2 v4 v6 v9 v11 v13 v15 : Vec Ideal S256x512 .f32) (v18 : Vec Ideal S256x1024 .bf16)
    (v20 : Vec Ideal S1024x2048 .bf16) (v24 : Vec Ideal S256x1024 .bf16) (v26 : Vec Ideal S1024x2048 .bf16) (r : Fin 256)
    (ha : Gates za v0 v2 v4 v6 r) (hb : Gates zb v9 v11 v13 v15 r) (k : Fin 2048) :
    k0_pay2 v0 v2 v4 v6 v9 v11 v13 v15 v18 v20 v24 v26 (ix2 r k)
      = merged (fun j => v18 (ix2 r j)) (fun j => v24 (ix2 r j)) za zb v20 v26 k := by
  have he : k0_pay2 v0 v2 v4 v6 v9 v11 v13 v15 v18 v20 v24 v26
      = truncf .bf16 (addf (branch (gated v0 v2 v4 v6) v18 v20) (branch (gated v9 v11 v13 v15) v24 v26)) bitsLt_bf16_f32 := rfl
  rw [he]
  show branch (gated v0 v2 v4 v6) v18 v20 (ix2 r k) + branch (gated v9 v11 v13 v15) v24 v26 (ix2 r k) = _
  rw [branch_apply, branch_apply, gated_apply za _ _ _ _ _ ha, gated_apply zb _ _ _ _ _ hb]
  rfl

/-- The residual rows of a block. -/
theorem pay3_apply (v31 : FVec Ideal S256x2048 .bf16) (x : Vec Ideal S256x2048 .f32) (w : Vec Ideal S2048x2048 .bf16) (r : Fin 256) (d : Fin 2048) :
    k0_pay3 v31 x w (ix2 r d) = hidden (fun k => x (ix2 r k)) (fun k => v31 (ix2 r k)) w d := by
  unfold hidden
  unfold_payloads; pointwise

/-- The normalised rows of a block. -/
theorem pay4_apply (v31 : FVec Ideal S256x2048 .bf16) (x : Vec Ideal S256x2048 .f32) (w : Vec Ideal S2048x2048 .bf16) (g : Vec Ideal S1x2048 .f32)
    (r : Fin 256) (d : Fin 2048) :
    k0_pay4 v31 x w g (ix2 r d) = Input.normed (fun k => k0_pay3 v31 x w (ix2 r k)) (fun k => g (ix2 0 k)) d := by
  unfold Input.normed
  unfold k0_pay4; pointwise

/-- The slabs' column `c` of slab `s`. -/
theorem at_col (v : FVec Ideal S256x2048 .f32) (r : Fin 256) (a : Fin 2048) (s : Fin 4) (c : Fin 512)
    (h : a.val = c.val / 256 * 1024 + s.val * 256 + c.val % 256) : v (ix2 r a) = v (ix2 r (Experts.col s c)) :=
  congrArg (fun a => v (ix2 r a)) (Fin.ext h)

section
variable (v31 : FVec Ideal S256x2048 .bf16) (x : Vec Ideal S256x2048 .f32) (w : Vec Ideal S2048x2048 .bf16) (g : Vec Ideal S1x2048 .f32)
variable (r : Fin 256) (c : Fin 512)

/-- The four stored slabs, at a row and a column. -/
theorem stored_0 : k0_pay8 v31 x w g (ix3 0 r c) = k0_pay4 v31 x w g (ix2 r (Experts.col 0 c)) := by
  have hc := c.isLt
  unfold k0_pay8 k0_pay5; pointwise
  split_ifs <;> refine at_col (k0_pay4 v31 x w g) r _ 0 c ?_ <;> simp only [Fin.val_zero] <;> omega
@[inherit_doc stored_0] theorem stored_1 : k0_pay9 v31 x w g (ix3 0 r c) = k0_pay4 v31 x w g (ix2 r (Experts.col 1 c)) := by
  have hc := c.isLt
  unfold k0_pay9 k0_pay5; pointwise
  split_ifs <;> refine at_col (k0_pay4 v31 x w g) r _ 1 c ?_ <;> show _ = c.val / 256 * 1024 + 1 * 256 + c.val % 256 <;> dsimp only <;> omega
@[inherit_doc stored_0] theorem stored_2 : k0_pay10 (k0_pay6 v31 x w g) (ix3 0 r c) = k0_pay4 v31 x w g (ix2 r (Experts.col 2 c)) := by
  have hc := c.isLt
  unfold k0_pay10 k0_pay6 k0_pay5; pointwise
  split_ifs <;> refine at_col (k0_pay4 v31 x w g) r _ 2 c ?_ <;> show _ = c.val / 256 * 1024 + 2 * 256 + c.val % 256 <;> dsimp only <;> omega
@[inherit_doc stored_0] theorem stored_3 : k0_pay11 (k0_pay7 v31 x w g) (ix3 0 r c) = k0_pay4 v31 x w g (ix2 r (Experts.col 3 c)) := by
  have hc := c.isLt
  unfold k0_pay11 k0_pay7 k0_pay5; pointwise
  split_ifs <;> refine at_col (k0_pay4 v31 x w g) r _ 3 c ?_ <;> show _ = c.val / 256 * 1024 + 3 * 256 + c.val % 256 <;> dsimp only <;> omega
end

/-- The logits of a row of numbers: the products of the rounding errors are zero. -/
theorem logits_apply (n : FVec Ideal S256x2048 .f32) (w : FVec Ideal S2048x128 .f32) (b : FVec Ideal S1x128 .f32) (r : Fin 256) (l : Fin 128)
    (hn : ∀ k, IsReal (n (ix2 r k))) (hw : ∀ k, IsReal (w (ix2 k l))) :
    k0_pay12 n w b (ix2 r l) = (∑ k : Fin 2048, n (ix2 r k) * w (ix2 k l)) + b (ix2 0 l) := by
  have h : k0_pay12 n w b (ix2 r l) = ∑ k : Fin 2048, n (ix2 r k) * w (ix2 k l)
      + (∑ k : Fin 2048, n (ix2 r k) * (w (ix2 k l) - w (ix2 k l)) + ∑ k : Fin 2048, (n (ix2 r k) - n (ix2 r k)) * w (ix2 k l)) + b (ix2 0 l) := by
    unfold_payloads; pointwise
  have zero : ∀ y : EReal, IsReal y → y - y = 0 := by
    rintro _ ⟨y, rfl⟩
    rw [← EReal.coe_sub, sub_self, EReal.coe_zero]
  have h1 : ∑ k : Fin 2048, n (ix2 r k) * (w (ix2 k l) - w (ix2 k l)) = 0 :=
    Finset.sum_eq_zero fun k _ => (congrArg (n (ix2 r k) * ·) (zero _ (hw k))).trans (mul_zero _)
  have h2 : ∑ k : Fin 2048, (n (ix2 r k) - n (ix2 r k)) * w (ix2 k l) = 0 :=
    Finset.sum_eq_zero fun k _ => (congrArg (· * w (ix2 k l)) (zero _ (hn k))).trans (zero_mul _)
  rw [h, h1, h2, add_zero, add_zero]

/-- Real numbers are kept by the operations of the layer. -/
theorem IsReal.mul {x y : EReal} (hx : IsReal x) (hy : IsReal y) : IsReal (x * y) := by
  obtain ⟨x, rfl⟩ := hx; obtain ⟨y, rfl⟩ := hy
  exact ⟨x * y, (EReal.coe_mul x y).symm⟩
@[inherit_doc IsReal.mul] theorem IsReal.add {x y : EReal} (hx : IsReal x) (hy : IsReal y) : IsReal (x + y) := by
  obtain ⟨x, rfl⟩ := hx; obtain ⟨y, rfl⟩ := hy
  exact ⟨x + y, (EReal.coe_add x y).symm⟩
@[inherit_doc IsReal.mul] theorem IsReal.sum {ι : Type} [Fintype ι] {f : ι → EReal} (h : ∀ i, IsReal (f i)) : IsReal (∑ i, f i) := by
  classical
  have : ∀ s : Finset ι, IsReal (∑ i ∈ s, f i) := fun s => by
    induction s using Finset.induction_on with
    | empty => exact ⟨0, by rw [Finset.sum_empty, EReal.coe_zero]⟩
    | insert a s ha ih => rw [Finset.sum_insert ha]; exact IsReal.add (h a) ih
  exact this _
theorem IsReal.ne_bot {x : EReal} (h : IsReal x) : x ≠ ⊥ := by
  obtain ⟨x, rfl⟩ := h
  exact EReal.coe_ne_bot x

theorem square_nonneg (y : EReal) : 0 ≤ y * y := by
  rcases le_total 0 y with h | h
  · exact EReal.mul_nonneg h h
  · rw [← neg_mul_neg]
    have h' : 0 ≤ -y := by rwa [EReal.le_neg, neg_zero]
    exact EReal.mul_nonneg h' h'

/-- A row normalised by a real gain is a row of real numbers, whatever it was: an infinite mean square makes it zero. -/
theorem normed_real (x g : Fin 2048 → EReal) (hg : ∀ k, IsReal (g k)) (k : Fin 2048) : IsReal (Input.normed x g k) := by
  have hw : Ideal.ofBits .f32 0x45000000#32 = ((2048 : ℝ) : EReal) := by
    simp [Ideal.ofBits, Ideal.ieee]
    rw [← EReal.coe_mul]
    norm_num
  obtain ⟨e, he, hpos⟩ : ∃ e : ℝ, Ideal.ofBits .f32 0x358637BD#32 = (e : EReal) ∧ 0 < e := by
    refine ⟨_, rfl, ?_⟩
    simp [Ideal.ieee]
  unfold Input.normed
  rw [hw, he, Ideal.div_coe (by norm_num)]
  by_cases h : ∀ l, IsReal (x l)
  · refine IsReal.mul (IsReal.mul (h k) ?_) (hg k)
    have hs : ∃ s : ℝ, (∑ l, x l * x l) = (s : EReal) ∧ 0 ≤ s := by
      obtain ⟨s, hs⟩ := IsReal.sum fun l => IsReal.mul (h l) (h l)
      refine ⟨s, hs, ?_⟩
      have : (0 : EReal) ≤ (s : EReal) := hs ▸ Finset.sum_nonneg fun l _ => square_nonneg (x l)
      exact_mod_cast this
    obtain ⟨s, hs, h0⟩ := hs
    rw [hs, ← EReal.coe_mul, ← EReal.coe_add]
    have : 0 < s * (1 / 2048) + e := by positivity
    refine ⟨(√(s * (1 / 2048) + e))⁻¹, ?_⟩
    rw [Ideal.rsqrt_coe, if_neg (not_lt.mpr this.le), if_neg this.ne']
  · push Not at h
    obtain ⟨l, hl⟩ := h
    have ht : x l * x l = ⊤ := by
      induction hx : x l with
      | bot => exact EReal.bot_mul_bot
      | top => exact EReal.top_mul_top
      | coe y => exact absurd ⟨y, hx⟩ hl
    have hs : (∑ l, x l * x l) = ⊤ := top_le_iff.mp (ht ▸ Finset.single_le_sum (f := fun l => x l * x l) (fun l _ => square_nonneg (x l)) (Finset.mem_univ l))
    rw [hs, EReal.top_mul_coe_of_pos (by norm_num), EReal.top_add_coe, Ideal.rsqrt_top, mul_zero, zero_mul]
    exact ⟨0, EReal.coe_zero.symm⟩

end Cert.Proof.Router

end
-- ==== Proof.Router.Output.lean ====
module

public import proofs.«01_k».proof.Proof.Router.Block

/-! What the output projection's and router's kernel leaves in its three results: the closed form. -/

@[expose] public section

set_option maxRecDepth 16384

noncomputable section

namespace Cert.Proof.Router

open Cert.Kernel4Ideal Cert.Kernel4Ideal.Gen Idealize.ShloMosaic Idealize.ShloMosaic.TcCoe Idealize.SL.Sem
open Cert.Proof.Weights

section Terms
variable {F : FTy → Type} [FloatOps F]

/-- The router's matrices and biases side by side, as the kernel reads them. -/
def matrices (we : FVec F S4x2048x8 .f32) (wg : FVec F S2048x4 .f32) : FVec F S2048x128 .f32 :=
  concatenate S2048x128 1 [⟨S2048x32, shapeCast S2048x32 (transpose S2048x4x8 [1, 0, 2] we transposes_S4x2048x8_S2048x4x8_1_0_2)
      shapeCasts_S2048x4x8_S2048x32⟩, ⟨S2048x4, wg⟩,
    ⟨S2048x92, broadcastInDim S2048x92 ![] bcast_S_S2048x92 (constant (F := F) S_ .f32 0x00000000#32)⟩]
    concatenates_S2048x32_S2048x4_S2048x92_S2048x128_d1
@[inherit_doc matrices] def biases (be : FVec F S4x8 .f32) (bg : FVec F S4 .f32) : FVec F S1x128 .f32 :=
  shapeCast S1x128 (concatenate S128 0 [⟨S32, shapeCast S32 be shapeCasts_S4x8_S32⟩, ⟨S4, bg⟩,
    ⟨S92, broadcastInDim S92 ![] bcast_S_S92 (constant (F := F) S_ .f32 0x00000000#32)⟩] concatenates_S32_S4_S92_S128_d0) shapeCasts_S128_S1x128

variable [Named F] (m : (ℓ : Loc nD τ sig) → Buf (Elt F) ℓ) (c : Dev nD)

/-- The arrays of the input windows when the call is entered. -/
theorem V_matrices : V m c main_v3 = matrices (m ((c : Thread nD τ).loc main_arg10)) (m ((c : Thread nD τ).loc main_arg8)) := by
  unfold V
  simp only [hostOps0]
  after_results
  rfl
@[inherit_doc V_matrices] theorem V_biases : V m c main_v7 = biases (m ((c : Thread nD τ).loc main_arg11)) (m ((c : Thread nD τ).loc main_arg9)) := by
  unfold V
  simp only [hostOps0]
  after_results
  rfl
@[inherit_doc V_matrices] theorem V_rows : V m c main_v8 = shapeCast S32768x2048 (m ((c : Thread nD τ).loc main_arg0)) shapeCasts_S4x8192x2048_S32768x2048 := by
  unfold V
  simp only [hostOps0]
  after_results
  rfl
@[inherit_doc V_matrices] theorem V_a : V m c main_v9 = shapeCast S32768x1024 (m ((c : Thread nD τ).loc main_arg1)) shapeCasts_S4x8192x1024_S32768x1024 := by
  unfold V
  simp only [hostOps0]
  after_results
  rfl
@[inherit_doc V_matrices] theorem V_b : V m c main_v10 = shapeCast S32768x1024 (m ((c : Thread nD τ).loc main_arg2)) shapeCasts_S4x8192x1024_S32768x1024 := by
  unfold V
  simp only [hostOps0]
  after_results
  rfl
@[inherit_doc V_matrices] theorem V_wa : V m c main_v11 = truncf .bf16 (m ((c : Thread nD τ).loc main_arg4)) bitsLt_bf16_f32 := by
  unfold V
  simp only [hostOps0]
  after_results
@[inherit_doc V_matrices] theorem V_wb : V m c main_v12 = truncf .bf16 (m ((c : Thread nD τ).loc main_arg5)) bitsLt_bf16_f32 := by
  unfold V
  simp only [hostOps0]
  after_results
@[inherit_doc V_matrices] theorem V_wo : V m c main_v13 = truncf .bf16 (m ((c : Thread nD τ).loc main_arg6)) bitsLt_bf16_f32 := by
  unfold V
  simp only [hostOps0]
  after_results
@[inherit_doc V_matrices] theorem V_gain : V m c main_v14 = shapeCast S1x2048 (m ((c : Thread nD τ).loc main_arg7)) shapeCasts_S2048_S1x2048 := by
  unfold V
  simp only [hostOps0]
  after_results
  rfl

end Terms

theorem matrices_apply (we : FVec Ideal S4x2048x8 .f32) (wg : FVec Ideal S2048x4 .f32) (k : Fin 2048) (l : Fin 128) :
    matrices we wg (ix2 k l) = if h : l.val < 32 then we (ix3 ⟨l.val / 8, by omega⟩ k ⟨l.val % 8, by omega⟩)
      else if h' : l.val - 32 < 4 then wg (ix2 k ⟨l.val - 32, by omega⟩) else 0 := by
  have hl := l.isLt
  pointwise [matrices]

theorem biases_apply (be : FVec Ideal S4x8 .f32) (bg : FVec Ideal S4 .f32) (l : Fin 128) :
    biases be bg (ix2 0 l) = if h : l.val < 32 then be (ix2 ⟨l.val / 8, by omega⟩ ⟨l.val % 8, by omega⟩)
      else if h' : l.val - 32 < 4 then bg (ix1 ⟨l.val - 32, by omega⟩) else 0 := by
  have hl := l.isLt
  pointwise [biases]

theorem rows_read (x : FVec Ideal S4x8192x2048 .f32) (r : Fin 32768) (k : Fin 2048) :
    shapeCast S32768x2048 x shapeCasts_S4x8192x2048_S32768x2048 (ix2 r k) = Input.rowOf x r k := by
  unfold Input.rowOf
  pointwise
theorem branch_read (o : FVec Ideal S4x8192x1024 .bf16) (r : Fin 32768) (j : Fin 1024) :
    shapeCast S32768x1024 o shapeCasts_S4x8192x1024_S32768x1024 (ix2 r j) = branchRow o r j := by
  unfold branchRow
  pointwise
theorem gain_read (g : FVec Ideal S2048 .f32) (k : Fin 2048) :
    shapeCast S1x2048 g shapeCasts_S2048_S1x2048 (ix2 0 k) = g (ix1 k) := by
  pointwise

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 9] :=
  (by decide +kernel : ∀ t : Fin grid0.N, win0_2.index t = ![t.val, 9])
theorem index3 : ∀ t : Fin cfg0.N, win0_3.index t = ![t.val, 10] :=
  (by decide +kernel : ∀ t : Fin grid0.N, win0_3.index t = ![t.val, 10])
theorem index4 : ∀ t : Fin cfg0.N, win0_4.index t = ![t.val, 11] :=
  (by decide +kernel : ∀ t : Fin grid0.N, win0_4.index t = ![t.val, 11])
theorem index5 : ∀ t : Fin cfg0.N, win0_5.index t = ![t.val, 12] :=
  (by decide +kernel : ∀ t : Fin grid0.N, win0_5.index t = ![t.val, 12])
theorem index6 : ∀ t : Fin cfg0.N, win0_6.index t = ![t.val, 13] :=
  (by decide +kernel : ∀ t : Fin grid0.N, win0_6.index t = ![t.val, 13])
theorem index7 : ∀ t : Fin cfg0.N, win0_7.index t = ![t.val, 14] :=
  (by decide +kernel : ∀ t : Fin grid0.N, win0_7.index t = ![t.val, 14])
theorem index8 : ∀ t : Fin cfg0.N, win0_8.index t = ![t.val, 15] :=
  (by decide +kernel : ∀ t : Fin grid0.N, win0_8.index t = ![t.val, 15])
theorem index9 : ∀ t : Fin cfg0.N, win0_9.index t = ![t.val, 16] :=
  (by decide +kernel : ∀ t : Fin grid0.N, win0_9.index t = ![t.val, 16])
theorem index10 : ∀ t : Fin cfg0.N, win0_10.index t = ![t.val, 0] :=
  (by decide +kernel : ∀ t : Fin grid0.N, win0_10.index t = ![t.val, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![0, 0] :=
  (by decide +kernel : ∀ t : Fin grid0.N, win0_14.index t = ![0, 0])
theorem index15 : ∀ t : Fin cfg0.N, win0_15.index t = ![0, 0] :=
  (by decide +kernel : ∀ t : Fin grid0.N, win0_15.index t = ![0, 0])
theorem index16 : ∀ t : Fin cfg0.N, win0_16.index t = ![0, 0] :=
  (by decide +kernel : ∀ t : Fin grid0.N, win0_16.index t = ![0, 0])
theorem index17 : ∀ t : Fin cfg0.N, win0_17.index t = ![t.val, 0] :=
  (by decide +kernel : ∀ t : Fin grid0.N, win0_17.index t = ![t.val, 0])
theorem index18 : ∀ t : Fin cfg0.N, win0_18.index t = ![0, t.val, 0] :=
  (by decide +kernel : ∀ t : Fin grid0.N, win0_18.index t = ![0, t.val, 0])
theorem index19 : ∀ t : Fin cfg0.N, win0_19.index t = ![t.val, 0] :=
  (by decide +kernel : ∀ t : Fin grid0.N, win0_19.index t = ![t.val, 0])

section
variable (m : (ℓ : Loc nD τ sig) → Buf (Elt Ideal) ℓ) (c : Dev nD)

/-- The call's arguments. -/
def args : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5),
  m ((c : Thread nD τ).loc main_arg6), m ((c : Thread nD τ).loc main_arg7), m ((c : Thread nD τ).loc main_arg8),
  m ((c : Thread nD τ).loc main_arg9), m ((c : Thread nD τ).loc main_arg10), m ((c : Thread nD τ).loc main_arg11)⟩

/-- A grid point's rows in the arrays. -/
def rowAt (t : Fin cfg0.N) (r : Fin 256) : Fin 32768 := ⟨t.val * 256 + r.val, by have : t.val < 128 := t.isLt; omega⟩

/-- The blocks of a grid point, element by element. -/
theorem block0 (t : Fin cfg0.N) (r : Fin 256) (k : Fin 1024) :
    iblk m c 0 t (ix2 r k) = V m c main_v9 (ix2 (rowAt t r) k) := by
  unfold iblk
  refine congrArg (V m c main_v9) (funext fun a => Fin.ext ?_)
  fin_cases a <;> blk_simp [index0] <;> rfl
@[inherit_doc block0] theorem block1 (t : Fin cfg0.N) (r : Fin 256) (k : Fin 1024) :
    iblk m c 1 t (ix2 r k) = V m c main_v10 (ix2 (rowAt t r) k) := by
  unfold iblk
  refine congrArg (V m c main_v10) (funext fun a => Fin.ext ?_)
  fin_cases a <;> blk_simp [index1] <;> rfl
@[inherit_doc block0] theorem block2 (t : Fin cfg0.N) (r : Fin 256) (j : Fin 512) :
    iblk m c 2 t (ix2 r j) = V m c main_arg3 (ix2 (rowAt t r) (⟨4608 + j.val, by omega⟩ : Fin 8704)) := by
  unfold iblk
  refine congrArg (V m c main_arg3) (funext fun a => Fin.ext ?_)
  fin_cases a <;> blk_simp [index2] <;> rfl
@[inherit_doc block0] theorem block3 (t : Fin cfg0.N) (r : Fin 256) (j : Fin 512) :
    iblk m c 3 t (ix2 r j) = V m c main_arg3 (ix2 (rowAt t r) (⟨5120 + j.val, by omega⟩ : Fin 8704)) := by
  unfold iblk
  refine congrArg (V m c main_arg3) (funext fun a => Fin.ext ?_)
  fin_cases a <;> blk_simp [index3] <;> rfl
@[inherit_doc block0] theorem block4 (t : Fin cfg0.N) (r : Fin 256) (j : Fin 512) :
    iblk m c 4 t (ix2 r j) = V m c main_arg3 (ix2 (rowAt t r) (⟨5632 + j.val, by omega⟩ : Fin 8704)) := by
  unfold iblk
  refine congrArg (V m c main_arg3) (funext fun a => Fin.ext ?_)
  fin_cases a <;> blk_simp [index4] <;> rfl
@[inherit_doc block0] theorem block5 (t : Fin cfg0.N) (r : Fin 256) (j : Fin 512) :
    iblk m c 5 t (ix2 r j) = V m c main_arg3 (ix2 (rowAt t r) (⟨6144 + j.val, by omega⟩ : Fin 8704)) := by
  unfold iblk
  refine congrArg (V m c main_arg3) (funext fun a => Fin.ext ?_)
  fin_cases a <;> blk_simp [index5] <;> rfl
@[inherit_doc block0] theorem block6 (t : Fin cfg0.N) (r : Fin 256) (j : Fin 512) :
    iblk m c 6 t (ix2 r j) = V m c main_arg3 (ix2 (rowAt t r) (⟨6656 + j.val, by omega⟩ : Fin 8704)) := by
  unfold iblk
  refine congrArg (V m c main_arg3) (funext fun a => Fin.ext ?_)
  fin_cases a <;> blk_simp [index6] <;> rfl
@[inherit_doc block0] theorem block7 (t : Fin cfg0.N) (r : Fin 256) (j : Fin 512) :
    iblk m c 7 t (ix2 r j) = V m c main_arg3 (ix2 (rowAt t r) (⟨7168 + j.val, by omega⟩ : Fin 8704)) := by
  unfold iblk
  refine congrArg (V m c main_arg3) (funext fun a => Fin.ext ?_)
  fin_cases a <;> blk_simp [index7] <;> rfl
@[inherit_doc block0] theorem block8 (t : Fin cfg0.N) (r : Fin 256) (j : Fin 512) :
    iblk m c 8 t (ix2 r j) = V m c main_arg3 (ix2 (rowAt t r) (⟨7680 + j.val, by omega⟩ : Fin 8704)) := by
  unfold iblk
  refine congrArg (V m c main_arg3) (funext fun a => Fin.ext ?_)
  fin_cases a <;> blk_simp [index8] <;> rfl
@[inherit_doc block0] theorem block9 (t : Fin cfg0.N) (r : Fin 256) (j : Fin 512) :
    iblk m c 9 t (ix2 r j) = V m c main_arg3 (ix2 (rowAt t r) (⟨8192 + j.val, by omega⟩ : Fin 8704)) := by
  unfold iblk
  refine congrArg (V m c main_arg3) (funext fun a => Fin.ext ?_)
  fin_cases a <;> blk_simp [index9] <;> rfl
@[inherit_doc block0] theorem block10 (t : Fin cfg0.N) (r : Fin 256) (k : Fin 2048) :
    iblk m c 10 t (ix2 r k) = V m c main_v8 (ix2 (rowAt t r) k) := by
  unfold iblk
  refine congrArg (V m c main_v8) (funext fun a => Fin.ext ?_)
  fin_cases a <;> blk_simp [index10] <;> rfl
@[inherit_doc block0] theorem block11 (t : Fin cfg0.N) (k : Fin 1024) (j : Fin 2048) :
    iblk m c 11 t (ix2 k j) = V m c main_v11 (ix2 k j) := by
  unfold iblk
  refine congrArg (V m c main_v11) (funext fun a => Fin.ext ?_)
  fin_cases a <;> blk_simp [index11] <;> rfl
@[inherit_doc block0] theorem block12 (t : Fin cfg0.N) (k : Fin 1024) (j : Fin 2048) :
    iblk m c 12 t (ix2 k j) = V m c main_v12 (ix2 k j) := by
  unfold iblk
  refine congrArg (V m c main_v12) (funext fun a => Fin.ext ?_)
  fin_cases a <;> blk_simp [index12] <;> rfl
@[inherit_doc block0] theorem block13 (t : Fin cfg0.N) (k : Fin 2048) (j : Fin 2048) :
    iblk m c 13 t (ix2 k j) = V m c main_v13 (ix2 k j) := by
  unfold iblk
  refine congrArg (V m c main_v13) (funext fun a => Fin.ext ?_)
  fin_cases a <;> blk_simp [index13] <;> rfl
@[inherit_doc block0] theorem block14 (t : Fin cfg0.N) (k : Fin 1) (j : Fin 2048) :
    iblk m c 14 t (ix2 k j) = V m c main_v14 (ix2 k j) := by
  unfold iblk
  refine congrArg (V m c main_v14) (funext fun a => Fin.ext ?_)
  fin_cases a <;> blk_simp [index14] <;> rfl
@[inherit_doc block0] theorem block15 (t : Fin cfg0.N) (k : Fin 2048) (j : Fin 128) :
    iblk m c 15 t (ix2 k j) = V m c main_v3 (ix2 k j) := by
  unfold iblk
  refine congrArg (V m c main_v3) (funext fun a => Fin.ext ?_)
  fin_cases a <;> blk_simp [index15] <;> rfl
@[inherit_doc block0] theorem block16 (t : Fin cfg0.N) (k : Fin 1) (j : Fin 128) :
    iblk m c 16 t (ix2 k j) = V m c main_v7 (ix2 k j) := by
  unfold iblk
  refine congrArg (V m c main_v7) (funext fun a => Fin.ext ?_)
  fin_cases a <;> blk_simp [index16] <;> rfl

end

end Cert.Proof.Router

end
-- ==== Proof.Router.Result.lean ====
module

public import proofs.«01_k».proof.Proof.Router.Output

/-! The three result arrays of the output projection's and router's kernel are the closed form; the third if the norm's gain, the
    router's matrices and its biases are real numbers. -/

@[expose] public section

set_option maxRecDepth 16384

noncomputable section

namespace Cert.Proof.Router

open Cert.Kernel4Ideal Cert.Kernel4Ideal.Gen Idealize.ShloMosaic Idealize.ShloMosaic.TcCoe Idealize.SL.Sem
open Cert.Proof.Weights

/-- A whole buffer read is the buffer. -/
theorem whole0 (x : Vec Ideal S256x512 .f32) : View.ld x r0_0 = x := View.ld_unit_lit _ _ (by decide)
@[inherit_doc whole0] theorem whole1 (x : Vec Ideal S256x1024 .bf16) : View.ld x r0_1 = x := View.ld_unit_lit _ _ (by decide)
@[inherit_doc whole0] theorem whole2 (x : Vec Ideal S1024x2048 .bf16) : View.ld x r0_2 = x := View.ld_unit_lit _ _ (by decide)
@[inherit_doc whole0] theorem whole3 (x : Vec Ideal S256x2048 .f32) : View.ld x r0_3 = x := View.ld_unit_lit _ _ (by decide)
@[inherit_doc whole0] theorem whole4 (x : Vec Ideal S2048x2048 .bf16) : View.ld x r0_4 = x := View.ld_unit_lit _ _ (by decide)
@[inherit_doc whole0] theorem whole5 (x : Vec Ideal S1x2048 .f32) : View.ld x r0_5 = x := View.ld_unit_lit _ _ (by decide)
@[inherit_doc whole0] theorem whole10 (x : Vec Ideal S2048x128 .f32) : View.ld x r0_10 = x := View.ld_unit_lit _ _ (by decide)
@[inherit_doc whole0] theorem whole11 (x : Vec Ideal S1x128 .f32) : View.ld x r0_11 = x := View.ld_unit_lit _ _ (by decide)

/-- A stored slab `o`, at the place of the block's element `(s, r, k)` that it holds. -/
theorem slab_at (v : FVec Ideal S256x2048 .f32) (p : FVec Ideal S1x256x512 .bf16) (o : Fin 4) (inb)
    (hp : ∀ (r : Fin 256) (k : Fin 512), p (ix3 0 r k) = v (ix2 r (Experts.col o k))) (s : Fin 4) (r : Fin 256) (k : Fin 512)
    (x : (Rect.unit (s := S4x256x512) ![o.val, 0, 0] S1x256x512.size inb).shape.Idx)
    (hx : (Rect.unit (s := S4x256x512) ![o.val, 0, 0] S1x256x512.size inb).emb x = ix3 s r k) : p x = v (ix2 r (Experts.col s k)) := by
  have h0 := congrArg (fun f : S4x256x512.Idx => (f 0).val) hx
  have h1 := congrArg (fun f : S4x256x512.Idx => (f 1).val) hx
  have h2 := congrArg (fun f : S4x256x512.Idx => (f 2).val) hx
  simp only [Rect.emb_apply] at h0 h1 h2
  change o.val + 1 * (x 0).val = s.val at h0
  change 0 + 1 * (x 1).val = r.val at h1
  change 0 + 1 * (x 2).val = k.val at h2
  have hx0 : (x 0).val < 1 := (x 0).isLt
  obtain rfl : o = s := Fin.ext (by omega)
  have : x = ix3 0 r k := by
    funext a
    fin_cases a
    · exact Subsingleton.elim (α := Fin 1) _ _
    · exact Fin.ext (show (x 1).val = r.val by omega)
    · exact Fin.ext (show (x 2).val = k.val by omega)
  rw [this]
  exact hp r k

/-- Equal rows and matrices merge to equal rows. -/
theorem merged_congr {oa oa' ob ob' : Fin 1024 → EReal} {za zb : Fin 2048 → EReal} {wa wa' wb wb' : (⟨2, ![1024, 2048]⟩ : Shape).Idx → EReal}
    (ha : oa = oa') (hb : ob = ob') (hwa : wa = wa') (hwb : wb = wb') (k : Fin 2048) : merged oa ob za zb wa wb k = merged oa' ob' za zb wa' wb' k := by
  rw [ha, hb, hwa, hwb]

/-- Equal rows and matrices give equal residual rows. -/
theorem hidden_congr {x x' y y' : Fin 2048 → EReal} {w w' : (⟨2, ![2048, 2048]⟩ : Shape).Idx → EReal} (hx : x = x') (hy : y = y') (hw : w = w')
    (d : Fin 2048) : hidden x y w d = hidden x' y' w' d := by
  rw [hx, hy, hw]

section
variable (m : (ℓ : Loc nD τ sig) → Buf (Elt Ideal) ℓ) (c : Dev nD) (t : Fin cfg0.N) (r : Fin 256)

/-- The merged branches, the residual rows, the normalised rows and the logits of a grid point. -/
def mixed : FVec Ideal S256x2048 .bf16 :=
  k0_pay2 (iblk m c 2 t) (iblk m c 3 t) (iblk m c 4 t) (iblk m c 5 t) (iblk m c 6 t) (iblk m c 7 t) (iblk m c 8 t) (iblk m c 9 t)
    (iblk m c 0 t) (iblk m c 11 t) (iblk m c 1 t) (iblk m c 12 t)
@[inherit_doc mixed] def residual : FVec Ideal S256x2048 .f32 := k0_pay3 (mixed m c t) (iblk m c 10 t) (iblk m c 13 t)
@[inherit_doc mixed] def normal : FVec Ideal S256x2048 .f32 := k0_pay4 (mixed m c t) (iblk m c 10 t) (iblk m c 13 t) (iblk m c 14 t)
@[inherit_doc mixed] def logits : FVec Ideal S256x128 .f32 := k0_pay12 (normal m c t) (iblk m c 15 t) (iblk m c 16 t)

theorem mixed_apply (k : Fin 2048) : mixed m c t (ix2 r k)
    = merged (branchRow (args m c).oa (rowAt t r)) (branchRow (args m c).ob (rowAt t r)) (fun k => (args m c).z (ix2 (rowAt t r) ⟨4608 + k.val, by omega⟩))
        (fun k => (args m c).z (ix2 (rowAt t r) ⟨6656 + k.val, by omega⟩)) (args m c).wa (args m c).wb k := by
  have ha : Gates (fun k => (args m c).z (ix2 (rowAt t r) ⟨4608 + k.val, by omega⟩)) (iblk m c 2 t) (iblk m c 3 t) (iblk m c 4 t) (iblk m c 5 t) r := by
    have key : ∀ a b : Fin 8704, a.val = b.val → V m c main_arg3 (ix2 (rowAt t r) a) = (args m c).z (ix2 (rowAt t r) b) := by
      intro a b h
      rw [V_main_arg3, Fin.ext h]; rfl
    exact ⟨fun j => (block2 m c t r j).trans (key _ _ (by dsimp only)), fun j => (block3 m c t r j).trans (key _ _ (by dsimp only; omega)),
      fun j => (block4 m c t r j).trans (key _ _ (by dsimp only; omega)), fun j => (block5 m c t r j).trans (key _ _ (by dsimp only; omega))⟩
  have hb : Gates (fun k => (args m c).z (ix2 (rowAt t r) ⟨6656 + k.val, by omega⟩)) (iblk m c 6 t) (iblk m c 7 t) (iblk m c 8 t) (iblk m c 9 t) r := by
    have key : ∀ a b : Fin 8704, a.val = b.val → V m c main_arg3 (ix2 (rowAt t r) a) = (args m c).z (ix2 (rowAt t r) b) := by
      intro a b h
      rw [V_main_arg3, Fin.ext h]; rfl
    exact ⟨fun j => (block6 m c t r j).trans (key _ _ (by dsimp only)), fun j => (block7 m c t r j).trans (key _ _ (by dsimp only; omega)),
      fun j => (block8 m c t r j).trans (key _ _ (by dsimp only; omega)), fun j => (block9 m c t r j).trans (key _ _ (by dsimp only; omega))⟩
  have hoa : (fun j => iblk m c 0 t (ix2 r j)) = branchRow (args m c).oa (rowAt t r) := funext fun j => by
    rw [block0, V_a]; exact branch_read _ _ _
  have hob : (fun j => iblk m c 1 t (ix2 r j)) = branchRow (args m c).ob (rowAt t r) := funext fun j => by
    rw [block1, V_b]; exact branch_read _ _ _
  have hwa : iblk m c 11 t = (args m c).wa := funext fun i => by
    have hi : i = ix2 (i 0 : Fin 1024) (i 1 : Fin 2048) := by funext a; fin_cases a <;> rfl
    rw [hi]
    refine (block11 m c t (i 0) (i 1)).trans ?_
    rw [V_wa]; rfl
  have hwb : iblk m c 12 t = (args m c).wb := funext fun i => by
    have hi : i = ix2 (i 0 : Fin 1024) (i 1 : Fin 2048) := by funext a; fin_cases a <;> rfl
    rw [hi]
    refine (block12 m c t (i 0) (i 1)).trans ?_
    rw [V_wb]; rfl
  unfold mixed
  rw [pay2_apply _ _ _ _ _ _ _ _ _ _ _ _ _ _ r ha hb k]
  exact merged_congr hoa hob hwa hwb k

theorem residual_apply (d : Fin 2048) : residual m c t (ix2 r d) = (args m c).row (rowAt t r) d := by
  have hx : (fun k => iblk m c 10 t (ix2 r k)) = Input.rowOf (args m c).x (rowAt t r) := funext fun k => by
    rw [block10, V_rows]; exact rows_read _ _ _
  have hwo : iblk m c 13 t = (args m c).wo := funext fun i => by
    have hi : i = ix2 (i 0 : Fin 2048) (i 1 : Fin 2048) := by funext a; fin_cases a <;> rfl
    rw [hi]
    refine (block13 m c t (i 0) (i 1)).trans ?_
    rw [V_wo]; rfl
  unfold residual
  rw [pay3_apply]
  unfold Args.row
  exact hidden_congr hx (funext fun k => mixed_apply m c t r k) hwo d

theorem normal_apply (d : Fin 2048) : normal m c t (ix2 r d) = (args m c).normed (rowAt t r) d := by
  unfold normal
  rw [pay4_apply]
  unfold Args.normed
  refine congrArg₂ (fun x g => Input.normed x g d) (funext fun k => residual_apply m c t r k) (funext fun k => ?_)
  rw [block14, V_gain]
  exact gain_read _ _

/-- The router's matrices and biases in their lanes. -/
theorem matrix_group (k : Fin 2048) (g : Fin 4) : iblk m c 15 t (ix2 k (groupLane g)) = (args m c).wg (ix2 k g) := by
  rw [block15, V_matrices]
  refine (matrices_apply _ _ _ _).trans ((dif_neg (by show ¬ 32 + g.val < 32; omega)).trans ((dif_pos (by show 32 + g.val - 32 < 4; omega)).trans ?_))
  exact congrArg (fun g => (args m c).wg (ix2 k g)) (Fin.ext (show 32 + g.val - 32 = g.val by omega))
@[inherit_doc matrix_group] theorem matrix_expert (k : Fin 2048) (g : Fin 4) (e : Fin 8) :
    iblk m c 15 t (ix2 k (expertLane g e)) = (args m c).we (ix3 g k e) := by
  rw [block15, V_matrices]
  refine (matrices_apply _ _ _ _).trans ((dif_pos (by show 8 * g.val + e.val < 32; omega)).trans ?_)
  exact congrArg₂ (fun g e => (args m c).we (ix3 g k e)) (Fin.ext (show (8 * g.val + e.val) / 8 = g.val by omega))
    (Fin.ext (show (8 * g.val + e.val) % 8 = e.val by omega))
@[inherit_doc matrix_group] theorem bias_group (g : Fin 4) : iblk m c 16 t (ix2 0 (groupLane g)) = (args m c).bg (ix1 g) := by
  rw [block16, V_biases]
  refine (biases_apply _ _ _).trans ((dif_neg (by show ¬ 32 + g.val < 32; omega)).trans ((dif_pos (by show 32 + g.val - 32 < 4; omega)).trans ?_))
  exact congrArg (fun g => (args m c).bg (ix1 g)) (Fin.ext (show 32 + g.val - 32 = g.val by omega))
@[inherit_doc matrix_group] theorem bias_expert (g : Fin 4) (e : Fin 8) : iblk m c 16 t (ix2 0 (expertLane g e)) = (args m c).be (ix2 g e) := by
  rw [block16, V_biases]
  refine (biases_apply _ _ _).trans ((dif_pos (by show 8 * g.val + e.val < 32; omega)).trans ?_)
  exact congrArg₂ (fun g e => (args m c).be (ix2 g e)) (Fin.ext (show (8 * g.val + e.val) / 8 = g.val by omega))
    (Fin.ext (show (8 * g.val + e.val) % 8 = e.val by omega))

section
variable (h : (args m c).Finite)
include h

theorem matrix_real (k : Fin 2048) (l : Fin 128) : IsReal (iblk m c 15 t (ix2 k l)) := by
  rw [block15, V_matrices]
  refine (congrArg IsReal (matrices_apply (m ((c : Thread nD τ).loc main_arg10)) (m ((c : Thread nD τ).loc main_arg8)) k l)).mpr ?_
  split_ifs
  · exact h.we _ _ _
  · exact h.wg _ _
  · exact ⟨0, EReal.coe_zero.symm⟩
theorem bias_real (l : Fin 128) : IsReal (iblk m c 16 t (ix2 0 l)) := by
  rw [block16, V_biases]
  refine (congrArg IsReal (biases_apply (m ((c : Thread nD τ).loc main_arg11)) (m ((c : Thread nD τ).loc main_arg9)) l)).mpr ?_
  split_ifs
  · exact h.be _ _
  · exact h.bg _
  · exact ⟨0, EReal.coe_zero.symm⟩

theorem normal_real (k : Fin 2048) : IsReal (normal m c t (ix2 r k)) := by
  rw [normal_apply]
  exact normed_real _ _ (fun k => h.gain k) k

theorem logits_sum (l : Fin 128) : logits m c t (ix2 r l)
    = (∑ k : Fin 2048, normal m c t (ix2 r k) * iblk m c 15 t (ix2 k l)) + iblk m c 16 t (ix2 0 l) :=
  logits_apply _ _ _ _ _ (normal_real m c t r h) fun k => matrix_real m c t h k l

theorem logits_real (l : Fin 128) : IsReal (logits m c t (ix2 r l)) := by
  rw [logits_sum m c t r h]
  exact IsReal.add (IsReal.sum fun k => IsReal.mul (normal_real m c t r h k) (matrix_real m c t h k l)) (bias_real m c t h l)

theorem groups_eq : groupsOf (fun l => logits m c t (ix2 r l)) = groupLogit ((args m c).normed (rowAt t r)) (args m c).wg (args m c).bg := by
  funext g
  refine (logits_sum m c t r h (groupLane g)).trans ?_
  refine congrArg₂ (fun a b : EReal => a + b) (Finset.sum_congr rfl fun k _ => congrArg₂ (fun a b : EReal => a * b) ?_ ?_) ?_
  · exact normal_apply m c t r k
  · exact matrix_group m c t k g
  · exact bias_group m c t g

theorem experts_eq : expertsOf (fun l => logits m c t (ix2 r l)) = expertLogit ((args m c).normed (rowAt t r)) (args m c).we (args m c).be := by
  funext g e
  refine (logits_sum m c t r h (expertLane g e)).trans ?_
  refine congrArg₂ (fun a b : EReal => a + b) (Finset.sum_congr rfl fun k _ => congrArg₂ (fun a b : EReal => a * b) ?_ ?_) ?_
  · exact normal_apply m c t r k
  · exact matrix_expert m c t k g e
  · exact bias_expert m c t g e

end

/-- What a grid point leaves in its three blocks. -/
theorem block17 (d : Fin 2048) :
    out0_17 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (ix2 r d) = (args m c).rows (ix2 (rowAt t r) d) := by
  unfold_out out0_17
  rw [View.canon_cons_unit_lit _ _ _ (by decide)]
  simp only [whole0, whole1, whole2, whole3, whole4]
  exact residual_apply m c t r d

@[inherit_doc block17] theorem block18 (s : Fin 4) (k : Fin 512) :
    out0_18 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (ix3 s r k) = (args m c).slabs (ix3 s (rowAt t r) k) := by
  unfold_out out0_18
  simp only [whole0, whole1, whole2, whole3, whole4, whole5]
  refine Eq.trans ?_ (normal_apply m c t r (Experts.col s k))
  refine View.canon_eq_of_allAt _ _ _ (cover0_18 _ _ _ _ _) ?_
  refine View.allAt_cons _ _ _ (fun x hx => slab_at (normal m c t) _ 3 _ (fun r k => stored_3 _ _ _ _ r k) s r k x hx) ?_
  refine View.allAt_cons _ _ _ (fun x hx => slab_at (normal m c t) _ 2 _ (fun r k => stored_2 _ _ _ _ r k) s r k x hx) ?_
  refine View.allAt_cons _ _ _ (fun x hx => slab_at (normal m c t) _ 1 _ (fun r k => stored_1 _ _ _ _ r k) s r k x hx) ?_
  exact View.allAt_cons _ _ _ (fun x hx => slab_at (normal m c t) _ 0 _ (fun r k => stored_0 _ _ _ _ r k) s r k x hx) (View.allAt_nil _ _)

@[inherit_doc block17] theorem block19 (h : (args m c).Finite) (l : Fin 128) :
    out0_19 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (ix2 r l) = (args m c).weights (ix2 (rowAt t r) l) := by
  unfold_out out0_19
  rw [View.canon_cons_unit_lit _ _ _ (by decide)]
  simp only [whole0, whole1, whole2, whole3, whole4, whole5, whole10, whole11]
  refine (routed (normal m c t) (iblk m c 15 t) (iblk m c 16 t) r (fun l => IsReal.ne_bot (logits_real m c t r h l)) l).trans ?_
  exact congrArg₂ (fun a b => combine a b l) (groups_eq m c t r h) (experts_eq m c t r h)

end

section
variable (m : (ℓ : Loc nD τ sig) → Buf (Elt Ideal) ℓ) (c : Dev nD)

/-- THE RESULT ARRAYS after the call. -/
theorem array17 : (dats m 0 c).arrAt 17 cfg0.N = (args m c).rows := by
  refine (dats m 0 c).arrAt_eq_of_covers 17 _ (by decide +kernel) fun t hf y => ?_
  blk_simp
  rw [after0_17]
  have hy : y = ix2 (y 0 : Fin 256) (y 1 : Fin 2048) := by funext a; fin_cases a <;> rfl
  have he : ((cfg0.win 17).blk t).view.emb y = ix2 (rowAt t (y 0)) (y 1 : Fin 2048) := by
    funext a
    refine Fin.ext ?_
    fin_cases a <;> blk_simp [index17] <;> rfl
  rw [he]
  exact (congrArg _ hy).trans (block17 m c t (y 0) (y 1))

@[inherit_doc array17] theorem array18 : (dats m 0 c).arrAt 18 cfg0.N = (args m c).slabs := by
  refine (dats m 0 c).arrAt_eq_of_covers 18 _ (by decide +kernel) fun t hf y => ?_
  blk_simp
  rw [after0_18]
  have hy : y = ix3 (y 0 : Fin 4) (y 1 : Fin 256) (y 2 : Fin 512) := by funext a; fin_cases a <;> rfl
  have he : ((cfg0.win 18).blk t).view.emb y = ix3 (y 0 : Fin 4) (rowAt t (y 1)) (y 2 : Fin 512) := by
    funext a
    refine Fin.ext ?_
    fin_cases a <;> blk_simp [index18] <;> rfl
  rw [he]
  exact (congrArg _ hy).trans (block18 m c t (y 1) (y 0) (y 2))

@[inherit_doc array17] theorem array19 (h : (args m c).Finite) : (dats m 0 c).arrAt 19 cfg0.N = (args m c).weights := by
  refine (dats m 0 c).arrAt_eq_of_covers 19 _ (by decide +kernel) fun t hf y => ?_
  blk_simp
  rw [after0_19]
  have hy : y = ix2 (y 0 : Fin 256) (y 1 : Fin 128) := by funext a; fin_cases a <;> rfl
  have he : ((cfg0.win 19).blk t).view.emb y = ix2 (rowAt t (y 0)) (y 1 : Fin 128) := by
    funext a
    refine Fin.ext ?_
    fin_cases a <;> blk_simp [index19] <;> rfl
  rw [he]
  exact (congrArg _ hy).trans (block19 m c t (y 0) h (y 1))

end

end Cert.Proof.Router

end
-- ==== Proof.Router.Finite.lean ====
module

public import proofs.«01_k».proof.Defs
public import proofs.«01_k».proof.Proof.Gen.Pre_finite_router
public import proofs.«01_k».proof.Proof.Finite
public import proofs.«01_k».proof.Proof.Router.Result

/-! The precondition read: the norm's gain and the router's matrices and biases are real numbers. -/

@[expose] public section

noncomputable section

namespace Cert.Proof.Router

open Idealize.ShloMosaic Idealize.ShloMosaic.TcCoe Idealize.SL.Sem Cert.Kernel4Ideal
open Cert.Proof.Weights

/-- An extended real below infinity in absolute value is a real number. -/
theorem real_below (x : EReal) (h : FloatOps.cmpf (F := Ideal) (φ := .f32) .olt (FloatOps.hostAbsf (F := Ideal) (φ := .f32) x)
    (FloatOps.ofBits (F := Ideal) .f32 0x7F800000#32) = 1#1) : IsReal x := ⟨x.toReal, (Finite.real_of_lt x h).symm⟩

/-- The precondition gives real numbers. -/
theorem args_finite (m : (ℓ : Loc nD τ sig) → Buf (Elt Ideal) ℓ) (h : Pre_Kernel4Ideal_finite_router m) (c : Dev nD) : (args m c).Finite where
  gain k := real_below _ (congrFun (h c).1 (ix1 k))
  wg k g := real_below _ (congrFun (h c).2.1 (ix2 k g))
  bg g := real_below _ (congrFun (h c).2.2.1 (ix1 g))
  we g k e := real_below _ (congrFun (h c).2.2.2.1 (ix3 g k e))
  be g e := real_below _ (congrFun (h c).2.2.2.2 (ix2 g e))

end Cert.Proof.Router

end
-- ==== Proof.Router.RefTerms.lean ====
module

public import proofs.«01_k».proof.Proof.Gen.Reference4Ideal.Run
public import proofs.«01_k».proof.Proof.Experts.Ref
public import proofs.«01_k».proof.Proof.Router.Target

/-! What the reference of the output projection and router is made of, element by element. -/

@[expose] public section

set_option maxRecDepth 16384

noncomputable section

namespace Cert.Proof.Router.Ref

open Cert.Reference4Ideal Cert.Reference4Ideal.Gen Cert.Reference4Ideal.Value Idealize.ShloMosaic Idealize.ShloMosaic.TcCoe Idealize.SL.Sem

section Terms
variable {F : FTy → Type} [FloatOps F]

/-- The two gates' columns of the projected input, by batch and place. -/
def gateA (z : FVec F S32768x8704 .f32) : FVec F S4x8192x2048 .f32 :=
  extractStridedSlice S4x8192x2048 ![0, 0, 4608] (shapeCast S4x8192x8704 z shapeCasts_S32768x8704_S4x8192x8704) slices_S4x8192x8704_S4x8192x2048_0_0_4608
@[inherit_doc gateA] def gateB (z : FVec F S32768x8704 .f32) : FVec F S4x8192x2048 .f32 :=
  extractStridedSlice S4x8192x2048 ![0, 0, 6656] (shapeCast S4x8192x8704 z shapeCasts_S32768x8704_S4x8192x8704) slices_S4x8192x8704_S4x8192x2048_0_0_6656

/-- A branch's output through its matrix and its gate. -/
def branch (y : FVec F S4x8192x2048 .f32) (o : FVec F S4x8192x1024 .bf16) (w : FVec F S1024x2048 .f32) : FVec F S4x8192x2048 .f32 :=
  mulf (Host.divf (broadcastInDim S4x8192x2048 ![] bcast_S_S4x8192x2048 (constant S_ .f32 0x3F800000#32))
      (addf (broadcastInDim S4x8192x2048 ![] bcast_S_S4x8192x2048 (constant S_ .f32 0x3F800000#32)) (Host.exp (Host.negf y))))
    (Host.dotGeneral dot_S4x8192x1024_S1024x2048_S4x8192x2048_2_0_01_1_n_n none (extf .f32 o bitsLt_bf16_f32) w)

/-- The residual rows. -/
def residual (x : FVec F S4x8192x2048 .f32) (oa ob : FVec F S4x8192x1024 .bf16) (z : FVec F S32768x8704 .f32)
    (wa wb : FVec F S1024x2048 .f32) (wo : FVec F S2048x2048 .f32) : FVec F S4x8192x2048 .f32 :=
  addf x (Host.dotGeneral dot_S4x8192x2048_S2048x2048_S4x8192x2048_2_0_01_1_n_n none (addf (branch (gateA z) oa wa) (branch (gateB z) ob wb)) wo)

/-- The rows without batches. -/
def flat (h : FVec F S4x8192x2048 .f32) : FVec F S32768x2048 .f32 := shapeCast S32768x2048 h shapeCasts_S4x8192x2048_S32768x2048

/-- The normalised rows. -/
def norm (h : FVec F S4x8192x2048 .f32) (g : FVec F S2048 .f32) : FVec F S4x8192x2048 .f32 :=
  mulf (mulf h (broadcastInDim S4x8192x2048 ![0, 1, 2] bcast_S4x8192x1_S4x8192x2048_0_1_2 (Host.rsqrt (addf
    (Host.divf (broadcastInDim S4x8192x1 ![0, 1] bcast_S4x8192_S4x8192x1_0_1
        (Host.reduceAdd (mulf h h) (constant S_ .f32 0x00000000#32) reducesTo_S4x8192x2048_S4x8192_d2 h_S_))
      (broadcastInDim S4x8192x1 ![] bcast_S_S4x8192x1 (constant S_ .f32 0x45000000#32)))
    (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 g))

/-- The normalised rows in four slabs. -/
def slabs (n : FVec F S32768x2048 .f32) : FVec F S4x32768x512 .bf16 :=
  truncf .bf16 (shapeCast S4x32768x512 (transpose S4x32768x2x256 [2, 0, 1, 3] (shapeCast S32768x2x4x256 n shapeCasts_S32768x2048_S32768x2x4x256)
    transposes_S32768x2x4x256_S4x32768x2x256_2_0_1_3) shapeCasts_S4x32768x2x256_S4x32768x512) bitsLt_bf16_f32

/-- The groups' logits. -/
def groups (n : FVec F S32768x2048 .f32) (w : FVec F S2048x4 .f32) (b : FVec F S4 .f32) : FVec F S32768x4 .f32 :=
  addf (Host.dotGeneral dot_S32768x2048_S2048x4_S32768x4_1_0_0_1_n_n none n w)
    (broadcastInDim S32768x4 ![0, 1] bcast_S1x4_S32768x4_0_1 (broadcastInDim S1x4 ![1] bcast_S4_S1x4_1 b))

/-- The exponentials over the groups, less the greatest logit; their softmax. -/
def groupExp (l : FVec F S32768x4 .f32) : FVec F S32768x4 .f32 :=
  Host.exp (subf l (broadcastInDim S32768x4 ![0, 1] bcast_S32768x1_S32768x4_0_1 (broadcastInDim S32768x1 ![0] bcast_S32768_S32768x1_0
    (maximumf (broadcastInDim S32768 ![] bcast_S_S32768 (constant S_ .f32 0xFF800000#32))
      (Host.reduce FloatOps.maximumf l (constant S_ .f32 0xFF800000#32) reducesTo_S32768x4_S32768_d1 h_S_)))))
@[inherit_doc groupExp] def groupSoft (l : FVec F S32768x4 .f32) : FVec F S32768x4 .f32 :=
  Host.divf (groupExp l) (broadcastInDim S32768x4 ![0, 1] bcast_S32768x1_S32768x4_0_1 (broadcastInDim S32768x1 ![0] bcast_S32768_S32768x1_0
    (Host.reduceAdd (groupExp l) (constant S_ .f32 0x00000000#32) reducesTo_S32768x4_S32768_d1 h_S_)))

/-- The greatest of the groups' softmax and its group. -/
def groupTop (p : FVec F S32768x4 .f32) : FVec F S32768x1 .f32 × IVec S32768x1 32 :=
  Host.topK S32768x1 1 (FloatOps.cmpfTotal .gt) p sliceFits_S32768x4_S32768x1

/-- The experts' logits, of every group. -/
def experts (n : FVec F S32768x2048 .f32) (w : FVec F S4x2048x8 .f32) (b : FVec F S4x8 .f32) : FVec F S32768x4x8 .f32 :=
  addf (Host.dotGeneral dot_S32768x2048_S4x2048x8_S32768x4x8_1_1_0_02_n_n none n w)
    (broadcastInDim S32768x4x8 ![0, 1, 2] bcast_S1x4x8_S32768x4x8_0_1_2 (broadcastInDim S1x4x8 ![1, 2] bcast_S4x8_S1x4x8_1_2 b))

/-- One where the column is the row's group, zero elsewhere. -/
def chosen (i : IVec S32768x1 32) : FVec F S32768x4 .f32 :=
  uitofp .f32 (cmpi .eq (broadcastInDim S32768x4 ![0, 1] bcast_S32768x1_S32768x4_0_1 (broadcastInDim S32768x1 ![0] bcast_S32768_S32768x1_0
    (shapeCast S32768 i shapeCasts_S32768x1_S32768))) (broadcastInDim S32768x4 ![0, 1] bcast_S1x4_S32768x4_0_1 (iotaInDim S1x4 32 1)))

/-- The experts' logits of the row's group. -/
def own (l : FVec F S32768x4x8 .f32) (c : FVec F S32768x4 .f32) : FVec F S32768x8 .f32 :=
  Host.reduceAdd (mulf l (broadcastInDim S32768x4x8 ![0, 1, 2] bcast_S32768x4x1_S32768x4x8_0_1_2 (broadcastInDim S32768x4x1 ![0, 1] bcast_S32768x4_S32768x4x1_0_1 c)))
    (constant S_ .f32 0x00000000#32) reducesTo_S32768x4x8_S32768x8_d1 h_S_

/-- The exponentials over the experts, less the greatest logit; their softmax. -/
def expertExp (l : FVec F S32768x8 .f32) : FVec F S32768x8 .f32 :=
  Host.exp (subf l (broadcastInDim S32768x8 ![0, 1] bcast_S32768x1_S32768x8_0_1 (broadcastInDim S32768x1 ![0] bcast_S32768_S32768x1_0
    (maximumf (broadcastInDim S32768 ![] bcast_S_S32768 (constant S_ .f32 0xFF800000#32))
      (Host.reduce FloatOps.maximumf l (constant S_ .f32 0xFF800000#32) reducesTo_S32768x8_S32768_d1 h_S_)))))
@[inherit_doc expertExp] def expertSoft (l : FVec F S32768x8 .f32) : FVec F S32768x8 .f32 :=
  Host.divf (expertExp l) (broadcastInDim S32768x8 ![0, 1] bcast_S32768x1_S32768x8_0_1 (broadcastInDim S32768x1 ![0] bcast_S32768_S32768x1_0
    (Host.reduceAdd (expertExp l) (constant S_ .f32 0x00000000#32) reducesTo_S32768x8_S32768_d1 h_S_)))

/-- The two greatest of the experts' softmax and their experts. -/
def expertTop (p : FVec F S32768x8 .f32) : FVec F S32768x2 .f32 × IVec S32768x2 32 :=
  Host.topK S32768x2 1 (FloatOps.cmpfTotal .gt) p sliceFits_S32768x8_S32768x2

/-- The two experts' numbers among the 32. -/
def numbers (g : IVec S32768x1 32) (e : IVec S32768x2 32) : IVec S32768x2 32 :=
  addi (broadcastInDim S32768x2 ![0, 1] bcast_S32768x1_S32768x2_0_1 (muli g (broadcastInDim S32768x1 ![] bcast_S_S32768x1 (constantI S_ 32 8#32)))) e

/-- The two experts' gates. -/
def gates (g : FVec F S32768x1 .f32) (e : FVec F S32768x2 .f32) : FVec F S32768x2 .f32 :=
  mulf (broadcastInDim S32768x2 ![0, 1] bcast_S32768x1_S32768x2_0_1 g) (Host.divf e (broadcastInDim S32768x2 ![0, 1] bcast_S32768x1_S32768x2_0_1
    (broadcastInDim S32768x1 ![0] bcast_S32768_S32768x1_0 (Host.reduceAdd e (constant S_ .f32 0x00000000#32) reducesTo_S32768x2_S32768_d1 h_S_))))

/-- The gates at their experts, of 32 lanes. -/
def spread (i : IVec S32768x2 32) (g : FVec F S32768x2 .f32) : FVec F S32768x32 .f32 :=
  Host.reduceAdd (mulf (uitofp .f32 (cmpi .eq (broadcastInDim S32768x2x32 ![0, 1, 2] bcast_S32768x2x1_S32768x2x32_0_1_2
      (broadcastInDim S32768x2x1 ![0, 1] bcast_S32768x2_S32768x2x1_0_1 i)) (broadcastInDim S32768x2x32 ![0, 1, 2] bcast_S1x1x32_S32768x2x32_0_1_2 (iotaInDim S1x1x32 32 2))))
    (broadcastInDim S32768x2x32 ![0, 1, 2] bcast_S32768x2x1_S32768x2x32_0_1_2 (broadcastInDim S32768x2x1 ![0, 1] bcast_S32768x2_S32768x2x1_0_1 g)))
    (constant S_ .f32 0x00000000#32) reducesTo_S32768x2x32_S32768x32_d1 h_S_

/-- The lanes filled up to 128 by zeros. -/
def padded (w : FVec F S32768x32 .f32) : FVec F S32768x128 .f32 :=
  pad S32768x128 ![0, 0] ![0, 96] ![0, 0] w (sitofp .f32 (constantI S_ 32 0#32)) pads_S32768x32_S32768x128_000_0960 h_S_

/-- The experts' softmax in the row's group, of the logits. -/
def ownSoft (l : FVec F S32768x4 .f32) (e : FVec F S32768x4x8 .f32) : FVec F S32768x8 .f32 :=
  expertSoft (own e (chosen (groupTop (groupSoft l)).2))

/-- The weights, of the logits. -/
def weights (l : FVec F S32768x4 .f32) (e : FVec F S32768x4x8 .f32) : FVec F S32768x128 .f32 :=
  padded (spread (numbers (groupTop (groupSoft l)).2 (expertTop (ownSoft l e)).2) (gates (groupTop (groupSoft l)).1 (expertTop (ownSoft l e)).1))

variable (V0 : Valuation τ sig (Elt F))

/-- The reference's three results in these terms. -/
theorem rows_eq : res_main_v24 V0 = residual (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) (V0 (Proc.devRef .tc main_arg6)) := by
  unfold res_main_v24 res_main_v0
  rfl
@[inherit_doc rows_eq] theorem norm_eq : res_main_v38 V0 = flat (norm (res_main_v24 V0) (V0 (Proc.devRef .tc main_arg7))) := by
  unfold res_main_v38
  rfl
@[inherit_doc rows_eq] theorem groups_eq : res_main_v53 V0
    = groupSoft (groups (res_main_v38 V0) (V0 (Proc.devRef .tc main_arg8)) (V0 (Proc.devRef .tc main_arg9))) := by
  unfold res_main_v53 res_main_v49 res_main_v42
  rfl
@[inherit_doc rows_eq] theorem own_eq : res_main_v74 V0
    = ownSoft (groups (res_main_v38 V0) (V0 (Proc.devRef .tc main_arg8)) (V0 (Proc.devRef .tc main_arg9)))
        (experts (res_main_v38 V0) (V0 (Proc.devRef .tc main_arg10)) (V0 (Proc.devRef .tc main_arg11))) := by
  unfold res_main_v74 res_main_v70 res_main_v63 res_main_indices
  rw [groups_eq]
  rfl

end Terms

theorem flat_apply (h : FVec Ideal S4x8192x2048 .f32) (r : Fin 32768) (k : Fin 2048) :
    flat h (ix2 r k) = h (ix3 (⟨r.val / 8192, by omega⟩ : Fin 4) (⟨r.val % 8192, by omega⟩ : Fin 8192) k) := by
  pointwise [flat]

theorem branchA_apply (z : FVec Ideal S32768x8704 .f32) (o : FVec Ideal S4x8192x1024 .bf16) (w : FVec Ideal S1024x2048 .f32) (b : Fin 4) (l : Fin 8192)
    (k : Fin 2048) : branch (gateA z) o w (ix3 b l k)
      = sigmoid (z (ix2 ⟨b.val * 8192 + l.val, by omega⟩ ⟨4608 + k.val, by omega⟩)) * ∑ j : Fin 1024, o (ix3 b l j) * w (ix2 j k) := by
  unfold sigmoid
  pointwise [branch, gateA]

theorem branchB_apply (z : FVec Ideal S32768x8704 .f32) (o : FVec Ideal S4x8192x1024 .bf16) (w : FVec Ideal S1024x2048 .f32) (b : Fin 4) (l : Fin 8192)
    (k : Fin 2048) : branch (gateB z) o w (ix3 b l k)
      = sigmoid (z (ix2 ⟨b.val * 8192 + l.val, by omega⟩ ⟨6656 + k.val, by omega⟩)) * ∑ j : Fin 1024, o (ix3 b l j) * w (ix2 j k) := by
  unfold sigmoid
  pointwise [branch, gateB]

theorem residual_apply (x : FVec Ideal S4x8192x2048 .f32) (oa ob : FVec Ideal S4x8192x1024 .bf16) (z : FVec Ideal S32768x8704 .f32)
    (wa wb : FVec Ideal S1024x2048 .f32) (wo : FVec Ideal S2048x2048 .f32) (b : Fin 4) (l : Fin 8192) (d : Fin 2048) :
    residual x oa ob z wa wb wo (ix3 b l d)
      = x (ix3 b l d) + ∑ k : Fin 2048, (branch (gateA z) oa wa (ix3 b l k) + branch (gateB z) ob wb (ix3 b l k)) * wo (ix2 k d) := by
  pointwise [residual]

theorem norm_apply (h : FVec Ideal S4x8192x2048 .f32) (g : FVec Ideal S2048 .f32) (b : Fin 4) (l : Fin 8192) (k : Fin 2048) :
    norm h g (ix3 b l k) = Input.normed (fun k => h (ix3 b l k)) (fun k => g (ix1 k)) k := by
  unfold Input.normed
  pointwise [norm]

theorem slabs_apply (n : FVec Ideal S32768x2048 .f32) (s : Fin 4) (r : Fin 32768) (k : Fin 512) :
    slabs n (ix3 s r k) = n (ix2 r (Experts.col s k)) := by
  unfold Experts.col
  pointwise [slabs]

theorem groups_apply (n : FVec Ideal S32768x2048 .f32) (w : FVec Ideal S2048x4 .f32) (b : FVec Ideal S4 .f32) (r : Fin 32768) (g : Fin 4) :
    groups n w b (ix2 r g) = groupLogit (fun k => n (ix2 r k)) w b g := by
  unfold groupLogit
  pointwise [groups]

theorem experts_apply (n : FVec Ideal S32768x2048 .f32) (w : FVec Ideal S4x2048x8 .f32) (b : FVec Ideal S4x8 .f32) (r : Fin 32768) (g : Fin 4) (e : Fin 8) :
    experts n w b (ix3 r g e) = expertLogit (fun k => n (ix2 r k)) w b g e := by
  unfold expertLogit
  pointwise [experts]

/-- A row's greatest element as the reference finds it; the exponentials less it; their softmax. -/
def peak {n : ℕ} (f : Fin n → EReal) : EReal :=
  max (Ideal.ofBits .f32 0xFF800000#32) (Finset.univ.fold max (Ideal.ofBits .f32 0xFF800000#32) f)
@[inherit_doc peak] def soft {n : ℕ} (f : Fin n → EReal) (i : Fin n) : EReal :=
  Ideal.div (Ideal.exp (f i - peak f)) (∑ j : Fin n, Ideal.exp (f j - peak f))

theorem groupExp_apply (l : FVec Ideal S32768x4 .f32) (r : Fin 32768) (g : Fin 4) :
    groupExp l (ix2 r g) = Ideal.exp (l (ix2 r g) - peak fun g => l (ix2 r g)) := by
  unfold peak
  pointwise [groupExp]

theorem groupSoft_apply (l : FVec Ideal S32768x4 .f32) (r : Fin 32768) (g : Fin 4) :
    groupSoft l (ix2 r g) = soft (fun g => l (ix2 r g)) g := by
  unfold soft
  simp only [← groupExp_apply]
  pointwise [groupSoft]

theorem expertExp_apply (l : FVec Ideal S32768x8 .f32) (r : Fin 32768) (e : Fin 8) :
    expertExp l (ix2 r e) = Ideal.exp (l (ix2 r e) - peak fun e => l (ix2 r e)) := by
  unfold peak
  pointwise [expertExp]

theorem expertSoft_apply (l : FVec Ideal S32768x8 .f32) (r : Fin 32768) (e : Fin 8) :
    expertSoft l (ix2 r e) = soft (fun e => l (ix2 r e)) e := by
  unfold soft
  simp only [← expertExp_apply]
  pointwise [expertSoft]

theorem chosen_apply (i : IVec S32768x1 32) (r : Fin 32768) (g : Fin 4) :
    chosen (F := Ideal) i (ix2 r g) = if i (ix2 r 0) = BitVec.ofNat 32 g.val then 1 else 0 := by
  pointwise [chosen]
  exact Experts.Ref.truth _ _

theorem own_apply (l : FVec Ideal S32768x4x8 .f32) (c : FVec Ideal S32768x4 .f32) (r : Fin 32768) (e : Fin 8) :
    own l c (ix2 r e) = ∑ g : Fin 4, l (ix3 r g e) * c (ix2 r g) := by
  pointwise [own]

theorem numbers_apply (g : IVec S32768x1 32) (e : IVec S32768x2 32) (r : Fin 32768) (i : Fin 2) :
    numbers g e (ix2 r i) = g (ix2 r 0) * 8#32 + e (ix2 r i) := by
  pointwise [numbers]
  rfl

theorem gates_apply (g : FVec Ideal S32768x1 .f32) (e : FVec Ideal S32768x2 .f32) (r : Fin 32768) (i : Fin 2) :
    gates g e (ix2 r i) = g (ix2 r 0) * Ideal.div (e (ix2 r i)) (∑ j : Fin 2, e (ix2 r j)) := by
  pointwise [gates]

theorem spread_apply (i : IVec S32768x2 32) (g : FVec Ideal S32768x2 .f32) (r : Fin 32768) (l : Fin 32) :
    spread i g (ix2 r l) = ∑ j : Fin 2, (if i (ix2 r j) = BitVec.ofNat 32 l.val then 1 else 0) * g (ix2 r j) := by
  simp only [← Experts.Ref.truth]
  pointwise [spread]

theorem padded_lo (w : FVec Ideal S32768x32 .f32) (r : Fin 32768) (l : Fin 128) (h : l.val < 32) : padded w (ix2 r l) = w (ix2 r ⟨l.val, h⟩) := by
  pointwise [padded]
  split_ifs <;> first | rfl | (exfalso; omega)

theorem padded_hi (w : FVec Ideal S32768x32 .f32) (r : Fin 32768) (l : Fin 128) (h : ¬ l.val < 32) : padded w (ix2 r l) = 0 := by
  pointwise [padded]
  split_ifs <;> simp [FloatOps.sitofp]

/-! The greatest elements as the reference takes them. -/

/-- Another place along a row. -/
theorem along_eq {n m : ℕ} (r : Fin n) (j k : Fin m) : (ix2 r j : (⟨2, ![n, m]⟩ : Shape).Idx).along 1 k = ix2 r k := by
  funext a
  fin_cases a
  · rfl
  · rfl

/-- The positions of a row's sort are its order. -/
theorem sort_order {n m : ℕ} (x : FVec Ideal ⟨2, ![n, m]⟩ .f32) (r : Fin n) (i j : Fin m) :
    sortedFrom (fun k k' : Fin m => FloatOps.cmpfTotal (F := Ideal) .gt (x ((ix2 r i : (⟨2, ![n, m]⟩ : Shape).Idx).along 1 k)) (x ((ix2 r i : (⟨2, ![n, m]⟩ : Shape).Idx).along 1 k')) == 1#1) j
      = order (fun j => x (ix2 r j)) j := by
  unfold order
  refine congrFun (congrArg sortedFrom (funext fun k => funext fun k' => ?_)) j
  rw [along_eq, along_eq]
  show (BitVec.ofBool (decide (x (ix2 r k') < x (ix2 r k))) == 1#1) = _
  by_cases h : x (ix2 r k') < x (ix2 r k) <;> simp [h]

/-- A place among the first ones is that place of the row. -/
theorem slice_at {n m k : ℕ} (h : (⟨2, ![n, m]⟩ : Shape).Slices (fun _ => 0) ⟨2, ![n, k]⟩) (r : Fin n) (i : Fin k) (i' : Fin m) (hi : i'.val = i.val) :
    (fun a => ⟨0 + ((ix2 r i : (⟨2, ![n, k]⟩ : Shape).Idx) (a.cast h.1.symm)).val,
      Nat.lt_of_lt_of_le (Nat.add_lt_add_left ((ix2 r i : (⟨2, ![n, k]⟩ : Shape).Idx) _).isLt _) (h.2 a)⟩ : (⟨2, ![n, m]⟩ : Shape).Idx) = ix2 r i' := by
  funext a
  fin_cases a
  · exact Fin.ext (Nat.zero_add r.val)
  · exact Fin.ext ((Nat.zero_add i.val).trans hi.symm)

/-- Of the elements of a row taken from the greatest down, the values. -/
theorem top_value {n m k : ℕ} (x : FVec Ideal ⟨2, ![n, m]⟩ .f32) (h : (⟨2, ![n, m]⟩ : Shape).Slices (fun _ => 0) ⟨2, ![n, k]⟩)
    (r : Fin n) (i : Fin k) (i' : Fin m) (hi : i'.val = i.val) :
    (Host.topK ⟨2, ![n, k]⟩ 1 (FloatOps.cmpfTotal .gt) x h).1 (ix2 r i) = x (ix2 r (order (fun j => x (ix2 r j)) i')) := by
  refine (congrArg (fun j : (⟨2, ![n, m]⟩ : Shape).Idx => x (j.along 1 (sortedFrom (fun k k' : Fin m =>
    FloatOps.cmpfTotal (F := Ideal) .gt (x (j.along 1 k)) (x (j.along 1 k')) == 1#1) (j 1)))) (slice_at h r i i' hi)).trans ?_
  exact (congrArg x (along_eq r i' _)).trans (congrArg (fun k => x (ix2 r k)) (sort_order x r i' i'))

/-- Of the elements of a row taken from the greatest down, the positions. -/
theorem top_index {n m k : ℕ} (x : FVec Ideal ⟨2, ![n, m]⟩ .f32) (h : (⟨2, ![n, m]⟩ : Shape).Slices (fun _ => 0) ⟨2, ![n, k]⟩)
    (r : Fin n) (i : Fin k) (i' : Fin m) (hi : i'.val = i.val) :
    (Host.topK ⟨2, ![n, k]⟩ 1 (FloatOps.cmpfTotal .gt) x h).2 (ix2 r i) = BitVec.ofNat 32 (order (fun j => x (ix2 r j)) i').val := by
  refine (congrArg (fun j : (⟨2, ![n, m]⟩ : Shape).Idx => BitVec.ofNat 32 ((j.along 1 (sortedFrom (fun k k' : Fin m =>
    FloatOps.cmpfTotal (F := Ideal) .gt (x (j.along 1 k)) (x (j.along 1 k')) == 1#1) (j 1))) 1).val) (slice_at h r i i' hi)).trans ?_
  exact (congrArg (fun i : (⟨2, ![n, m]⟩ : Shape).Idx => BitVec.ofNat 32 (i 1).val) (along_eq r i' _)).trans
    (congrArg (fun k : Fin m => BitVec.ofNat 32 k.val) (sort_order x r i' i'))

end Cert.Proof.Router.Ref

end
-- ==== Proof.Router.Ref.lean ====
module

public import proofs.«01_k».proof.Proof.Router.RefTerms
public import proofs.«01_k».proof.Proof.Router.Block

/-! The reference of the output projection and router computes the closed form; its weights if the logits are real numbers. A softmax
    of real numbers keeps their order, so the greatest of the softmax are the greatest logits. -/

@[expose] public section

set_option maxRecDepth 16384

noncomputable section

namespace Cert.Proof.Router.Ref

open Cert.Reference4Ideal Cert.Reference4Ideal.Gen Cert.Reference4Ideal.Value Idealize.ShloMosaic Idealize.ShloMosaic.TcCoe Idealize.SL.Sem Idealize.ShloMosaic.StableHlo
open Cert.Proof.Weights

/-- A row's greatest element is the first in its order. -/
theorem peak_eq {n : ℕ} (f : Fin (n + 1) → EReal) : peak f = f (order f 0) := by
  have hbot : Ideal.ofBits .f32 0xFF800000#32 = ⊥ := by simp [Ideal.ofBits, Ideal.ieee]
  unfold peak
  rw [(IsFirst.of_before f (order f 0) (order_first f)).fold_max, hbot]
  exact max_eq_right bot_le

/-- The softmax of real numbers: the exponentials less the greatest over their sum, a positive real number. -/
theorem soft_real {n : ℕ} (f : Fin (n + 1) → EReal) (g : Fin (n + 1) → ℝ) (hf : ∀ i, f i = (g i : EReal)) :
    ∃ s : ℝ, 0 < s ∧ (∑ j, Ideal.exp (f j - f (order f 0))) = (s : EReal)
      ∧ ∀ i, soft f i = ((Real.exp (g i - g (order f 0)) * (1 / s) : ℝ) : EReal) := by
  have he : ∀ i, Ideal.exp (f i - f (order f 0)) = ((Real.exp (g i - g (order f 0)) : ℝ) : EReal) := fun i => by
    rw [hf, hf, ← EReal.coe_sub, Ideal.exp_coe]
  have hs : (∑ j, Ideal.exp (f j - f (order f 0))) = ((∑ j, Real.exp (g j - g (order f 0)) : ℝ) : EReal) := by
    rw [← coe_sum]
    exact Finset.sum_congr rfl fun j _ => he j
  have hpos : 0 < ∑ j, Real.exp (g j - g (order f 0)) := Finset.sum_pos (fun j _ => Real.exp_pos _) ⟨0, Finset.mem_univ _⟩
  refine ⟨_, hpos, hs, fun i => ?_⟩
  unfold soft
  rw [peak_eq, hs, he, Ideal.div_coe hpos.ne', ← EReal.coe_mul]

/-- The softmax of real numbers is in their order. -/
theorem soft_order {n : ℕ} (f : Fin (n + 1) → EReal) (hf : ∀ i, IsReal (f i)) : order (soft f) = order f := by
  choose g hg using hf
  obtain ⟨s, hs, -, h⟩ := soft_real f g hg
  refine order_congr _ _ fun a b => ?_
  rw [h, h, hg, hg, EReal.coe_lt_coe_iff, EReal.coe_lt_coe_iff, mul_lt_mul_iff_left₀ (by positivity), Real.exp_lt_exp, sub_lt_sub_iff_right]

/-- The greatest of the groups' softmax is the group's weight. -/
theorem soft_first (f : Fin 4 → EReal) (hf : ∀ i, IsReal (f i)) : soft f (order f 0) = groupWeight f := by
  choose g hg using hf
  have h0 : f (order f 0) - f (order f 0) = 0 := by rw [hg, ← EReal.coe_sub, sub_self, EReal.coe_zero]
  unfold soft groupWeight
  rw [peak_eq, h0]
  refine congrArg (fun x => Ideal.div x _) ?_
  rw [← EReal.coe_zero, Ideal.exp_coe, Real.exp_zero, EReal.coe_one]

/-- The group's weight is a real number. -/
theorem weight_real (f : Fin 4 → EReal) (hf : ∀ i, IsReal (f i)) : IsReal (groupWeight f) := by
  choose g hg using hf
  obtain ⟨s, hs, h, -⟩ := soft_real f g hg
  refine ⟨1 / s, ?_⟩
  unfold groupWeight
  rw [h, Ideal.div_coe hs.ne', one_mul]

/-- The two experts' gates: their softmax over the sum of the two, times a real weight, are the weight shared in the proportion of the
    exponentials. -/
theorem shares (w : EReal) (hw : IsReal w) (f : Fin 8 → EReal) (hf : ∀ i, IsReal (f i)) :
    w * Ideal.div (soft f (order f 0)) (soft f (order f 0) + soft f (order f 1)) = Ideal.div w (1 + ratio f)
      ∧ w * Ideal.div (soft f (order f 1)) (soft f (order f 0) + soft f (order f 1)) = Ideal.div (w * ratio f) (1 + ratio f) := by
  choose g hg using hf
  obtain ⟨v, rfl⟩ := hw
  obtain ⟨s, hs, -, h⟩ := soft_real f g hg
  have hr : ratio f = ((Real.exp (g (order f 1) - g (order f 0)) : ℝ) : EReal) := by
    unfold ratio
    rw [hg, hg, ← EReal.coe_sub, Ideal.exp_coe]
  have hρ := Real.exp_pos (g (order f 1) - g (order f 0))
  have h1 : (1 : EReal) = ((1 : ℝ) : EReal) := EReal.coe_one.symm
  have hsum : 0 < Real.exp (g (order f 0) - g (order f 0)) * (1 / s) + Real.exp (g (order f 1) - g (order f 0)) * (1 / s) := by positivity
  have hden : 0 < 1 + Real.exp (g (order f 1) - g (order f 0)) := by positivity
  rw [h, h, hr, h1, ← EReal.coe_add, ← EReal.coe_add, Ideal.div_coe hsum.ne', Ideal.div_coe hsum.ne', Ideal.div_coe hden.ne', Ideal.div_coe hden.ne',
    ← EReal.coe_mul, ← EReal.coe_mul, ← EReal.coe_mul, ← EReal.coe_mul, ← EReal.coe_mul, ← EReal.coe_mul, ← EReal.coe_mul]
  rw [sub_self, Real.exp_zero] at *
  constructor <;> (refine congrArg _ ?_; field_simp)

section
variable (x : FVec Ideal S4x8192x2048 .f32) (oa ob : FVec Ideal S4x8192x1024 .bf16) (z : FVec Ideal S32768x8704 .f32)
  (wa wb : FVec Ideal S1024x2048 .f32) (wo : FVec Ideal S2048x2048 .f32) (gain : FVec Ideal S2048 .f32)
  (wg : FVec Ideal S2048x4 .f32) (bg : FVec Ideal S4 .f32) (we : FVec Ideal S4x2048x8 .f32) (be : FVec Ideal S4x8 .f32)

/-- The residual rows at an element. -/
theorem row_eq (r : Fin 32768) (d : Fin 2048) : residual x oa ob z wa wb wo
      (ix3 (⟨r.val / 8192, by omega⟩ : Fin 4) (⟨r.val % 8192, by omega⟩ : Fin 8192) d)
    = (Args.mk x oa ob z wa wb wo gain wg bg we be).row r d := by
  have hr : (⟨(⟨r.val / 8192, by omega⟩ : Fin 4).val * 8192 + (⟨r.val % 8192, by omega⟩ : Fin 8192).val, by dsimp only; omega⟩ : Fin 32768) = r :=
    Fin.ext (by dsimp only; omega)
  rw [residual_apply]
  unfold Args.row hidden
  refine congrArg₂ (fun a b : EReal => a + b) rfl (Finset.sum_congr rfl fun k _ => congrArg (fun y : EReal => y * wo (ix2 k d)) ?_)
  rw [branchA_apply, branchB_apply]
  unfold merged branchRow
  rw [hr]

/-- The normalised rows at an element. -/
theorem normed_eq (r : Fin 32768) (d : Fin 2048) : flat (norm (residual x oa ob z wa wb wo) gain) (ix2 r d)
    = (Args.mk x oa ob z wa wb wo gain wg bg we be).normed r d := by
  rw [flat_apply, norm_apply]
  unfold Args.normed
  exact congrArg (fun y => Input.normed y _ d) (funext fun k => row_eq x oa ob z wa wb wo gain wg bg we be r k)

/-- THE REFERENCE'S FIRST RESULT is the closed form. -/
theorem rows_result : flat (residual x oa ob z wa wb wo) = (Args.mk x oa ob z wa wb wo gain wg bg we be).rows := by
  funext i
  have hi : i = ix2 (i 0 : Fin 32768) (i 1 : Fin 2048) := by funext a; fin_cases a <;> rfl
  exact (congrArg _ hi).trans ((flat_apply _ (i 0) (i 1)).trans (row_eq x oa ob z wa wb wo gain wg bg we be (i 0) (i 1)))

/-- THE REFERENCE'S SECOND RESULT is the closed form. -/
theorem slabs_result : slabs (flat (norm (residual x oa ob z wa wb wo) gain)) = (Args.mk x oa ob z wa wb wo gain wg bg we be).slabs := by
  funext i
  have hi : i = ix3 (i 0 : Fin 4) (i 1 : Fin 32768) (i 2 : Fin 512) := by funext a; fin_cases a <;> rfl
  exact (congrArg _ hi).trans ((slabs_apply _ (i 0) (i 1) (i 2)).trans (normed_eq x oa ob z wa wb wo gain wg bg we be (i 1) _))

end

/-- One or zero times a number. -/
theorem pick {p q : Prop} [Decidable p] [Decidable q] (h : p ↔ q) (x : EReal) : (if p then (1 : EReal) else 0) * x = if q then x else 0 := by
  by_cases hp : p
  · rw [if_pos hp, if_pos (h.mp hp), one_mul]
  · rw [if_neg hp, if_neg fun hq => hp (h.mpr hq), zero_mul]

/-- An expert's number among the 32, in words. -/
theorem number : ∀ (a : Fin 4) (b : Fin 8), BitVec.ofNat 32 a.val * 8#32 + BitVec.ofNat 32 b.val = BitVec.ofNat 32 (8 * a.val + b.val) := by
  decide

/-- The weights at a row and a lane, of real logits. -/
theorem weights_apply (l : FVec Ideal S32768x4 .f32) (e : FVec Ideal S32768x4x8 .f32) (r : Fin 32768) (hl : ∀ g : Fin 4, IsReal (l (ix2 r g)))
    (he : ∀ (g : Fin 4) (k : Fin 8), IsReal (e (ix3 r g k))) (i : Fin 128) :
    weights l e (ix2 r i) = combine (fun g => l (ix2 r g)) (fun g k => e (ix3 r g k)) i := by
  obtain ⟨G, hG⟩ : ∃ G, G = order (fun g => l (ix2 r g)) 0 := ⟨_, rfl⟩
  have hsoft : (fun g => groupSoft l (ix2 r g)) = soft (fun g => l (ix2 r g)) := funext fun g => groupSoft_apply l r g
  have hgi : (groupTop (groupSoft l)).2 (ix2 r 0) = BitVec.ofNat 32 G.val := by
    refine (top_index (n := 32768) (m := 4) (k := 1) (groupSoft l) _ r 0 0 rfl).trans ?_
    rw [hsoft, soft_order _ hl, hG]
  have hgv : (groupTop (groupSoft l)).1 (ix2 r 0) = groupWeight fun g => l (ix2 r g) := by
    refine (top_value (n := 32768) (m := 4) (k := 1) (groupSoft l) _ r 0 0 rfl).trans ?_
    rw [hsoft, soft_order _ hl, groupSoft_apply]
    exact soft_first _ hl
  have hchosen : ∀ g : Fin 4, chosen (F := Ideal) (groupTop (groupSoft l)).2 (ix2 r g) = if g = G then 1 else 0 := fun g => by
    rw [chosen_apply, hgi]
    refine if_congr ⟨fun h => ?_, fun h => by rw [h]⟩ rfl rfl
    have := congrArg BitVec.toNat h
    rw [BitVec.toNat_ofNat, BitVec.toNat_ofNat, Nat.mod_eq_of_lt (by omega), Nat.mod_eq_of_lt (by omega)] at this
    exact Fin.ext this.symm
  have hown : ∀ k : Fin 8, own e (chosen (groupTop (groupSoft l)).2) (ix2 r k) = e (ix3 r G k) := fun k => by
    rw [own_apply, Finset.sum_eq_single G]
    · rw [hchosen, if_pos rfl]; exact mul_one _
    · intro g _ hne
      rw [hchosen, if_neg hne]; exact mul_zero _
    · exact fun h => absurd (Finset.mem_univ _) h
  have hown' : (fun k => own e (chosen (groupTop (groupSoft l)).2) (ix2 r k)) = fun k => e (ix3 r G k) := funext hown
  have hes : (fun k => ownSoft l e (ix2 r k)) = soft fun k => e (ix3 r G k) := funext fun k => by
    unfold ownSoft
    rw [expertSoft_apply, hown']
  have hev : ∀ (j : Fin 2) (j' : Fin 8), j'.val = j.val → (expertTop (ownSoft l e)).1 (ix2 r j)
      = soft (fun k => e (ix3 r G k)) (order (fun k => e (ix3 r G k)) j') := fun j j' hj => by
    refine (top_value (n := 32768) (m := 8) (k := 2) (ownSoft l e) _ r j j' hj).trans ?_
    refine (congrFun hes _).trans ?_
    rw [hes, soft_order _ (he G)]
  have hei : ∀ (j : Fin 2) (j' : Fin 8), j'.val = j.val → numbers (groupTop (groupSoft l)).2 (expertTop (ownSoft l e)).2 (ix2 r j)
      = BitVec.ofNat 32 (8 * G.val + (order (fun k => e (ix3 r G k)) j').val) := fun j j' hj => by
    have h := top_index (n := 32768) (m := 8) (k := 2) (ownSoft l e) sliceFits_S32768x8_S32768x2 r j j' hj
    rw [hes, soft_order _ (he G)] at h
    rw [numbers_apply, hgi]
    refine (congrArg (fun b : BitVec 32 => BitVec.ofNat 32 G.val * 8#32 + b) h).trans ?_
    exact number G _
  have hsum : (∑ j : Fin 2, (expertTop (ownSoft l e)).1 (ix2 r j)) = soft (fun k => e (ix3 r G k)) (order (fun k => e (ix3 r G k)) 0)
      + soft (fun k => e (ix3 r G k)) (order (fun k => e (ix3 r G k)) 1) := by
    rw [Fin.sum_univ_two, hev 0 0 rfl, hev 1 1 rfl]
  obtain ⟨s0, s1⟩ := shares (groupWeight fun g => l (ix2 r g)) (weight_real _ hl) (fun k => e (ix3 r G k)) (he G)
  have hmatch : ∀ (q : Fin 8) (hi : i.val < 32), BitVec.ofNat 32 (8 * G.val + q.val) = BitVec.ofNat 32 (⟨i.val, hi⟩ : Fin 32).val
      ↔ i.val = 8 * G.val + q.val := fun q hi => by
    constructor
    · intro h
      have := congrArg BitVec.toNat h
      rw [BitVec.toNat_ofNat, BitVec.toNat_ofNat, Nat.mod_eq_of_lt (by omega), Nat.mod_eq_of_lt (by dsimp only; omega)] at this
      exact this.symm
    · intro h
      exact congrArg (BitVec.ofNat 32) h.symm
  unfold weights combine
  rw [← hG]
  by_cases hi : i.val < 32
  · rw [padded_lo _ r i hi, spread_apply, Fin.sum_univ_two, gates_apply, gates_apply, hsum, hgv, hei 0 0 rfl, hei 1 1 rfl, hev 0 0 rfl, hev 1 1 rfl, s0, s1]
    exact congrArg₂ (fun a b : EReal => a + b) (pick (hmatch _ hi) _) (pick (hmatch _ hi) _)
  · have hq : ∀ q : Fin 8, ¬ i.val = 8 * G.val + q.val := fun q => by omega
    rw [padded_hi _ r i hi, if_neg (hq _), if_neg (hq _), add_zero]

section
variable (x : FVec Ideal S4x8192x2048 .f32) (oa ob : FVec Ideal S4x8192x1024 .bf16) (z : FVec Ideal S32768x8704 .f32)
  (wa wb : FVec Ideal S1024x2048 .f32) (wo : FVec Ideal S2048x2048 .f32) (gain : FVec Ideal S2048 .f32)
  (wg : FVec Ideal S2048x4 .f32) (bg : FVec Ideal S4 .f32) (we : FVec Ideal S4x2048x8 .f32) (be : FVec Ideal S4x8 .f32)

/-- The third result at a row and a lane. -/
theorem weight_eq (h : (Args.mk x oa ob z wa wb wo gain wg bg we be).Finite) (r : Fin 32768) (l : Fin 128) :
    weights (groups (flat (norm (residual x oa ob z wa wb wo) gain)) wg bg) (experts (flat (norm (residual x oa ob z wa wb wo) gain)) we be) (ix2 r l)
      = (Args.mk x oa ob z wa wb wo gain wg bg we be).weights (ix2 r l) := by
  have hn : (fun k => flat (norm (residual x oa ob z wa wb wo) gain) (ix2 r k)) = (Args.mk x oa ob z wa wb wo gain wg bg we be).normed r :=
    funext fun k => normed_eq x oa ob z wa wb wo gain wg bg we be r k
  have hreal : ∀ k, IsReal ((Args.mk x oa ob z wa wb wo gain wg bg we be).normed r k) := normed_real _ _ fun k => h.gain k
  have hg : (fun g => groups (flat (norm (residual x oa ob z wa wb wo) gain)) wg bg (ix2 r g))
      = groupLogit ((Args.mk x oa ob z wa wb wo gain wg bg we be).normed r) wg bg := funext fun g => by
    rw [groups_apply, hn]
  have he : (fun g k => experts (flat (norm (residual x oa ob z wa wb wo) gain)) we be (ix3 r g k))
      = expertLogit ((Args.mk x oa ob z wa wb wo gain wg bg we be).normed r) we be := funext fun g => funext fun k => by
    rw [experts_apply, hn]
  refine (weights_apply _ _ r (fun g => ?_) (fun g k => ?_) l).trans ?_
  · refine (congrArg IsReal (congrFun hg g)).mpr ?_
    exact IsReal.add (IsReal.sum fun k => IsReal.mul (hreal k) (h.wg k g)) (h.bg g)
  · refine (congrArg IsReal (congrFun (congrFun he g) k)).mpr ?_
    exact IsReal.add (IsReal.sum fun j => IsReal.mul (hreal j) (h.we g j k)) (h.be g k)
  · rw [hg, he]
    rfl

/-- THE REFERENCE'S THIRD RESULT is the closed form, the norm's gain and the router's matrices and biases real numbers. -/
theorem weights_result (h : (Args.mk x oa ob z wa wb wo gain wg bg we be).Finite) :
    weights (groups (flat (norm (residual x oa ob z wa wb wo) gain)) wg bg) (experts (flat (norm (residual x oa ob z wa wb wo) gain)) we be)
      = (Args.mk x oa ob z wa wb wo gain wg bg we be).weights := by
  funext i
  have hi : i = ix2 (i 0 : Fin 32768) (i 1 : Fin 128) := by funext a; fin_cases a <;> rfl
  refine (congrArg _ hi).trans ((weight_eq x oa ob z wa wb wo gain wg bg we be h (i 0) (i 1)).trans ?_)
  exact congrArg _ hi.symm

end

section
variable (m : (ℓ : Loc nD τ sig) → Buf (Elt Ideal) ℓ) (c : Dev nD)

/-- The reference's arguments in a memory. -/
def args : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11)⟩

/-- The three results of the memory's arguments. -/
theorem first : flat (res_main_v24 (launchContents m c)) = (args m c).rows := by
  rw [rows_eq]
  exact rows_result _ _ _ _ _ _ _ _ _ _ _ _
@[inherit_doc first] theorem second : slabs (res_main_v38 (launchContents m c)) = (args m c).slabs := by
  rw [norm_eq, rows_eq]
  exact slabs_result _ _ _ _ _ _ _ _ _ _ _ _
@[inherit_doc first] theorem third (h : (args m c).Finite) :
    weights (groups (res_main_v38 (launchContents m c)) (launchContents m c (Proc.devRef .tc main_arg8)) (launchContents m c (Proc.devRef .tc main_arg9)))
      (experts (res_main_v38 (launchContents m c)) (launchContents m c (Proc.devRef .tc main_arg10)) (launchContents m c (Proc.devRef .tc main_arg11)))
      = (args m c).weights := by
  rw [norm_eq, rows_eq]
  exact weights_result _ _ _ _ _ _ _ _ _ _ _ _ h

end

end Cert.Proof.Router.Ref

end
-- ==== Proof.Prep.Block.lean ====
module

public import proofs.«01_k».proof.Proof.Gen.Kernel5Ideal.Value
public import Idealize.ShloMosaic.Lib.Pipeline.ValueKit
public import Idealize.ShloMosaic.Lib.Pointwise

/-! What one grid point computes for 512 rows: the queries, keys and values of the eight heads, written out head by head in the body. Here
    a head's block is one function of the place its columns begin, and the stores of the body are that function at the eight places. -/

@[expose] public section

set_option maxRecDepth 65536

noncomputable section

namespace Cert.Proof.Prep

open Cert.Kernel5Ideal Cert.Kernel5Ideal.Gen Cert.Kernel5Ideal.Value Idealize.ShloMosaic Idealize.ShloMosaic.TcCoe Idealize.SL.Sem

variable {F : FTy → Type} [FloatOps F] [Named F]

section
variable (x0 : Vec F S512x1152 .f32) (x1 x2 : Vec F S512x64 .f32) (x3 x4 : Vec F S1x512 .f32) (x5 : Vec F S512x1536 .bf16)
  (x6 : Vec F S512x2048 .bf16) (x7 x8 : Vec F S1x192 .f32)

/-- 512 columns of the block from `o` on, each row over its root mean square and times a gain. -/
def normedBlock (g : Vec F S1x512 .f32) (o : ℕ) (hs : S512x1152.Slices ![0, o] S512x512) : FVec F S512x512 .f32 :=
  mulf (mulf (extractStridedSlice S512x512 ![0, o] x0 hs)
      (broadcastTo S512x512 (rsqrt (addf (divf (shapeCast S512x1 (multiReduction .add [1] S512
        (mulf (extractStridedSlice S512x512 ![0, o] x0 hs) (extractStridedSlice S512x512 ![0, o] x0 hs))
        0x00000000#32 reduces_S512x512_S512 (.inl rfl) rfl) shapeCasts_S512_S512x1)
        (broadcast S512x1 (Scalar.ofBits .f32 0x44000000#32))) (broadcast S512x1 (Scalar.ofBits .f32 0x358637BD#32))))
        broadcasts_S512x1_S512x512))
    (broadcastTo S512x512 (shapeCast S1x512 g shapeCasts_S1x512_S1x512) broadcasts_S1x512_S512x512)

/-- The queries of all heads, and the keys beside the values of all heads. -/
def queries : FVec F S512x1536 .f32 :=
  matmul dot_S512x512_S512x1536_S512x1536_1_0_0_1_n_n none
    (truncf .bf16 (normedBlock x0 x3 0 slices_S512x1152_o0_0_S512x512) bitsLt_bf16_f32)
    (shapeCast S512x1536 x5 shapeCasts_S512x1536_S512x1536) (constant S512x1536 .f32 0x00000000#32)
@[inherit_doc queries] def latents : FVec F S512x2048 .f32 :=
  matmul dot_S512x512_S512x2048_S512x2048_1_0_0_1_n_n none
    (truncf .bf16 (normedBlock x0 x4 512 slices_S512x1152_o0_512_S512x512) bitsLt_bf16_f32)
    (shapeCast S512x2048 x6 shapeCasts_S512x2048_S512x2048) (constant S512x2048 .f32 0x00000000#32)

/-- 128 of the keys' and values' columns, from `o` on. -/
def slot (u : FVec F S512x2048 .f32) (o : ℕ) (hs : S512x2048.Slices ![0, o] S512x128) : FVec F S512x128 .f32 :=
  extractStridedSlice S512x128 ![0, o] u hs

/-- A head's queries, each row over its root mean square, scaled and times the gain. -/
def queryHead (u : FVec F S512x1536 .f32) (o : ℕ) (hs : S512x1536.Slices ![0, o] S512x192) : FVec F S512x192 .f32 :=
  mulf (mulf (extractStridedSlice S512x192 ![0, o] u hs)
      (broadcastTo S512x192 (mulf (rsqrt (addf (divf (shapeCast S512x1 (multiReduction .add [1] S512
        (mulf (extractStridedSlice S512x192 ![0, o] u hs) (extractStridedSlice S512x192 ![0, o] u hs))
        0x00000000#32 reduces_S512x192_S512 (.inl rfl) rfl) shapeCasts_S512_S512x1)
        (broadcast S512x1 (Scalar.ofBits .f32 0x43400000#32))) (broadcast S512x1 (Scalar.ofBits .f32 0x358637BD#32))))
        (broadcast S512x1 (Named.named κ "scale" 0x3DD53B95#32)))
        broadcasts_S512x1_S512x192))
    (broadcastTo S512x192 (shapeCast S1x192 x7 shapeCasts_S1x192_S1x192) broadcasts_S1x192_S512x192)

/-- 64 columns turned by the tables: times the cosines, plus the two halves swapped times the signed sines. -/
def turned (u : FVec F S512x64 .f32) : FVec F S512x64 .f32 :=
  addf (mulf u (shapeCast S512x64 x1 shapeCasts_S512x64_S512x64))
    (mulf (concatenate S512x64 1 [⟨S512x32, extractStridedSlice S512x32 ![0, 32] u slices_S512x64_o0_32_S512x32⟩,
        ⟨S512x32, extractStridedSlice S512x32 ![0, 0] u slices_S512x64_o0_0_S512x32⟩] concatenates_S512x32_S512x32_S512x64_d1)
      (shapeCast S512x64 x2 shapeCasts_S512x64_S512x64))

/-- What is stored of a head's queries. -/
def queryNope (u : FVec F S512x192 .f32) : FVec F S1x1x512x128 .bf16 :=
  shapeCast S1x1x512x128 (truncf .bf16 (extractStridedSlice S512x128 ![0, 0] u slices_S512x192_o0_0_S512x128) bitsLt_bf16_f32)
    shapeCasts_S512x128_S1x1x512x128
@[inherit_doc queryNope] def queryRope (u : FVec F S512x192 .f32) : FVec F S1x1x512x64 .bf16 :=
  shapeCast S1x1x512x64 (truncf .bf16 (turned x1 x2 (extractStridedSlice S512x64 ![0, 128] u slices_S512x192_o0_128_S512x64)) bitsLt_bf16_f32)
    shapeCasts_S512x64_S1x1x512x64

/-- The reciprocal root mean square of a head's keys: its own columns and the shared ones. -/
def keyInv (u : FVec F S512x128 .f32) : FVec F S512x1 .f32 :=
  rsqrt (addf (mulf (addf
      (shapeCast S512x1 (multiReduction .add [1] S512 (mulf u u) 0x00000000#32 reduces_S512x128_S512 (.inl rfl) rfl) shapeCasts_S512_S512x1)
      (shapeCast S512x1 (multiReduction .add [1] S512 (mulf (extractStridedSlice S512x64 ![0, 1024] x0 slices_S512x1152_o0_1024_S512x64)
        (extractStridedSlice S512x64 ![0, 1024] x0 slices_S512x1152_o0_1024_S512x64)) 0x00000000#32 reduces_S512x64_S512 (.inl rfl) rfl)
        shapeCasts_S512_S512x1))
      (broadcast S512x1 (Named.named κ "inv_n" 0x3BAAAAAB#32))) (broadcast S512x1 (Scalar.ofBits .f32 0x358637BD#32)))

/-- What is stored of a head's keys, and of its values: the values, then a one and zeros. -/
def keyNope (u : FVec F S512x128 .f32) : FVec F S1x1x512x128 .bf16 :=
  shapeCast S1x1x512x128 (truncf .bf16 (mulf (mulf u (broadcastTo S512x128 (keyInv x0 u) broadcasts_S512x1_S512x128))
    (broadcastTo S512x128 (extractStridedSlice S1x128 ![0, 0] (shapeCast S1x192 x8 shapeCasts_S1x192_S1x192) slices_S1x192_o0_0_S1x128)
      broadcasts_S1x128_S512x128)) bitsLt_bf16_f32) shapeCasts_S512x128_S1x1x512x128
@[inherit_doc keyNope] def keyRope (u : FVec F S512x128 .f32) : FVec F S1x1x512x64 .bf16 :=
  shapeCast S1x1x512x64 (truncf .bf16 (mulf (turned x1 x2 (mulf (extractStridedSlice S512x64 ![0, 1024] x0 slices_S512x1152_o0_1024_S512x64)
      (broadcastTo S512x64 (extractStridedSlice S1x64 ![0, 128] (shapeCast S1x192 x8 shapeCasts_S1x192_S1x192) slices_S1x192_o0_128_S1x64)
        broadcasts_S1x64_S512x64)))
    (broadcastTo S512x64 (keyInv x0 u) broadcasts_S512x1_S512x64)) bitsLt_bf16_f32) shapeCasts_S512x64_S1x1x512x64
@[inherit_doc keyNope] def value (u : FVec F S512x128 .f32) : FVec F S1x1x512x128 .bf16 :=
  shapeCast S1x1x512x128 (truncf .bf16 u bitsLt_bf16_f32) shapeCasts_S512x128_S1x1x512x128
@[inherit_doc keyNope] def ones : FVec F S1x1x512x128 .bf16 :=
  shapeCast S1x1x512x128 (truncf .bf16 (sitofp .f32 (extui 32 (cmpi .eq (iota .tc S512x128 32 [1] iota_S512x128_d1_w32) (broadcast S512x128 0#32))
    natLt_1_32)) bitsLt_bf16_f32) shapeCasts_S512x128_S1x1x512x128

/-- The stores into the three blocks, the last first. -/
def queryPieces : List (View.Piece (Elt F) S1x8x512x192 .bf16) :=
  [⟨Rect.unit ![0, 7, 0, 128] ![1, 1, 512, 64] inb_S1x8x512x192_S1x1x512x64_0_7_0_128, queryRope x1 x2 (queryHead x7 (queries x0 x3 x5) 1344 slices_S512x1536_o0_1344_S512x192)⟩,
   ⟨Rect.unit ![0, 7, 0, 0] ![1, 1, 512, 128] inb_S1x8x512x192_S1x1x512x128_0_7_0_0, queryNope (queryHead x7 (queries x0 x3 x5) 1344 slices_S512x1536_o0_1344_S512x192)⟩,
   ⟨Rect.unit ![0, 6, 0, 128] ![1, 1, 512, 64] inb_S1x8x512x192_S1x1x512x64_0_6_0_128, queryRope x1 x2 (queryHead x7 (queries x0 x3 x5) 1152 slices_S512x1536_o0_1152_S512x192)⟩,
   ⟨Rect.unit ![0, 6, 0, 0] ![1, 1, 512, 128] inb_S1x8x512x192_S1x1x512x128_0_6_0_0, queryNope (queryHead x7 (queries x0 x3 x5) 1152 slices_S512x1536_o0_1152_S512x192)⟩,
   ⟨Rect.unit ![0, 5, 0, 128] ![1, 1, 512, 64] inb_S1x8x512x192_S1x1x512x64_0_5_0_128, queryRope x1 x2 (queryHead x7 (queries x0 x3 x5) 960 slices_S512x1536_o0_960_S512x192)⟩,
   ⟨Rect.unit ![0, 5, 0, 0] ![1, 1, 512, 128] inb_S1x8x512x192_S1x1x512x128_0_5_0_0, queryNope (queryHead x7 (queries x0 x3 x5) 960 slices_S512x1536_o0_960_S512x192)⟩,
   ⟨Rect.unit ![0, 4, 0, 128] ![1, 1, 512, 64] inb_S1x8x512x192_S1x1x512x64_0_4_0_128, queryRope x1 x2 (queryHead x7 (queries x0 x3 x5) 768 slices_S512x1536_o0_768_S512x192)⟩,
   ⟨Rect.unit ![0, 4, 0, 0] ![1, 1, 512, 128] inb_S1x8x512x192_S1x1x512x128_0_4_0_0, queryNope (queryHead x7 (queries x0 x3 x5) 768 slices_S512x1536_o0_768_S512x192)⟩,
   ⟨Rect.unit ![0, 3, 0, 128] ![1, 1, 512, 64] inb_S1x8x512x192_S1x1x512x64_0_3_0_128, queryRope x1 x2 (queryHead x7 (queries x0 x3 x5) 576 slices_S512x1536_o0_576_S512x192)⟩,
   ⟨Rect.unit ![0, 3, 0, 0] ![1, 1, 512, 128] inb_S1x8x512x192_S1x1x512x128_0_3_0_0, queryNope (queryHead x7 (queries x0 x3 x5) 576 slices_S512x1536_o0_576_S512x192)⟩,
   ⟨Rect.unit ![0, 2, 0, 128] ![1, 1, 512, 64] inb_S1x8x512x192_S1x1x512x64_0_2_0_128, queryRope x1 x2 (queryHead x7 (queries x0 x3 x5) 384 slices_S512x1536_o0_384_S512x192)⟩,
   ⟨Rect.unit ![0, 2, 0, 0] ![1, 1, 512, 128] inb_S1x8x512x192_S1x1x512x128_0_2_0_0, queryNope (queryHead x7 (queries x0 x3 x5) 384 slices_S512x1536_o0_384_S512x192)⟩,
   ⟨Rect.unit ![0, 1, 0, 128] ![1, 1, 512, 64] inb_S1x8x512x192_S1x1x512x64_0_1_0_128, queryRope x1 x2 (queryHead x7 (queries x0 x3 x5) 192 slices_S512x1536_o0_192_S512x192)⟩,
   ⟨Rect.unit ![0, 1, 0, 0] ![1, 1, 512, 128] inb_S1x8x512x192_S1x1x512x128_0_1_0_0, queryNope (queryHead x7 (queries x0 x3 x5) 192 slices_S512x1536_o0_192_S512x192)⟩,
   ⟨Rect.unit ![0, 0, 0, 128] ![1, 1, 512, 64] inb_S1x8x512x192_S1x1x512x64_0_0_0_128, queryRope x1 x2 (queryHead x7 (queries x0 x3 x5) 0 slices_S512x1536_o0_0_S512x192)⟩,
   ⟨Rect.unit ![0, 0, 0, 0] ![1, 1, 512, 128] inb_S1x8x512x192_S1x1x512x128_0_0_0_0, queryNope (queryHead x7 (queries x0 x3 x5) 0 slices_S512x1536_o0_0_S512x192)⟩]
@[inherit_doc queryPieces] def keyPieces : List (View.Piece (Elt F) S1x8x512x192 .bf16) :=
  [⟨Rect.unit ![0, 7, 0, 128] ![1, 1, 512, 64] inb_S1x8x512x192_S1x1x512x64_0_7_0_128, keyRope x0 x1 x2 x8 (slot (latents x0 x4 x6) 1792 slices_S512x2048_o0_1792_S512x128)⟩,
   ⟨Rect.unit ![0, 7, 0, 0] ![1, 1, 512, 128] inb_S1x8x512x192_S1x1x512x128_0_7_0_0, keyNope x0 x8 (slot (latents x0 x4 x6) 1792 slices_S512x2048_o0_1792_S512x128)⟩,
   ⟨Rect.unit ![0, 6, 0, 128] ![1, 1, 512, 64] inb_S1x8x512x192_S1x1x512x64_0_6_0_128, keyRope x0 x1 x2 x8 (slot (latents x0 x4 x6) 1536 slices_S512x2048_o0_1536_S512x128)⟩,
   ⟨Rect.unit ![0, 6, 0, 0] ![1, 1, 512, 128] inb_S1x8x512x192_S1x1x512x128_0_6_0_0, keyNope x0 x8 (slot (latents x0 x4 x6) 1536 slices_S512x2048_o0_1536_S512x128)⟩,
   ⟨Rect.unit ![0, 5, 0, 128] ![1, 1, 512, 64] inb_S1x8x512x192_S1x1x512x64_0_5_0_128, keyRope x0 x1 x2 x8 (slot (latents x0 x4 x6) 1280 slices_S512x2048_o0_1280_S512x128)⟩,
   ⟨Rect.unit ![0, 5, 0, 0] ![1, 1, 512, 128] inb_S1x8x512x192_S1x1x512x128_0_5_0_0, keyNope x0 x8 (slot (latents x0 x4 x6) 1280 slices_S512x2048_o0_1280_S512x128)⟩,
   ⟨Rect.unit ![0, 4, 0, 128] ![1, 1, 512, 64] inb_S1x8x512x192_S1x1x512x64_0_4_0_128, keyRope x0 x1 x2 x8 (slot (latents x0 x4 x6) 1024 slices_S512x2048_o0_1024_S512x128)⟩,
   ⟨Rect.unit ![0, 4, 0, 0] ![1, 1, 512, 128] inb_S1x8x512x192_S1x1x512x128_0_4_0_0, keyNope x0 x8 (slot (latents x0 x4 x6) 1024 slices_S512x2048_o0_1024_S512x128)⟩,
   ⟨Rect.unit ![0, 3, 0, 128] ![1, 1, 512, 64] inb_S1x8x512x192_S1x1x512x64_0_3_0_128, keyRope x0 x1 x2 x8 (slot (latents x0 x4 x6) 768 slices_S512x2048_o0_768_S512x128)⟩,
   ⟨Rect.unit ![0, 3, 0, 0] ![1, 1, 512, 128] inb_S1x8x512x192_S1x1x512x128_0_3_0_0, keyNope x0 x8 (slot (latents x0 x4 x6) 768 slices_S512x2048_o0_768_S512x128)⟩,
   ⟨Rect.unit ![0, 2, 0, 128] ![1, 1, 512, 64] inb_S1x8x512x192_S1x1x512x64_0_2_0_128, keyRope x0 x1 x2 x8 (slot (latents x0 x4 x6) 512 slices_S512x2048_o0_512_S512x128)⟩,
   ⟨Rect.unit ![0, 2, 0, 0] ![1, 1, 512, 128] inb_S1x8x512x192_S1x1x512x128_0_2_0_0, keyNope x0 x8 (slot (latents x0 x4 x6) 512 slices_S512x2048_o0_512_S512x128)⟩,
   ⟨Rect.unit ![0, 1, 0, 128] ![1, 1, 512, 64] inb_S1x8x512x192_S1x1x512x64_0_1_0_128, keyRope x0 x1 x2 x8 (slot (latents x0 x4 x6) 256 slices_S512x2048_o0_256_S512x128)⟩,
   ⟨Rect.unit ![0, 1, 0, 0] ![1, 1, 512, 128] inb_S1x8x512x192_S1x1x512x128_0_1_0_0, keyNope x0 x8 (slot (latents x0 x4 x6) 256 slices_S512x2048_o0_256_S512x128)⟩,
   ⟨Rect.unit ![0, 0, 0, 128] ![1, 1, 512, 64] inb_S1x8x512x192_S1x1x512x64_0_0_0_128, keyRope x0 x1 x2 x8 (slot (latents x0 x4 x6) 0 slices_S512x2048_o0_0_S512x128)⟩,
   ⟨Rect.unit ![0, 0, 0, 0] ![1, 1, 512, 128] inb_S1x8x512x192_S1x1x512x128_0_0_0_0, keyNope x0 x8 (slot (latents x0 x4 x6) 0 slices_S512x2048_o0_0_S512x128)⟩]
@[inherit_doc queryPieces] def valuePieces : List (View.Piece (Elt F) S1x8x512x256 .bf16) :=
  [⟨Rect.unit ![0, 7, 0, 128] ![1, 1, 512, 128] inb_S1x8x512x256_S1x1x512x128_0_7_0_128, ones⟩,
   ⟨Rect.unit ![0, 7, 0, 0] ![1, 1, 512, 128] inb_S1x8x512x256_S1x1x512x128_0_7_0_0, value (slot (latents x0 x4 x6) 1920 slices_S512x2048_o0_1920_S512x128)⟩,
   ⟨Rect.unit ![0, 6, 0, 128] ![1, 1, 512, 128] inb_S1x8x512x256_S1x1x512x128_0_6_0_128, ones⟩,
   ⟨Rect.unit ![0, 6, 0, 0] ![1, 1, 512, 128] inb_S1x8x512x256_S1x1x512x128_0_6_0_0, value (slot (latents x0 x4 x6) 1664 slices_S512x2048_o0_1664_S512x128)⟩,
   ⟨Rect.unit ![0, 5, 0, 128] ![1, 1, 512, 128] inb_S1x8x512x256_S1x1x512x128_0_5_0_128, ones⟩,
   ⟨Rect.unit ![0, 5, 0, 0] ![1, 1, 512, 128] inb_S1x8x512x256_S1x1x512x128_0_5_0_0, value (slot (latents x0 x4 x6) 1408 slices_S512x2048_o0_1408_S512x128)⟩,
   ⟨Rect.unit ![0, 4, 0, 128] ![1, 1, 512, 128] inb_S1x8x512x256_S1x1x512x128_0_4_0_128, ones⟩,
   ⟨Rect.unit ![0, 4, 0, 0] ![1, 1, 512, 128] inb_S1x8x512x256_S1x1x512x128_0_4_0_0, value (slot (latents x0 x4 x6) 1152 slices_S512x2048_o0_1152_S512x128)⟩,
   ⟨Rect.unit ![0, 3, 0, 128] ![1, 1, 512, 128] inb_S1x8x512x256_S1x1x512x128_0_3_0_128, ones⟩,
   ⟨Rect.unit ![0, 3, 0, 0] ![1, 1, 512, 128] inb_S1x8x512x256_S1x1x512x128_0_3_0_0, value (slot (latents x0 x4 x6) 896 slices_S512x2048_o0_896_S512x128)⟩,
   ⟨Rect.unit ![0, 2, 0, 128] ![1, 1, 512, 128] inb_S1x8x512x256_S1x1x512x128_0_2_0_128, ones⟩,
   ⟨Rect.unit ![0, 2, 0, 0] ![1, 1, 512, 128] inb_S1x8x512x256_S1x1x512x128_0_2_0_0, value (slot (latents x0 x4 x6) 640 slices_S512x2048_o0_640_S512x128)⟩,
   ⟨Rect.unit ![0, 1, 0, 128] ![1, 1, 512, 128] inb_S1x8x512x256_S1x1x512x128_0_1_0_128, ones⟩,
   ⟨Rect.unit ![0, 1, 0, 0] ![1, 1, 512, 128] inb_S1x8x512x256_S1x1x512x128_0_1_0_0, value (slot (latents x0 x4 x6) 384 slices_S512x2048_o0_384_S512x128)⟩,
   ⟨Rect.unit ![0, 0, 0, 128] ![1, 1, 512, 128] inb_S1x8x512x256_S1x1x512x128_0_0_0_128, ones⟩,
   ⟨Rect.unit ![0, 0, 0, 0] ![1, 1, 512, 128] inb_S1x8x512x256_S1x1x512x128_0_0_0_0, value (slot (latents x0 x4 x6) 128 slices_S512x2048_o0_128_S512x128)⟩]

set_option maxHeartbeats 4000000 in
theorem query_out (c : Dev nD) (i : grid0.Coords)
    (arg2 : Memref sig .tc .vmem S512x1152 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x1536 .bf16) (harg7 : arg7.IsWhole)
    (arg8 : Memref sig .tc .vmem S512x2048 .bf16) (harg8 : arg8.IsWhole)
    (arg9 : Memref sig .tc .vmem S1x192 .f32) (harg9 : arg9.IsWhole)
    (arg10 : Memref sig .tc .vmem S1x192 .f32) (harg10 : arg10.IsWhole)
    (arg11 : Memref sig .tc .vmem S1x8x512x192 .bf16) (harg11 : arg11.IsWhole)
    (arg12 : Memref sig .tc .vmem S1x8x512x192 .bf16) (harg12 : arg12.IsWhole)
    (arg13 : Memref sig .tc .vmem S1x8x512x256 .bf16) (harg13 : arg13.IsWhole) (j : S1x8x512x192.Idx) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 j
      = View.canon (queryPieces x0 x1 x2 x3 x5 x7) j := by
  frame_open
  frame_out
  refine congrFun (congrArg View.canon ?_) j
  unfold queryPieces
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))))))))))))))
  all_goals
    dsimp only [queryRope, queryNope, turned, queryHead, queries, normedBlock]
    unfold_payloads
    rfl

set_option maxHeartbeats 4000000 in
theorem key_out (c : Dev nD) (i : grid0.Coords)
    (arg2 : Memref sig .tc .vmem S512x1152 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x1536 .bf16) (harg7 : arg7.IsWhole)
    (arg8 : Memref sig .tc .vmem S512x2048 .bf16) (harg8 : arg8.IsWhole)
    (arg9 : Memref sig .tc .vmem S1x192 .f32) (harg9 : arg9.IsWhole)
    (arg10 : Memref sig .tc .vmem S1x192 .f32) (harg10 : arg10.IsWhole)
    (arg11 : Memref sig .tc .vmem S1x8x512x192 .bf16) (harg11 : arg11.IsWhole)
    (arg12 : Memref sig .tc .vmem S1x8x512x192 .bf16) (harg12 : arg12.IsWhole)
    (arg13 : Memref sig .tc .vmem S1x8x512x256 .bf16) (harg13 : arg13.IsWhole) (j : S1x8x512x192.Idx) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 j
      = View.canon (keyPieces x0 x1 x2 x4 x6 x8) j := by
  frame_open
  frame_out
  refine congrFun (congrArg View.canon ?_) j
  unfold keyPieces
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))))))))))))))
  all_goals
    dsimp only [keyRope, keyNope, turned, keyInv, slot, latents, normedBlock]
    unfold_payloads
    rfl

set_option maxHeartbeats 4000000 in
theorem value_out (c : Dev nD) (i : grid0.Coords)
    (arg2 : Memref sig .tc .vmem S512x1152 .f32) (harg2 : arg2.IsWhole)
    (arg3 : Memref sig .tc .vmem S512x64 .f32) (harg3 : arg3.IsWhole)
    (arg4 : Memref sig .tc .vmem S512x64 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S512x1536 .bf16) (harg7 : arg7.IsWhole)
    (arg8 : Memref sig .tc .vmem S512x2048 .bf16) (harg8 : arg8.IsWhole)
    (arg9 : Memref sig .tc .vmem S1x192 .f32) (harg9 : arg9.IsWhole)
    (arg10 : Memref sig .tc .vmem S1x192 .f32) (harg10 : arg10.IsWhole)
    (arg11 : Memref sig .tc .vmem S1x8x512x192 .bf16) (harg11 : arg11.IsWhole)
    (arg12 : Memref sig .tc .vmem S1x8x512x192 .bf16) (harg12 : arg12.IsWhole)
    (arg13 : Memref sig .tc .vmem S1x8x512x256 .bf16) (harg13 : arg13.IsWhole) (j : S1x8x512x256.Idx) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 j
      = View.canon (valuePieces x0 x4 x6) j := by
  frame_open
  frame_out
  refine congrFun (congrArg View.canon ?_) j
  unfold valuePieces
  refine congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl)))))))))))))))
  all_goals
    dsimp only [value, ones, slot, latents, normedBlock]
    unfold_payloads
    rfl

end

end Cert.Proof.Prep

end
-- ==== Proof.Prep.Target.lean ====
module

public import proofs.«01_k».proof.Proof.Router.Block
public import proofs.«01_k».proof.Proof.Host

/-! The queries, keys and values of the attention, element by element. A row of the projected input holds 512 columns the queries are made
    of, 512 the keys and values are made of, and 64 the heads' keys share. A head has 192 columns, the last 64 turned by the angles of the
    row's place: 32 pairs, a column and the one 32 after it. -/

@[expose] public section

set_option maxRecDepth 16384

noncomputable section

namespace Cert.Proof.Prep

open Idealize.ShloMosaic Idealize.ShloMosaic.TcCoe Idealize.SL.Sem Cert.Proof.Router

/-- One over the root of the mean square of `n` numbers, `n` the number written `w`. -/
def inv {n : ℕ} (w : BitVec 32) (x : Fin n → EReal) : EReal :=
  Ideal.rsqrt (Ideal.div (∑ l, x l * x l) (Ideal.ofBits .f32 w) + Ideal.ofBits .f32 0x358637BD#32)

/-- Numbers over the root of their mean square, times a gain. -/
def normed {n : ℕ} (w : BitVec 32) (x g : Fin n → EReal) (k : Fin n) : EReal := x k * inv w x * g k

/-- A head's columns, the last 64 turned. -/
def rope (y : Fin 192 → EReal) (c s : Fin 32 → EReal) (d : Fin 192) : EReal :=
  if h1 : d.val < 128 then y d
  else if h2 : d.val < 160 then y d * c ⟨d.val - 128, by omega⟩ - y ⟨d.val + 32, by omega⟩ * s ⟨d.val - 128, by omega⟩
  else y d * c ⟨d.val - 160, by omega⟩ + y ⟨d.val - 32, by omega⟩ * s ⟨d.val - 160, by omega⟩

/-- The call's arguments. -/
structure Args where
  z : (⟨2, ![32768, 8704]⟩ : Shape).Idx → EReal
  cos : (⟨2, ![8192, 32]⟩ : Shape).Idx → EReal
  sin : (⟨2, ![8192, 32]⟩ : Shape).Idx → EReal
  qa : (⟨1, ![512]⟩ : Shape).Idx → EReal
  wq : (⟨2, ![512, 1536]⟩ : Shape).Idx → EReal
  kva : (⟨1, ![512]⟩ : Shape).Idx → EReal
  wkv : (⟨2, ![512, 2048]⟩ : Shape).Idx → EReal
  qn : (⟨1, ![192]⟩ : Shape).Idx → EReal
  kn : (⟨1, ![192]⟩ : Shape).Idx → EReal

namespace Args
variable (a : Args)

/-- A row's columns behind the queries, and behind the keys and values, normalised. -/
def queryLatent (r : Fin 32768) : Fin 512 → EReal :=
  normed 0x44000000#32 (fun k => a.z (ix2 r ⟨3456 + k.val, by omega⟩)) fun k => a.qa (ix1 k)
@[inherit_doc queryLatent] def keyLatent (r : Fin 32768) : Fin 512 → EReal :=
  normed 0x44000000#32 (fun k => a.z (ix2 r ⟨3968 + k.val, by omega⟩)) fun k => a.kva (ix1 k)

/-- A head's queries, keys and values of a row, before they are normalised. -/
def query (r : Fin 32768) (h : Fin 8) (d : Fin 192) : EReal :=
  ∑ k, a.queryLatent r k * a.wq (ix2 k ⟨h.val * 192 + d.val, by omega⟩)
@[inherit_doc query] def both (r : Fin 32768) (h : Fin 8) (d : Fin 256) : EReal :=
  ∑ k, a.keyLatent r k * a.wkv (ix2 k ⟨h.val * 256 + d.val, by omega⟩)
@[inherit_doc query] def key (r : Fin 32768) (h : Fin 8) (d : Fin 192) : EReal :=
  if hd : d.val < 128 then a.both r h ⟨d.val, by omega⟩ else a.z (ix2 r ⟨4480 + (d.val - 128), by omega⟩)

/-- The row of a place of a batch. -/
def row (b : Fin 4) (l : Fin 8192) : Fin 32768 := ⟨b.val * 8192 + l.val, by omega⟩

/-- THE THREE RESULTS, element by element. -/
def queryAt (b : Fin 4) (h : Fin 8) (l : Fin 8192) (d : Fin 192) : EReal :=
  rope (normed 0x43400000#32 (a.query (row b l) h) fun d => a.qn (ix1 d)) (fun j => a.cos (ix2 l j)) (fun j => a.sin (ix2 l j)) d
    * (Host.scale : EReal)
@[inherit_doc queryAt] def keyAt (b : Fin 4) (h : Fin 8) (l : Fin 8192) (d : Fin 192) : EReal :=
  rope (normed 0x43400000#32 (a.key (row b l) h) fun d => a.kn (ix1 d)) (fun j => a.cos (ix2 l j)) (fun j => a.sin (ix2 l j)) d
@[inherit_doc queryAt] def valueAt (b : Fin 4) (h : Fin 8) (l : Fin 8192) (d : Fin 256) : EReal :=
  if hd : d.val < 128 then a.both (row b l) h ⟨128 + d.val, by omega⟩ else if d.val = 128 then 1 else 0

@[inherit_doc queryAt] def queries : (⟨4, ![4, 8, 8192, 192]⟩ : Shape).Idx → EReal := fun i => a.queryAt (i 0) (i 1) (i 2) (i 3)
@[inherit_doc queryAt] def keys : (⟨4, ![4, 8, 8192, 192]⟩ : Shape).Idx → EReal := fun i => a.keyAt (i 0) (i 1) (i 2) (i 3)
@[inherit_doc queryAt] def values : (⟨4, ![4, 8, 8192, 256]⟩ : Shape).Idx → EReal := fun i => a.valueAt (i 0) (i 1) (i 2) (i 3)

end Args

/-- 192 as it is written. -/
theorem lit192 : Ideal.ofBits .f32 0x43400000#32 = ((192 : ℝ) : EReal) := Host.f32_lit _ _ 134 0x400000 (by decide) (by decide) (by norm_num)

/-- One over the root is a real and not negative, whatever the numbers. -/
theorem inv_real (x : Fin 192 → EReal) : 0 ≤ inv 0x43400000#32 x ∧ inv 0x43400000#32 x ≠ ⊤ := by
  obtain ⟨e, he, hpos⟩ : ∃ e : ℝ, Ideal.ofBits .f32 0x358637BD#32 = (e : EReal) ∧ 0 < e := by
    refine ⟨_, rfl, ?_⟩
    simp [Ideal.ieee]
  unfold inv
  rw [lit192, he, Ideal.div_coe (by norm_num)]
  have h0 : (0 : EReal) ≤ ∑ l, x l * x l := Finset.sum_nonneg fun l _ => square_nonneg (x l)
  induction hs : ∑ l, x l * x l with
  | bot => rw [hs] at h0; exact absurd h0 (by simp)
  | top =>
    rw [EReal.top_mul_coe_of_pos (by norm_num), EReal.top_add_coe, Ideal.rsqrt_top]
    exact ⟨le_refl _, EReal.zero_ne_top⟩
  | coe s =>
    rw [hs] at h0
    have hs0 : 0 ≤ s := by exact_mod_cast h0
    rw [← EReal.coe_mul, ← EReal.coe_add]
    have : 0 < s * (1 / 192) + e := by positivity
    rw [Ideal.rsqrt_coe, if_neg (not_lt.mpr this.le), if_neg this.ne']
    exact ⟨by exact_mod_cast inv_nonneg.mpr (Real.sqrt_nonneg _), EReal.coe_ne_top _⟩

/-- Columns all times one number `t` turn to the turned columns times it. -/
theorem rope_mul (y : Fin 192 → EReal) (c s : Fin 32 → EReal) (t : EReal) (h0 : 0 ≤ t) (ht : t ≠ ⊤) (d : Fin 192) :
    rope (fun d => y d * t) c s d = rope y c s d * t := by
  unfold rope
  split
  · rfl
  · split
    · rw [sub_eq_add_neg, sub_eq_add_neg, EReal.right_distrib_of_nonneg_of_ne_top h0 ht, EReal.neg_mul, mul_right_comm, mul_right_comm _ t]
    · rw [EReal.right_distrib_of_nonneg_of_ne_top h0 ht, mul_right_comm, mul_right_comm _ t]

theorem scale_nonneg : (0 : EReal) ≤ (Host.scale : EReal) := by
  unfold Host.scale
  have : (0 : ℝ) ≤ Real.log 2 := Real.log_nonneg (by norm_num)
  exact_mod_cast (by positivity)

end Cert.Proof.Prep

end
-- ==== Proof.Prep.Lanes.lean ====
module

public import proofs.«01_k».proof.Proof.Prep.Block
public import proofs.«01_k».proof.Proof.Prep.Target

/-! What the functions of a block compute, element by element. -/

@[expose] public section

set_option maxRecDepth 16384

noncomputable section

namespace Cert.Proof.Prep

open Cert.Kernel5Ideal Cert.Kernel5Ideal.Gen Cert.Kernel5Ideal.Value Idealize.ShloMosaic Idealize.ShloMosaic.TcCoe Idealize.SL.Sem

/-- The two named constants. -/
theorem named_scale : (Named.named (F := Ideal) (φ := .f32) κ "scale" 0x3DD53B95#32 : EReal) = (Host.scale : EReal) := by
  refine (IdealRules.named_const.ideal_named_scalar _ _ _ _ rfl).trans ?_
  unfold Host.scale
  rw [div_eq_mul_inv]
@[inherit_doc named_scale] theorem named_inv : (Named.named (F := Ideal) (φ := .f32) κ "inv_n" 0x3BAAAAAB#32 : EReal) = ((1 / 192 : ℝ) : EReal) :=
  IdealRules.named_const.ideal_named_scalar _ _ _ _ rfl

section
variable (x0 : Vec Ideal S512x1152 .f32) (x1 x2 : Vec Ideal S512x64 .f32) (x3 x4 : Vec Ideal S1x512 .f32) (x5 : Vec Ideal S512x1536 .bf16)
  (x6 : Vec Ideal S512x2048 .bf16) (x7 x8 : Vec Ideal S1x192 .f32)

theorem normedBlock_apply (g : Vec Ideal S1x512 .f32) (o : ℕ) (hs : S512x1152.Slices ![0, o] S512x512) (ho : o + 512 ≤ 1152) (i k : Fin 512) :
    normedBlock x0 g o hs (ix2 i k) = normed 0x44000000#32 (fun k => x0 (ix2 i ⟨o + k.val, by omega⟩)) (fun k => g (ix2 0 k)) k := by
  unfold normed inv
  pointwise [normedBlock]

theorem queries_apply (i : Fin 512) (j : Fin 1536) :
    queries x0 x3 x5 (ix2 i j) = ∑ k : Fin 512, normed 0x44000000#32 (fun k : Fin 512 => x0 (ix2 i ⟨k.val, by omega⟩)) (fun k => x3 (ix2 0 k)) k * x5 (ix2 k j) := by
  pointwise [queries, normedBlock_apply]

theorem latents_apply (i : Fin 512) (j : Fin 2048) :
    latents x0 x4 x6 (ix2 i j) = ∑ k : Fin 512, normed 0x44000000#32 (fun k : Fin 512 => x0 (ix2 i ⟨512 + k.val, by omega⟩)) (fun k => x4 (ix2 0 k)) k * x6 (ix2 k j) := by
  pointwise [latents, normedBlock_apply]

theorem queryHead_apply (u : FVec Ideal S512x1536 .f32) (o : ℕ) (hs : S512x1536.Slices ![0, o] S512x192) (ho : o + 192 ≤ 1536) (i : Fin 512) (d : Fin 192) :
    queryHead x7 u o hs (ix2 i d) = u (ix2 i ⟨o + d.val, by omega⟩)
      * (inv 0x43400000#32 (fun d : Fin 192 => u (ix2 i ⟨o + d.val, by omega⟩)) * (Host.scale : EReal)) * x7 (ix2 0 d) := by
  unfold inv
  rw [← named_scale]
  pointwise [queryHead]

theorem slot_apply (u : FVec Ideal S512x2048 .f32) (o : ℕ) (hs : S512x2048.Slices ![0, o] S512x128) (ho : o + 128 ≤ 2048) (i : Fin 512) (d : Fin 128) :
    slot u o hs (ix2 i d) = u (ix2 i ⟨o + d.val, by omega⟩) := by
  pointwise [slot]

theorem turned_lo (u : FVec Ideal S512x64 .f32) (i : Fin 512) (j : Fin 64) (h : j.val < 32) :
    turned x1 x2 u (ix2 i j) = u (ix2 i j) * x1 (ix2 i j) + u (ix2 i ⟨32 + j.val, by omega⟩) * x2 (ix2 i j) := by
  pointwise [turned]
  rw [dif_pos h]

theorem turned_hi (u : FVec Ideal S512x64 .f32) (i : Fin 512) (j : Fin 64) (h : ¬ j.val < 32) :
    turned x1 x2 u (ix2 i j) = u (ix2 i j) * x1 (ix2 i j) + u (ix2 i ⟨j.val - 32, by omega⟩) * x2 (ix2 i j) := by
  pointwise [turned]
  rw [dif_neg h]

theorem queryNope_apply (u : FVec Ideal S512x192 .f32) (i : Fin 512) (d : Fin 128) :
    queryNope u (ix4 0 0 i d) = u (ix2 i ⟨d.val, by omega⟩) := by
  pointwise [queryNope]

theorem queryRope_apply (u : FVec Ideal S512x192 .f32) (i : Fin 512) (j : Fin 64) :
    queryRope x1 x2 u (ix4 0 0 i j) = turned x1 x2 (extractStridedSlice S512x64 ![0, 128] u slices_S512x192_o0_128_S512x64) (ix2 i j) := by
  pointwise [queryRope]

theorem keyInv_apply (u : FVec Ideal S512x128 .f32) (i : Fin 512) :
    keyInv x0 u (ix2 i 0) = Ideal.rsqrt (((∑ d : Fin 128, u (ix2 i d) * u (ix2 i d))
        + ∑ j : Fin 64, x0 (ix2 i ⟨1024 + j.val, by omega⟩) * x0 (ix2 i ⟨1024 + j.val, by omega⟩)) * ((1 / 192 : ℝ) : EReal)
      + Ideal.ofBits .f32 0x358637BD#32) := by
  rw [← named_inv]
  pointwise [keyInv]

theorem keyNope_apply (u : FVec Ideal S512x128 .f32) (i : Fin 512) (d : Fin 128) :
    keyNope x0 x8 u (ix4 0 0 i d) = u (ix2 i d) * keyInv x0 u (ix2 i 0) * x8 (ix2 0 ⟨d.val, by omega⟩) := by
  pointwise [keyNope]

/-- The shared columns times their gain. -/
def shared : FVec Ideal S512x64 .f32 :=
  mulf (extractStridedSlice S512x64 ![0, 1024] x0 slices_S512x1152_o0_1024_S512x64)
    (broadcastTo S512x64 (extractStridedSlice S1x64 ![0, 128] (shapeCast S1x192 x8 shapeCasts_S1x192_S1x192) slices_S1x192_o0_128_S1x64)
      broadcasts_S1x64_S512x64)

theorem shared_apply (i : Fin 512) (j : Fin 64) :
    shared x0 x8 (ix2 i j) = x0 (ix2 i ⟨1024 + j.val, by omega⟩) * x8 (ix2 0 ⟨128 + j.val, by omega⟩) := by
  pointwise [shared]

theorem keyRope_apply (u : FVec Ideal S512x128 .f32) (i : Fin 512) (j : Fin 64) :
    keyRope x0 x1 x2 x8 u (ix4 0 0 i j) = turned x1 x2 (shared x0 x8) (ix2 i j) * keyInv x0 u (ix2 i 0) := by
  change keyRope x0 x1 x2 x8 u (ix4 0 0 i j) = turned x1 x2 (mulf (extractStridedSlice S512x64 ![0, 1024] x0 slices_S512x1152_o0_1024_S512x64)
    (broadcastTo S512x64 (extractStridedSlice S1x64 ![0, 128] (shapeCast S1x192 x8 shapeCasts_S1x192_S1x192) slices_S1x192_o0_128_S1x64)
      broadcasts_S1x64_S512x64)) (ix2 i j) * keyInv x0 u (ix2 i 0)
  pointwise [keyRope]

theorem value_apply (u : FVec Ideal S512x128 .f32) (i : Fin 512) (d : Fin 128) : value u (ix4 0 0 i d) = u (ix2 i d) := by
  pointwise [value]

theorem ones_apply (i : Fin 512) (d : Fin 128) : ones (F := Ideal) (ix4 0 0 i d) = if d.val = 0 then 1 else 0 := by
  pointwise [ones]
  have hd : BitVec.ofNat 32 d.val = 0#32 ↔ d.val = 0 := by
    constructor
    · intro h
      have := congrArg BitVec.toNat h
      simp only [BitVec.toNat_ofNat] at this
      omega
    · intro h; rw [h]
  by_cases h : d.val = 0
  · rw [if_pos h, hd.mpr h]
    simp [FloatOps.sitofp, IntOp.cmpi]
  · have h' : ¬ BitVec.ofNat 32 d.val = 0#32 := fun e => h (hd.mp e)
    have hf : (BitVec.ofNat 32 d.val == 0#32) = false := by rw [beq_eq_false_iff_ne]; exact h'
    rw [if_neg h]
    simp [FloatOps.sitofp, IntOp.cmpi, hf]

/-- Row `i` of a block is row `l` of batch `b`, and the other blocks are the arguments. -/
structure Holds (a : Args) (i : Fin 512) (b : Fin 4) (l : Fin 8192) : Prop where
  z : ∀ j : Fin 1152, x0 (ix2 i j) = a.z (ix2 (Args.row b l) ⟨3456 + j.val, by omega⟩)
  cos : ∀ j : Fin 64, x1 (ix2 i j) = a.cos (ix2 l ⟨j.val % 32, by omega⟩)
  sin_lo : ∀ j : Fin 64, (h : j.val < 32) → x2 (ix2 i j) = -a.sin (ix2 l ⟨j.val, h⟩)
  sin_hi : ∀ j : Fin 64, (h : ¬ j.val < 32) → x2 (ix2 i j) = a.sin (ix2 l ⟨j.val - 32, by omega⟩)
  qa : ∀ k : Fin 512, x3 (ix2 0 k) = a.qa (ix1 k)
  kva : ∀ k : Fin 512, x4 (ix2 0 k) = a.kva (ix1 k)
  wq : ∀ (k : Fin 512) (j : Fin 1536), x5 (ix2 k j) = a.wq (ix2 k j)
  wkv : ∀ (k : Fin 512) (j : Fin 2048), x6 (ix2 k j) = a.wkv (ix2 k j)
  qn : ∀ d : Fin 192, x7 (ix2 0 d) = a.qn (ix1 d)
  kn : ∀ d : Fin 192, x8 (ix2 0 d) = a.kn (ix1 d)

variable {x0 x1 x2 x3 x4 x5 x6 x7 x8} {a : Args} {i : Fin 512} {b : Fin 4} {l : Fin 8192} (H : Holds x0 x1 x2 x3 x4 x5 x6 x7 x8 a i b l)
include H

theorem queries_eq (j : Fin 1536) : queries x0 x3 x5 (ix2 i j) = ∑ k, a.queryLatent (Args.row b l) k * a.wq (ix2 k j) := by
  rw [queries_apply]
  unfold Args.queryLatent
  simp only [H.z, H.qa, H.wq]

theorem latents_eq (j : Fin 2048) : latents x0 x4 x6 (ix2 i j) = ∑ k, a.keyLatent (Args.row b l) k * a.wkv (ix2 k j) := by
  rw [latents_apply]
  unfold Args.keyLatent
  simp only [H.z, H.kva, H.wkv, ← Nat.add_assoc]

/-- A head's queries in a block, scaled before they are turned. -/
theorem queryHead_eq (h : Fin 8) (o : ℕ) (ho : o = h.val * 192) (hs : S512x1536.Slices ![0, o] S512x192) (d : Fin 192) :
    queryHead x7 (queries x0 x3 x5) o hs (ix2 i d)
      = normed 0x43400000#32 (a.query (Args.row b l) h) (fun d => a.qn (ix1 d)) d * (Host.scale : EReal) := by
  subst ho
  rw [queryHead_apply _ _ _ _ (by omega)]
  simp only [queries_eq H, H.qn]
  unfold normed
  rw [← mul_assoc, mul_right_comm]
  rfl

/-- 64 columns turned, as the last columns of a head. -/
theorem turned_eq (u : FVec Ideal S512x64 .f32) (y : Fin 192 → EReal) (hu : ∀ j : Fin 64, u (ix2 i j) = y ⟨128 + j.val, by omega⟩) (j : Fin 64) :
    turned x1 x2 u (ix2 i j) = rope y (fun j => a.cos (ix2 l j)) (fun j => a.sin (ix2 l j)) ⟨128 + j.val, by omega⟩ := by
  unfold rope
  rw [dif_neg (by show ¬ 128 + j.val < 128; omega)]
  by_cases h : j.val < 32
  · rw [dif_pos (by show 128 + j.val < 160; omega), turned_lo _ _ _ _ _ h, hu, hu, H.cos, H.sin_lo _ h, sub_eq_add_neg, mul_neg]
    refine congrArg₂ (fun x y : EReal => x + y) (congrArg (fun x : EReal => _ * x) ?_)
      (congrArg (fun x : EReal => -x) (congrArg₂ (fun x y : EReal => x * y) ?_ ?_))
    · exact congrArg (fun j => a.cos (ix2 l j)) (Fin.ext (show j.val % 32 = 128 + j.val - 128 by omega))
    · exact congrArg y (Fin.ext (show 128 + (32 + j.val) = 128 + j.val + 32 by omega))
    · exact congrArg (fun j => a.sin (ix2 l j)) (Fin.ext (show j.val = 128 + j.val - 128 by omega))
  · rw [dif_neg (by show ¬ 128 + j.val < 160; omega), turned_hi _ _ _ _ _ h, hu, hu, H.cos, H.sin_hi _ h]
    refine congrArg₂ (fun x y : EReal => x + y) (congrArg (fun x : EReal => _ * x) ?_)
      (congrArg₂ (fun x y : EReal => x * y) ?_ ?_)
    · exact congrArg (fun j => a.cos (ix2 l j)) (Fin.ext (show j.val % 32 = 128 + j.val - 160 by omega))
    · exact congrArg y (Fin.ext (show 128 + (j.val - 32) = 128 + j.val - 32 by omega))
    · exact congrArg (fun j => a.sin (ix2 l j)) (Fin.ext (show j.val - 32 = 128 + j.val - 160 by omega))

/-- What is stored of a head's queries. -/
theorem queryNope_eq (h : Fin 8) (o : ℕ) (ho : o = h.val * 192) (hs : S512x1536.Slices ![0, o] S512x192) (d : Fin 128) :
    queryNope (queryHead x7 (queries x0 x3 x5) o hs) (ix4 0 0 i d) = a.queryAt b h l ⟨d.val, by omega⟩ := by
  rw [queryNope_apply, queryHead_eq H h o ho]
  unfold Args.queryAt rope
  rw [dif_pos (show d.val < 128 by omega)]
@[inherit_doc queryNope_eq] theorem queryRope_eq (h : Fin 8) (o : ℕ) (ho : o = h.val * 192) (hs : S512x1536.Slices ![0, o] S512x192) (j : Fin 64) :
    queryRope x1 x2 (queryHead x7 (queries x0 x3 x5) o hs) (ix4 0 0 i j) = a.queryAt b h l ⟨128 + j.val, by omega⟩ := by
  rw [queryRope_apply, turned_eq H _ (fun d => normed 0x43400000#32 (a.query (Args.row b l) h) (fun d => a.qn (ix1 d)) d * (Host.scale : EReal))]
  · exact rope_mul _ _ _ _ scale_nonneg (EReal.coe_ne_top _) _
  · intro j
    pointwise
    exact queryHead_eq H h o ho hs _

/-- The key columns of a head. -/
theorem slot_eq (h : Fin 8) (o e : ℕ) (he : e + 128 ≤ 256) (ho : o = h.val * 256 + e) (hs : S512x2048.Slices ![0, o] S512x128) (d : Fin 128) :
    slot (latents x0 x4 x6) o hs (ix2 i d) = a.both (Args.row b l) h ⟨e + d.val, by omega⟩ := by
  rw [slot_apply _ _ _ (by omega), latents_eq H]
  unfold Args.both
  refine Finset.sum_congr rfl fun k _ => congrArg (fun j => _ * a.wkv (ix2 k j)) (Fin.ext ?_)
  show o + d.val = h.val * 256 + (e + d.val)
  omega

/-- A head's reciprocal root mean square, the shared columns' squares added to its own. -/
theorem keyInv_eq (h : Fin 8) (u : FVec Ideal S512x128 .f32) (hu : ∀ d : Fin 128, u (ix2 i d) = a.both (Args.row b l) h ⟨d.val, by omega⟩) :
    keyInv x0 u (ix2 i 0) = inv 0x43400000#32 (a.key (Args.row b l) h) := by
  rw [keyInv_apply]
  unfold inv
  rw [lit192, Ideal.div_coe (by norm_num)]
  have hsum : (∑ d : Fin 192, a.key (Args.row b l) h d * a.key (Args.row b l) h d)
      = (∑ d : Fin 128, u (ix2 i d) * u (ix2 i d)) + ∑ j : Fin 64, x0 (ix2 i ⟨1024 + j.val, by omega⟩) * x0 (ix2 i ⟨1024 + j.val, by omega⟩) := by
    rw [show (∑ d : Fin 192, a.key (Args.row b l) h d * a.key (Args.row b l) h d)
      = ∑ d : Fin (128 + 64), a.key (Args.row b l) h d * a.key (Args.row b l) h d from rfl, Fin.sum_univ_add]
    refine congrArg₂ (fun x y : EReal => x + y) (Finset.sum_congr rfl fun d _ => ?_) (Finset.sum_congr rfl fun j _ => ?_)
    · have : a.key (Args.row b l) h (Fin.castAdd 64 d) = u (ix2 i d) := by
        unfold Args.key
        rw [dif_pos (show (Fin.castAdd 64 d).val < 128 from d.isLt), hu]
        rfl
      rw [this]
    · have : a.key (Args.row b l) h (Fin.natAdd 128 j) = x0 (ix2 i ⟨1024 + j.val, by omega⟩) := by
        unfold Args.key
        rw [dif_neg (show ¬ (Fin.natAdd 128 j).val < 128 by rw [Fin.val_natAdd]; omega), H.z]
        exact congrArg (fun j => a.z (ix2 _ j)) (Fin.ext (show 4480 + (128 + j.val - 128) = 3456 + (1024 + j.val) by omega))
      rw [this]
  rw [hsum]

/-- What is stored of a head's keys. -/
theorem keyNope_eq (h : Fin 8) (o : ℕ) (ho : o = h.val * 256) (hs : S512x2048.Slices ![0, o] S512x128) (d : Fin 128) :
    keyNope x0 x8 (slot (latents x0 x4 x6) o hs) (ix4 0 0 i d) = a.keyAt b h l ⟨d.val, by omega⟩ := by
  have hu : ∀ d : Fin 128, slot (latents x0 x4 x6) o hs (ix2 i d) = a.both (Args.row b l) h ⟨d.val, by omega⟩ := fun d => by
    rw [slot_eq H h o 0 (by omega) ho]; simp only [Nat.zero_add]
  rw [keyNope_apply, keyInv_eq H h _ hu, hu, H.kn]
  unfold Args.keyAt rope normed
  rw [dif_pos (show d.val < 128 by omega)]
  unfold Args.key
  rw [dif_pos (show d.val < 128 by omega)]
@[inherit_doc keyNope_eq] theorem keyRope_eq (h : Fin 8) (o : ℕ) (ho : o = h.val * 256) (hs : S512x2048.Slices ![0, o] S512x128) (j : Fin 64) :
    keyRope x0 x1 x2 x8 (slot (latents x0 x4 x6) o hs) (ix4 0 0 i j) = a.keyAt b h l ⟨128 + j.val, by omega⟩ := by
  have hu : ∀ d : Fin 128, slot (latents x0 x4 x6) o hs (ix2 i d) = a.both (Args.row b l) h ⟨d.val, by omega⟩ := fun d => by
    rw [slot_eq H h o 0 (by omega) ho]; simp only [Nat.zero_add]
  rw [keyRope_apply, keyInv_eq H h _ hu, turned_eq H _ (fun d => a.key (Args.row b l) h d * a.kn (ix1 d))]
  · rw [← rope_mul _ _ _ _ (inv_real _).1 (inv_real _).2]
    unfold Args.keyAt normed
    simp only [mul_right_comm]
  · intro j
    rw [shared_apply, H.z, H.kn]
    unfold Args.key
    rw [dif_neg (show ¬ 128 + j.val < 128 by omega)]
    exact congrArg (fun j => a.z (ix2 _ j) * _) (Fin.ext (show 3456 + (1024 + j.val) = 4480 + (128 + j.val - 128) by omega))

/-- What is stored of a head's values. -/
theorem value_eq (h : Fin 8) (o : ℕ) (ho : o = h.val * 256 + 128) (hs : S512x2048.Slices ![0, o] S512x128) (d : Fin 128) :
    value (slot (latents x0 x4 x6) o hs) (ix4 0 0 i d) = a.valueAt b h l ⟨d.val, by omega⟩ := by
  rw [value_apply, slot_eq H h o 128 (by omega) ho]
  unfold Args.valueAt
  rw [dif_pos (show d.val < 128 by omega)]
omit H in
@[inherit_doc value_eq] theorem ones_eq (h : Fin 8) (d : Fin 128) : ones (F := Ideal) (ix4 0 0 i d) = a.valueAt b h l ⟨128 + d.val, by omega⟩ := by
  rw [ones_apply]
  unfold Args.valueAt
  rw [dif_neg (show ¬ 128 + d.val < 128 by omega)]
  by_cases hd : d.val = 0
  · rw [if_pos hd, if_pos (show 128 + d.val = 128 by omega)]
  · rw [if_neg hd, if_neg (show ¬ 128 + d.val = 128 by omega)]

end

end Cert.Proof.Prep

end
-- ==== Proof.Prep.Output.lean ====
module

public import proofs.«01_k».proof.Proof.Prep.Lanes

/-! The three result arrays of the kernel that prepares the attention's queries, keys and values are the closed form. -/

@[expose] public section

set_option maxRecDepth 16384

noncomputable section

namespace Cert.Proof.Prep

open Cert.Kernel5Ideal Cert.Kernel5Ideal.Gen Cert.Kernel5Ideal.Value Idealize.ShloMosaic Idealize.ShloMosaic.TcCoe Idealize.SL.Sem

/-- A store of `w` columns from `o` on into head `k`'s rows, at the place of the block's element `(0, h, i, d)` that it holds. -/
theorem stored_at {W : ℕ} (val : Fin 8 → Fin W → EReal) (i : Fin 512) (k : Fin 8) (o w : ℕ) (ho : o + w ≤ W)
    (p : (⟨4, ![1, 1, 512, w]⟩ : Shape).Idx → EReal) (inb) (hp : ∀ d : Fin w, p (ix4 0 0 i d) = val k ⟨o + d.val, by omega⟩) (h : Fin 8) (d : Fin W)
    (x : (Rect.unit (s := ⟨4, ![1, 8, 512, W]⟩) ![0, k.val, 0, o] ![1, 1, 512, w] inb).shape.Idx)
    (hx : (Rect.unit (s := ⟨4, ![1, 8, 512, W]⟩) ![0, k.val, 0, o] ![1, 1, 512, w] inb).emb x = ix4 0 h i d) : p x = val h d := by
  have h1 := congrArg (fun f : (⟨4, ![1, 8, 512, W]⟩ : Shape).Idx => (f 1).val) hx
  have h2 := congrArg (fun f : (⟨4, ![1, 8, 512, W]⟩ : Shape).Idx => (f 2).val) hx
  have h3 := congrArg (fun f : (⟨4, ![1, 8, 512, W]⟩ : Shape).Idx => (f 3).val) hx
  simp only [Rect.emb_apply] at h1 h2 h3
  change k.val + 1 * (x 1).val = h.val at h1
  change 0 + 1 * (x 2).val = i.val at h2
  change o + 1 * (x 3).val = d.val at h3
  have hx1 : (x 1).val < 1 := (x 1).isLt
  have hx3 : (x 3).val < w := (x 3).isLt
  obtain rfl : k = h := Fin.ext (by omega)
  have : x = ix4 0 0 i (⟨(x 3).val, hx3⟩ : Fin w) := by
    funext a
    fin_cases a
    · exact Subsingleton.elim (α := Fin 1) _ _
    · exact Subsingleton.elim (α := Fin 1) _ _
    · exact Fin.ext (show (x 2).val = i.val by omega)
    · rfl
  rw [this]
  refine (hp _).trans (congrArg (val k) (Fin.ext ?_))
  show o + (x 3).val = d.val
  omega

section
variable {x0 : Vec Ideal S512x1152 .f32} {x1 x2 : Vec Ideal S512x64 .f32} {x3 x4 : Vec Ideal S1x512 .f32} {x5 : Vec Ideal S512x1536 .bf16}
  {x6 : Vec Ideal S512x2048 .bf16} {x7 x8 : Vec Ideal S1x192 .f32} {a : Args} {i : Fin 512} {b : Fin 4} {l : Fin 8192}
  (H : Holds x0 x1 x2 x3 x4 x5 x6 x7 x8 a i b l)
include H

/-- The query block, element by element. -/
theorem query_at (h : Fin 8) (d : Fin 192) : View.canon (queryPieces x0 x1 x2 x3 x5 x7) (ix4 0 h i d) = a.queryAt b h l d := by
  refine View.canon_eq_of_allAt _ _ _ (View.cover_of_tiledBy _ ![1, 1, 512, 64] (by sl_kernel_rfl) _) ?_
  refine View.allAt_cons _ _ _ (fun x hx => stored_at (fun h d => a.queryAt b h l d) i 7 128 64 (by omega) _ _
    (fun d => queryRope_eq H 7 1344 (by decide) _ d) h d x hx) ?_
  refine View.allAt_cons _ _ _ (fun x hx => stored_at (fun h d => a.queryAt b h l d) i 7 0 128 (by omega) _ _
    (fun d => (queryNope_eq H 7 1344 (by decide) _ d).trans (congrArg _ (Fin.ext (Nat.zero_add _).symm))) h d x hx) ?_
  refine View.allAt_cons _ _ _ (fun x hx => stored_at (fun h d => a.queryAt b h l d) i 6 128 64 (by omega) _ _
    (fun d => queryRope_eq H 6 1152 (by decide) _ d) h d x hx) ?_
  refine View.allAt_cons _ _ _ (fun x hx => stored_at (fun h d => a.queryAt b h l d) i 6 0 128 (by omega) _ _
    (fun d => (queryNope_eq H 6 1152 (by decide) _ d).trans (congrArg _ (Fin.ext (Nat.zero_add _).symm))) h d x hx) ?_
  refine View.allAt_cons _ _ _ (fun x hx => stored_at (fun h d => a.queryAt b h l d) i 5 128 64 (by omega) _ _
    (fun d => queryRope_eq H 5 960 (by decide) _ d) h d x hx) ?_
  refine View.allAt_cons _ _ _ (fun x hx => stored_at (fun h d => a.queryAt b h l d) i 5 0 128 (by omega) _ _
    (fun d => (queryNope_eq H 5 960 (by decide) _ d).trans (congrArg _ (Fin.ext (Nat.zero_add _).symm))) h d x hx) ?_
  refine View.allAt_cons _ _ _ (fun x hx => stored_at (fun h d => a.queryAt b h l d) i 4 128 64 (by omega) _ _
    (fun d => queryRope_eq H 4 768 (by decide) _ d) h d x hx) ?_
  refine View.allAt_cons _ _ _ (fun x hx => stored_at (fun h d => a.queryAt b h l d) i 4 0 128 (by omega) _ _
    (fun d => (queryNope_eq H 4 768 (by decide) _ d).trans (congrArg _ (Fin.ext (Nat.zero_add _).symm))) h d x hx) ?_
  refine View.allAt_cons _ _ _ (fun x hx => stored_at (fun h d => a.queryAt b h l d) i 3 128 64 (by omega) _ _
    (fun d => queryRope_eq H 3 576 (by decide) _ d) h d x hx) ?_
  refine View.allAt_cons _ _ _ (fun x hx => stored_at (fun h d => a.queryAt b h l d) i 3 0 128 (by omega) _ _
    (fun d => (queryNope_eq H 3 576 (by decide) _ d).trans (congrArg _ (Fin.ext (Nat.zero_add _).symm))) h d x hx) ?_
  refine View.allAt_cons _ _ _ (fun x hx => stored_at (fun h d => a.queryAt b h l d) i 2 128 64 (by omega) _ _
    (fun d => queryRope_eq H 2 384 (by decide) _ d) h d x hx) ?_
  refine View.allAt_cons _ _ _ (fun x hx => stored_at (fun h d => a.queryAt b h l d) i 2 0 128 (by omega) _ _
    (fun d => (queryNope_eq H 2 384 (by decide) _ d).trans (congrArg _ (Fin.ext (Nat.zero_add _).symm))) h d x hx) ?_
  refine View.allAt_cons _ _ _ (fun x hx => stored_at (fun h d => a.queryAt b h l d) i 1 128 64 (by omega) _ _
    (fun d => queryRope_eq H 1 192 (by decide) _ d) h d x hx) ?_
  refine View.allAt_cons _ _ _ (fun x hx => stored_at (fun h d => a.queryAt b h l d) i 1 0 128 (by omega) _ _
    (fun d => (queryNope_eq H 1 192 (by decide) _ d).trans (congrArg _ (Fin.ext (Nat.zero_add _).symm))) h d x hx) ?_
  refine View.allAt_cons _ _ _ (fun x hx => stored_at (fun h d => a.queryAt b h l d) i 0 128 64 (by omega) _ _
    (fun d => queryRope_eq H 0 0 (by decide) _ d) h d x hx) ?_
  refine View.allAt_cons _ _ _ (fun x hx => stored_at (fun h d => a.queryAt b h l d) i 0 0 128 (by omega) _ _
    (fun d => (queryNope_eq H 0 0 (by decide) _ d).trans (congrArg _ (Fin.ext (Nat.zero_add _).symm))) h d x hx) ?_
  exact View.allAt_nil _ _

/-- The key block, element by element. -/
theorem key_at (h : Fin 8) (d : Fin 192) : View.canon (keyPieces x0 x1 x2 x4 x6 x8) (ix4 0 h i d) = a.keyAt b h l d := by
  refine View.canon_eq_of_allAt _ _ _ (View.cover_of_tiledBy _ ![1, 1, 512, 64] (by sl_kernel_rfl) _) ?_
  refine View.allAt_cons _ _ _ (fun x hx => stored_at (fun h d => a.keyAt b h l d) i 7 128 64 (by omega) _ _
    (fun d => keyRope_eq H 7 1792 (by decide) _ d) h d x hx) ?_
  refine View.allAt_cons _ _ _ (fun x hx => stored_at (fun h d => a.keyAt b h l d) i 7 0 128 (by omega) _ _
    (fun d => (keyNope_eq H 7 1792 (by decide) _ d).trans (congrArg _ (Fin.ext (Nat.zero_add _).symm))) h d x hx) ?_
  refine View.allAt_cons _ _ _ (fun x hx => stored_at (fun h d => a.keyAt b h l d) i 6 128 64 (by omega) _ _
    (fun d => keyRope_eq H 6 1536 (by decide) _ d) h d x hx) ?_
  refine View.allAt_cons _ _ _ (fun x hx => stored_at (fun h d => a.keyAt b h l d) i 6 0 128 (by omega) _ _
    (fun d => (keyNope_eq H 6 1536 (by decide) _ d).trans (congrArg _ (Fin.ext (Nat.zero_add _).symm))) h d x hx) ?_
  refine View.allAt_cons _ _ _ (fun x hx => stored_at (fun h d => a.keyAt b h l d) i 5 128 64 (by omega) _ _
    (fun d => keyRope_eq H 5 1280 (by decide) _ d) h d x hx) ?_
  refine View.allAt_cons _ _ _ (fun x hx => stored_at (fun h d => a.keyAt b h l d) i 5 0 128 (by omega) _ _
    (fun d => (keyNope_eq H 5 1280 (by decide) _ d).trans (congrArg _ (Fin.ext (Nat.zero_add _).symm))) h d x hx) ?_
  refine View.allAt_cons _ _ _ (fun x hx => stored_at (fun h d => a.keyAt b h l d) i 4 128 64 (by omega) _ _
    (fun d => keyRope_eq H 4 1024 (by decide) _ d) h d x hx) ?_
  refine View.allAt_cons _ _ _ (fun x hx => stored_at (fun h d => a.keyAt b h l d) i 4 0 128 (by omega) _ _
    (fun d => (keyNope_eq H 4 1024 (by decide) _ d).trans (congrArg _ (Fin.ext (Nat.zero_add _).symm))) h d x hx) ?_
  refine View.allAt_cons _ _ _ (fun x hx => stored_at (fun h d => a.keyAt b h l d) i 3 128 64 (by omega) _ _
    (fun d => keyRope_eq H 3 768 (by decide) _ d) h d x hx) ?_
  refine View.allAt_cons _ _ _ (fun x hx => stored_at (fun h d => a.keyAt b h l d) i 3 0 128 (by omega) _ _
    (fun d => (keyNope_eq H 3 768 (by decide) _ d).trans (congrArg _ (Fin.ext (Nat.zero_add _).symm))) h d x hx) ?_
  refine View.allAt_cons _ _ _ (fun x hx => stored_at (fun h d => a.keyAt b h l d) i 2 128 64 (by omega) _ _
    (fun d => keyRope_eq H 2 512 (by decide) _ d) h d x hx) ?_
  refine View.allAt_cons _ _ _ (fun x hx => stored_at (fun h d => a.keyAt b h l d) i 2 0 128 (by omega) _ _
    (fun d => (keyNope_eq H 2 512 (by decide) _ d).trans (congrArg _ (Fin.ext (Nat.zero_add _).symm))) h d x hx) ?_
  refine View.allAt_cons _ _ _ (fun x hx => stored_at (fun h d => a.keyAt b h l d) i 1 128 64 (by omega) _ _
    (fun d => keyRope_eq H 1 256 (by decide) _ d) h d x hx) ?_
  refine View.allAt_cons _ _ _ (fun x hx => stored_at (fun h d => a.keyAt b h l d) i 1 0 128 (by omega) _ _
    (fun d => (keyNope_eq H 1 256 (by decide) _ d).trans (congrArg _ (Fin.ext (Nat.zero_add _).symm))) h d x hx) ?_
  refine View.allAt_cons _ _ _ (fun x hx => stored_at (fun h d => a.keyAt b h l d) i 0 128 64 (by omega) _ _
    (fun d => keyRope_eq H 0 0 (by decide) _ d) h d x hx) ?_
  refine View.allAt_cons _ _ _ (fun x hx => stored_at (fun h d => a.keyAt b h l d) i 0 0 128 (by omega) _ _
    (fun d => (keyNope_eq H 0 0 (by decide) _ d).trans (congrArg _ (Fin.ext (Nat.zero_add _).symm))) h d x hx) ?_
  exact View.allAt_nil _ _

/-- The value block, element by element. -/
theorem value_at (h : Fin 8) (d : Fin 256) : View.canon (valuePieces x0 x4 x6) (ix4 0 h i d) = a.valueAt b h l d := by
  refine View.canon_eq_of_allAt _ _ _ (View.cover_of_tiledBy _ ![1, 1, 512, 128] (by sl_kernel_rfl) _) ?_
  refine View.allAt_cons _ _ _ (fun x hx => stored_at (fun h d => a.valueAt b h l d) i 7 128 128 (by omega) _ _
    (fun d => ones_eq 7 d) h d x hx) ?_
  refine View.allAt_cons _ _ _ (fun x hx => stored_at (fun h d => a.valueAt b h l d) i 7 0 128 (by omega) _ _
    (fun d => (value_eq H 7 1920 (by decide) _ d).trans (congrArg _ (Fin.ext (Nat.zero_add _).symm))) h d x hx) ?_
  refine View.allAt_cons _ _ _ (fun x hx => stored_at (fun h d => a.valueAt b h l d) i 6 128 128 (by omega) _ _
    (fun d => ones_eq 6 d) h d x hx) ?_
  refine View.allAt_cons _ _ _ (fun x hx => stored_at (fun h d => a.valueAt b h l d) i 6 0 128 (by omega) _ _
    (fun d => (value_eq H 6 1664 (by decide) _ d).trans (congrArg _ (Fin.ext (Nat.zero_add _).symm))) h d x hx) ?_
  refine View.allAt_cons _ _ _ (fun x hx => stored_at (fun h d => a.valueAt b h l d) i 5 128 128 (by omega) _ _
    (fun d => ones_eq 5 d) h d x hx) ?_
  refine View.allAt_cons _ _ _ (fun x hx => stored_at (fun h d => a.valueAt b h l d) i 5 0 128 (by omega) _ _
    (fun d => (value_eq H 5 1408 (by decide) _ d).trans (congrArg _ (Fin.ext (Nat.zero_add _).symm))) h d x hx) ?_
  refine View.allAt_cons _ _ _ (fun x hx => stored_at (fun h d => a.valueAt b h l d) i 4 128 128 (by omega) _ _
    (fun d => ones_eq 4 d) h d x hx) ?_
  refine View.allAt_cons _ _ _ (fun x hx => stored_at (fun h d => a.valueAt b h l d) i 4 0 128 (by omega) _ _
    (fun d => (value_eq H 4 1152 (by decide) _ d).trans (congrArg _ (Fin.ext (Nat.zero_add _).symm))) h d x hx) ?_
  refine View.allAt_cons _ _ _ (fun x hx => stored_at (fun h d => a.valueAt b h l d) i 3 128 128 (by omega) _ _
    (fun d => ones_eq 3 d) h d x hx) ?_
  refine View.allAt_cons _ _ _ (fun x hx => stored_at (fun h d => a.valueAt b h l d) i 3 0 128 (by omega) _ _
    (fun d => (value_eq H 3 896 (by decide) _ d).trans (congrArg _ (Fin.ext (Nat.zero_add _).symm))) h d x hx) ?_
  refine View.allAt_cons _ _ _ (fun x hx => stored_at (fun h d => a.valueAt b h l d) i 2 128 128 (by omega) _ _
    (fun d => ones_eq 2 d) h d x hx) ?_
  refine View.allAt_cons _ _ _ (fun x hx => stored_at (fun h d => a.valueAt b h l d) i 2 0 128 (by omega) _ _
    (fun d => (value_eq H 2 640 (by decide) _ d).trans (congrArg _ (Fin.ext (Nat.zero_add _).symm))) h d x hx) ?_
  refine View.allAt_cons _ _ _ (fun x hx => stored_at (fun h d => a.valueAt b h l d) i 1 128 128 (by omega) _ _
    (fun d => ones_eq 1 d) h d x hx) ?_
  refine View.allAt_cons _ _ _ (fun x hx => stored_at (fun h d => a.valueAt b h l d) i 1 0 128 (by omega) _ _
    (fun d => (value_eq H 1 384 (by decide) _ d).trans (congrArg _ (Fin.ext (Nat.zero_add _).symm))) h d x hx) ?_
  refine View.allAt_cons _ _ _ (fun x hx => stored_at (fun h d => a.valueAt b h l d) i 0 128 128 (by omega) _ _
    (fun d => ones_eq 0 d) h d x hx) ?_
  refine View.allAt_cons _ _ _ (fun x hx => stored_at (fun h d => a.valueAt b h l d) i 0 0 128 (by omega) _ _
    (fun d => (value_eq H 0 128 (by decide) _ d).trans (congrArg _ (Fin.ext (Nat.zero_add _).symm))) h d x hx) ?_
  exact View.allAt_nil _ _

end

section
variable {F : FTy → Type} [FloatOps F] [Named F] (m : (ℓ : Loc nD τ sig) → Buf (Elt F) ℓ) (c : Dev nD)

/-- What the host code puts in the windows' arrays. -/
def cosines (x : FVec F S8192x32 .f32) : FVec F S8192x64 .f32 :=
  concatenate S8192x64 1 [⟨S8192x32, x⟩, ⟨S8192x32, x⟩] concatenates_S8192x32_S8192x32_S8192x64_d1
@[inherit_doc cosines] def sines (x : FVec F S8192x32 .f32) : FVec F S8192x64 .f32 :=
  concatenate S8192x64 1 [⟨S8192x32, Host.negf x⟩, ⟨S8192x32, x⟩] concatenates_S8192x32_S8192x32_S8192x64_d1

@[inherit_doc cosines] theorem V_cos : V m c main_v0 = cosines (m ((c : Thread nD τ).loc main_arg1)) := by
  unfold V
  simp only [hostOps0]
  after_results
  rfl
@[inherit_doc cosines] theorem V_sin : V m c main_v2 = sines (m ((c : Thread nD τ).loc main_arg2)) := by
  unfold V
  simp only [hostOps0]
  after_results
  rfl
@[inherit_doc cosines] theorem V_qa : V m c main_v3 = shapeCast S1x512 (m ((c : Thread nD τ).loc main_arg3)) shapeCasts_S512_S1x512 := by
  unfold V
  simp only [hostOps0]
  after_results
  rfl
@[inherit_doc cosines] theorem V_kva : V m c main_v4 = shapeCast S1x512 (m ((c : Thread nD τ).loc main_arg5)) shapeCasts_S512_S1x512 := by
  unfold V
  simp only [hostOps0]
  after_results
  rfl
@[inherit_doc cosines] theorem V_wq : V m c main_v5 = truncf .bf16 (m ((c : Thread nD τ).loc main_arg4)) bitsLt_bf16_f32 := by
  unfold V
  simp only [hostOps0]
  after_results
@[inherit_doc cosines] theorem V_wkv : V m c main_v6 = truncf .bf16 (m ((c : Thread nD τ).loc main_arg6)) bitsLt_bf16_f32 := by
  unfold V
  simp only [hostOps0]
  after_results
@[inherit_doc cosines] theorem V_qn : V m c main_v7 = shapeCast S1x192 (m ((c : Thread nD τ).loc main_arg7)) shapeCasts_S192_S1x192 := by
  unfold V
  simp only [hostOps0]
  after_results
  rfl
@[inherit_doc cosines] theorem V_kn : V m c main_v8 = shapeCast S1x192 (m ((c : Thread nD τ).loc main_arg8)) shapeCasts_S192_S1x192 := by
  unfold V
  simp only [hostOps0]
  after_results
  rfl
end

theorem cosines_apply (x : FVec Ideal S8192x32 .f32) (l : Fin 8192) (j : Fin 64) : cosines x (ix2 l j) = x (ix2 l ⟨j.val % 32, by omega⟩) := by
  pointwise [cosines]
  by_cases h : j.val < 32
  · rw [dif_pos h]
    exact congrArg (fun j => x (ix2 l j)) (Fin.ext (show j.val = j.val % 32 by omega))
  · rw [dif_neg h]
    exact congrArg (fun j => x (ix2 l j)) (Fin.ext (show j.val - 32 = j.val % 32 by omega))
theorem sines_lo (x : FVec Ideal S8192x32 .f32) (l : Fin 8192) (j : Fin 64) (h : j.val < 32) : sines x (ix2 l j) = -x (ix2 l ⟨j.val, h⟩) := by
  pointwise [sines]
  rw [dif_pos h]
theorem sines_hi (x : FVec Ideal S8192x32 .f32) (l : Fin 8192) (j : Fin 64) (h : ¬ j.val < 32) : sines x (ix2 l j) = x (ix2 l ⟨j.val - 32, by omega⟩) := by
  pointwise [sines]
  rw [dif_neg h]
theorem row512_apply (x : FVec Ideal S512 .f32) (k : Fin 512) : shapeCast S1x512 x shapeCasts_S512_S1x512 (ix2 0 k) = x (ix1 k) := by pointwise
theorem row192_apply (x : FVec Ideal S192 .f32) (k : Fin 192) : shapeCast S1x192 x shapeCasts_S192_S1x192 (ix2 0 k) = x (ix1 k) := by pointwise

/-- Where a grid point's blocks lie. -/
theorem index0 : ∀ t : Fin cfg0.N, win0_0.index t = ![t.val, 3] :=
  (by decide +kernel : ∀ t : Fin grid0.N, win0_0.index t = ![t.val, 3])
@[inherit_doc index0] theorem index1 : ∀ t : Fin cfg0.N, win0_1.index t = ![t.val % 16, 0] :=
  (by decide +kernel : ∀ t : Fin grid0.N, win0_1.index t = ![t.val % 16, 0])
@[inherit_doc index0] theorem index2 : ∀ t : Fin cfg0.N, win0_2.index t = ![t.val % 16, 0] :=
  (by decide +kernel : ∀ t : Fin grid0.N, win0_2.index t = ![t.val % 16, 0])
@[inherit_doc index0] theorem index3 : ∀ t : Fin cfg0.N, win0_3.index t = ![0, 0] :=
  (by decide +kernel : ∀ t : Fin grid0.N, win0_3.index t = ![0, 0])
@[inherit_doc index0] theorem index4 : ∀ t : Fin cfg0.N, win0_4.index t = ![0, 0] :=
  (by decide +kernel : ∀ t : Fin grid0.N, win0_4.index t = ![0, 0])
@[inherit_doc index0] theorem index5 : ∀ t : Fin cfg0.N, win0_5.index t = ![0, 0] :=
  (by decide +kernel : ∀ t : Fin grid0.N, win0_5.index t = ![0, 0])
@[inherit_doc index0] theorem index6 : ∀ t : Fin cfg0.N, win0_6.index t = ![0, 0] :=
  (by decide +kernel : ∀ t : Fin grid0.N, win0_6.index t = ![0, 0])
@[inherit_doc index0] theorem index7 : ∀ t : Fin cfg0.N, win0_7.index t = ![0, 0] :=
  (by decide +kernel : ∀ t : Fin grid0.N, win0_7.index t = ![0, 0])
@[inherit_doc index0] theorem index8 : ∀ t : Fin cfg0.N, win0_8.index t = ![0, 0] :=
  (by decide +kernel : ∀ t : Fin grid0.N, win0_8.index t = ![0, 0])
@[inherit_doc index0] theorem index9 : ∀ t : Fin cfg0.N, win0_9.index t = ![t.val / 16, 0, t.val % 16, 0] :=
  (by decide +kernel : ∀ t : Fin grid0.N, win0_9.index t = ![t.val / 16, 0, t.val % 16, 0])
@[inherit_doc index0] theorem index10 : ∀ t : Fin cfg0.N, win0_10.index t = ![t.val / 16, 0, t.val % 16, 0] :=
  (by decide +kernel : ∀ t : Fin grid0.N, win0_10.index t = ![t.val / 16, 0, t.val % 16, 0])
@[inherit_doc index0] theorem index11 : ∀ t : Fin cfg0.N, win0_11.index t = ![t.val / 16, 0, t.val % 16, 0] :=
  (by decide +kernel : ∀ t : Fin grid0.N, win0_11.index t = ![t.val / 16, 0, t.val % 16, 0])

section
variable (m : (ℓ : Loc nD τ sig) → Buf (Elt Ideal) ℓ) (c : Dev nD)

/-- The batch of a grid point, and the place of a row of its block. -/
def batch (t : Fin cfg0.N) : Fin 4 := ⟨t.val / 16, by have : t.val < 64 := t.isLt; omega⟩
@[inherit_doc batch] def place (t : Fin cfg0.N) (i : Fin 512) : Fin 8192 := ⟨t.val % 16 * 512 + i.val, by omega⟩

/-- The blocks of a grid point, element by element. -/
theorem block0 (t : Fin cfg0.N) (i : Fin 512) (j : Fin 1152) :
    X0_0 m c t (ix2 i j) = V m c main_arg0 (ix2 (Args.row (batch t) (place t i)) (⟨3456 + j.val, by omega⟩ : Fin 8704)) := by
  unfold X0_0 Pipeline.Window.fill
  rw [dif_pos (moved0_0 t _)]
  unfold iblk
  refine congrArg (V m c main_arg0) (funext fun a => Fin.ext ?_)
  fin_cases a
  · blk_simp [index0]
    show t.val * 512 + i.val = t.val / 16 * 8192 + (t.val % 16 * 512 + i.val)
    omega
  · blk_simp [index0]
    rfl
@[inherit_doc block0] theorem block1 (t : Fin cfg0.N) (i : Fin 512) (j : Fin 64) : iblk m c 1 t (ix2 i j) = V m c main_v0 (ix2 (place t i) j) := by
  unfold iblk
  refine congrArg (V m c main_v0) (funext fun a => Fin.ext ?_)
  fin_cases a <;> blk_simp [index1] <;> rfl
@[inherit_doc block0] theorem block2 (t : Fin cfg0.N) (i : Fin 512) (j : Fin 64) : iblk m c 2 t (ix2 i j) = V m c main_v2 (ix2 (place t i) j) := by
  unfold iblk
  refine congrArg (V m c main_v2) (funext fun a => Fin.ext ?_)
  fin_cases a <;> blk_simp [index2] <;> rfl
@[inherit_doc block0] theorem block3 (t : Fin cfg0.N) (i : Fin 1) (j : Fin 512) : iblk m c 3 t (ix2 i j) = V m c main_v3 (ix2 i j) := by
  unfold iblk
  refine congrArg (V m c main_v3) (funext fun a => Fin.ext ?_)
  fin_cases a <;> blk_simp [index3] <;> rfl
@[inherit_doc block0] theorem block4 (t : Fin cfg0.N) (i : Fin 1) (j : Fin 512) : iblk m c 4 t (ix2 i j) = V m c main_v4 (ix2 i j) := by
  unfold iblk
  refine congrArg (V m c main_v4) (funext fun a => Fin.ext ?_)
  fin_cases a <;> blk_simp [index4] <;> rfl
@[inherit_doc block0] theorem block5 (t : Fin cfg0.N) (i : Fin 512) (j : Fin 1536) : iblk m c 5 t (ix2 i j) = V m c main_v5 (ix2 i j) := by
  unfold iblk
  refine congrArg (V m c main_v5) (funext fun a => Fin.ext ?_)
  fin_cases a <;> blk_simp [index5] <;> rfl
@[inherit_doc block0] theorem block6 (t : Fin cfg0.N) (i : Fin 512) (j : Fin 2048) : iblk m c 6 t (ix2 i j) = V m c main_v6 (ix2 i j) := by
  unfold iblk
  refine congrArg (V m c main_v6) (funext fun a => Fin.ext ?_)
  fin_cases a <;> blk_simp [index6] <;> rfl
@[inherit_doc block0] theorem block7 (t : Fin cfg0.N) (i : Fin 1) (j : Fin 192) : iblk m c 7 t (ix2 i j) = V m c main_v7 (ix2 i j) := by
  unfold iblk
  refine congrArg (V m c main_v7) (funext fun a => Fin.ext ?_)
  fin_cases a <;> blk_simp [index7] <;> rfl
@[inherit_doc block0] theorem block8 (t : Fin cfg0.N) (i : Fin 1) (j : Fin 192) : iblk m c 8 t (ix2 i j) = V m c main_v8 (ix2 i j) := by
  unfold iblk
  refine congrArg (V m c main_v8) (funext fun a => Fin.ext ?_)
  fin_cases a <;> blk_simp [index8] <;> rfl

/-- The arguments. -/
def args : Args where
  z := m ((c : Thread nD τ).loc main_arg0)
  cos := m ((c : Thread nD τ).loc main_arg1)
  sin := m ((c : Thread nD τ).loc main_arg2)
  qa := m ((c : Thread nD τ).loc main_arg3)
  wq := m ((c : Thread nD τ).loc main_arg4)
  kva := m ((c : Thread nD τ).loc main_arg5)
  wkv := m ((c : Thread nD τ).loc main_arg6)
  qn := m ((c : Thread nD τ).loc main_arg7)
  kn := m ((c : Thread nD τ).loc main_arg8)

/-- A grid point's blocks hold its rows. -/
theorem holds (t : Fin cfg0.N) (i : Fin 512) :
    Holds (X0_0 m c t) (iblk m c 1 t) (iblk m c 2 t) (iblk m c 3 t) (iblk m c 4 t) (iblk m c 5 t) (iblk m c 6 t) (iblk m c 7 t) (iblk m c 8 t)
      (args m c) i (batch t) (place t i) where
  z j := by rw [block0, V_main_arg0]; rfl
  cos j := by rw [block1, V_cos, cosines_apply]; rfl
  sin_lo j h := by rw [block2, V_sin, sines_lo _ _ _ h]; rfl
  sin_hi j h := by rw [block2, V_sin, sines_hi _ _ _ h]; rfl
  qa k := by rw [block3, V_qa, row512_apply]; rfl
  kva k := by rw [block4, V_kva, row512_apply]; rfl
  wq k j := by rw [block5, V_wq]; rfl
  wkv k j := by rw [block6, V_wkv]; rfl
  qn d := by rw [block7, V_qn, row192_apply]; rfl
  kn d := by rw [block8, V_kn, row192_apply]; rfl

/-- THE THREE RESULT ARRAYS after the call. -/
theorem array9 : (dats m 0 c).arrAt 9 cfg0.N = (args m c).queries := by
  refine (dats m 0 c).arrAt_eq_of_covers 9 _ (by decide +kernel) fun t hf y => ?_
  blk_simp
  rw [after0_9]
  unfold outsAt0
  dsimp only
  rw [query_out]
  have hy : y = ix4 (0 : Fin 1) (y 1 : Fin 8) (y 2 : Fin 512) (y 3 : Fin 192) := by
    funext a
    fin_cases a
    · exact Subsingleton.elim (α := Fin 1) _ _
    · rfl
    · rfl
    · rfl
  have he : ((cfg0.win 9).blk t).view.emb y = ix4 (batch t) (y 1 : Fin 8) (place t (y 2)) (y 3 : Fin 192) := by
    funext a
    refine Fin.ext ?_
    fin_cases a <;> blk_simp [index9] <;> first | rfl | (have h0 : (y 0).val < 1 := (y 0).isLt; change _ = t.val / 16; omega)
  rw [he]
  exact (congrArg _ hy).trans (query_at (holds m c t (y 2)) (y 1) (y 3))
@[inherit_doc array9] theorem array10 : (dats m 0 c).arrAt 10 cfg0.N = (args m c).keys := by
  refine (dats m 0 c).arrAt_eq_of_covers 10 _ (by decide +kernel) fun t hf y => ?_
  blk_simp
  rw [after0_10]
  unfold outsAt0
  dsimp only
  rw [key_out]
  have hy : y = ix4 (0 : Fin 1) (y 1 : Fin 8) (y 2 : Fin 512) (y 3 : Fin 192) := by
    funext a
    fin_cases a
    · exact Subsingleton.elim (α := Fin 1) _ _
    · rfl
    · rfl
    · rfl
  have he : ((cfg0.win 10).blk t).view.emb y = ix4 (batch t) (y 1 : Fin 8) (place t (y 2)) (y 3 : Fin 192) := by
    funext a
    refine Fin.ext ?_
    fin_cases a <;> blk_simp [index10] <;> first | rfl | (have h0 : (y 0).val < 1 := (y 0).isLt; change _ = t.val / 16; omega)
  rw [he]
  exact (congrArg _ hy).trans (key_at (holds m c t (y 2)) (y 1) (y 3))
@[inherit_doc array9] theorem array11 : (dats m 0 c).arrAt 11 cfg0.N = (args m c).values := by
  refine (dats m 0 c).arrAt_eq_of_covers 11 _ (by decide +kernel) fun t hf y => ?_
  blk_simp
  rw [after0_11]
  unfold outsAt0
  dsimp only
  rw [value_out]
  have hy : y = ix4 (0 : Fin 1) (y 1 : Fin 8) (y 2 : Fin 512) (y 3 : Fin 256) := by
    funext a
    fin_cases a
    · exact Subsingleton.elim (α := Fin 1) _ _
    · rfl
    · rfl
    · rfl
  have he : ((cfg0.win 11).blk t).view.emb y = ix4 (batch t) (y 1 : Fin 8) (place t (y 2)) (y 3 : Fin 256) := by
    funext a
    refine Fin.ext ?_
    fin_cases a <;> blk_simp [index11] <;> first | rfl | (have h0 : (y 0).val < 1 := (y 0).isLt; change _ = t.val / 16; omega)
  rw [he]
  exact (congrArg _ hy).trans (value_at (holds m c t (y 2)) (y 1) (y 3))

end

end Cert.Proof.Prep

end
-- ==== Proof.Prep.Ref.lean ====
module

public import proofs.«01_k».proof.Proof.Gen.Reference5Ideal.Run
public import proofs.«01_k».proof.Proof.Prep.Target

/-! The reference that prepares the attention's queries, keys and values leaves the closed form. -/

@[expose] public section

set_option maxRecDepth 16384

noncomputable section

namespace Cert.Proof.Prep.Ref

open Cert.Reference5Ideal Cert.Reference5Ideal.Gen Cert.Reference5Ideal.Value Idealize.ShloMosaic Idealize.ShloMosaic.TcCoe Idealize.SL.Sem

section Terms
variable {F : FTy → Type} [FloatOps F]

/-- The projected input's columns behind the queries, behind the keys and values, and those the heads' keys share, by batch and place. -/
def queryCols (z : FVec F S32768x8704 .f32) : FVec F S4x8192x512 .f32 :=
  extractStridedSlice S4x8192x512 ![0, 0, 3456] (shapeCast S4x8192x8704 z shapeCasts_S32768x8704_S4x8192x8704) slices_S4x8192x8704_S4x8192x512_0_0_3456
@[inherit_doc queryCols] def keyCols (z : FVec F S32768x8704 .f32) : FVec F S4x8192x512 .f32 :=
  extractStridedSlice S4x8192x512 ![0, 0, 3968] (shapeCast S4x8192x8704 z shapeCasts_S32768x8704_S4x8192x8704) slices_S4x8192x8704_S4x8192x512_0_0_3968
@[inherit_doc queryCols] def sharedCols (z : FVec F S32768x8704 .f32) : FVec F S4x8192x64 .f32 :=
  extractStridedSlice S4x8192x64 ![0, 0, 4480] (shapeCast S4x8192x8704 z shapeCasts_S32768x8704_S4x8192x8704) slices_S4x8192x8704_S4x8192x64_0_0_4480

/-- Rows of 512 columns normalised. -/
def latent (x : FVec F S4x8192x512 .f32) (g : FVec F S512 .f32) : FVec F S4x8192x512 .f32 :=
  mulf (mulf x (broadcastInDim S4x8192x512 ![0, 1, 2] bcast_S4x8192x1_S4x8192x512_0_1_2 (Host.rsqrt (addf
    (Host.divf (broadcastInDim S4x8192x1 ![0, 1] bcast_S4x8192_S4x8192x1_0_1
        (Host.reduceAdd (mulf x x) (constant S_ .f32 0x00000000#32) reducesTo_S4x8192x512_S4x8192_d2 h_S_))
      (broadcastInDim S4x8192x1 ![] bcast_S_S4x8192x1 (constant S_ .f32 0x44000000#32)))
    (broadcastInDim S4x8192x1 ![] bcast_S_S4x8192x1 (constant S_ .f32 0x358637BD#32))))))
    (broadcastInDim S4x8192x512 ![0, 1, 2] bcast_S1x1x512_S4x8192x512_0_1_2 (broadcastInDim S1x1x512 ![2] bcast_S512_S1x1x512_2 g))

/-- The heads' queries; their keys and values side by side; their keys with the columns they share; before they are normalised. -/
def heads (x : FVec F S4x8192x512 .f32) (w : FVec F S512x1536 .f32) : FVec F S4x8192x8x192 .f32 :=
  shapeCast S4x8192x8x192 (Host.dotGeneral dot_S4x8192x512_S512x1536_S4x8192x1536_2_0_01_1_n_n none x w) shapeCasts_S4x8192x1536_S4x8192x8x192
@[inherit_doc heads] def pairs (x : FVec F S4x8192x512 .f32) (w : FVec F S512x2048 .f32) : FVec F S4x8192x8x256 .f32 :=
  shapeCast S4x8192x8x256 (Host.dotGeneral dot_S4x8192x512_S512x2048_S4x8192x2048_2_0_01_1_n_n none x w) shapeCasts_S4x8192x2048_S4x8192x8x256
@[inherit_doc heads] def joined (p : FVec F S4x8192x8x256 .f32) (s : FVec F S4x8192x64 .f32) : FVec F S4x8192x8x192 .f32 :=
  concatenate S4x8192x8x192 3 [⟨S4x8192x8x128, extractStridedSlice S4x8192x8x128 ![0, 0, 0, 0] p slices_S4x8192x8x256_S4x8192x8x128_0_0_0_0⟩,
    ⟨S4x8192x8x64, broadcastInDim S4x8192x8x64 ![0, 1, 2, 3] bcast_S4x8192x1x64_S4x8192x8x64_0_1_2_3
      (broadcastInDim S4x8192x1x64 ![0, 1, 3] bcast_S4x8192x64_S4x8192x1x64_0_1_3 s)⟩] concatenates_S4x8192x8x128_S4x8192x8x64_S4x8192x8x192_d3

/-- Heads of 192 columns normalised. -/
def headNorm (u : FVec F S4x8192x8x192 .f32) (g : FVec F S192 .f32) : FVec F S4x8192x8x192 .f32 :=
  mulf (mulf u (broadcastInDim S4x8192x8x192 ![0, 1, 2, 3] bcast_S4x8192x8x1_S4x8192x8x192_0_1_2_3 (Host.rsqrt (addf
    (Host.divf (broadcastInDim S4x8192x8x1 ![0, 1, 2] bcast_S4x8192x8_S4x8192x8x1_0_1_2
        (Host.reduceAdd (mulf u u) (constant S_ .f32 0x00000000#32) reducesTo_S4x8192x8x192_S4x8192x8_d3 h_S_))
      (broadcastInDim S4x8192x8x1 ![] bcast_S_S4x8192x8x1 (constant S_ .f32 0x43400000#32)))
    (broadcastInDim S4x8192x8x1 ![] bcast_S_S4x8192x8x1 (constant S_ .f32 0x358637BD#32))))))
    (broadcastInDim S4x8192x8x192 ![0, 1, 2, 3] bcast_S1x1x1x192_S4x8192x8x192_0_1_2_3 (broadcastInDim S1x1x1x192 ![3] bcast_S192_S1x1x1x192_3 g))

/-- A table of angles' cosines or sines, for every batch and head. -/
def table (t : FVec F S8192x32 .f32) : FVec F S4x8192x8x32 .f32 :=
  broadcastInDim S4x8192x8x32 ![0, 1, 2, 3] bcast_S1x8192x1x32_S4x8192x8x32_0_1_2_3 (broadcastInDim S1x8192x1x32 ![1, 3] bcast_S8192x32_S1x8192x1x32_1_3 t)

/-- The heads' last 64 columns turned. -/
def turned (w : FVec F S4x8192x8x192 .f32) (c s : FVec F S8192x32 .f32) : FVec F S4x8192x8x192 .f32 :=
  concatenate S4x8192x8x192 3 [⟨S4x8192x8x128, extractStridedSlice S4x8192x8x128 ![0, 0, 0, 0] w slices_S4x8192x8x192_S4x8192x8x128_0_0_0_0⟩,
    ⟨S4x8192x8x32, subf (mulf (extractStridedSlice S4x8192x8x32 ![0, 0, 0, 128] w slices_S4x8192x8x192_S4x8192x8x32_0_0_0_128) (table c))
      (mulf (extractStridedSlice S4x8192x8x32 ![0, 0, 0, 160] w slices_S4x8192x8x192_S4x8192x8x32_0_0_0_160) (table s))⟩,
    ⟨S4x8192x8x32, addf (mulf (extractStridedSlice S4x8192x8x32 ![0, 0, 0, 160] w slices_S4x8192x8x192_S4x8192x8x32_0_0_0_160) (table c))
      (mulf (extractStridedSlice S4x8192x8x32 ![0, 0, 0, 128] w slices_S4x8192x8x192_S4x8192x8x32_0_0_0_128) (table s))⟩]
    concatenates_S4x8192x8x128_S4x8192x8x32_S4x8192x8x32_S4x8192x8x192_d3

/-- The three results of them: the queries scaled, the heads in front of the places, the values widened by a one and zeros. -/
def outQueries (w : FVec F S4x8192x8x192 .f32) : FVec F S4x8x8192x192 .bf16 :=
  truncf .bf16 (transpose S4x8x8192x192 [0, 2, 1, 3] (mulf w (broadcastInDim S4x8192x8x192 ![] bcast_S_S4x8192x8x192
    (Host.divf (Host.rsqrt (constant S_ .f32 0x43400000#32)) (Host.log (constant S_ .f32 0x40000000#32)))))
    transposes_S4x8192x8x192_S4x8x8192x192_0_2_1_3) bitsLt_bf16_f32
@[inherit_doc outQueries] def outKeys (w : FVec F S4x8192x8x192 .f32) : FVec F S4x8x8192x192 .bf16 :=
  truncf .bf16 (transpose S4x8x8192x192 [0, 2, 1, 3] w transposes_S4x8192x8x192_S4x8x8192x192_0_2_1_3) bitsLt_bf16_f32
@[inherit_doc outQueries] def outValues (p : FVec F S4x8192x8x256 .f32) : FVec F S4x8x8192x256 .bf16 :=
  truncf .bf16 (transpose S4x8x8192x256 [0, 2, 1, 3] (concatenate S4x8192x8x256 3
    [⟨S4x8192x8x128, extractStridedSlice S4x8192x8x128 ![0, 0, 0, 128] p slices_S4x8192x8x256_S4x8192x8x128_0_0_0_128⟩,
      ⟨S4x8192x8x1, broadcastInDim S4x8192x8x1 ![] bcast_S_S4x8192x8x1 (constant S_ .f32 0x3F800000#32)⟩,
      ⟨S4x8192x8x127, broadcastInDim S4x8192x8x127 ![] bcast_S_S4x8192x8x127 (constant S_ .f32 0x00000000#32)⟩]
    concatenates_S4x8192x8x128_S4x8192x8x1_S4x8192x8x127_S4x8192x8x256_d3) transposes_S4x8192x8x256_S4x8x8192x256_0_2_1_3) bitsLt_bf16_f32

variable (m : (ℓ : Loc nD τ sig) → Buf (Elt F) ℓ) (c : Dev nD)

/-- The reference's results in these terms. -/
def both : FVec F S4x8192x8x256 .f32 :=
  pairs (latent (keyCols (m ((c.tc : Thread nD τ).loc main_arg0))) (m ((c.tc : Thread nD τ).loc main_arg5))) (m ((c.tc : Thread nD τ).loc main_arg6))
@[inherit_doc both] theorem queries_eq : res_out0 m c = outQueries (turned (headNorm (heads (latent (queryCols (m ((c.tc : Thread nD τ).loc main_arg0)))
    (m ((c.tc : Thread nD τ).loc main_arg3))) (m ((c.tc : Thread nD τ).loc main_arg4))) (m ((c.tc : Thread nD τ).loc main_arg7)))
    (m ((c.tc : Thread nD τ).loc main_arg1)) (m ((c.tc : Thread nD τ).loc main_arg2))) := by
  unfold res_out0 res_main_v108
  rfl
@[inherit_doc both] theorem keys_eq : res_out1 m c = outKeys (turned (headNorm (joined (both m c) (sharedCols (m ((c.tc : Thread nD τ).loc main_arg0))))
    (m ((c.tc : Thread nD τ).loc main_arg8))) (m ((c.tc : Thread nD τ).loc main_arg1)) (m ((c.tc : Thread nD τ).loc main_arg2))) := by
  unfold res_out1 res_main_v110
  rfl

end Terms

theorem queryCols_apply (z : FVec Ideal S32768x8704 .f32) (b : Fin 4) (l : Fin 8192) (k : Fin 512) :
    queryCols z (ix3 b l k) = z (ix2 (Args.row b l) ⟨3456 + k.val, by omega⟩) := by
  unfold Args.row
  pointwise [queryCols]
theorem keyCols_apply (z : FVec Ideal S32768x8704 .f32) (b : Fin 4) (l : Fin 8192) (k : Fin 512) :
    keyCols z (ix3 b l k) = z (ix2 (Args.row b l) ⟨3968 + k.val, by omega⟩) := by
  unfold Args.row
  pointwise [keyCols]
theorem sharedCols_apply (z : FVec Ideal S32768x8704 .f32) (b : Fin 4) (l : Fin 8192) (k : Fin 64) :
    sharedCols z (ix3 b l k) = z (ix2 (Args.row b l) ⟨4480 + k.val, by omega⟩) := by
  unfold Args.row
  pointwise [sharedCols]

theorem latent_apply (x : FVec Ideal S4x8192x512 .f32) (g : FVec Ideal S512 .f32) (b : Fin 4) (l : Fin 8192) (k : Fin 512) :
    latent x g (ix3 b l k) = normed 0x44000000#32 (fun k => x (ix3 b l k)) (fun k => g (ix1 k)) k := by
  unfold normed inv
  pointwise [latent]

theorem heads_apply (x : FVec Ideal S4x8192x512 .f32) (w : FVec Ideal S512x1536 .f32) (b : Fin 4) (l : Fin 8192) (h : Fin 8) (d : Fin 192) :
    heads x w (ix4 b l h d) = ∑ k : Fin 512, x (ix3 b l k) * w (ix2 k ⟨h.val * 192 + d.val, by omega⟩) := by
  pointwise [heads]

theorem pairs_apply (x : FVec Ideal S4x8192x512 .f32) (w : FVec Ideal S512x2048 .f32) (b : Fin 4) (l : Fin 8192) (h : Fin 8) (d : Fin 256) :
    pairs x w (ix4 b l h d) = ∑ k : Fin 512, x (ix3 b l k) * w (ix2 k ⟨h.val * 256 + d.val, by omega⟩) := by
  pointwise [pairs]

theorem joined_apply (p : FVec Ideal S4x8192x8x256 .f32) (s : FVec Ideal S4x8192x64 .f32) (b : Fin 4) (l : Fin 8192) (h : Fin 8) (d : Fin 192) :
    joined p s (ix4 b l h d) = if hd : d.val < 128 then p (ix4 b l h ⟨d.val, by omega⟩) else s (ix3 b l ⟨d.val - 128, by omega⟩) := by
  pointwise [joined]

theorem headNorm_apply (u : FVec Ideal S4x8192x8x192 .f32) (g : FVec Ideal S192 .f32) (b : Fin 4) (l : Fin 8192) (h : Fin 8) (d : Fin 192) :
    headNorm u g (ix4 b l h d) = normed 0x43400000#32 (fun d => u (ix4 b l h d)) (fun d => g (ix1 d)) d := by
  unfold normed inv
  pointwise [headNorm]

theorem turned_apply (w : FVec Ideal S4x8192x8x192 .f32) (c s : FVec Ideal S8192x32 .f32) (b : Fin 4) (l : Fin 8192) (h : Fin 8) (d : Fin 192) :
    turned w c s (ix4 b l h d) = rope (fun d => w (ix4 b l h d)) (fun j => c (ix2 l j)) (fun j => s (ix2 l j)) d := by
  unfold rope
  pointwise [turned, table]
  have fin {n : ℕ} {i j : Fin n} (h : i.val = j.val) : i = j := Fin.ext h
  by_cases h1 : d.val < 128
  · rw [dif_pos h1, dif_pos h1]
  · rw [dif_neg h1, dif_neg h1]
    by_cases h2 : d.val < 160
    · rw [dif_pos (show d.val - 128 < 32 by omega), dif_pos h2]
      exact congrArg₂ (fun i j => w (ix4 b l h i) * c (ix2 l ⟨d.val - 128, by omega⟩) - w (ix4 b l h j) * s (ix2 l ⟨d.val - 128, by omega⟩))
        (fin (show 128 + (d.val - 128) = d.val by omega)) (fin (show 160 + (d.val - 128) = d.val + 32 by omega))
    · rw [dif_neg (show ¬ d.val - 128 < 32 by omega), dif_neg h2]
      simp only [Nat.sub_sub, Nat.reduceAdd]
      exact congrArg₂ (fun i j => w (ix4 b l h i) * c (ix2 l ⟨d.val - 160, by omega⟩) + w (ix4 b l h j) * s (ix2 l ⟨d.val - 160, by omega⟩))
        (fin (show 160 + (d.val - 160) = d.val by omega)) (fin (show 128 + (d.val - 160) = d.val - 32 by omega))

theorem outQueries_apply (w : FVec Ideal S4x8192x8x192 .f32) (b : Fin 4) (h : Fin 8) (l : Fin 8192) (d : Fin 192) :
    outQueries w (ix4 b h l d) = w (ix4 b l h d) * (Host.scale : EReal) := by
  have h2 : Ideal.ofBits .f32 0x40000000#32 = ((2 : ℝ) : EReal) := Cert.Proof.Host.f32_lit _ _ 128 0 (by decide) (by decide) (by norm_num)
  pointwise [outQueries]
  rw [lit192, h2, Ideal.rsqrt_coe, Ideal.log_coe, if_neg (by norm_num), if_neg (by norm_num), if_neg (by norm_num),
    Ideal.div_coe (Real.log_pos (by norm_num)).ne', ← EReal.coe_mul, Cert.Proof.Host.scale, mul_one_div]

theorem outKeys_apply (w : FVec Ideal S4x8192x8x192 .f32) (b : Fin 4) (h : Fin 8) (l : Fin 8192) (d : Fin 192) :
    outKeys w (ix4 b h l d) = w (ix4 b l h d) := by
  pointwise [outKeys]

theorem outValues_apply (p : FVec Ideal S4x8192x8x256 .f32) (b : Fin 4) (h : Fin 8) (l : Fin 8192) (d : Fin 256) :
    outValues p (ix4 b h l d) = if hd : d.val < 128 then p (ix4 b l h ⟨128 + d.val, by omega⟩) else if d.val = 128 then 1 else 0 := by
  pointwise [outValues]
  by_cases h1 : d.val < 128
  · rw [dif_pos h1, dif_pos h1]
  · rw [dif_neg h1, dif_neg h1]
    by_cases h2 : d.val = 128
    · rw [dif_pos (show d.val - 128 < 1 by omega), if_pos h2]
    · rw [dif_neg (show ¬ d.val - 128 < 1 by omega), if_neg h2]

section
variable (m : (ℓ : Loc nD τ sig) → Buf (Elt Ideal) ℓ) (c : Dev nD)

/-- The arguments. -/
def args : Args where
  z := m ((c.tc : Thread nD τ).loc main_arg0)
  cos := m ((c.tc : Thread nD τ).loc main_arg1)
  sin := m ((c.tc : Thread nD τ).loc main_arg2)
  qa := m ((c.tc : Thread nD τ).loc main_arg3)
  wq := m ((c.tc : Thread nD τ).loc main_arg4)
  kva := m ((c.tc : Thread nD τ).loc main_arg5)
  wkv := m ((c.tc : Thread nD τ).loc main_arg6)
  qn := m ((c.tc : Thread nD τ).loc main_arg7)
  kn := m ((c.tc : Thread nD τ).loc main_arg8)

theorem both_apply (b : Fin 4) (l : Fin 8192) (h : Fin 8) (d : Fin 256) : both m c (ix4 b l h d) = (args m c).both (Args.row b l) h d := by
  unfold both Args.both Args.keyLatent
  rw [pairs_apply]
  simp only [latent_apply, keyCols_apply]
  rfl

/-- THE REFERENCE'S FIRST RESULT. -/
theorem first : res_main_v108 m c = (args m c).queries := by
  refine (queries_eq m c).trans (funext fun i => ?_)
  obtain ⟨b, h, l, d, rfl⟩ : ∃ (b : Fin 4) (h : Fin 8) (l : Fin 8192) (d : Fin 192), i = ix4 b h l d := ⟨i 0, i 1, i 2, i 3, by
    funext a; fin_cases a <;> rfl⟩
  rw [outQueries_apply, turned_apply]
  simp only [headNorm_apply, heads_apply, latent_apply, queryCols_apply]
  rfl

/-- The second. -/
theorem second : res_main_v110 m c = (args m c).keys := by
  refine (keys_eq m c).trans (funext fun i => ?_)
  obtain ⟨b, h, l, d, rfl⟩ : ∃ (b : Fin 4) (h : Fin 8) (l : Fin 8192) (d : Fin 192), i = ix4 b h l d := ⟨i 0, i 1, i 2, i 3, by
    funext a; fin_cases a <;> rfl⟩
  rw [outKeys_apply, turned_apply]
  simp only [headNorm_apply, joined_apply, both_apply, sharedCols_apply]
  rfl

/-- The third. -/
theorem third : outValues (both m c) = (args m c).values := by
  funext i
  obtain ⟨b, h, l, d, rfl⟩ : ∃ (b : Fin 4) (h : Fin 8) (l : Fin 8192) (d : Fin 256), i = ix4 b h l d := ⟨i 0, i 1, i 2, i 3, by
    funext a; fin_cases a <;> rfl⟩
  rw [outValues_apply]
  simp only [both_apply]
  rfl
end

end Cert.Proof.Prep.Ref

end
-- ==== Proof.Combine.Target.lean ====
module

public import Idealize.ShloMosaic.Lib.Pipeline.ValueKit
public import Idealize.ShloMosaic.Lib.Pointwise

/-! The closed form of the experts' sum over the extended reals: a token's residual row and its two experts' rows, each under its gate. -/

@[expose] public section

noncomputable section

namespace Cert.Proof.Combine

open Idealize.ShloMosaic

/-- The residual rows, the experts' rows in their slabs and the gates. -/
abbrev Rows : Type := (⟨2, ![32768, 2048]⟩ : Shape).Idx → EReal
abbrev Slabs : Type := (⟨4, ![2, 4, 32768, 512]⟩ : Shape).Idx → EReal
abbrev Gates : Type := (⟨2, ![32768, 128]⟩ : Shape).Idx → EReal

/-- The row of a token's expert, out of its slabs. -/
def rowOf (y : Slabs) (e : Fin 2) (r : Fin 32768) (d : Fin 2048) : EReal :=
  y (ix4 e (⟨d.val % 1024 / 256, by omega⟩ : Fin 4) r (⟨d.val / 1024 * 256 + d.val % 256, by omega⟩ : Fin 512))

/-- The result at a token's row and a column. -/
def result (h : Rows) (y : Slabs) (gw : Gates) : Rows := fun i =>
  h (ix2 (i 0 : Fin 32768) (i 1 : Fin 2048)) + (gw (ix2 (i 0 : Fin 32768) 0) * rowOf y 0 (i 0) (i 1) + gw (ix2 (i 0 : Fin 32768) 1) * rowOf y 1 (i 0) (i 1))

/-- The gates of the two experts are not negative. -/
def NotNegative (gw : Gates) : Prop := ∀ r : Fin 32768, 0 ≤ gw (ix2 r 0) ∧ 0 ≤ gw (ix2 r 1)

/-- A row left out where its gate is not positive is the row under its gate, where that is not negative. -/
theorem taken_eq (w x : EReal) (hw : 0 ≤ w) : (if 0 < w then w * x else 0) = w * x := by
  split_ifs with h
  · rfl
  · rw [le_antisymm (not_lt.mp h) hw, zero_mul]

end Cert.Proof.Combine

end
-- ==== Proof.Combine.Output.lean ====
module

public import proofs.«01_k».proof.Defs
public import proofs.«01_k».proof.Proof.Gen.Kernel6Ideal.Value
public import proofs.«01_k».proof.Proof.Gen.Pre_gates_not_negative
public import proofs.«01_k».proof.Proof.Combine.Target

/-! What the kernel of the experts' sum leaves in its result: the closed form. -/

@[expose] public section

set_option maxRecDepth 16384

noncomputable section

namespace Cert.Proof.Combine

open Cert.Kernel6Ideal Cert.Kernel6Ideal.Gen Idealize.ShloMosaic Idealize.ShloMosaic.TcCoe Idealize.SL.Sem

section Terms
variable {F : FTy → Type} [FloatOps F]

/-- An expert's rows put together from the halves of their four slabs. -/
def joined (v0 v1 v2 v3 : Vec F S1x1x512x512 .bf16) : FVec F S512x2048 .f32 :=
  have h0 : FVec F S512x512 .bf16 := shapeCast S512x512 v0 shapeCasts_S1x1x512x512_S512x512
  have h1 : FVec F S512x512 .bf16 := shapeCast S512x512 v1 shapeCasts_S1x1x512x512_S512x512
  have h2 : FVec F S512x512 .bf16 := shapeCast S512x512 v2 shapeCasts_S1x1x512x512_S512x512
  have h3 : FVec F S512x512 .bf16 := shapeCast S512x512 v3 shapeCasts_S1x1x512x512_S512x512
  concatenate S512x2048 1
    [⟨S512x1024, extf .f32 (concatenate S512x1024 1
      [⟨S512x256, extractStridedSlice S512x256 ![0, 0] h0 slices_S512x512_o0_0_S512x256⟩,
       ⟨S512x256, extractStridedSlice S512x256 ![0, 0] h1 slices_S512x512_o0_0_S512x256⟩,
       ⟨S512x256, extractStridedSlice S512x256 ![0, 0] h2 slices_S512x512_o0_0_S512x256⟩,
       ⟨S512x256, extractStridedSlice S512x256 ![0, 0] h3 slices_S512x512_o0_0_S512x256⟩]
      concatenates_S512x256_S512x256_S512x256_S512x256_S512x1024_d1) bitsLt_bf16_f32⟩,
     ⟨S512x1024, extf .f32 (concatenate S512x1024 1
      [⟨S512x256, extractStridedSlice S512x256 ![0, 256] h0 slices_S512x512_o0_256_S512x256⟩,
       ⟨S512x256, extractStridedSlice S512x256 ![0, 256] h1 slices_S512x512_o0_256_S512x256⟩,
       ⟨S512x256, extractStridedSlice S512x256 ![0, 256] h2 slices_S512x512_o0_256_S512x256⟩,
       ⟨S512x256, extractStridedSlice S512x256 ![0, 256] h3 slices_S512x512_o0_256_S512x256⟩]
      concatenates_S512x256_S512x256_S512x256_S512x256_S512x1024_d1) bitsLt_bf16_f32⟩]
    concatenates_S512x1024_S512x1024_S512x2048_d1

/-- Rows under their gates, left out where a gate is not positive. -/
def taken (w : FVec F S512x1 .f32) (x : FVec F S512x2048 .f32) : FVec F S512x2048 .f32 :=
  select (broadcastTo S512x2048 (shapeCast S512x1 (cmpf .ogt w (broadcast S512x1 (Scalar.ofBits .f32 0x00000000#32)))
      shapeCasts_S512x1_S512x1) broadcasts_S512x1_S512x2048)
    (mulf (broadcastTo S512x2048 w broadcasts_S512x1_S512x2048) x) (broadcast S512x2048 (Scalar.ofBits .f32 0x00000000#32))

/-- What the body stores in these terms. -/
theorem pay_eq (h : Vec F S512x2048 .f32) (gw : Vec F S512x128 .f32) (a0 a1 a2 a3 b0 b1 b2 b3 : Vec F S1x1x512x512 .bf16) :
    k0_pay1 (k0_pay2 gw) (k0_pay3 gw a0 a1 a2 a3) (k0_pay4 gw) b0 b1 b2 b3 h
      = addf h (addf (taken (extractStridedSlice S512x1 ![0, 0] gw slices_S512x128_o0_0_S512x1) (joined a0 a1 a2 a3))
          (taken (extractStridedSlice S512x1 ![0, 1] gw slices_S512x128_o0_1_S512x1) (joined b0 b1 b2 b3))) := rfl

end Terms

theorem taken_apply (w : FVec Ideal S512x1 .f32) (x : FVec Ideal S512x2048 .f32) (r : Fin 512) (d : Fin 2048) (hw : 0 ≤ w (ix2 r 0)) :
    taken w x (ix2 r d) = w (ix2 r 0) * x (ix2 r d) := by
  refine Eq.trans ?_ (taken_eq _ _ hw)
  pointwise [taken]

/-- A row of a block of four slabs. -/
def blockRow (x : Vec Ideal S1x4x512x512 .bf16) (r : Fin 512) (d : Fin 2048) : EReal :=
  x (ix4 0 (⟨d.val % 1024 / 256, by omega⟩ : Fin 4) r (⟨d.val / 1024 * 256 + d.val % 256, by omega⟩ : Fin 512))

theorem blockRow_eq (x : Vec Ideal S1x4x512x512 .bf16) (r : Fin 512) (d : Fin 2048) (s : Fin 4) (c : Fin 512)
    (hs : s.val = d.val % 1024 / 256) (hc : c.val = d.val / 1024 * 256 + d.val % 256) : x (ix4 0 s r c) = blockRow x r d :=
  congrArg₂ (fun s c => x (ix4 0 s r c)) (Fin.ext hs) (Fin.ext hc)

/-- A slab of a block of four, at a row and a column. -/
theorem slab_read (x : Vec Ideal S1x4x512x512 .bf16) (s : Fin 4) (inb) (r : Fin 512) (c : Fin 512) :
    View.ld x (Rect.unit (s := S1x4x512x512) ![0, s.val, 0, 0] S1x1x512x512.size inb) (ix4 0 0 r c) = x (ix4 0 s r c) := by
  refine congrArg x (funext fun a => Fin.ext ?_)
  fin_cases a
  · show 0 + 1 * 0 = 0; omega
  · show s.val + 1 * 0 = s.val; omega
  · show 0 + 1 * r.val = r.val; omega
  · show 0 + 1 * c.val = c.val; omega

/-- The joined rows of four slabs are the rows of their block. -/
theorem joined_apply (x : Vec Ideal S1x4x512x512 .bf16) (r : Fin 512) (d : Fin 2048) (v0 v1 v2 v3 : Vec Ideal S1x1x512x512 .bf16)
    (e0 : ∀ c, v0 (ix4 0 0 r c) = x (ix4 0 0 r c)) (e1 : ∀ c, v1 (ix4 0 0 r c) = x (ix4 0 1 r c))
    (e2 : ∀ c, v2 (ix4 0 0 r c) = x (ix4 0 2 r c)) (e3 : ∀ c, v3 (ix4 0 0 r c) = x (ix4 0 3 r c)) :
    joined v0 v1 v2 v3 (ix2 r d) = blockRow x r d := by
  have hk := d.isLt
  pointwise [joined]
  split_ifs <;> first
    | (refine (e0 _).trans (blockRow_eq x r d 0 _ ?_ ?_) <;> first | (show 0 = d.val % 1024 / 256; omega) | (try dsimp only; omega))
    | (refine (e1 _).trans (blockRow_eq x r d 1 _ ?_ ?_) <;> first | (show 1 = d.val % 1024 / 256; omega) | (try dsimp only; omega))
    | (refine (e2 _).trans (blockRow_eq x r d 2 _ ?_ ?_) <;> first | (show 2 = d.val % 1024 / 256; omega) | (try dsimp only; omega))
    | (refine (e3 _).trans (blockRow_eq x r d 3 _ ?_ ?_) <;> first | (show 3 = d.val % 1024 / 256; omega) | (try dsimp only; omega))

/-- A whole block read. -/
theorem whole_rows (h : Vec Ideal S512x2048 .f32) : View.ld h r0_5 = h := by
  funext i
  refine congrArg h (funext fun a => Fin.ext ?_)
  fin_cases a <;> exact (Nat.zero_add _).trans (Nat.one_mul _)
@[inherit_doc whole_rows] theorem whole_gates (gw : Vec Ideal S512x128 .f32) : View.ld gw r0_0 = gw := by
  funext i
  refine congrArg gw (funext fun a => Fin.ext ?_)
  fin_cases a <;> exact (Nat.zero_add _).trans (Nat.one_mul _)

theorem gate0 (gw : Vec Ideal S512x128 .f32) (r : Fin 512) :
    extractStridedSlice S512x1 ![0, 0] gw slices_S512x128_o0_0_S512x1 (ix2 r 0) = gw (ix2 r 0) := by
  pointwise
theorem gate1 (gw : Vec Ideal S512x128 .f32) (r : Fin 512) :
    extractStridedSlice S512x1 ![0, 1] gw slices_S512x128_o0_1_S512x1 (ix2 r 0) = gw (ix2 r 1) := by
  pointwise

/-- One block of 512 rows. -/
theorem block_apply (h : Vec Ideal S512x2048 .f32) (y z : Vec Ideal S1x4x512x512 .bf16) (gw : Vec Ideal S512x128 .f32) (r : Fin 512)
    (d : Fin 2048) (h0 : 0 ≤ gw (ix2 r 0)) (h1 : 0 ≤ gw (ix2 r 1)) :
    out0_4 h y z gw (ix2 r d) = h (ix2 r d) + (gw (ix2 r 0) * blockRow y r d + gw (ix2 r 1) * blockRow z r d) := by
  unfold out0_4
  rw [View.canon_cons_unit_lit _ _ _ (by decide), whole_rows, whole_gates, pay_eq]
  refine congrArg₂ (fun a b : EReal => h (ix2 r d) + (a + b)) ?_ ?_
  · refine (taken_apply _ _ r d ((gate0 gw r).symm ▸ h0)).trans (congrArg₂ (fun a b : EReal => a * b) (gate0 gw r) ?_)
    exact joined_apply y r d _ _ _ _ (slab_read y 0 _ r) (slab_read y 1 _ r) (slab_read y 2 _ r) (slab_read y 3 _ r)
  · refine (taken_apply _ _ r d ((gate1 gw r).symm ▸ h1)).trans (congrArg₂ (fun a b : EReal => a * b) (gate1 gw r) ?_)
    exact joined_apply z r d _ _ _ _ (slab_read z 0 _ r) (slab_read z 1 _ r) (slab_read z 2 _ r) (slab_read z 3 _ r)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0, t.val, 0] :=
  (by decide +kernel : ∀ t : Fin grid0.N, win0_1.index t = ![0, 0, t.val, 0])
theorem index2 : ∀ t : Fin cfg0.N, win0_2.index t = ![1, 0, t.val, 0] :=
  (by decide +kernel : ∀ t : Fin grid0.N, win0_2.index t = ![1, 0, t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])

section
variable (m : (ℓ : Loc nD τ sig) → Buf (Elt Ideal) ℓ) (c : Dev nD)

/-- The precondition gives gates that are not negative. -/
theorem gates_of_pre (h : Pre_Kernel6Ideal_gates_not_negative m) : NotNegative (m ((c : Thread nD τ).loc main_arg2)) := fun r =>
  have at_gate (x : EReal) (hx : FloatOps.cmpf (F := Ideal) (φ := .f32) .oge x (FloatOps.ofBits (F := Ideal) .f32 0x00000000#32) = 1#1) :
      0 ≤ x := by
    have hz : FloatOps.ofBits (F := Ideal) .f32 0x00000000#32 = (0 : EReal) := by
      show Ideal.ofBits .f32 0x00000000#32 = 0
      simp [Ideal.ofBits, Ideal.ieee]
    rw [hz] at hx
    by_contra hc
    have h0 : FloatOps.cmpf (F := Ideal) (φ := .f32) .oge x (0 : EReal) = 0#1 := by
      show BitVec.ofBool (decide (0 ≤ x)) = 0#1
      rw [decide_eq_false hc]; rfl
    rw [h0] at hx
    exact absurd hx (by decide)
  have read (g : Fin 2) (g' : Fin 128) (hg : g'.val = g.val) : (0 : EReal) ≤ (show Gates from m ((c : Thread nD τ).loc main_arg2)) (ix2 r g') := by
    refine at_gate _ (Eq.trans ?_ (congrFun (h c) (ix2 r g)))
    refine congrArg (fun x : EReal => FloatOps.cmpf (F := Ideal) (φ := .f32) .oge x (FloatOps.ofBits (F := Ideal) .f32 0x00000000#32))
      (congrArg (m ((c : Thread nD τ).loc main_arg2)) (funext fun a => Fin.ext ?_))
    fin_cases a
    · show r.val = 0 + r.val; omega
    · show g'.val = 0 + g.val; omega
  ⟨read 0 0 rfl, read 1 1 rfl⟩

/-- A grid point's rows in the arrays. -/
def row (t : Fin cfg0.N) (r : Fin 512) : Fin 32768 := ⟨t.val * 512 + r.val, by have : t.val < 64 := t.isLt; omega⟩

/-- The blocks of a grid point, element by element. -/
theorem block0 (t : Fin cfg0.N) (r : Fin 512) (d : Fin 2048) : iblk m c 0 t (ix2 r d) = V m c main_arg0 (ix2 (row t r) d) := by
  unfold iblk
  refine congrArg (V m c main_arg0) (funext fun a => Fin.ext ?_)
  fin_cases a <;> blk_simp [index0] <;> rfl
@[inherit_doc block0] theorem block1 (t : Fin cfg0.N) (s : Fin 4) (r : Fin 512) (k : Fin 512) :
    iblk m c 1 t (ix4 0 s r k) = V m c main_arg1 (ix4 0 s (row t r) k) := by
  unfold iblk
  refine congrArg (V m c main_arg1) (funext fun a => Fin.ext ?_)
  fin_cases a <;> blk_simp [index1] <;> rfl
@[inherit_doc block0] theorem block2 (t : Fin cfg0.N) (s : Fin 4) (r : Fin 512) (k : Fin 512) :
    iblk m c 2 t (ix4 0 s r k) = V m c main_arg1 (ix4 1 s (row t r) k) := by
  unfold iblk
  refine congrArg (V m c main_arg1) (funext fun a => Fin.ext ?_)
  fin_cases a <;> blk_simp [index2] <;> rfl
@[inherit_doc block0] theorem block3 (t : Fin cfg0.N) (r : Fin 512) (l : Fin 128) :
    iblk m c 3 t (ix2 r l) = V m c main_arg2 (ix2 (row t r) l) := by
  unfold iblk
  refine congrArg (V m c main_arg2) (funext fun a => Fin.ext ?_)
  fin_cases a <;> blk_simp [index3] <;> rfl

/-- What a grid point leaves in its block. -/
theorem block_value (hw : NotNegative (m ((c : Thread nD τ).loc main_arg2))) (t : Fin cfg0.N) (r : Fin 512) (d : Fin 2048) :
    out0_4 (iblk m c 0 t) (iblk m c 1 t) (iblk m c 2 t) (iblk m c 3 t) (ix2 r d)
      = result (m ((c : Thread nD τ).loc main_arg0)) (m ((c : Thread nD τ).loc main_arg1)) (m ((c : Thread nD τ).loc main_arg2))
          (ix2 (row t r) d) := by
  refine (block_apply _ _ _ _ r d ((block3 m c t r 0).symm ▸ (hw (row t r)).1) ((block3 m c t r 1).symm ▸ (hw (row t r)).2)).trans ?_
  rw [block0, block3, block3]
  unfold blockRow
  rw [block1, block2]
  rfl

/-- THE RESULT ARRAY after the call. -/
theorem array_eq (hw : NotNegative (m ((c : Thread nD τ).loc main_arg2))) : (dats m 0 c).arrAt 4 cfg0.N
    = result (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have hy : y = ix2 (y 0 : Fin 512) (y 1 : Fin 2048) := by
    funext a; fin_cases a <;> rfl
  have he : ((cfg0.win 4).blk t).view.emb y = ix2 (row t (y 0)) (y 1) := by
    funext a
    refine Fin.ext ?_
    fin_cases a <;> blk_simp [index4] <;> rfl
  rw [he]
  exact (congrArg _ hy).trans (block_value m c hw t (y 0) (y 1))

end

end Cert.Proof.Combine

end
-- ==== Proof.Combine.Ref.lean ====
module

public import proofs.«01_k».proof.Proof.Gen.Reference6Ideal.Run
public import proofs.«01_k».proof.Proof.Combine.Target

/-! The reference of the experts' sum computes the closed form. -/

@[expose] public section

set_option maxRecDepth 16384

noncomputable section

namespace Cert.Proof.Combine.Ref

open Cert.Reference6Ideal Cert.Reference6Ideal.Gen Idealize.ShloMosaic Idealize.ShloMosaic.TcCoe Idealize.SL.Sem

section Terms
variable {F : FTy → Type} [FloatOps F]

/-- The experts' rows out of their slabs. -/
def rows (y : FVec F S2x4x32768x512 .bf16) : FVec F S2x32768x2048 .f32 :=
  extf .f32 (shapeCast S2x32768x2048 (transpose S2x32768x2x4x256 [0, 2, 3, 1, 4]
    (shapeCast S2x4x32768x2x256 y shapeCasts_S2x4x32768x512_S2x4x32768x2x256) transposes_S2x4x32768x2x256_S2x32768x2x4x256_0_2_3_1_4)
    shapeCasts_S2x32768x2x4x256_S2x32768x2048) bitsLt_bf16_f32

/-- The gates by expert and token. -/
def gates (gw : FVec F S32768x128 .f32) : FVec F S2x32768x2048 .f32 :=
  broadcastInDim S2x32768x2048 ![0, 1, 2] bcast_S2x32768x1_S2x32768x2048_0_1_2 (broadcastInDim S2x32768x1 ![0, 1] bcast_S2x32768_S2x32768x1_0_1
    (transpose S2x32768 [1, 0] (extractStridedSlice S32768x2 ![0, 0] gw slices_S32768x128_S32768x2_0_0) transposes_S32768x2_S2x32768_1_0))

/-- The rows under their gates, added to the residual. -/
def summed (h : FVec F S32768x2048 .f32) (g x : FVec F S2x32768x2048 .f32) : FVec F S32768x2048 .f32 :=
  addf h (Host.reduceAdd (mulf g x) (constant S_ .f32 0x00000000#32) reducesTo_S2x32768x2048_S32768x2048_d0 h_S_)

end Terms

theorem rows_apply (y : FVec Ideal S2x4x32768x512 .bf16) (e : Fin 2) (r : Fin 32768) (d : Fin 2048) :
    rows y (ix3 e r d) = rowOf y e r d := by
  unfold rowOf
  pointwise [rows]
  exact congrArg (fun s : Fin 4 => y (ix4 e s r _)) (Fin.ext (show d.val / 256 % 4 = d.val % 1024 / 256 by omega))

theorem gates_apply (gw : FVec Ideal S32768x128 .f32) (e : Fin 2) (r : Fin 32768) (d : Fin 2048) :
    gates gw (ix3 e r d) = gw (ix2 r (⟨e.val, by omega⟩ : Fin 128)) := by
  pointwise [gates]

theorem summed_apply (h : FVec Ideal S32768x2048 .f32) (g x : FVec Ideal S2x32768x2048 .f32) (r : Fin 32768) (d : Fin 2048) :
    summed h g x (ix2 r d) = h (ix2 r d) + ∑ e : Fin 2, g (ix3 e r d) * x (ix3 e r d) := by
  pointwise [summed]

/-- THE REFERENCE'S RESULT is the closed form. -/
theorem out_eq (h : FVec Ideal S32768x2048 .f32) (y : FVec Ideal S2x4x32768x512 .bf16) (gw : FVec Ideal S32768x128 .f32) :
    summed h (gates gw) (rows y) = result h y gw := by
  funext i
  have hi : i = ix2 (i 0 : Fin 32768) (i 1 : Fin 2048) := by funext a; fin_cases a <;> rfl
  refine (congrArg _ hi).trans ((summed_apply _ _ _ (i 0) (i 1)).trans (congrArg (fun x : EReal => h (ix2 (i 0 : Fin 32768) (i 1 : Fin 2048)) + x)
    ((Fin.sum_univ_two _).trans (congrArg₂ (fun a b : EReal => a + b) ?_ ?_))))
  · exact congrArg₂ (fun a b : EReal => a * b) (gates_apply gw 0 (i 0) (i 1)) (rows_apply y 0 (i 0) (i 1))
  · exact congrArg₂ (fun a b : EReal => a * b) (gates_apply gw 1 (i 0) (i 1)) (rows_apply y 1 (i 0) (i 1))

end Cert.Proof.Combine.Ref

end
-- ==== Proof.Counts.Target.lean ====
module

public import Idealize.ShloMosaic.Lib.Pipeline.ValueKit
public import Idealize.ShloMosaic.Lib.Pointwise

/-! The closed form of the experts' counts: of the rows congruent to `k` modulo 8, how many have a positive entry in a column. -/

@[expose] public section

noncomputable section

namespace Cert.Proof.Counts

open Idealize.ShloMosaic

/-- The weights and the counts. -/
abbrev Weights : Type := (⟨2, ![32768, 128]⟩ : Shape).Idx → EReal
abbrev Table : Type := (⟨2, ![8, 128]⟩ : Shape).Idx → EReal

/-- One for a positive number, else zero. -/
def positive (x : EReal) : EReal := if 0 < x then 1 else 0

/-- The row `8 p + k`. -/
def rowAt (p : Fin 4096) (k : Fin 8) : Fin 32768 := ⟨p.val * 8 + k.val, by omega⟩

/-- The counts. -/
def result (w : Weights) : Table := fun i => ∑ p : Fin 4096, positive (w (ix2 (rowAt p (i 0)) (i 1 : Fin 128)))

/-- A bit as a number, read unsigned, and read signed in a longer word. -/
theorem bit_unsigned (x : EReal) : FloatOps.uitofp (F := Ideal) .f32 (BitVec.ofBool (decide (0 < x))) = positive x := by
  unfold positive
  split_ifs with h
  · rw [decide_eq_true h]
    show (((1 : ℕ) : ℝ) : EReal) = 1
    simp
  · rw [decide_eq_false h]
    show (((0 : ℕ) : ℝ) : EReal) = 0
    simp
@[inherit_doc bit_unsigned] theorem bit_signed (x : EReal) :
    FloatOps.sitofp (F := Ideal) .f32 (BitVec.setWidth 32 (BitVec.ofBool (decide (0 < x)))) = positive x := by
  unfold positive
  split_ifs with h
  · rw [decide_eq_true h]
    show (((1 : ℤ) : ℝ) : EReal) = 1
    simp
  · rw [decide_eq_false h]
    show (((0 : ℤ) : ℝ) : EReal) = 0
    simp

/-- A sum in blocks of 256. -/
theorem sum_blocks (f : Fin 4096 → EReal) :
    ∑ n : Fin 16, ∑ q : Fin 256, f ⟨n.val * 256 + q.val, by omega⟩ = ∑ p : Fin 4096, f p := by
  rw [← Fintype.sum_prod_type' (f := fun (n : Fin 16) (q : Fin 256) => f ⟨n.val * 256 + q.val, by omega⟩)]
  refine Fintype.sum_equiv (finProdFinEquiv (m := 16) (n := 256)) _ _ fun x => congrArg f (Fin.ext ?_)
  show x.1.val * 256 + x.2.val = x.2.val + 256 * x.1.val
  omega

end Cert.Proof.Counts

end
-- ==== Proof.Counts.Output.lean ====
module

public import proofs.«01_k».proof.Proof.Gen.Kernel7Ideal.Value
public import proofs.«01_k».proof.Proof.Counts.Target

/-! What the kernel of the experts' counts leaves in its result: the closed form. -/

@[expose] public section

set_option maxRecDepth 16384

noncomputable section

namespace Cert.Proof.Counts

open Cert.Kernel7Ideal Cert.Kernel7Ideal.Gen Idealize.ShloMosaic Idealize.ShloMosaic.TcCoe Idealize.SL.Sem

/-- A block's counts added to those before. -/
theorem step_apply (x : Vec Ideal S2048x128 .f32) (acc : Vec Ideal S8x128 .f32) (k : Fin 8) (l : Fin 128) :
    k0_pay2 x acc (ix2 k l) = acc (ix2 k l) + ∑ q : Fin 256, positive (x (ix2 (⟨q.val * 8 + k.val, by omega⟩ : Fin 2048) l)) := by
  unfold_payloads; pointwise
  exact congrArg (fun s : EReal => acc (ix2 k l) + s) (Finset.sum_congr rfl fun q _ => bit_signed _)

theorem zero_apply (k : Fin 8) (l : Fin 128) : k0_pay1 (F := Ideal) (ix2 k l) = 0 := by
  unfold_payloads; pointwise

theorem index0 : ∀ t : Fin cfg0.N, win0_0.index t = ![t.val, 0] :=
  (by decide +kernel : ∀ t : Fin grid0.N, win0_0.index t = ![t.val, 0])

section
variable (m : (ℓ : Loc nD τ sig) → Buf (Elt Ideal) ℓ) (c : Dev nD)

/-- A grid point's block, element by element. -/
theorem block0 (t : Fin cfg0.N) (r : Fin 2048) (l : Fin 128) :
    iblk m c 0 t (ix2 r l) = V m c main_arg0 (ix2 (⟨t.val * 2048 + r.val, by have : t.val < 16 := t.isLt; omega⟩ : Fin 32768) l) := by
  unfold iblk
  refine congrArg (V m c main_arg0) (funext fun a => Fin.ext ?_)
  fin_cases a <;> blk_simp [index0] <;> rfl

/-- The counts of the block `n`. -/
def blockCount (w : Weights) (n : ℕ) (i : S8x128.Idx) : EReal :=
  if h : n < 16 then ∑ q : Fin 256, positive (w (ix2 (rowAt ⟨n * 256 + q.val, by omega⟩ (i 0)) (i 1 : Fin 128))) else 0

theorem step_block (n : ℕ) (h : n < cfg0.N) (acc : Vec Ideal S8x128 .f32) (i : S8x128.Idx) :
    k0_pay2 (iblk m c 0 ⟨n, h⟩) acc i = acc i + blockCount (m ((c : Thread nD τ).loc main_arg0)) n i := by
  have hn : n < 16 := h
  have hi : i = ix2 (i 0 : Fin 8) (i 1 : Fin 128) := by funext a; fin_cases a <;> rfl
  refine (congrArg _ hi).trans ((step_apply _ _ (i 0) (i 1)).trans (congrArg₂ (fun a b : EReal => a + b) (congrArg acc hi.symm) ?_))
  unfold blockCount
  rw [dif_pos hn]
  refine Finset.sum_congr rfl fun q _ => congrArg positive ((block0 m c ⟨n, h⟩ _ _).trans ?_)
  refine congrArg (fun r : Fin 32768 => m ((c : Thread nD τ).loc main_arg0) (ix2 r (i 1 : Fin 128))) (Fin.ext ?_)
  show n * 2048 + (q.val * 8 + (i 0).val) = (n * 256 + q.val) * 8 + (i 0).val
  omega

/-- THE RESULT ARRAY after the call. -/
theorem array_eq : (dats m 0 c).arrAt 1 cfg0.N = result (m ((c : Thread nD τ).loc main_arg0)) := by
  rw [Value.final1]
  funext i
  have h0 : (i 0).val < 8 := (i 0).isLt
  have h1 : (i 1).val < 128 := (i 1).isLt
  have hr : Value.run1Of i = 0 := by
    show 1 * ((i 0).val / 8 - 0) + 1 * ((i 1).val / 128 - 0) = 0
    omega
  have hl : Value.loc1Of i = i := by
    funext a
    refine Fin.ext ?_
    match a with
    | ⟨0, _⟩ => exact Nat.mod_eq_of_lt h0
    | ⟨1, _⟩ => exact Nat.mod_eq_of_lt h1
  have hN : cfg0.N = 16 := N_0
  unfold Value.G1
  rw [dif_pos (by rw [hr, hN]; omega), hl]
  refine (Pipeline.accAt_add_apply (Value.reset1 m c) (Value.step1 m c) (fun _ => 0) (blockCount (m ((c : Thread nD τ).loc main_arg0)))
    (16 * Value.run1Of i) 15 (fun h j => ?_) (fun n h acc j _ _ => step_block m c n h acc j) 15 le_rfl _ i).trans ?_
  · refine (step_block m c _ h _ j).trans (congrArg (fun a : EReal => a + _) ?_)
    have hj : j = ix2 (j 0 : Fin 8) (j 1 : Fin 128) := by funext a; fin_cases a <;> rfl
    exact (congrArg _ hj).trans (zero_apply (j 0) (j 1))
  · rw [hr, zero_add, Finset.sum_range]
    refine Eq.trans (Finset.sum_congr rfl fun n _ => ?_) (sum_blocks fun p => positive
      ((show Weights from m ((c : Thread nD τ).loc main_arg0)) (ix2 (rowAt p (i 0)) (i 1 : Fin 128))))
    unfold blockCount
    rw [dif_pos (by have := n.isLt; omega)]
    refine Finset.sum_congr rfl fun q _ => congrArg (fun p => positive
      ((show Weights from m ((c : Thread nD τ).loc main_arg0)) (ix2 (rowAt p (i 0)) (i 1 : Fin 128)))) (Fin.ext ?_)
    show (16 * 0 + n.val) * 256 + q.val = n.val * 256 + q.val
    omega

end

end Cert.Proof.Counts

end
-- ==== Proof.Counts.Ref.lean ====
module

public import proofs.«01_k».proof.Proof.Gen.Reference7Ideal.Run
public import proofs.«01_k».proof.Proof.Counts.Target

/-! The reference of the experts' counts computes the closed form. -/

@[expose] public section

set_option maxRecDepth 16384

noncomputable section

namespace Cert.Proof.Counts.Ref

open Cert.Reference7Ideal Cert.Reference7Ideal.Gen Idealize.ShloMosaic Idealize.ShloMosaic.TcCoe Idealize.SL.Sem

/-- The reference's counts. -/
def counted {F : FTy → Type} [FloatOps F] (w : FVec F S32768x128 .f32) : FVec F S8x128 .f32 :=
  Host.reduceAdd (shapeCast S4096x8x128 (uitofp .f32 (cmpf .ogt w (broadcastInDim S32768x128 ![] bcast_S_S32768x128
    (constant S_ .f32 0x00000000#32)))) shapeCasts_S32768x128_S4096x8x128) (constant S_ .f32 0x00000000#32) reducesTo_S4096x8x128_S8x128_d0 h_S_

theorem counted_apply (w : FVec Ideal S32768x128 .f32) (k : Fin 8) (l : Fin 128) : counted w (ix2 k l) = result w (ix2 k l) := by
  unfold result rowAt
  pointwise [counted]
  exact Finset.sum_congr rfl fun p _ => bit_unsigned _

/-- THE REFERENCE'S RESULT is the closed form. -/
theorem out_eq (w : FVec Ideal S32768x128 .f32) : counted w = result w := by
  funext i
  have hi : i = ix2 (i 0 : Fin 8) (i 1 : Fin 128) := by funext a; fin_cases a <;> rfl
  exact (congrArg _ hi).trans (counted_apply w (i 0) (i 1))

end Cert.Proof.Counts.Ref

end
-- ==== Proof.Places.Run.lean ====
module

public import proofs.«01_k».proof.Proof.Gen.Kernel8Ideal.Value
public import proofs.«01_k».proof.Proof.Counts.Target

/-! What one grid point of the kernel that finds the experts' places stores: the same text for its two halves of 1024 tokens. -/

@[expose] public section

set_option maxRecDepth 16384

noncomputable section

namespace Cert.Proof.Places

open Cert.Kernel8Ideal Cert.Kernel8Ideal.Gen Idealize.ShloMosaic Idealize.ShloMosaic.TcCoe Idealize.SL.Sem

section
variable {F : FTy → Type} [FloatOps F]

/-- The two halves of a block of weights, and the first column of the carried counts. -/
def half (x0 : Vec F S2048x128 .f32) (o : ℕ) (inb : ∀ a, ![o, 0] a + S1024x128.size a ≤ S2048x128.size a) : Vec F S1024x128 .f32 :=
  View.ld x0 (Rect.unit (s := S2048x128) ![o, 0] S1024x128.size inb)
@[inherit_doc half] def column (x : Vec F S128x128 .f32) : Vec F S128x1 .f32 :=
  View.ld x (Rect.unit (s := S128x128) ![0, 0] S128x1.size inb_S128x128_S128x1_0_0)

/-- The rows of the first and of the second choice, and the gates. -/
def rowOne (base : Vec F S128x1 .f32) (x : Vec F S1024x128 .f32) (tri : Vec F S1024x1024 .bf16) (tril : Vec F S128x128 .bf16)
    (first : Vec F S128x1 .f32) : IVec S1x1024 32 :=
  k0_pay13 (k0_pay10 base x tri first) (k0_pay11 x tril) (k0_pay12 x tril) (Scalar.ofBits .f32 0x00000000#32)
@[inherit_doc rowOne] def rowTwo (base : Vec F S128x1 .f32) (x : Vec F S1024x128 .f32) (tri : Vec F S1024x1024 .bf16) (tril : Vec F S128x128 .bf16)
    (first : Vec F S128x1 .f32) : IVec S1x1024 32 :=
  k0_pay16 (k0_pay5 x) (k0_pay9 x tril) (k0_pay10 base x tri first)
@[inherit_doc rowOne] def gates (x : Vec F S1024x128 .f32) (tril : Vec F S128x128 .bf16) : FVec F S1024x128 .f32 :=
  k0_pay20 (k0_pay14 (k0_pay4 x) (k0_pay11 x tril)) (k0_pay17 (k0_pay4 x) (k0_pay5 x) (k0_pay9 x tril))
    (k0_pay18 (iota .tc S128x1024 32 [0] iota_S128x1024_d0_w32)) (k0_pay19 (iota .tc S128x1024 32 [0] iota_S128x1024_d0_w32))

/-- The pieces of the two blocks and of the carried counts. -/
def rowPieces (x0 : Vec F S2048x128 .f32) (tri : Vec F S1024x1024 .bf16) (tril : Vec F S128x128 .bf16) (first base : Vec F S128x1 .f32) :
    List (View.Piece (Elt F) S2x2048 .i32) :=
  [⟨Rect.unit ![1, 1024] ![1, 1024] inb_S2x2048_S1x1024_1_1024, rowTwo (k0_pay8 base (half x0 0 inb_S2048x128_S1024x128_0_0) tri) (half x0 1024 inb_S2048x128_S1024x128_1024_0) tri tril first⟩,
   ⟨Rect.unit ![0, 1024] ![1, 1024] inb_S2x2048_S1x1024_0_1024, rowOne (k0_pay8 base (half x0 0 inb_S2048x128_S1024x128_0_0) tri) (half x0 1024 inb_S2048x128_S1024x128_1024_0) tri tril first⟩,
   ⟨Rect.unit ![1, 0] ![1, 1024] inb_S2x2048_S1x1024_1_0, rowTwo base (half x0 0 inb_S2048x128_S1024x128_0_0) tri tril first⟩,
   ⟨Rect.unit ![0, 0] ![1, 1024] inb_S2x2048_S1x1024_0_0, rowOne base (half x0 0 inb_S2048x128_S1024x128_0_0) tri tril first⟩]
@[inherit_doc rowPieces] def gatePieces (x0 : Vec F S2048x128 .f32) (tril : Vec F S128x128 .bf16) : List (View.Piece (Elt F) S2048x128 .f32) :=
  [⟨Rect.unit ![1024, 0] ![1024, 128] inb_S2048x128_S1024x128_1024_0, gates (half x0 1024 inb_S2048x128_S1024x128_1024_0) tril⟩,
   ⟨Rect.unit ![0, 0] ![1024, 128] inb_S2048x128_S1024x128_0_0, gates (half x0 0 inb_S2048x128_S1024x128_0_0) tril⟩]
@[inherit_doc rowPieces] def carry (x0 : Vec F S2048x128 .f32) (tri : Vec F S1024x1024 .bf16) (base : Vec F S128x1 .f32) : FVec F S128x128 .f32 :=
  k0_pay2 (k0_pay8 (k0_pay8 base (half x0 0 inb_S2048x128_S1024x128_0_0) tri) (half x0 1024 inb_S2048x128_S1024x128_1024_0) tri)

/-- What a load of the first column reads after the first point's fill. -/
theorem fresh (v : View sig .tc .vmem S128x128 .f32) :
    v.readCov (Val := Elt F) [⟨Rect.unit (s := S128x128) ![0, 0] ![128, 128] inb_S128x128_S128x128_0_0, k0_pay3⟩]
      (Rect.unit (s := S128x128) ![0, 0] ![128, 1] inb_S128x128_S128x1_0_0).toLoadRect = column k0_pay3 := by
  rw [View.readCov_eq_canon']
  funext j
  exact congrFun (View.canon_cons_unit_lit (S := S128x128) _ _ _ (by decide)) _

variable (c : Dev nD) (i : grid0.Coords) (arg1 : Memref sig .tc .vmem S2048x128 .f32) (harg1 : arg1.IsWhole) (arg2 : Memref sig .tc .vmem S1024x1024 .bf16) (harg2 : arg2.IsWhole) (arg3 : Memref sig .tc .vmem S128x128 .bf16) (harg3 : arg3.IsWhole) (arg4 : Memref sig .tc .vmem S128x1 .f32) (harg4 : arg4.IsWhole) (arg5 : Memref sig .tc .vmem S2x2048 .i32) (harg5 : arg5.IsWhole) (arg6 : Memref sig .tc .vmem S2048x128 .f32) (harg6 : arg6.IsWhole) (arg7 : Memref sig .tc .vmem S128x128 .f32) (harg7 : arg7.IsWhole)
    (x0 : Vec F S2048x128 .f32) (x1 : Vec F S1024x1024 .bf16) (x2 : Vec F S128x128 .bf16) (x3 : Vec F S128x1 .f32) (xs0 : Vec F S128x128 .f32)

set_option maxHeartbeats 4000000 in
theorem rows_B (hc0 : ¬cond0_0 i) :
    out0_B_4 c i arg1 harg1 arg2 harg2 arg3 harg3 arg4 harg4 arg5 harg5 arg6 harg6 arg7 harg7 hc0 x0 x1 x2 x3 xs0 = View.canon (rowPieces x0 x1 x2 x3 (column xs0)) := by
  frame_open
  frame_out
  rfl

theorem gates_B (hc0 : ¬cond0_0 i) :
    out0_B_5 c i arg1 harg1 arg2 harg2 arg3 harg3 arg4 harg4 arg5 harg5 arg6 harg6 arg7 harg7 hc0 x0 x1 x2 x3 xs0 = View.canon (gatePieces x0 x2) := by
  frame_open
  frame_out
  rfl

theorem carry_B (hc0 : ¬cond0_0 i) :
    sout0_B_0 c i arg1 harg1 arg2 harg2 arg3 harg3 arg4 harg4 arg5 harg5 arg6 harg6 arg7 harg7 hc0 x0 x1 x2 x3 xs0 = carry x0 x1 (column xs0) := by
  frame_open
  frame_out
  rfl

set_option maxHeartbeats 4000000 in
theorem rows_A (hc0 : cond0_0 i) :
    out0_A_4 c i arg1 harg1 arg2 harg2 arg3 harg3 arg4 harg4 arg5 harg5 arg6 harg6 arg7 harg7 hc0 x0 x1 x2 x3 = View.canon (rowPieces x0 x1 x2 x3 (column k0_pay3)) := by
  frame_open
  frame_out
  simp only [fresh]
  rfl

theorem gates_A (hc0 : cond0_0 i) :
    out0_A_5 c i arg1 harg1 arg2 harg2 arg3 harg3 arg4 harg4 arg5 harg5 arg6 harg6 arg7 harg7 hc0 x0 x1 x2 x3 = View.canon (gatePieces x0 x2) := by
  frame_open
  frame_out
  rfl

theorem carry_A (hc0 : cond0_0 i) :
    sout0_A_0 c i arg1 harg1 arg2 harg2 arg3 harg3 arg4 harg4 arg5 harg5 arg6 harg6 arg7 harg7 hc0 x0 x1 x2 x3 = carry x0 x1 (column k0_pay3) := by
  frame_open
  frame_out
  simp only [fresh]
  rfl

end

end Cert.Proof.Places

end
-- ==== Proof.Places.Target.lean ====
module

public import proofs.«01_k».proof.Proof.Counts.Target

/-! The closed form of the tokens' places: the row and the gate of each of a token's two experts, the expert's first row plus the
    number of tokens up to this one that chose it, less one. -/

@[expose] public section

noncomputable section

namespace Cert.Proof.Places

open Idealize.ShloMosaic
open Cert.Proof.Counts (Weights positive)

/-- The experts' first rows, and the two results. -/
abbrev Firsts : Type := (⟨2, ![128, 1]⟩ : Shape).Idx → EReal
@[inherit_doc Firsts] abbrev Rows : Type := (⟨2, ![2, 32768]⟩ : Shape).Idx → BitVec 32

/-- One if token `n` chose expert `e`, else zero (also past the last token). -/
def chose (w : Weights) (e : Fin 128) (n : ℕ) : EReal := if h : n < 32768 then positive (w (ix2 (⟨n, h⟩ : Fin 32768) e)) else 0
/-- How many of the first `n` tokens chose expert `e`. -/
def count (w : Weights) (e : Fin 128) (n : ℕ) : EReal := ∑ i ∈ Finset.range n, chose w e i

/-- How many of a token's experts come up to expert `e`. -/
def rank (g : Fin 128 → EReal) (e : Fin 128) : EReal := ∑ e' : Fin 128, if e'.val ≤ e.val then positive (g e') else 0
/-- Is expert `e` the token's choice of rank `k`. -/
def pick (g : Fin 128 → EReal) (k : EReal) (e : Fin 128) : BitVec 1 :=
  IntOp.andi (BitVec.ofBool (decide (0 < g e))) (BitVec.ofBool (decide (rank g e = k)))
/-- What `f` is at the choice of rank `k`, and how many such choices there are. -/
def at_ (g f : Fin 128 → EReal) (k : EReal) : EReal := ∑ e : Fin 128, Scalar.select (pick g k e) (f e) 0
@[inherit_doc at_] def found (g : Fin 128 → EReal) (k : EReal) : EReal := ∑ e : Fin 128, Scalar.select (pick g k e) 1 0
/-- The row of the choice of rank `k`, or the spare row. -/
def row (g p : Fin 128 → EReal) (k : EReal) : BitVec 32 :=
  FloatOps.fptosi (F := Ideal) (φ := .f32) 32 (if 0 < found g k then at_ g p k else Ideal.ofBits .f32 0x47900000#32)

/-- The places. -/
def place (w : Weights) (first : Firsts) (t : Fin 32768) (e : Fin 128) : EReal := first (ix2 e (0 : Fin 1)) + count w e (t.val + 1) - 1
/-- The weights of one token. -/
def token (w : Weights) (t : Fin 32768) (e : Fin 128) : EReal := w (ix2 t e)
/-- The number of a choice. -/
def two : EReal := Ideal.ofBits .f32 0x40000000#32
@[inherit_doc two] def nth (k : ℕ) : EReal := if k = 0 then 1 else two

/-- The rows and the gates. -/
def rowsAt (w : Weights) (first : Firsts) (k : Fin 2) (t : Fin 32768) : BitVec 32 := row (token w t) (place w first t) (nth k.val)
@[inherit_doc rowsAt] def rows (w : Weights) (first : Firsts) : Rows := fun i => rowsAt w first (i 0 : Fin 2) (i 1 : Fin 32768)
@[inherit_doc rowsAt] def gatesAt (w : Weights) (t : Fin 32768) (l : Fin 128) : EReal :=
  if l.val < 2 then at_ (token w t) (token w t) (nth l.val) else 0
@[inherit_doc rowsAt] def gatesOf (w : Weights) : Weights := fun i => gatesAt w (i 0 : Fin 32768) (i 1 : Fin 128)

/-- A bit as a number. -/
theorem bit_number (b : BitVec 1) : FloatOps.uitofp (F := Ideal) .f32 b = Scalar.select b 1 0 := by
  have h : b = 0#1 ∨ b = 1#1 := by revert b; decide
  rcases h with rfl | rfl
  · show (((0 : ℕ) : ℝ) : EReal) = 0
    simp
  · show (((1 : ℕ) : ℝ) : EReal) = 1
    simp

/-- The comparison of two small numbers, as a number. -/
theorem toInt_small {a : ℕ} (h : a < 32768) : (BitVec.ofNat 32 a).toInt = (a : ℤ) := by
  rw [BitVec.toInt_ofNat']
  exact Int.bmod_eq_of_le (by omega) (by omega)
theorem sle_number {a b : ℕ} (ha : a < 32768) (hb : b < 32768) :
    FloatOps.uitofp (F := Ideal) .f32 (IntOp.cmpi .sle (BitVec.ofNat 32 a) (BitVec.ofNat 32 b)) = if a ≤ b then (1 : EReal) else 0 := by
  rw [bit_number]
  have : IntOp.cmpi .sle (BitVec.ofNat 32 a) (BitVec.ofNat 32 b) = BitVec.ofBool (decide (a ≤ b)) := by
    refine congrArg BitVec.ofBool ?_
    show BitVec.sle _ _ = _
    rw [BitVec.sle_eq_decide, toInt_small ha, toInt_small hb]
    simp
  rw [this]
  by_cases h : a ≤ b <;> simp [h, Scalar.select]
theorem sge_number {a b : ℕ} (ha : a < 32768) (hb : b < 32768) :
    FloatOps.uitofp (F := Ideal) .f32 (IntOp.cmpi .sge (BitVec.ofNat 32 a) (BitVec.ofNat 32 b)) = if b ≤ a then (1 : EReal) else 0 :=
  sle_number hb ha

/-- A product with such a comparison. -/
theorem mul_test (p : Prop) [Decidable p] (x : EReal) : x * (if p then 1 else 0) = if p then x else 0 := by split_ifs <;> simp
theorem test_mul (p : Prop) [Decidable p] (x : EReal) : (if p then 1 else 0) * x = if p then x else 0 := by split_ifs <;> simp

/-- A sum up to `j`. -/
theorem sum_upto (N : ℕ) (g : ℕ → EReal) (j : ℕ) (h : j < N) :
    (∑ r : Fin N, if r.val ≤ j then g r.val else 0) = ∑ i ∈ Finset.range (j + 1), g i := by
  rw [Fin.sum_univ_eq_sum_range (fun i => if i ≤ j then g i else 0) N, ← Finset.sum_filter]
  refine Finset.sum_congr (Finset.ext fun i => ?_) fun _ _ => rfl
  simp only [Finset.mem_filter, Finset.mem_range]
  omega

/-- The count after `n` tokens and `j + 1` more. -/
theorem count_add (w : Weights) (e : Fin 128) (n j : ℕ) (h : j < 1024) :
    (∑ r : Fin 1024, if r.val ≤ j then chose w e (n + r.val) else 0) + count w e n = count w e (n + j + 1) := by
  rw [sum_upto 1024 (fun i => chose w e (n + i)) j h, add_comm]
  exact (Finset.sum_range_add (fun i => chose w e i) n (j + 1)).symm
theorem count_all (w : Weights) (e : Fin 128) (t : Fin 32768) :
    (∑ r : Fin 32768, if r.val ≤ t.val then positive (w (ix2 r e)) else 0) = count w e (t.val + 1) := by
  rw [count, ← sum_upto 32768 (chose w e) t.val t.isLt]
  refine Finset.sum_congr rfl fun r _ => ?_
  rw [chose, dif_pos r.isLt]

end Cert.Proof.Places

end
-- ==== Proof.Places.Block.lean ====
module

public import proofs.«01_k».proof.Proof.Places.Run
public import proofs.«01_k».proof.Proof.Places.Target

/-! The values of the places' kernel over one half block of 1024 tokens, element by element. -/

@[expose] public section

set_option maxRecDepth 16384

noncomputable section

namespace Cert.Proof.Places

open Cert.Kernel8Ideal Cert.Kernel8Ideal.Gen Idealize.ShloMosaic Idealize.ShloMosaic.TcCoe Idealize.SL.Sem
open Cert.Proof.Counts (Weights positive)

/-- The half block of the 1024 tokens from `n` on, with the counts before it, the first rows and the two triangles. -/
structure Holds (x : Vec Ideal S1024x128 .f32) (base : Vec Ideal S128x1 .f32) (tri : Vec Ideal S1024x1024 .bf16) (tril : Vec Ideal S128x128 .bf16)
    (first : Vec Ideal S128x1 .f32) (w : Weights) (f : Firsts) (n : ℕ) (hn : n + 1024 ≤ 32768) : Prop where
  hx : ∀ (j : Fin 1024) (e : Fin 128), x (ix2 j e) = w (ix2 (⟨n + j.val, by omega⟩ : Fin 32768) e)
  hb : ∀ e : Fin 128, base (ix2 e 0) = count w e n
  ht : ∀ r j : Fin 1024, tri (ix2 r j) = if r.val ≤ j.val then (1 : EReal) else 0
  hl : ∀ e e' : Fin 128, tril (ix2 e e') = if e'.val ≤ e.val then (1 : EReal) else 0
  hf : ∀ e : Fin 128, first (ix2 e 0) = f (ix2 e 0)

section
variable {x : Vec Ideal S1024x128 .f32} {base first : Vec Ideal S128x1 .f32} {tri : Vec Ideal S1024x1024 .bf16} {tril : Vec Ideal S128x128 .bf16}

/-- The choice by a lane's number. -/
theorem lane_test {l : ℕ} (k : ℕ) (hk : k < 128) (hl : l < 128) (a b : EReal) :
    Scalar.select (IntOp.cmpi .eq (BitVec.ofNat 32 l) (BitVec.ofNat 32 k)) a b = if l = k then a else b := by
  by_cases h : l = k
  · subst h
    simp [IntOp.cmpi, Scalar.select]
  · have hne : BitVec.ofNat 32 l ≠ BitVec.ofNat 32 k := by
      intro e
      have := congrArg BitVec.toNat e
      simp only [BitVec.toNat_ofNat] at this
      omega
    rw [if_neg h]
    show (if BitVec.ofBool (BitVec.ofNat 32 l == BitVec.ofNat 32 k) = 1#1 then a else b) = b
    rw [beq_eq_false_iff_ne.mpr hne]
    rfl

theorem selected_apply (e : Fin 128) (j : Fin 1024) : k0_pay6 x (ix2 e j) = positive (x (ix2 j e)) := by
  pointwise [k0_pay6, k0_pay5, k0_pay4]
  exact Counts.bit_signed _
theorem count_apply (e : Fin 128) (j : Fin 1024) :
    k0_pay7 base x tri (ix2 e j) = (∑ r : Fin 1024, k0_pay6 x (ix2 e r) * tri (ix2 r j)) + base (ix2 e 0) := by
  pointwise [k0_pay7]
theorem rank_apply (e : Fin 128) (j : Fin 1024) :
    k0_pay9 x tril (ix2 e j) = ∑ e' : Fin 128, tril (ix2 e e') * k0_pay6 x (ix2 e' j) := by
  pointwise [k0_pay9]
theorem place_apply (e : Fin 128) (j : Fin 1024) :
    k0_pay10 base x tri first (ix2 e j) = first (ix2 e 0) + k0_pay7 base x tri (ix2 e j) - 1 := by
  pointwise [k0_pay10]
theorem next_apply (e : Fin 128) : k0_pay8 base x tri (ix2 e 0) = k0_pay7 base x tri (ix2 e (1023 : Fin 1024)) := by
  pointwise [k0_pay8]
theorem first_apply (e : Fin 128) (j : Fin 1024) : k0_pay11 x tril (ix2 e j)
    = IntOp.andi (BitVec.ofBool (decide (0 < x (ix2 j e)))) (BitVec.ofBool (decide (k0_pay9 x tril (ix2 e j) = 1))) := by
  pointwise [k0_pay11, k0_pay5, k0_pay4]
theorem second_apply (e : Fin 128) (j : Fin 1024) : k0_pay15 (k0_pay5 x) (k0_pay9 x tril) (ix2 e j)
    = IntOp.andi (BitVec.ofBool (decide (0 < x (ix2 j e)))) (BitVec.ofBool (decide (k0_pay9 x tril (ix2 e j) = two))) := by
  pointwise [k0_pay15, k0_pay5, k0_pay4]
  rfl
theorem rowOne_apply (j : Fin 1024) : rowOne base x tri tril first (ix2 0 j)
    = FloatOps.fptosi (F := Ideal) (φ := .f32) 32 (if 0 < ∑ e : Fin 128, Scalar.select (k0_pay11 x tril (ix2 e j)) (1 : EReal) 0
        then ∑ e : Fin 128, Scalar.select (k0_pay11 x tril (ix2 e j)) (k0_pay10 base x tri first (ix2 e j)) 0
        else Ideal.ofBits .f32 0x47900000#32) := by
  pointwise [rowOne, k0_pay13, k0_pay12]
theorem rowTwo_apply (j : Fin 1024) : rowTwo base x tri tril first (ix2 0 j)
    = FloatOps.fptosi (F := Ideal) (φ := .f32) 32 (if 0 < ∑ e : Fin 128, Scalar.select (k0_pay15 (k0_pay5 x) (k0_pay9 x tril) (ix2 e j)) (1 : EReal) 0
        then ∑ e : Fin 128, Scalar.select (k0_pay15 (k0_pay5 x) (k0_pay9 x tril) (ix2 e j)) (k0_pay10 base x tri first (ix2 e j)) 0
        else Ideal.ofBits .f32 0x47900000#32) := by
  pointwise [rowTwo, k0_pay16]
theorem gates_apply (j : Fin 1024) (l : Fin 128) : gates x tril (ix2 j l)
    = if l.val = 0 then ∑ e : Fin 128, Scalar.select (k0_pay11 x tril (ix2 e j)) (x (ix2 j e)) 0
      else if l.val = 1 then ∑ e : Fin 128, Scalar.select (k0_pay15 (k0_pay5 x) (k0_pay9 x tril) (ix2 e j)) (x (ix2 j e)) 0 else 0 := by
  pointwise [gates, k0_pay20, k0_pay18, k0_pay19, k0_pay14, k0_pay17, k0_pay4]
  rw [lane_test 0 (by omega) l.isLt, lane_test 1 (by omega) l.isLt]
theorem carry_apply (b : FVec Ideal S128x1 .f32) (e l : Fin 128) : k0_pay2 b (ix2 e l) = b (ix2 e 0) := by
  pointwise [k0_pay2]
theorem fill_apply (e l : Fin 128) : k0_pay3 (F := Ideal) (ix2 e l) = 0 := by
  pointwise [k0_pay3]

variable {w : Weights} {f : Firsts} {n : ℕ} {hn : n + 1024 ≤ 32768} (H : Holds x base tri tril first w f n hn)
include H

/-- The token of a column. -/
theorem token_eq (j : Fin 1024) (e : Fin 128) : x (ix2 j e) = token w ⟨n + j.val, by omega⟩ e := H.hx j e

theorem count_eq (e : Fin 128) (j : Fin 1024) : k0_pay7 base x tri (ix2 e j) = count w e (n + j.val + 1) := by
  rw [count_apply, ← count_add w e n j.val j.isLt, H.hb]
  refine congrArg (fun s : EReal => s + count w e n) (Finset.sum_congr rfl fun r _ => ?_)
  rw [selected_apply, H.ht, mul_test, H.hx, chose, dif_pos (by have := r.isLt; omega)]

theorem next_eq (e : Fin 128) : k0_pay8 base x tri (ix2 e 0) = count w e (n + 1024) := by
  rw [next_apply, count_eq H]
  rfl

theorem rank_eq (e : Fin 128) (j : Fin 1024) : k0_pay9 x tril (ix2 e j) = rank (token w ⟨n + j.val, by omega⟩) e := by
  rw [rank_apply, rank]
  refine Finset.sum_congr rfl fun e' _ => ?_
  rw [selected_apply, H.hl, test_mul, token_eq H]

theorem place_eq (e : Fin 128) (j : Fin 1024) : k0_pay10 base x tri first (ix2 e j) = place w f ⟨n + j.val, by omega⟩ e := by
  rw [place_apply, count_eq H, H.hf]
  rfl

theorem first_eq (e : Fin 128) (j : Fin 1024) : k0_pay11 x tril (ix2 e j) = pick (token w ⟨n + j.val, by omega⟩) 1 e := by
  rw [first_apply, rank_eq H, token_eq H]
  rfl
theorem second_eq (e : Fin 128) (j : Fin 1024) :
    k0_pay15 (k0_pay5 x) (k0_pay9 x tril) (ix2 e j) = pick (token w ⟨n + j.val, by omega⟩) two e := by
  rw [second_apply, rank_eq H, token_eq H]
  rfl

theorem rowOne_eq (j : Fin 1024) : rowOne base x tri tril first (ix2 0 j) = rowsAt w f 0 ⟨n + j.val, by omega⟩ := by
  rw [rowOne_apply]
  simp only [first_eq H, place_eq H]
  rfl
theorem rowTwo_eq (j : Fin 1024) : rowTwo base x tri tril first (ix2 0 j) = rowsAt w f 1 ⟨n + j.val, by omega⟩ := by
  rw [rowTwo_apply]
  simp only [second_eq H, place_eq H]
  rfl
theorem gates_eq (j : Fin 1024) (l : Fin 128) : gates x tril (ix2 j l) = gatesAt w ⟨n + j.val, by omega⟩ l := by
  rw [gates_apply]
  simp only [first_eq H, second_eq H, token_eq H]
  unfold gatesAt nth
  by_cases h0 : l.val = 0
  · rw [if_pos h0, if_pos (by omega), if_pos h0]
    rfl
  · rw [if_neg h0]
    by_cases h1 : l.val = 1
    · rw [if_pos h1, if_pos (by omega), if_neg h0]
      rfl
    · rw [if_neg h1, if_neg (by omega)]

end

end Cert.Proof.Places

end
-- ==== Proof.Places.Output.lean ====
module

public import proofs.«01_k».proof.Proof.Places.Block

/-! The two result arrays of the kernel that finds the experts' places are the closed form. -/

@[expose] public section

set_option maxRecDepth 16384

noncomputable section

namespace Cert.Proof.Places

open Cert.Kernel8Ideal Cert.Kernel8Ideal.Gen Cert.Kernel8Ideal.Value Idealize.ShloMosaic Idealize.ShloMosaic.TcCoe Idealize.SL.Sem
open Cert.Proof.Counts (Weights positive)

/-- A store of one row of 1024 from column `o` on, and of 1024 rows from row `o` on, at an element it holds. -/
theorem row_stored {α : Type} (val : Fin 2 → Fin 2048 → α) (k : Fin 2) (o : ℕ) (ho : o + 1024 ≤ 2048)
    (p : (⟨2, ![1, 1024]⟩ : Shape).Idx → α) (inb) (hp : ∀ j : Fin 1024, p (ix2 0 j) = val k ⟨o + j.val, by omega⟩) (k' : Fin 2) (q : Fin 2048)
    (x : (Rect.unit (s := ⟨2, ![2, 2048]⟩) ![k.val, o] ![1, 1024] inb).shape.Idx)
    (hx : (Rect.unit (s := ⟨2, ![2, 2048]⟩) ![k.val, o] ![1, 1024] inb).emb x = ix2 k' q) : p x = val k' q := by
  have h0 := congrArg (fun f : (⟨2, ![2, 2048]⟩ : Shape).Idx => (f 0).val) hx
  have h1 := congrArg (fun f : (⟨2, ![2, 2048]⟩ : Shape).Idx => (f 1).val) hx
  simp only [Rect.emb_apply] at h0 h1
  change k.val + 1 * (x 0).val = k'.val at h0
  change o + 1 * (x 1).val = q.val at h1
  have hx0 : (x 0).val < 1 := (x 0).isLt
  have hx1 : (x 1).val < 1024 := (x 1).isLt
  obtain rfl : k = k' := Fin.ext (by omega)
  have : x = ix2 0 (⟨(x 1).val, hx1⟩ : Fin 1024) := by
    funext a
    fin_cases a
    · exact Subsingleton.elim (α := Fin 1) _ _
    · rfl
  rw [this]
  refine (hp _).trans (congrArg (val k) (Fin.ext ?_))
  show o + (x 1).val = q.val
  omega
@[inherit_doc row_stored] theorem rows_stored (val : Fin 2048 → Fin 128 → EReal) (o : ℕ) (ho : o + 1024 ≤ 2048)
    (p : (⟨2, ![1024, 128]⟩ : Shape).Idx → EReal) (inb) (hp : ∀ (j : Fin 1024) (l : Fin 128), p (ix2 j l) = val ⟨o + j.val, by omega⟩ l)
    (q : Fin 2048) (l : Fin 128)
    (x : (Rect.unit (s := ⟨2, ![2048, 128]⟩) ![o, 0] ![1024, 128] inb).shape.Idx)
    (hx : (Rect.unit (s := ⟨2, ![2048, 128]⟩) ![o, 0] ![1024, 128] inb).emb x = ix2 q l) : p x = val q l := by
  have h0 := congrArg (fun f : (⟨2, ![2048, 128]⟩ : Shape).Idx => (f 0).val) hx
  have h1 := congrArg (fun f : (⟨2, ![2048, 128]⟩ : Shape).Idx => (f 1).val) hx
  simp only [Rect.emb_apply] at h0 h1
  change o + 1 * (x 0).val = q.val at h0
  change 0 + 1 * (x 1).val = l.val at h1
  have hx0 : (x 0).val < 1024 := (x 0).isLt
  have hx1 : (x 1).val < 128 := (x 1).isLt
  have : x = ix2 (⟨(x 0).val, hx0⟩ : Fin 1024) (⟨(x 1).val, hx1⟩ : Fin 128) := by
    funext a
    fin_cases a <;> rfl
  rw [this]
  refine (hp _ _).trans (congrArg₂ val (Fin.ext ?_) (Fin.ext ?_))
  · show o + (x 0).val = q.val
    omega
  · show (x 1).val = l.val
    omega

theorem half_apply (x0 : Vec Ideal S2048x128 .f32) (o : ℕ) (ho : o + 1024 ≤ 2048) (inb) (j : Fin 1024) (e : Fin 128) :
    half x0 o inb (ix2 j e) = x0 (ix2 (⟨o + j.val, by omega⟩ : Fin 2048) e) := by
  unfold half View.ld
  refine congrArg x0 (funext fun a => Fin.ext ?_)
  fin_cases a
  · show o + 1 * j.val = o + j.val
    omega
  · show 0 + 1 * e.val = e.val
    omega
theorem column_apply (x : Vec Ideal S128x128 .f32) (e : Fin 128) : column x (ix2 e 0) = x (ix2 e (0 : Fin 128)) := by
  unfold column View.ld
  refine congrArg x (funext fun a => Fin.ext ?_)
  fin_cases a
  · show 0 + 1 * e.val = e.val
    omega
  · rfl

section
variable {x0 : Vec Ideal S2048x128 .f32} {base first : Vec Ideal S128x1 .f32} {tri : Vec Ideal S1024x1024 .bf16} {tril : Vec Ideal S128x128 .bf16}
  {w : Weights} {f : Firsts} {n : ℕ} (hn : n + 2048 ≤ 32768)

variable (hx : ∀ (j : Fin 2048) (e : Fin 128), x0 (ix2 j e) = w (ix2 (⟨n + j.val, by omega⟩ : Fin 32768) e))
  (hb : ∀ e : Fin 128, base (ix2 e 0) = count w e n)
  (ht : ∀ r j : Fin 1024, tri (ix2 r j) = if r.val ≤ j.val then (1 : EReal) else 0)
  (hl : ∀ e e' : Fin 128, tril (ix2 e e') = if e'.val ≤ e.val then (1 : EReal) else 0)
  (hf : ∀ e : Fin 128, first (ix2 e 0) = f (ix2 e 0))
include hx hb ht hl hf

theorem lower : Holds (half x0 0 inb_S2048x128_S1024x128_0_0) base tri tril first w f n (by omega) where
  hx j e := by
    rw [half_apply x0 0 (by omega), hx]
    exact congrArg (fun r : Fin 32768 => w (ix2 r e)) (Fin.ext (show n + (0 + j.val) = n + j.val by omega))
  hb := hb
  ht := ht
  hl := hl
  hf := hf
theorem upper : Holds (half x0 1024 inb_S2048x128_S1024x128_1024_0) (k0_pay8 base (half x0 0 inb_S2048x128_S1024x128_0_0) tri) tri tril first
    w f (n + 1024) (by omega) where
  hx j e := by
    rw [half_apply x0 1024 (by omega), hx]
    exact congrArg (fun r : Fin 32768 => w (ix2 r e)) (Fin.ext (show n + (1024 + j.val) = n + 1024 + j.val by omega))
  hb e := next_eq (lower hn hx hb ht hl hf) e
  ht := ht
  hl := hl
  hf := hf

/-- The two blocks and the carried counts, element by element. -/
theorem rows_at (k : Fin 2) (q : Fin 2048) :
    View.canon (rowPieces x0 tri tril first base) (ix2 k q) = rowsAt w f k ⟨n + q.val, by omega⟩ := by
  have A := lower hn hx hb ht hl hf
  have B := upper hn hx hb ht hl hf
  refine View.canon_eq_of_allAt _ _ _ (View.cover_of_tiledBy _ ![1, 1024] (by sl_kernel_rfl) _) ?_
  refine View.allAt_cons _ _ _ (fun x h => row_stored (fun k q => rowsAt w f k ⟨n + q.val, by omega⟩) 1 1024 (by omega) _ _
    (fun j => (rowTwo_eq B j).trans (congrArg (rowsAt w f 1) (Fin.ext (Nat.add_assoc _ _ _)))) k q x h) ?_
  refine View.allAt_cons _ _ _ (fun x h => row_stored (fun k q => rowsAt w f k ⟨n + q.val, by omega⟩) 0 1024 (by omega) _ _
    (fun j => (rowOne_eq B j).trans (congrArg (rowsAt w f 0) (Fin.ext (Nat.add_assoc _ _ _)))) k q x h) ?_
  refine View.allAt_cons _ _ _ (fun x h => row_stored (fun k q => rowsAt w f k ⟨n + q.val, by omega⟩) 1 0 (by omega) _ _
    (fun j => (rowTwo_eq A j).trans (congrArg (rowsAt w f 1) (Fin.ext (congrArg (n + ·) (Nat.zero_add _).symm)))) k q x h) ?_
  refine View.allAt_cons _ _ _ (fun x h => row_stored (fun k q => rowsAt w f k ⟨n + q.val, by omega⟩) 0 0 (by omega) _ _
    (fun j => (rowOne_eq A j).trans (congrArg (rowsAt w f 0) (Fin.ext (congrArg (n + ·) (Nat.zero_add _).symm)))) k q x h) ?_
  exact View.allAt_nil _ _
theorem gates_at (q : Fin 2048) (l : Fin 128) :
    View.canon (gatePieces x0 tril) (ix2 q l) = gatesAt w ⟨n + q.val, by omega⟩ l := by
  have A := lower hn hx hb ht hl hf
  have B := upper hn hx hb ht hl hf
  refine View.canon_eq_of_allAt _ _ _ (View.cover_of_tiledBy _ ![1024, 128] (by sl_kernel_rfl) _) ?_
  refine View.allAt_cons _ _ _ (fun x h => rows_stored (fun q l => gatesAt w ⟨n + q.val, by omega⟩ l) 1024 (by omega) _ _
    (fun j l => (gates_eq B j l).trans (congrArg (fun t => gatesAt w t l) (Fin.ext (Nat.add_assoc _ _ _)))) q l x h) ?_
  refine View.allAt_cons _ _ _ (fun x h => rows_stored (fun q l => gatesAt w ⟨n + q.val, by omega⟩ l) 0 (by omega) _ _
    (fun j l => (gates_eq A j l).trans (congrArg (fun t => gatesAt w t l) (Fin.ext (congrArg (n + ·) (Nat.zero_add _).symm)))) q l x h) ?_
  exact View.allAt_nil _ _
theorem carry_at (e l : Fin 128) : carry x0 tri base (ix2 e l) = count w e (n + 2048) := by
  unfold carry
  rw [carry_apply, next_eq (upper hn hx hb ht hl hf)]

end

/-- What a point leaves: its two blocks and the counts carried to the next point. -/
def Leaves (w : Weights) (f : Firsts) (n : ℕ) (hn : n < 16) (s : Vec Ideal S2x2048 .i32 × Vec Ideal S2048x128 .f32 × Vec Ideal S128x128 .f32) : Prop :=
  (∀ (k : Fin 2) (q : Fin 2048), s.1 (ix2 k q) = rowsAt w f k ⟨n * 2048 + q.val, by omega⟩)
  ∧ (∀ (q : Fin 2048) (l : Fin 128), s.2.1 (ix2 q l) = gatesAt w ⟨n * 2048 + q.val, by omega⟩ l)
  ∧ ∀ e l : Fin 128, s.2.2 (ix2 e l) = count w e ((n + 1) * 2048)

/-- One point, from the counts before it. -/
theorem leaves_of (w : Weights) (f : Firsts) (n : ℕ) (hn : n < 16) (x0 : Vec Ideal S2048x128 .f32) (base first : Vec Ideal S128x1 .f32)
    (tri : Vec Ideal S1024x1024 .bf16) (tril : Vec Ideal S128x128 .bf16)
    (hx : ∀ (j : Fin 2048) (e : Fin 128), x0 (ix2 j e) = w (ix2 (⟨n * 2048 + j.val, by omega⟩ : Fin 32768) e))
    (hb : ∀ e : Fin 128, base (ix2 e 0) = count w e (n * 2048))
    (ht : ∀ r j : Fin 1024, tri (ix2 r j) = if r.val ≤ j.val then (1 : EReal) else 0)
    (hl : ∀ e e' : Fin 128, tril (ix2 e e') = if e'.val ≤ e.val then (1 : EReal) else 0)
    (hf : ∀ e : Fin 128, first (ix2 e 0) = f (ix2 e 0)) :
    Leaves w f n hn (View.canon (rowPieces x0 tri tril first base), View.canon (gatePieces x0 tril), carry x0 tri base) := by
  have h : n * 2048 + 2048 ≤ 32768 := by omega
  unfold Leaves
  dsimp only
  refine ⟨fun k q => rows_at h hx hb ht hl hf k q, fun q l => gates_at h hx hb ht hl hf q l, fun e l => ?_⟩
  rw [Nat.succ_mul]
  exact carry_at h hx hb ht hl hf e l

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, t.val] :=
  (by decide +kernel : ∀ t : Fin grid0.N, win0_4.index t = ![0, t.val])
theorem index5 : ∀ t : Fin cfg0.N, win0_5.index t = ![t.val, 0] :=
  (by decide +kernel : ∀ t : Fin grid0.N, win0_5.index t = ![t.val, 0])

section
variable (m : (ℓ : Loc nD τ sig) → Buf (Elt Ideal) ℓ) (c : Dev nD)

/-- The weights and the first rows of the launch. -/
abbrev weights : Weights := m ((c : Thread nD τ).loc main_arg0)
@[inherit_doc weights] abbrev firsts : Firsts := m ((c : Thread nD τ).loc main_arg1)

/-- The two triangles. -/
def upTo : FVec Ideal S1024x1024 .bf16 := uitofp .bf16 (cmpi .sle
  (broadcastInDim S1024x1024 ![0, 1] bcast_S1024x1_S1024x1024_0_1 (broadcastInDim S1024x1 ![0] bcast_S1024_S1024x1_0 (iotaInDim S1024 32 0)))
  (broadcastInDim S1024x1024 ![0, 1] bcast_S1x1024_S1024x1024_0_1 (broadcastInDim S1x1024 ![1] bcast_S1024_S1x1024_1 (iotaInDim S1024 32 0))))
@[inherit_doc upTo] def downTo : FVec Ideal S128x128 .bf16 := uitofp .bf16 (cmpi .sge
  (broadcastInDim S128x128 ![0, 1] bcast_S128x1_S128x128_0_1 (broadcastInDim S128x1 ![0] bcast_S128_S128x1_0 (iotaInDim S128 32 0)))
  (broadcastInDim S128x128 ![0, 1] bcast_S1x128_S128x128_0_1 (broadcastInDim S1x128 ![1] bcast_S128_S1x128_1 (iotaInDim S128 32 0))))
theorem V_upTo : V m c main_v6 = upTo := by
  unfold V
  simp only [hostOps0]
  after_results
  rfl
theorem V_downTo : V m c main_v13 = downTo := by
  unfold V
  simp only [hostOps0]
  after_results
  rfl
theorem upTo_apply (r j : Fin 1024) : upTo (ix2 r j) = if r.val ≤ j.val then (1 : EReal) else 0 := by
  pointwise [upTo]
  exact sle_number (by omega) (by omega)
theorem downTo_apply (e e' : Fin 128) : downTo (ix2 e e') = if e'.val ≤ e.val then (1 : EReal) else 0 := by
  pointwise [downTo]
  exact sge_number (by omega) (by omega)

/-- A grid point's blocks, element by element. -/
theorem block0 (t : Fin cfg0.N) (r : Fin 2048) (l : Fin 128) :
    iblk m c 0 t (ix2 r l) = weights m c (ix2 (⟨t.val * 2048 + r.val, by have : t.val < 16 := t.isLt; omega⟩ : Fin 32768) l) := by
  rw [show weights m c = V m c main_arg0 from (V_main_arg0 m c).symm]
  unfold iblk
  refine congrArg (V m c main_arg0) (funext fun a => Fin.ext ?_)
  fin_cases a <;> blk_simp [index0] <;> rfl
theorem block1 (t : Fin cfg0.N) (r j : Fin 1024) : iblk m c 1 t (ix2 r j) = upTo (ix2 r j) := by
  rw [← V_upTo m c]
  unfold iblk
  refine congrArg (V m c main_v6) (funext fun a => Fin.ext ?_)
  fin_cases a <;> blk_simp [index1] <;> rfl
theorem block2 (t : Fin cfg0.N) (e e' : Fin 128) : iblk m c 2 t (ix2 e e') = downTo (ix2 e e') := by
  rw [← V_downTo m c]
  unfold iblk
  refine congrArg (V m c main_v13) (funext fun a => Fin.ext ?_)
  fin_cases a <;> blk_simp [index2] <;> rfl
theorem block3 (t : Fin cfg0.N) (e : Fin 128) : iblk m c 3 t (ix2 e 0) = firsts m c (ix2 e 0) := by
  rw [show firsts m c = V m c main_arg1 from (V_main_arg1 m c).symm]
  unfold iblk
  refine congrArg (V m c main_arg1) (funext fun a => Fin.ext ?_)
  fin_cases a <;> blk_simp [index3] <;> rfl

theorem tri_eq (t : Fin cfg0.N) (r j : Fin 1024) : iblk m c 1 t (ix2 r j) = if r.val ≤ j.val then (1 : EReal) else 0 :=
  (block1 m c t r j).trans (upTo_apply r j)
theorem tril_eq (t : Fin cfg0.N) (e e' : Fin 128) : iblk m c 2 t (ix2 e e') = if e'.val ≤ e.val then (1 : EReal) else 0 :=
  (block2 m c t e e').trans (downTo_apply e e')

/-- EVERY POINT leaves them. -/
theorem leaves : ∀ (n : ℕ) (hn : n < cfg0.N), Leaves (weights m c) (firsts m c) n hn (outsAt0 m c n hn)
  | 0, hn => by
    rw [outsAt0_A m c ⟨0, hn⟩ (Nat.zero_mod _), rows_A, gates_A, carry_A]
    refine leaves_of (weights m c) (firsts m c) 0 hn _ _ _ _ _ (block0 m c ⟨0, hn⟩) (fun e => ?_) (tri_eq m c _) (tril_eq m c _) (block3 m c _)
    rw [column_apply, fill_apply]
    show (0 : EReal) = count (weights m c) e (0 * 2048)
    rw [Nat.zero_mul]
    exact (Finset.sum_range_zero _).symm
  | n + 1, hn => by
    have hn' : n + 1 < 16 := hn
    rw [outsAt0_B m c ⟨n + 1, hn⟩ (by dsimp only; omega), rows_B, gates_B, carry_B]
    refine leaves_of (weights m c) (firsts m c) (n + 1) hn _ _ _ _ _ (block0 m c ⟨n + 1, hn⟩) (fun e => ?_) (tri_eq m c _) (tril_eq m c _) (block3 m c _)
    rw [column_apply]
    exact (leaves n (Nat.lt_of_succ_lt hn)).2.2 e 0

/-- THE TWO RESULT ARRAYS after the call. -/
theorem array4 : (dats m 0 c).arrAt 4 cfg0.N = rows (weights m c) (firsts m c) := by
  refine (dats m 0 c).arrAt_eq_of_covers 4 _ (by decide +kernel) fun t hf y => ?_
  blk_simp
  rw [after0_4]
  have ht : t.val < 16 := t.isLt
  have hy : y = ix2 (y 0 : Fin 2) (y 1 : Fin 2048) := by funext a; fin_cases a <;> rfl
  have hq : (y 1).val < 2048 := (y 1).isLt
  have he : ((cfg0.win 4).blk t).view.emb y = ix2 (y 0 : Fin 2) (⟨t.val * 2048 + (y 1).val, by omega⟩ : Fin 32768) := by
    funext a
    refine Fin.ext ?_
    fin_cases a <;> blk_simp [index4] <;> rfl
  rw [he]
  exact (congrArg _ hy).trans ((leaves m c t.val t.isLt).1 (y 0) (y 1))
@[inherit_doc array4] theorem array5 : (dats m 0 c).arrAt 5 cfg0.N = gatesOf (weights m c) := by
  refine (dats m 0 c).arrAt_eq_of_covers 5 _ (by decide +kernel) fun t hf y => ?_
  blk_simp
  rw [after0_5]
  have ht : t.val < 16 := t.isLt
  have hy : y = ix2 (y 0 : Fin 2048) (y 1 : Fin 128) := by funext a; fin_cases a <;> rfl
  have hq : (y 0).val < 2048 := (y 0).isLt
  have he : ((cfg0.win 5).blk t).view.emb y = ix2 (⟨t.val * 2048 + (y 0).val, by omega⟩ : Fin 32768) (y 1 : Fin 128) := by
    funext a
    refine Fin.ext ?_
    fin_cases a <;> blk_simp [index5] <;> rfl
  rw [he]
  exact (congrArg _ hy).trans ((leaves m c t.val t.isLt).2.1 (y 0) (y 1))

end

end Cert.Proof.Places

end
-- ==== Proof.Places.Ref.lean ====
module

public import proofs.«01_k».proof.Proof.Gen.Reference8Ideal.Run
public import proofs.«01_k».proof.Proof.Places.Target

/-! The reference of the tokens' places computes the closed form. -/

@[expose] public section

set_option maxRecDepth 16384

noncomputable section

namespace Cert.Proof.Places.Ref

open Cert.Reference8Ideal Cert.Reference8Ideal.Gen Idealize.ShloMosaic Idealize.ShloMosaic.TcCoe Idealize.SL.Sem
open Cert.Proof.Counts (positive bit_unsigned)

section
variable {F : FTy → Type} [FloatOps F] (w : FVec F S32768x128 .f32) (first : FVec F S128x1 .f32)

/-- The reference's steps. -/
def chosen : IVec S32768x128 1 := cmpf .ogt w (broadcastInDim S32768x128 ![] bcast_S_S32768x128 (constant S_ .f32 0x00000000#32))
@[inherit_doc chosen] def ranks : FVec F S32768x128 .f32 :=
  (Host.dotGeneral dot_S32768x128_S128x128_S32768x128_1_0_0_1_n_n none (uitofp .f32 (chosen w))
    (uitofp .f32 (cmpi .sle (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))) : (⟨S32768x128, .f32⟩ : BufTy).Contents (Elt F))
@[inherit_doc chosen] def before : FVec F S32768x128 .f32 :=
  (Host.dotGeneral dot_S32768x32768_S32768x128_S32768x128_1_0_0_1_n_n none
    (uitofp .f32 (cmpi .sge (broadcastInDim S32768x32768 ![0, 1] bcast_S32768x1_S32768x32768_0_1 (broadcastInDim S32768x1 ![0] bcast_S32768_S32768x1_0 (iotaInDim S32768 32 0)))
      (broadcastInDim S32768x32768 ![0, 1] bcast_S1x32768_S32768x32768_0_1 (broadcastInDim S1x32768 ![1] bcast_S32768_S1x32768_1 (iotaInDim S32768 32 0)))))
    (uitofp .f32 (chosen w)) : (⟨S32768x128, .f32⟩ : BufTy).Contents (Elt F))
@[inherit_doc chosen] def placed : FVec F S32768x128 .f32 :=
  subf (addf (broadcastInDim S32768x128 ![0, 1] bcast_S1x128_S32768x128_0_1 (broadcastInDim S1x128 ![1] bcast_S128_S1x128_1 (shapeCast S128 first shapeCasts_S128x1_S128)))
    (before w)) (broadcastInDim S32768x128 ![] bcast_S_S32768x128 (constant S_ .f32 0x3F800000#32))
@[inherit_doc chosen] def picked (b : BitVec 32) : IVec S32768x128 1 :=
  andi (chosen w) (cmpf .oeq (ranks w) (broadcastInDim S32768x128 ![] bcast_S_S32768x128 (constant S_ .f32 b)))
@[inherit_doc chosen] def summed (b : BitVec 32) (x : FVec F S32768x128 .f32) : FVec F S32768 .f32 :=
  Host.reduceAdd (select (picked w b) x (broadcastInDim S32768x128 ![] bcast_S_S32768x128 (id (constant S_ .f32 0x00000000#32))))
    (constant S_ .f32 0x00000000#32) reducesTo_S32768x128_S32768_d1 h_S_
@[inherit_doc chosen] def rowed (b : BitVec 32) : IVec S32768 32 :=
  fptosi 32 (select (cmpf .ogt (Host.reduceAdd (uitofp .f32 (picked w b)) (constant S_ .f32 0x00000000#32) reducesTo_S32768x128_S32768_d1 h_S_ : (⟨S32768, .f32⟩ : BufTy).Contents (Elt F))
    (broadcastInDim S32768 ![] bcast_S_S32768 (constant S_ .f32 0x00000000#32))) (summed w b (placed w first))
    (broadcastInDim S32768 ![] bcast_S_S32768 (id (constant S_ .f32 0x47900000#32))))
@[inherit_doc chosen] def allRows : IVec S2x32768 32 :=
  concatenate S2x32768 0 [⟨S1x32768, (broadcastInDim S1x32768 ![1] bcast_S32768_S1x32768_1 (rowed w first 0x3F800000#32))⟩,
    ⟨S1x32768, (broadcastInDim S1x32768 ![1] bcast_S32768_S1x32768_1 (rowed w first 0x40000000#32))⟩] concatenates_S1x32768_S1x32768_S2x32768_d0
@[inherit_doc chosen] def twoGates : FVec F S32768x2 .f32 :=
  concatenate S32768x2 1 [⟨S32768x1, (broadcastInDim S32768x1 ![0] bcast_S32768_S32768x1_0 (summed w 0x3F800000#32 w))⟩,
    ⟨S32768x1, (broadcastInDim S32768x1 ![0] bcast_S32768_S32768x1_0 (summed w 0x40000000#32 w))⟩] concatenates_S32768x1_S32768x1_S32768x2_d1
@[inherit_doc chosen] def allGates : FVec F S32768x128 .f32 :=
  concatenate S32768x128 1 [⟨S32768x2, (twoGates w)⟩, ⟨S32768x126, (broadcastInDim S32768x126 ![] bcast_S_S32768x126 (constant S_ .f32 0x00000000#32))⟩]
    concatenates_S32768x2_S32768x126_S32768x128_d1

end

section
variable (w : FVec Ideal S32768x128 .f32) (first : FVec Ideal S128x1 .f32)

theorem ranks_apply (t : Fin 32768) (e : Fin 128) : ranks w (ix2 t e) = rank (token w t) e := by
  unfold rank
  pointwise [ranks, chosen]
  refine Finset.sum_congr rfl fun e' _ => ?_
  rw [sle_number (by omega) (by omega), mul_test, bit_unsigned]
  rfl

theorem before_apply (t : Fin 32768) (e : Fin 128) : before w (ix2 t e) = count w e (t.val + 1) := by
  rw [← count_all]
  pointwise [before, chosen]
  refine Finset.sum_congr rfl fun r _ => ?_
  rw [sge_number (by omega) (by omega), test_mul, bit_unsigned]

theorem placed_apply (t : Fin 32768) (e : Fin 128) : placed w first (ix2 t e) = place w first t e := by
  unfold place
  rw [← before_apply]
  pointwise [placed]

theorem picked_apply (b : BitVec 32) (t : Fin 32768) (e : Fin 128) : picked w b (ix2 t e) = pick (token w t) (Ideal.ofBits .f32 b) e := by
  unfold pick
  rw [← ranks_apply]
  pointwise [picked, chosen]
  rfl

theorem summed_apply (b : BitVec 32) (x : FVec Ideal S32768x128 .f32) (t : Fin 32768) :
    summed w b x (ix1 t) = at_ (token w t) (fun e => x (ix2 t e)) (Ideal.ofBits .f32 b) := by
  unfold at_
  simp only [← picked_apply]
  pointwise [summed, id]

theorem rowed_apply (b : BitVec 32) (t : Fin 32768) : rowed w first b (ix1 t) = row (token w t) (place w first t) (Ideal.ofBits .f32 b) := by
  have hs : summed w b (placed w first) (ix1 t) = at_ (token w t) (place w first t) (Ideal.ofBits .f32 b) :=
    (summed_apply w b _ t).trans (congrArg (fun f => at_ (token w t) f (Ideal.ofBits .f32 b)) (funext fun e => placed_apply w first t e))
  unfold row found
  rw [← hs]
  simp only [← picked_apply, ← bit_number]
  pointwise [rowed, id]

theorem one_eq : Ideal.ofBits .f32 0x3F800000#32 = nth 0 := by
  unfold nth
  pointwise
theorem two_eq : Ideal.ofBits .f32 0x40000000#32 = nth 1 := rfl

theorem rows_apply (k : Fin 2) (t : Fin 32768) : allRows w first (ix2 k t) = rowsAt w first k t := by
  unfold rowsAt
  pointwise [allRows]
  by_cases h : k.val < 1
  · rw [dif_pos h, rowed_apply, one_eq, show k.val = 0 by omega]
  · rw [dif_neg h, rowed_apply, two_eq, show k.val = 1 by omega]

theorem gates_apply (t : Fin 32768) (l : Fin 128) : allGates w (ix2 t l) = gatesAt w t l := by
  unfold gatesAt
  pointwise [allGates, twoGates]
  by_cases h2 : l.val < 2
  · rw [dif_pos h2, if_pos h2]
    by_cases h : l.val < 1
    · rw [dif_pos h, summed_apply, one_eq, show l.val = 0 by omega]
      rfl
    · rw [dif_neg h, summed_apply, two_eq, show l.val = 1 by omega]
      rfl
  · rw [dif_neg h2, if_neg h2]

/-- THE REFERENCE'S TWO RESULTS are the closed form. -/
theorem rows_eq : allRows w first = rows w first := by
  funext i
  have hi : i = ix2 (i 0 : Fin 2) (i 1 : Fin 32768) := by funext a; fin_cases a <;> rfl
  exact (congrArg _ hi).trans (rows_apply w first (i 0) (i 1))
@[inherit_doc rows_eq] theorem gates_eq : allGates w = gatesOf w := by
  funext i
  have hi : i = ix2 (i 0 : Fin 32768) (i 1 : Fin 128) := by funext a; fin_cases a <;> rfl
  exact (congrArg _ hi).trans (gates_apply w (i 0) (i 1))
end

end Cert.Proof.Places.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_scores
public import proofs.«01_k».proof.Proof.Finite
public import proofs.«01_k».proof.Proof.Output
public import proofs.«01_k».proof.Proof.Ref
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_expert_range
public import proofs.«01_k».proof.Proof.Gen.On_rows_used
public import proofs.«01_k».proof.Proof.Experts.PrintedRange
public import proofs.«01_k».proof.Proof.Experts.Result
public import proofs.«01_k».proof.Proof.Experts.Ref
public import proofs.«01_k».proof.Proof.Experts.Used
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_router
public import proofs.«01_k».proof.Proof.Gen.Reference3Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_gates_not_negative
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Input.Output
public import proofs.«01_k».proof.Proof.Input.Ref
public import proofs.«01_k».proof.Proof.Router.Result
public import proofs.«01_k».proof.Proof.Router.Finite
public import proofs.«01_k».proof.Proof.Router.Ref
public import proofs.«01_k».proof.Proof.Prep.Output
public import proofs.«01_k».proof.Proof.Prep.Ref
public import proofs.«01_k».proof.Proof.Combine.Output
public import proofs.«01_k».proof.Proof.Combine.Ref
public import proofs.«01_k».proof.Proof.Counts.Output
public import proofs.«01_k».proof.Proof.Counts.Ref
public import proofs.«01_k».proof.Proof.Places.Output
public import proofs.«01_k».proof.Proof.Places.Ref
public import Idealize.ShloMosaic.Adequacy
public import Idealize.ShloMosaic.Init

@[expose] public section

noncomputable section

namespace Cert.Proof

open Idealize.ShloMosaic Idealize.SL.Sem

/-- The reference runs to its end and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Real queries, keys and meta keys: kernel and reference both leave the attention's closed form. -/
theorem attention_value : Cert.algebraic_KernelIdeal_ReferenceIdeal_pre_finite_scores := fun m ρ m' ρ' hpre hag =>
  ⟨fun c => Target.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run Cert.KernelIdeal.defs _ _).mono (fun r h c => by
      obtain ⟨hq, hk, hkm⟩ := Finite.args_real m hpre c
      exact ⟨(h c).1.trans (Output.array_eq m c hq hk hkm), (h c).2⟩) (Cert.KernelIdeal.Value.run_blocks m ρ),
    (θ_run Cert.ReferenceIdeal.defs _ _).mono (fun r h c => by
      obtain ⟨hq, hk, hkm⟩ := Finite.args_real m hpre c
      obtain ⟨h0, h1, h2, h3, h4⟩ := hag c
      refine ⟨(h c).1.trans ?_, (h c).2⟩
      rw [Ref.res_eq, h0, h1, h2, h3, h4]
      exact Ref.out_eq _ _ _ _ _ hq hk hkm) (Cert.ReferenceIdeal.Value.run (F := Ideal) m' ρ')⟩

section Experts
open Cert.Proof.Experts

/-- The printed expert kernel runs to its end and leaves its arguments as they were, each block's expert one of the 32. -/
theorem frame_experts_printed : Cert.quiescent_Kernel2 := fun m ρ hpre =>
  Cert.Kernel2.Used.frame m ρ (Cert.Kernel2.Used.ok m (range_of_pre _ _ _ _ _ _ (hpre 0)))

/-- So does the ideal one. -/
theorem frame_experts : Cert.quiescent_Kernel2Ideal := fun m ρ hpre =>
  Cert.Kernel2Ideal.Used.frame m ρ (Cert.Kernel2Ideal.Used.ok m (range_of_pre _ _ _ _ _ _ (hpre 0)))

/-- So does the experts' reference. -/
theorem frame_experts_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Each block's expert one of the 32: in the rows of the blocks in use, kernel and reference both leave each row under its block's
    expert. -/
theorem experts_value : Cert.algebraic_Kernel2Ideal_Reference2Ideal_on_rows_used := fun m ρ m' ρ' hpre hag =>
  have hr : Cert.Kernel2Ideal.Used.InRange m := range_of_pre _ _ _ _ _ _ (hpre 0)
  have hO := Cert.Kernel2Ideal.Used.ok m hr
  ⟨fun c => result (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)),
    (θ_run Cert.Kernel2Ideal.defs _ _).mono (fun r h c => by
      obtain rfl : c = 0 := Subsingleton.elim _ _
      refine ⟨fun i hi => ?_, args_kept m hO 0 r h.1⟩
      obtain ⟨b, hb, hu⟩ := block_of_mask _ _ _ _ _ _ i hi
      refine result_used m hO 0 hr r h.1 i ⟨b.val, b.isLt⟩ hb (used_of_below _ _ ?_)
      rw [count_eq]
      exact hu) (Cert.Kernel2Ideal.Used.launched m ρ hO),
    (θ_run Cert.Reference2Ideal.defs _ _).mono (fun r h c => by
      obtain rfl : c = 0 := Subsingleton.elim _ _
      obtain ⟨h0, h1, h2, h3, h4, h5⟩ := hag 0
      refine ⟨fun i hi => ?_, (h 0).2⟩
      obtain ⟨b, hb, -⟩ := block_of_mask _ _ _ _ _ _ i hi
      rw [(h 0).1, h0, h2, h3, h4, h5]
      exact Experts.Ref.whole_eq _ _ _ _ _ hr i (hb ▸ b.isLt)) (Cert.Reference2Ideal.Value.run (F := Ideal) m' ρ')⟩

end Experts

/-- The input projection's reference runs to its end and leaves its arguments as they were. -/
theorem frame_input_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection: kernel and reference both leave the closed form, whatever the arguments. -/
theorem input_value : Cert.algebraic_Kernel3Ideal_Reference3Ideal := fun m ρ m' ρ' _ hag =>
  ⟨fun c => Input.result (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    (θ_run Cert.Kernel3Ideal.defs _ _).mono (fun r h c => ⟨(h c).1.trans (Input.array_eq m c), (h c).2⟩)
      (Cert.Kernel3Ideal.Value.run_blocks m ρ),
    (θ_run Cert.Reference3Ideal.defs _ _).mono (fun r h c => by
      obtain ⟨h0, h1, h2⟩ := hag c
      refine ⟨(h c).1.trans ?_, (h c).2⟩
      dsimp only
      rw [← h0, ← h1, ← h2]
      exact (Input.Ref.res_eq m' c).trans (Input.Ref.out_eq _ _ _)) (Cert.Reference3Ideal.Value.run (F := Ideal) m' ρ')⟩

/-- The reference of the output projection and router runs to its end and leaves its arguments as they were. -/
theorem frame_router_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The norm's gain and the router's matrices and biases real numbers: kernel and reference both leave the three closed forms. -/
theorem router_value : Cert.algebraic_Kernel4Ideal_Reference4Ideal_pre_finite_router := fun m ρ m' ρ' hpre hag =>
  ⟨fun c => (Router.args m c).rows, fun c => (Router.args m c).slabs, fun c => (Router.args m c).weights,
    (θ_run Cert.Kernel4Ideal.defs _ _).mono (fun r h c => by
      obtain ⟨r0, r1, r2, hk⟩ := h c
      exact ⟨r0.trans (Router.array17 m c), r1.trans (Router.array18 m c), r2.trans (Router.array19 m c (Router.args_finite m hpre c)), hk⟩)
      (Cert.Kernel4Ideal.Value.run_blocks m ρ),
    (θ_run Cert.Reference4Ideal.defs _ _).mono (fun r h c => by
      obtain ⟨r0, r1, r2, hk⟩ := h c
      have ha : Router.Ref.args m' c = Router.args m c := by
        obtain ⟨h0, h1, h2, h3, h4, h5, h6, h7, h8, h9, h10, h11⟩ := hag c
        unfold Router.Ref.args Router.args
        rw [h0, h1, h2, h3, h4, h5, h6, h7, h8, h9, h10, h11]
      refine ⟨r0.trans ((Router.Ref.first m' c).trans (congrArg Router.Args.rows ha)),
        r1.trans ((Router.Ref.second m' c).trans (congrArg Router.Args.slabs ha)), r2.trans (Eq.trans ?_
          ((Router.Ref.third m' c (ha ▸ Router.args_finite m hpre c)).trans (congrArg Router.Args.weights ha))), hk⟩
      unfold Cert.Reference4Ideal.Value.res_main_values_13 Cert.Reference4Ideal.Value.res_main_indices
      rw [Router.Ref.groups_eq, Router.Ref.own_eq]
      rfl) (Cert.Reference4Ideal.Value.run (F := Ideal) m' ρ')⟩

/-- The reference that prepares the attention's queries, keys and values runs to its end and leaves its arguments as they were. -/
theorem frame_prep_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The attention's queries, keys and values: kernel and reference both leave the three closed forms, whatever the arguments. -/
theorem prep_value : Cert.algebraic_Kernel5Ideal_Reference5Ideal := fun m ρ m' ρ' _ hag =>
  ⟨fun c => (Prep.args m c).queries, fun c => (Prep.args m c).keys, fun c => (Prep.args m c).values,
    (θ_run Cert.Kernel5Ideal.defs _ _).mono (fun r h c => by
      obtain ⟨r0, r1, r2, hk⟩ := h c
      exact ⟨r0.trans (Prep.array9 m c), r1.trans (Prep.array10 m c), r2.trans (Prep.array11 m c), hk⟩)
      (Cert.Kernel5Ideal.Value.run_blocks m ρ),
    (θ_run Cert.Reference5Ideal.defs _ _).mono (fun r h c => by
      obtain ⟨r0, r1, r2, hk⟩ := h c
      have ha : Prep.Ref.args m' c = Prep.args m c := by
        obtain ⟨h0, h1, h2, h3, h4, h5, h6, h7, h8⟩ := hag c
        unfold Prep.Ref.args Prep.args
        rw [h0, h1, h2, h3, h4, h5, h6, h7, h8]
      exact ⟨r0.trans ((Prep.Ref.first m' c).trans (congrArg Prep.Args.queries ha)),
        r1.trans ((Prep.Ref.second m' c).trans (congrArg Prep.Args.keys ha)),
        r2.trans ((Prep.Ref.third m' c).trans (congrArg Prep.Args.values ha)), hk⟩) (Cert.Reference5Ideal.Value.run (F := Ideal) m' ρ')⟩

/-- The reference of the experts' sum runs to its end and leaves its arguments as they were. -/
theorem frame_combine_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The experts' sum, the gates not negative: kernel and reference both leave the closed form. -/
theorem combine_value : Cert.algebraic_Kernel6Ideal_Reference6Ideal_pre_gates_not_negative := fun m ρ m' ρ' hpre hag =>
  ⟨fun c => Combine.result (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)),
    (θ_run Cert.Kernel6Ideal.defs _ _).mono (fun r h c => ⟨(h c).1.trans (Combine.array_eq m c (Combine.gates_of_pre m c hpre)), (h c).2⟩)
      (Cert.Kernel6Ideal.Value.run_blocks m ρ),
    (θ_run Cert.Reference6Ideal.defs _ _).mono (fun r h c => by
      obtain ⟨h0, h1, h2⟩ := hag c
      refine ⟨(h c).1.trans ?_, (h c).2⟩
      dsimp only
      rw [← h0, ← h1, ← h2]
      exact Combine.Ref.out_eq _ _ _) (Cert.Reference6Ideal.Value.run (F := Ideal) m' ρ')⟩

/-- The reference of the experts' counts runs to its end and leaves its argument as it was. -/
theorem frame_counts_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The experts' counts: kernel and reference both leave the closed form, whatever the weights. -/
theorem counts_value : Cert.algebraic_Kernel7Ideal_Reference7Ideal := fun m ρ m' ρ' _ hag =>
  ⟨fun c => Counts.result (m ((c.tc : Thread Cert.Kernel7Ideal.nD Cert.Kernel7Ideal.τ).loc Cert.Kernel7Ideal.main_arg0)),
    (θ_run Cert.Kernel7Ideal.defs _ _).mono (fun r h c => ⟨(h c).1.trans (Counts.array_eq m c), (h c).2⟩)
      (Cert.Kernel7Ideal.Value.run_blocks m ρ),
    (θ_run Cert.Reference7Ideal.defs _ _).mono (fun r h c => by
      have h0 := hag c
      refine ⟨(h c).1.trans ?_, (h c).2⟩
      dsimp only
      rw [← h0]
      exact Counts.Ref.out_eq _) (Cert.Reference7Ideal.Value.run (F := Ideal) m' ρ')⟩

/-- The reference of the tokens' places runs to its end and leaves its arguments as they were. -/
theorem frame_places_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The tokens' places and gates: kernel and reference both leave the closed form, whatever the weights and the first rows. -/
theorem places_value : Cert.algebraic_Kernel8Ideal_Reference8Ideal := fun m ρ m' ρ' _ hag =>
  ⟨fun c => Places.rows (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)),
    fun c => Places.gatesOf (m ((c.tc : Thread Cert.Kernel8Ideal.nD Cert.Kernel8Ideal.τ).loc Cert.Kernel8Ideal.main_arg0)),
    (θ_run Cert.Kernel8Ideal.defs _ _).mono (fun r h c => ⟨(h c).1.trans (Places.array4 m c), (h c).2.1.trans (Places.array5 m c), (h c).2.2⟩)
      (Cert.Kernel8Ideal.Value.run_blocks m ρ),
    (θ_run Cert.Reference8Ideal.defs _ _).mono (fun r h c => by
      obtain ⟨h0, h1⟩ := hag c
      refine ⟨(h c).1.trans ?_, (h c).2.1.trans ?_, (h c).2.2⟩
      · dsimp only
        rw [← h0, ← h1]
        exact Places.Ref.rows_eq _ _
      · dsimp only
        rw [← h0]
        exact Places.Ref.gates_eq _) (Cert.Reference8Ideal.Value.run (F := Ideal) m' ρ')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts, Cert.Kernel8.Gen.facts, Cert.Kernel8Ideal.Gen.facts,
  Cert.Reference8Ideal.Gen.facts, Cert.Pre_finite_scores.Gen.facts,
  Cert.Pre_expert_range.Gen.facts, Cert.Pre_finite_router.Gen.facts, Cert.Pre_gates_not_negative.Gen.facts, Cert.On_rows_used.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, frame_experts_printed, frame_experts, frame_experts_reference,
  fun m ρ _ => frame_experts_reference m ρ trivial,
  fun m ρ _ => Cert.Kernel3.Gen.frame m ρ, fun m ρ _ => Cert.Kernel3Ideal.Gen.frame m ρ, frame_input_reference,
  fun m ρ _ => Cert.Kernel4.Gen.frame m ρ, fun m ρ _ => Cert.Kernel4Ideal.Gen.frame m ρ, fun m ρ _ => Cert.Kernel4Ideal.Gen.frame m ρ,
  frame_router_reference, fun m ρ _ => frame_router_reference m ρ trivial,
  fun m ρ _ => Cert.Kernel5.Gen.frame m ρ, fun m ρ _ => Cert.Kernel5Ideal.Gen.frame m ρ, frame_prep_reference,
  fun m ρ _ => Cert.Kernel6.Gen.frame m ρ, fun m ρ _ => Cert.Kernel6Ideal.Gen.frame m ρ, fun m ρ _ => Cert.Kernel6Ideal.Gen.frame m ρ,
  frame_combine_reference, fun m ρ _ => frame_combine_reference m ρ trivial,
  fun m ρ _ => Cert.Kernel7.Gen.frame m ρ, fun m ρ _ => Cert.Kernel7Ideal.Gen.frame m ρ, frame_counts_reference,
  fun m ρ _ => Cert.Kernel8.Gen.frame m ρ, fun m ρ _ => Cert.Kernel8Ideal.Gen.frame m ρ, frame_places_reference, trivial, attention_value,
  trivial, experts_value, trivial, input_value, IdealRules.named_const.statement Cert.Kernel4Ideal.κ "below" .f32 0xF149F2CA#32 ⊥ rfl,
  router_value, ⟨IdealRules.named_const.statement Cert.Kernel5Ideal.κ "scale" .f32 0x3DD53B95#32 (((Real.sqrt 192)⁻¹ * (Real.log 2)⁻¹ : ℝ) : EReal) rfl,
    IdealRules.named_const.statement Cert.Kernel5Ideal.κ "inv_n" .f32 0x3BAAAAAB#32 ((1 / 192 : ℝ) : EReal) rfl⟩, prep_value,
  trivial, combine_value, trivial, counts_value, trivial, places_value⟩

end Cert.Proof

end
